-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_KernelIdeal2 (m : (ℓ : Loc Cert.KernelIdeal2.nD Cert.KernelIdeal2.τ Cert.KernelIdeal2.sig) → Buf (Elt Ideal) ℓ) : Prop :=
  True

def Pre_ReferenceIdeal2 (m : (ℓ : Loc Cert.ReferenceIdeal2.nD Cert.ReferenceIdeal2.τ Cert.ReferenceIdeal2.sig) → Buf (Elt Ideal) ℓ) : Prop :=
  True

def Pre_Kernel3 (m : (ℓ : Loc Cert.Kernel3.nD Cert.Kernel3.τ Cert.Kernel3.sig) → Buf (Elt Bits) ℓ) : Prop :=
  True

def Pre_KernelIdeal3 (m : (ℓ : Loc Cert.KernelIdeal3.nD Cert.KernelIdeal3.τ Cert.KernelIdeal3.sig) → Buf (Elt Ideal) ℓ) : Prop :=
  True

def Pre_ReferenceIdeal3 (m : (ℓ : Loc Cert.ReferenceIdeal3.nD Cert.ReferenceIdeal3.τ Cert.ReferenceIdeal3.sig) → Buf (Elt Ideal) ℓ) : Prop :=
  True

def Pre_Kernel4 (m : (ℓ : Loc Cert.Kernel4.nD Cert.Kernel4.τ Cert.Kernel4.sig) → Buf (Elt Bits) ℓ) : Prop :=
  True

def Pre_KernelIdeal4 (m : (ℓ : Loc Cert.KernelIdeal4.nD Cert.KernelIdeal4.τ Cert.KernelIdeal4.sig) → Buf (Elt Ideal) ℓ) : Prop :=
  True

def Pre_ReferenceIdeal4 (m : (ℓ : Loc Cert.ReferenceIdeal4.nD Cert.ReferenceIdeal4.τ Cert.ReferenceIdeal4.sig) → Buf (Elt Ideal) ℓ) : Prop :=
  True

def Pre_Kernel5 (m : (ℓ : Loc Cert.Kernel5.nD Cert.Kernel5.τ Cert.Kernel5.sig) → Buf (Elt Bits) ℓ) : Prop :=
  True

def Pre_KernelIdeal5 (m : (ℓ : Loc Cert.KernelIdeal5.nD Cert.KernelIdeal5.τ Cert.KernelIdeal5.sig) → Buf (Elt Ideal) ℓ) : Prop :=
  True

def Pre_ReferenceIdeal5 (m : (ℓ : Loc Cert.ReferenceIdeal5.nD Cert.ReferenceIdeal5.τ Cert.ReferenceIdeal5.sig) → Buf (Elt Ideal) ℓ) : Prop :=
  True

def Pre_Kernel6 (m : (ℓ : Loc Cert.Kernel6.nD Cert.Kernel6.τ Cert.Kernel6.sig) → Buf (Elt Bits) ℓ) : Prop :=
  True

def Pre_KernelIdeal6 (m : (ℓ : Loc Cert.KernelIdeal6.nD Cert.KernelIdeal6.τ Cert.KernelIdeal6.sig) → Buf (Elt Ideal) ℓ) : Prop :=
  True

def Pre_ReferenceIdeal6 (m : (ℓ : Loc Cert.ReferenceIdeal6.nD Cert.ReferenceIdeal6.τ Cert.ReferenceIdeal6.sig) → Buf (Elt Ideal) ℓ) : Prop :=
  True

def Pre_Kernel7 (m : (ℓ : Loc Cert.Kernel7.nD Cert.Kernel7.τ Cert.Kernel7.sig) → Buf (Elt Bits) ℓ) : Prop :=
  True

def Pre_KernelIdeal7 (m : (ℓ : Loc Cert.KernelIdeal7.nD Cert.KernelIdeal7.τ Cert.KernelIdeal7.sig) → Buf (Elt Ideal) ℓ) : Prop :=
  True

def Pre_ReferenceIdeal7 (m : (ℓ : Loc Cert.ReferenceIdeal7.nD Cert.ReferenceIdeal7.τ Cert.ReferenceIdeal7.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_KernelIdeal2 [hKernelIdeal2 : Cert.KernelIdeal2.Facts] : Prop :=
  ∀ (m : (ℓ : Loc Cert.KernelIdeal2.nD Cert.KernelIdeal2.τ Cert.KernelIdeal2.sig) → Buf (Elt Ideal) ℓ) (g : Dev Cert.KernelIdeal2.nD → PrngReg), Pre_KernelIdeal2 m →
    θ_run (Cert.KernelIdeal2.defs (F := Ideal)) (onTc (τ := Cert.KernelIdeal2.τ) (Cert.KernelIdeal2.main (F := Ideal))) ⟨m, fun _ => 0, g⟩ (fun r => (∀ c : Dev Cert.KernelIdeal2.nD,
      r.2.mem ((c.tc : Thread Cert.KernelIdeal2.nD Cert.KernelIdeal2.τ).loc Cert.KernelIdeal2.main_arg0) = m ((c.tc : Thread Cert.KernelIdeal2.nD Cert.KernelIdeal2.τ).loc Cert.KernelIdeal2.main_arg0)
      ∧ r.2.mem ((c.tc : Thread Cert.KernelIdeal2.nD Cert.KernelIdeal2.τ).loc Cert.KernelIdeal2.main_arg1) = m ((c.tc : Thread Cert.KernelIdeal2.nD Cert.KernelIdeal2.τ).loc Cert.KernelIdeal2.main_arg1)
      ∧ r.2.mem ((c.tc : Thread Cert.KernelIdeal2.nD Cert.KernelIdeal2.τ).loc Cert.KernelIdeal2.main_arg2) = m ((c.tc : Thread Cert.KernelIdeal2.nD Cert.KernelIdeal2.τ).loc Cert.KernelIdeal2.main_arg2)
      ∧ r.2.mem ((c.tc : Thread Cert.KernelIdeal2.nD Cert.KernelIdeal2.τ).loc Cert.KernelIdeal2.main_arg3) = m ((c.tc : Thread Cert.KernelIdeal2.nD Cert.KernelIdeal2.τ).loc Cert.KernelIdeal2.main_arg3)
      ∧ r.2.mem ((c.tc : Thread Cert.KernelIdeal2.nD Cert.KernelIdeal2.τ).loc Cert.KernelIdeal2.main_arg4) = m ((c.tc : Thread Cert.KernelIdeal2.nD Cert.KernelIdeal2.τ).loc Cert.KernelIdeal2.main_arg4)
      ∧ r.2.mem ((c.tc : Thread Cert.KernelIdeal2.nD Cert.KernelIdeal2.τ).loc Cert.KernelIdeal2.main_arg5) = m ((c.tc : Thread Cert.KernelIdeal2.nD Cert.KernelIdeal2.τ).loc Cert.KernelIdeal2.main_arg5))
      ∧ r.2.sem = fun _ => 0)

def quiescent_ReferenceIdeal2 [hReferenceIdeal2 : Cert.ReferenceIdeal2.Facts] : Prop :=
  ∀ (m : (ℓ : Loc Cert.ReferenceIdeal2.nD Cert.ReferenceIdeal2.τ Cert.ReferenceIdeal2.sig) → Buf (Elt Ideal) ℓ) (g : Dev Cert.ReferenceIdeal2.nD → PrngReg), Pre_ReferenceIdeal2 m →
    θ_run (Cert.ReferenceIdeal2.defs (F := Ideal)) (onTc (τ := Cert.ReferenceIdeal2.τ) (Cert.ReferenceIdeal2.main (F := Ideal))) ⟨m, fun _ => 0, g⟩ (fun r => (∀ c : Dev Cert.ReferenceIdeal2.nD,
      r.2.mem ((c.tc : Thread Cert.ReferenceIdeal2.nD Cert.ReferenceIdeal2.τ).loc Cert.ReferenceIdeal2.main_arg0) = m ((c.tc : Thread Cert.ReferenceIdeal2.nD Cert.ReferenceIdeal2.τ).loc Cert.ReferenceIdeal2.main_arg0)
      ∧ r.2.mem ((c.tc : Thread Cert.ReferenceIdeal2.nD Cert.ReferenceIdeal2.τ).loc Cert.ReferenceIdeal2.main_arg1) = m ((c.tc : Thread Cert.ReferenceIdeal2.nD Cert.ReferenceIdeal2.τ).loc Cert.ReferenceIdeal2.main_arg1)
      ∧ r.2.mem ((c.tc : Thread Cert.ReferenceIdeal2.nD Cert.ReferenceIdeal2.τ).loc Cert.ReferenceIdeal2.main_arg2) = m ((c.tc : Thread Cert.ReferenceIdeal2.nD Cert.ReferenceIdeal2.τ).loc Cert.ReferenceIdeal2.main_arg2)
      ∧ r.2.mem ((c.tc : Thread Cert.ReferenceIdeal2.nD Cert.ReferenceIdeal2.τ).loc Cert.ReferenceIdeal2.main_arg3) = m ((c.tc : Thread Cert.ReferenceIdeal2.nD Cert.ReferenceIdeal2.τ).loc Cert.ReferenceIdeal2.main_arg3)
      ∧ r.2.mem ((c.tc : Thread Cert.ReferenceIdeal2.nD Cert.ReferenceIdeal2.τ).loc Cert.ReferenceIdeal2.main_arg4) = m ((c.tc : Thread Cert.ReferenceIdeal2.nD Cert.ReferenceIdeal2.τ).loc Cert.ReferenceIdeal2.main_arg4)
      ∧ r.2.mem ((c.tc : Thread Cert.ReferenceIdeal2.nD Cert.ReferenceIdeal2.τ).loc Cert.ReferenceIdeal2.main_arg5) = m ((c.tc : Thread Cert.ReferenceIdeal2.nD Cert.ReferenceIdeal2.τ).loc Cert.ReferenceIdeal2.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_KernelIdeal3 [hKernelIdeal3 : Cert.KernelIdeal3.Facts] : Prop :=
  ∀ (m : (ℓ : Loc Cert.KernelIdeal3.nD Cert.KernelIdeal3.τ Cert.KernelIdeal3.sig) → Buf (Elt Ideal) ℓ) (g : Dev Cert.KernelIdeal3.nD → PrngReg), Pre_KernelIdeal3 m →
    θ_run (Cert.KernelIdeal3.defs (F := Ideal)) (onTc (τ := Cert.KernelIdeal3.τ) (Cert.KernelIdeal3.main (F := Ideal))) ⟨m, fun _ => 0, g⟩ (fun r => (∀ c : Dev Cert.KernelIdeal3.nD,
      r.2.mem ((c.tc : Thread Cert.KernelIdeal3.nD Cert.KernelIdeal3.τ).loc Cert.KernelIdeal3.main_arg0) = m ((c.tc : Thread Cert.KernelIdeal3.nD Cert.KernelIdeal3.τ).loc Cert.KernelIdeal3.main_arg0)
      ∧ r.2.mem ((c.tc : Thread Cert.KernelIdeal3.nD Cert.KernelIdeal3.τ).loc Cert.KernelIdeal3.main_arg1) = m ((c.tc : Thread Cert.KernelIdeal3.nD Cert.KernelIdeal3.τ).loc Cert.KernelIdeal3.main_arg1)
      ∧ r.2.mem ((c.tc : Thread Cert.KernelIdeal3.nD Cert.KernelIdeal3.τ).loc Cert.KernelIdeal3.main_arg2) = m ((c.tc : Thread Cert.KernelIdeal3.nD Cert.KernelIdeal3.τ).loc Cert.KernelIdeal3.main_arg2)
      ∧ r.2.mem ((c.tc : Thread Cert.KernelIdeal3.nD Cert.KernelIdeal3.τ).loc Cert.KernelIdeal3.main_arg3) = m ((c.tc : Thread Cert.KernelIdeal3.nD Cert.KernelIdeal3.τ).loc Cert.KernelIdeal3.main_arg3)
      ∧ r.2.mem ((c.tc : Thread Cert.KernelIdeal3.nD Cert.KernelIdeal3.τ).loc Cert.KernelIdeal3.main_arg4) = m ((c.tc : Thread Cert.KernelIdeal3.nD Cert.KernelIdeal3.τ).loc Cert.KernelIdeal3.main_arg4))
      ∧ r.2.sem = fun _ => 0)

def quiescent_ReferenceIdeal3 [hReferenceIdeal3 : Cert.ReferenceIdeal3.Facts] : Prop :=
  ∀ (m : (ℓ : Loc Cert.ReferenceIdeal3.nD Cert.ReferenceIdeal3.τ Cert.ReferenceIdeal3.sig) → Buf (Elt Ideal) ℓ) (g : Dev Cert.ReferenceIdeal3.nD → PrngReg), Pre_ReferenceIdeal3 m →
    θ_run (Cert.ReferenceIdeal3.defs (F := Ideal)) (onTc (τ := Cert.ReferenceIdeal3.τ) (Cert.ReferenceIdeal3.main (F := Ideal))) ⟨m, fun _ => 0, g⟩ (fun r => (∀ c : Dev Cert.ReferenceIdeal3.nD,
      r.2.mem ((c.tc : Thread Cert.ReferenceIdeal3.nD Cert.ReferenceIdeal3.τ).loc Cert.ReferenceIdeal3.main_arg0) = m ((c.tc : Thread Cert.ReferenceIdeal3.nD Cert.ReferenceIdeal3.τ).loc Cert.ReferenceIdeal3.main_arg0)
      ∧ r.2.mem ((c.tc : Thread Cert.ReferenceIdeal3.nD Cert.ReferenceIdeal3.τ).loc Cert.ReferenceIdeal3.main_arg1) = m ((c.tc : Thread Cert.ReferenceIdeal3.nD Cert.ReferenceIdeal3.τ).loc Cert.ReferenceIdeal3.main_arg1)
      ∧ r.2.mem ((c.tc : Thread Cert.ReferenceIdeal3.nD Cert.ReferenceIdeal3.τ).loc Cert.ReferenceIdeal3.main_arg2) = m ((c.tc : Thread Cert.ReferenceIdeal3.nD Cert.ReferenceIdeal3.τ).loc Cert.ReferenceIdeal3.main_arg2)
      ∧ r.2.mem ((c.tc : Thread Cert.ReferenceIdeal3.nD Cert.ReferenceIdeal3.τ).loc Cert.ReferenceIdeal3.main_arg3) = m ((c.tc : Thread Cert.ReferenceIdeal3.nD Cert.ReferenceIdeal3.τ).loc Cert.ReferenceIdeal3.main_arg3)
      ∧ r.2.mem ((c.tc : Thread Cert.ReferenceIdeal3.nD Cert.ReferenceIdeal3.τ).loc Cert.ReferenceIdeal3.main_arg4) = m ((c.tc : Thread Cert.ReferenceIdeal3.nD Cert.ReferenceIdeal3.τ).loc Cert.ReferenceIdeal3.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_KernelIdeal4 [hKernelIdeal4 : Cert.KernelIdeal4.Facts] : Prop :=
  ∀ (m : (ℓ : Loc Cert.KernelIdeal4.nD Cert.KernelIdeal4.τ Cert.KernelIdeal4.sig) → Buf (Elt Ideal) ℓ) (g : Dev Cert.KernelIdeal4.nD → PrngReg), Pre_KernelIdeal4 m →
    θ_run (Cert.KernelIdeal4.defs (F := Ideal)) (onTc (τ := Cert.KernelIdeal4.τ) (Cert.KernelIdeal4.main (F := Ideal))) ⟨m, fun _ => 0, g⟩ (fun r => (∀ c : Dev Cert.KernelIdeal4.nD,
      r.2.mem ((c.tc : Thread Cert.KernelIdeal4.nD Cert.KernelIdeal4.τ).loc Cert.KernelIdeal4.main_arg0) = m ((c.tc : Thread Cert.KernelIdeal4.nD Cert.KernelIdeal4.τ).loc Cert.KernelIdeal4.main_arg0)
      ∧ r.2.mem ((c.tc : Thread Cert.KernelIdeal4.nD Cert.KernelIdeal4.τ).loc Cert.KernelIdeal4.main_arg1) = m ((c.tc : Thread Cert.KernelIdeal4.nD Cert.KernelIdeal4.τ).loc Cert.KernelIdeal4.main_arg1)
      ∧ r.2.mem ((c.tc : Thread Cert.KernelIdeal4.nD Cert.KernelIdeal4.τ).loc Cert.KernelIdeal4.main_arg2) = m ((c.tc : Thread Cert.KernelIdeal4.nD Cert.KernelIdeal4.τ).loc Cert.KernelIdeal4.main_arg2)
      ∧ r.2.mem ((c.tc : Thread Cert.KernelIdeal4.nD Cert.KernelIdeal4.τ).loc Cert.KernelIdeal4.main_arg3) = m ((c.tc : Thread Cert.KernelIdeal4.nD Cert.KernelIdeal4.τ).loc Cert.KernelIdeal4.main_arg3))
      ∧ r.2.sem = fun _ => 0)

def quiescent_ReferenceIdeal4 [hReferenceIdeal4 : Cert.ReferenceIdeal4.Facts] : Prop :=
  ∀ (m : (ℓ : Loc Cert.ReferenceIdeal4.nD Cert.ReferenceIdeal4.τ Cert.ReferenceIdeal4.sig) → Buf (Elt Ideal) ℓ) (g : Dev Cert.ReferenceIdeal4.nD → PrngReg), Pre_ReferenceIdeal4 m →
    θ_run (Cert.ReferenceIdeal4.defs (F := Ideal)) (onTc (τ := Cert.ReferenceIdeal4.τ) (Cert.ReferenceIdeal4.main (F := Ideal))) ⟨m, fun _ => 0, g⟩ (fun r => (∀ c : Dev Cert.ReferenceIdeal4.nD,
      r.2.mem ((c.tc : Thread Cert.ReferenceIdeal4.nD Cert.ReferenceIdeal4.τ).loc Cert.ReferenceIdeal4.main_arg0) = m ((c.tc : Thread Cert.ReferenceIdeal4.nD Cert.ReferenceIdeal4.τ).loc Cert.ReferenceIdeal4.main_arg0)
      ∧ r.2.mem ((c.tc : Thread Cert.ReferenceIdeal4.nD Cert.ReferenceIdeal4.τ).loc Cert.ReferenceIdeal4.main_arg1) = m ((c.tc : Thread Cert.ReferenceIdeal4.nD Cert.ReferenceIdeal4.τ).loc Cert.ReferenceIdeal4.main_arg1)
      ∧ r.2.mem ((c.tc : Thread Cert.ReferenceIdeal4.nD Cert.ReferenceIdeal4.τ).loc Cert.ReferenceIdeal4.main_arg2) = m ((c.tc : Thread Cert.ReferenceIdeal4.nD Cert.ReferenceIdeal4.τ).loc Cert.ReferenceIdeal4.main_arg2)
      ∧ r.2.mem ((c.tc : Thread Cert.ReferenceIdeal4.nD Cert.ReferenceIdeal4.τ).loc Cert.ReferenceIdeal4.main_arg3) = m ((c.tc : Thread Cert.ReferenceIdeal4.nD Cert.ReferenceIdeal4.τ).loc Cert.ReferenceIdeal4.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_KernelIdeal5 [hKernelIdeal5 : Cert.KernelIdeal5.Facts] : Prop :=
  ∀ (m : (ℓ : Loc Cert.KernelIdeal5.nD Cert.KernelIdeal5.τ Cert.KernelIdeal5.sig) → Buf (Elt Ideal) ℓ) (g : Dev Cert.KernelIdeal5.nD → PrngReg), Pre_KernelIdeal5 m →
    θ_run (Cert.KernelIdeal5.defs (F := Ideal)) (onTc (τ := Cert.KernelIdeal5.τ) (Cert.KernelIdeal5.main (F := Ideal))) ⟨m, fun _ => 0, g⟩ (fun r => (∀ c : Dev Cert.KernelIdeal5.nD,
      r.2.mem ((c.tc : Thread Cert.KernelIdeal5.nD Cert.KernelIdeal5.τ).loc Cert.KernelIdeal5.main_arg0) = m ((c.tc : Thread Cert.KernelIdeal5.nD Cert.KernelIdeal5.τ).loc Cert.KernelIdeal5.main_arg0)
      ∧ r.2.mem ((c.tc : Thread Cert.KernelIdeal5.nD Cert.KernelIdeal5.τ).loc Cert.KernelIdeal5.main_arg1) = m ((c.tc : Thread Cert.KernelIdeal5.nD Cert.KernelIdeal5.τ).loc Cert.KernelIdeal5.main_arg1)
      ∧ r.2.mem ((c.tc : Thread Cert.KernelIdeal5.nD Cert.KernelIdeal5.τ).loc Cert.KernelIdeal5.main_arg2) = m ((c.tc : Thread Cert.KernelIdeal5.nD Cert.KernelIdeal5.τ).loc Cert.KernelIdeal5.main_arg2)
      ∧ r.2.mem ((c.tc : Thread Cert.KernelIdeal5.nD Cert.KernelIdeal5.τ).loc Cert.KernelIdeal5.main_arg3) = m ((c.tc : Thread Cert.KernelIdeal5.nD Cert.KernelIdeal5.τ).loc Cert.KernelIdeal5.main_arg3)
      ∧ r.2.mem ((c.tc : Thread Cert.KernelIdeal5.nD Cert.KernelIdeal5.τ).loc Cert.KernelIdeal5.main_arg4) = m ((c.tc : Thread Cert.KernelIdeal5.nD Cert.KernelIdeal5.τ).loc Cert.KernelIdeal5.main_arg4))
      ∧ r.2.sem = fun _ => 0)

def quiescent_ReferenceIdeal5 [hReferenceIdeal5 : Cert.ReferenceIdeal5.Facts] : Prop :=
  ∀ (m : (ℓ : Loc Cert.ReferenceIdeal5.nD Cert.ReferenceIdeal5.τ Cert.ReferenceIdeal5.sig) → Buf (Elt Ideal) ℓ) (g : Dev Cert.ReferenceIdeal5.nD → PrngReg), Pre_ReferenceIdeal5 m →
    θ_run (Cert.ReferenceIdeal5.defs (F := Ideal)) (onTc (τ := Cert.ReferenceIdeal5.τ) (Cert.ReferenceIdeal5.main (F := Ideal))) ⟨m, fun _ => 0, g⟩ (fun r => (∀ c : Dev Cert.ReferenceIdeal5.nD,
      r.2.mem ((c.tc : Thread Cert.ReferenceIdeal5.nD Cert.ReferenceIdeal5.τ).loc Cert.ReferenceIdeal5.main_arg0) = m ((c.tc : Thread Cert.ReferenceIdeal5.nD Cert.ReferenceIdeal5.τ).loc Cert.ReferenceIdeal5.main_arg0)
      ∧ r.2.mem ((c.tc : Thread Cert.ReferenceIdeal5.nD Cert.ReferenceIdeal5.τ).loc Cert.ReferenceIdeal5.main_arg1) = m ((c.tc : Thread Cert.ReferenceIdeal5.nD Cert.ReferenceIdeal5.τ).loc Cert.ReferenceIdeal5.main_arg1)
      ∧ r.2.mem ((c.tc : Thread Cert.ReferenceIdeal5.nD Cert.ReferenceIdeal5.τ).loc Cert.ReferenceIdeal5.main_arg2) = m ((c.tc : Thread Cert.ReferenceIdeal5.nD Cert.ReferenceIdeal5.τ).loc Cert.ReferenceIdeal5.main_arg2)
      ∧ r.2.mem ((c.tc : Thread Cert.ReferenceIdeal5.nD Cert.ReferenceIdeal5.τ).loc Cert.ReferenceIdeal5.main_arg3) = m ((c.tc : Thread Cert.ReferenceIdeal5.nD Cert.ReferenceIdeal5.τ).loc Cert.ReferenceIdeal5.main_arg3)
      ∧ r.2.mem ((c.tc : Thread Cert.ReferenceIdeal5.nD Cert.ReferenceIdeal5.τ).loc Cert.ReferenceIdeal5.main_arg4) = m ((c.tc : Thread Cert.ReferenceIdeal5.nD Cert.ReferenceIdeal5.τ).loc Cert.ReferenceIdeal5.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_KernelIdeal6 [hKernelIdeal6 : Cert.KernelIdeal6.Facts] : Prop :=
  ∀ (m : (ℓ : Loc Cert.KernelIdeal6.nD Cert.KernelIdeal6.τ Cert.KernelIdeal6.sig) → Buf (Elt Ideal) ℓ) (g : Dev Cert.KernelIdeal6.nD → PrngReg), Pre_KernelIdeal6 m →
    θ_run (Cert.KernelIdeal6.defs (F := Ideal)) (onTc (τ := Cert.KernelIdeal6.τ) (Cert.KernelIdeal6.main (F := Ideal))) ⟨m, fun _ => 0, g⟩ (fun r => (∀ c : Dev Cert.KernelIdeal6.nD,
      r.2.mem ((c.tc : Thread Cert.KernelIdeal6.nD Cert.KernelIdeal6.τ).loc Cert.KernelIdeal6.main_arg0) = m ((c.tc : Thread Cert.KernelIdeal6.nD Cert.KernelIdeal6.τ).loc Cert.KernelIdeal6.main_arg0)
      ∧ r.2.mem ((c.tc : Thread Cert.KernelIdeal6.nD Cert.KernelIdeal6.τ).loc Cert.KernelIdeal6.main_arg1) = m ((c.tc : Thread Cert.KernelIdeal6.nD Cert.KernelIdeal6.τ).loc Cert.KernelIdeal6.main_arg1)
      ∧ r.2.mem ((c.tc : Thread Cert.KernelIdeal6.nD Cert.KernelIdeal6.τ).loc Cert.KernelIdeal6.main_arg2) = m ((c.tc : Thread Cert.KernelIdeal6.nD Cert.KernelIdeal6.τ).loc Cert.KernelIdeal6.main_arg2)
      ∧ r.2.mem ((c.tc : Thread Cert.KernelIdeal6.nD Cert.KernelIdeal6.τ).loc Cert.KernelIdeal6.main_arg3) = m ((c.tc : Thread Cert.KernelIdeal6.nD Cert.KernelIdeal6.τ).loc Cert.KernelIdeal6.main_arg3)
      ∧ r.2.mem ((c.tc : Thread Cert.KernelIdeal6.nD Cert.KernelIdeal6.τ).loc Cert.KernelIdeal6.main_arg4) = m ((c.tc : Thread Cert.KernelIdeal6.nD Cert.KernelIdeal6.τ).loc Cert.KernelIdeal6.main_arg4)
      ∧ r.2.mem ((c.tc : Thread Cert.KernelIdeal6.nD Cert.KernelIdeal6.τ).loc Cert.KernelIdeal6.main_arg5) = m ((c.tc : Thread Cert.KernelIdeal6.nD Cert.KernelIdeal6.τ).loc Cert.KernelIdeal6.main_arg5))
      ∧ r.2.sem = fun _ => 0)

def quiescent_ReferenceIdeal6 [hReferenceIdeal6 : Cert.ReferenceIdeal6.Facts] : Prop :=
  ∀ (m : (ℓ : Loc Cert.ReferenceIdeal6.nD Cert.ReferenceIdeal6.τ Cert.ReferenceIdeal6.sig) → Buf (Elt Ideal) ℓ) (g : Dev Cert.ReferenceIdeal6.nD → PrngReg), Pre_ReferenceIdeal6 m →
    θ_run (Cert.ReferenceIdeal6.defs (F := Ideal)) (onTc (τ := Cert.ReferenceIdeal6.τ) (Cert.ReferenceIdeal6.main (F := Ideal))) ⟨m, fun _ => 0, g⟩ (fun r => (∀ c : Dev Cert.ReferenceIdeal6.nD,
      r.2.mem ((c.tc : Thread Cert.ReferenceIdeal6.nD Cert.ReferenceIdeal6.τ).loc Cert.ReferenceIdeal6.main_arg0) = m ((c.tc : Thread Cert.ReferenceIdeal6.nD Cert.ReferenceIdeal6.τ).loc Cert.ReferenceIdeal6.main_arg0)
      ∧ r.2.mem ((c.tc : Thread Cert.ReferenceIdeal6.nD Cert.ReferenceIdeal6.τ).loc Cert.ReferenceIdeal6.main_arg1) = m ((c.tc : Thread Cert.ReferenceIdeal6.nD Cert.ReferenceIdeal6.τ).loc Cert.ReferenceIdeal6.main_arg1)
      ∧ r.2.mem ((c.tc : Thread Cert.ReferenceIdeal6.nD Cert.ReferenceIdeal6.τ).loc Cert.ReferenceIdeal6.main_arg2) = m ((c.tc : Thread Cert.ReferenceIdeal6.nD Cert.ReferenceIdeal6.τ).loc Cert.ReferenceIdeal6.main_arg2)
      ∧ r.2.mem ((c.tc : Thread Cert.ReferenceIdeal6.nD Cert.ReferenceIdeal6.τ).loc Cert.ReferenceIdeal6.main_arg3) = m ((c.tc : Thread Cert.ReferenceIdeal6.nD Cert.ReferenceIdeal6.τ).loc Cert.ReferenceIdeal6.main_arg3)
      ∧ r.2.mem ((c.tc : Thread Cert.ReferenceIdeal6.nD Cert.ReferenceIdeal6.τ).loc Cert.ReferenceIdeal6.main_arg4) = m ((c.tc : Thread Cert.ReferenceIdeal6.nD Cert.ReferenceIdeal6.τ).loc Cert.ReferenceIdeal6.main_arg4)
      ∧ r.2.mem ((c.tc : Thread Cert.ReferenceIdeal6.nD Cert.ReferenceIdeal6.τ).loc Cert.ReferenceIdeal6.main_arg5) = m ((c.tc : Thread Cert.ReferenceIdeal6.nD Cert.ReferenceIdeal6.τ).loc Cert.ReferenceIdeal6.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_KernelIdeal7 [hKernelIdeal7 : Cert.KernelIdeal7.Facts] : Prop :=
  ∀ (m : (ℓ : Loc Cert.KernelIdeal7.nD Cert.KernelIdeal7.τ Cert.KernelIdeal7.sig) → Buf (Elt Ideal) ℓ) (g : Dev Cert.KernelIdeal7.nD → PrngReg), Pre_KernelIdeal7 m →
    θ_run (Cert.KernelIdeal7.defs (F := Ideal)) (onTc (τ := Cert.KernelIdeal7.τ) (Cert.KernelIdeal7.main (F := Ideal))) ⟨m, fun _ => 0, g⟩ (fun r => (∀ c : Dev Cert.KernelIdeal7.nD,
      r.2.mem ((c.tc : Thread Cert.KernelIdeal7.nD Cert.KernelIdeal7.τ).loc Cert.KernelIdeal7.main_arg0) = m ((c.tc : Thread Cert.KernelIdeal7.nD Cert.KernelIdeal7.τ).loc Cert.KernelIdeal7.main_arg0)
      ∧ r.2.mem ((c.tc : Thread Cert.KernelIdeal7.nD Cert.KernelIdeal7.τ).loc Cert.KernelIdeal7.main_arg1) = m ((c.tc : Thread Cert.KernelIdeal7.nD Cert.KernelIdeal7.τ).loc Cert.KernelIdeal7.main_arg1)
      ∧ r.2.mem ((c.tc : Thread Cert.KernelIdeal7.nD Cert.KernelIdeal7.τ).loc Cert.KernelIdeal7.main_arg2) = m ((c.tc : Thread Cert.KernelIdeal7.nD Cert.KernelIdeal7.τ).loc Cert.KernelIdeal7.main_arg2)
      ∧ r.2.mem ((c.tc : Thread Cert.KernelIdeal7.nD Cert.KernelIdeal7.τ).loc Cert.KernelIdeal7.main_arg3) = m ((c.tc : Thread Cert.KernelIdeal7.nD Cert.KernelIdeal7.τ).loc Cert.KernelIdeal7.main_arg3))
      ∧ r.2.sem = fun _ => 0)

def quiescent_ReferenceIdeal7 [hReferenceIdeal7 : Cert.ReferenceIdeal7.Facts] : Prop :=
  ∀ (m : (ℓ : Loc Cert.ReferenceIdeal7.nD Cert.ReferenceIdeal7.τ Cert.ReferenceIdeal7.sig) → Buf (Elt Ideal) ℓ) (g : Dev Cert.ReferenceIdeal7.nD → PrngReg), Pre_ReferenceIdeal7 m →
    θ_run (Cert.ReferenceIdeal7.defs (F := Ideal)) (onTc (τ := Cert.ReferenceIdeal7.τ) (Cert.ReferenceIdeal7.main (F := Ideal))) ⟨m, fun _ => 0, g⟩ (fun r => (∀ c : Dev Cert.ReferenceIdeal7.nD,
      r.2.mem ((c.tc : Thread Cert.ReferenceIdeal7.nD Cert.ReferenceIdeal7.τ).loc Cert.ReferenceIdeal7.main_arg0) = m ((c.tc : Thread Cert.ReferenceIdeal7.nD Cert.ReferenceIdeal7.τ).loc Cert.ReferenceIdeal7.main_arg0)
      ∧ r.2.mem ((c.tc : Thread Cert.ReferenceIdeal7.nD Cert.ReferenceIdeal7.τ).loc Cert.ReferenceIdeal7.main_arg1) = m ((c.tc : Thread Cert.ReferenceIdeal7.nD Cert.ReferenceIdeal7.τ).loc Cert.ReferenceIdeal7.main_arg1)
      ∧ r.2.mem ((c.tc : Thread Cert.ReferenceIdeal7.nD Cert.ReferenceIdeal7.τ).loc Cert.ReferenceIdeal7.main_arg2) = m ((c.tc : Thread Cert.ReferenceIdeal7.nD Cert.ReferenceIdeal7.τ).loc Cert.ReferenceIdeal7.main_arg2)
      ∧ r.2.mem ((c.tc : Thread Cert.ReferenceIdeal7.nD Cert.ReferenceIdeal7.τ).loc Cert.ReferenceIdeal7.main_arg3) = m ((c.tc : Thread Cert.ReferenceIdeal7.nD Cert.ReferenceIdeal7.τ).loc Cert.ReferenceIdeal7.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_KernelIdeal2 : Prop :=
  True

def algebraic_KernelIdeal2_ReferenceIdeal2 [hKernelIdeal2 : Cert.KernelIdeal2.Facts] [hReferenceIdeal2 : Cert.ReferenceIdeal2.Facts] : Prop :=
  ∀ (m : (ℓ : Loc Cert.KernelIdeal2.nD Cert.KernelIdeal2.τ Cert.KernelIdeal2.sig) → Buf (Elt Ideal) ℓ) (g : Dev Cert.KernelIdeal2.nD → PrngReg)
    (m' : (ℓ : Loc Cert.ReferenceIdeal2.nD Cert.ReferenceIdeal2.τ Cert.ReferenceIdeal2.sig) → Buf (Elt Ideal) ℓ) (g' : Dev Cert.ReferenceIdeal2.nD → PrngReg), Pre_KernelIdeal2 m →
    (∀ c : Dev Cert.KernelIdeal2.nD,
      m' ((c.tc : Thread Cert.ReferenceIdeal2.nD Cert.ReferenceIdeal2.τ).loc Cert.ReferenceIdeal2.main_arg0) = m ((c.tc : Thread Cert.KernelIdeal2.nD Cert.KernelIdeal2.τ).loc Cert.KernelIdeal2.main_arg0)
      ∧ m' ((c.tc : Thread Cert.ReferenceIdeal2.nD Cert.ReferenceIdeal2.τ).loc Cert.ReferenceIdeal2.main_arg1) = m ((c.tc : Thread Cert.KernelIdeal2.nD Cert.KernelIdeal2.τ).loc Cert.KernelIdeal2.main_arg1)
      ∧ m' ((c.tc : Thread Cert.ReferenceIdeal2.nD Cert.ReferenceIdeal2.τ).loc Cert.ReferenceIdeal2.main_arg2) = m ((c.tc : Thread Cert.KernelIdeal2.nD Cert.KernelIdeal2.τ).loc Cert.KernelIdeal2.main_arg2)
      ∧ m' ((c.tc : Thread Cert.ReferenceIdeal2.nD Cert.ReferenceIdeal2.τ).loc Cert.ReferenceIdeal2.main_arg3) = m ((c.tc : Thread Cert.KernelIdeal2.nD Cert.KernelIdeal2.τ).loc Cert.KernelIdeal2.main_arg3)
      ∧ m' ((c.tc : Thread Cert.ReferenceIdeal2.nD Cert.ReferenceIdeal2.τ).loc Cert.ReferenceIdeal2.main_arg4) = m ((c.tc : Thread Cert.KernelIdeal2.nD Cert.KernelIdeal2.τ).loc Cert.KernelIdeal2.main_arg4)
      ∧ m' ((c.tc : Thread Cert.ReferenceIdeal2.nD Cert.ReferenceIdeal2.τ).loc Cert.ReferenceIdeal2.main_arg5) = m ((c.tc : Thread Cert.KernelIdeal2.nD Cert.KernelIdeal2.τ).loc Cert.KernelIdeal2.main_arg5)) →
    ∃ (v0 : (c : Dev Cert.KernelIdeal2.nD) → Buf (Elt Ideal) ((c.tc : Thread Cert.KernelIdeal2.nD Cert.KernelIdeal2.τ).loc Cert.KernelIdeal2.main_v6)),
      θ_run (Cert.KernelIdeal2.defs (F := Ideal)) (onTc (τ := Cert.KernelIdeal2.τ) (Cert.KernelIdeal2.main (F := Ideal))) ⟨m, fun _ => 0, g⟩ (fun r => ∀ c : Dev Cert.KernelIdeal2.nD,
          r.2.mem ((c.tc : Thread Cert.KernelIdeal2.nD Cert.KernelIdeal2.τ).loc Cert.KernelIdeal2.main_v6) = v0 c
          ∧ r.2.mem ((c.tc : Thread Cert.KernelIdeal2.nD Cert.KernelIdeal2.τ).loc Cert.KernelIdeal2.main_arg0) = m ((c.tc : Thread Cert.KernelIdeal2.nD Cert.KernelIdeal2.τ).loc Cert.KernelIdeal2.main_arg0)
          ∧ r.2.mem ((c.tc : Thread Cert.KernelIdeal2.nD Cert.KernelIdeal2.τ).loc Cert.KernelIdeal2.main_arg1) = m ((c.tc : Thread Cert.KernelIdeal2.nD Cert.KernelIdeal2.τ).loc Cert.KernelIdeal2.main_arg1)
          ∧ r.2.mem ((c.tc : Thread Cert.KernelIdeal2.nD Cert.KernelIdeal2.τ).loc Cert.KernelIdeal2.main_arg2) = m ((c.tc : Thread Cert.KernelIdeal2.nD Cert.KernelIdeal2.τ).loc Cert.KernelIdeal2.main_arg2)
          ∧ r.2.mem ((c.tc : Thread Cert.KernelIdeal2.nD Cert.KernelIdeal2.τ).loc Cert.KernelIdeal2.main_arg3) = m ((c.tc : Thread Cert.KernelIdeal2.nD Cert.KernelIdeal2.τ).loc Cert.KernelIdeal2.main_arg3)
          ∧ r.2.mem ((c.tc : Thread Cert.KernelIdeal2.nD Cert.KernelIdeal2.τ).loc Cert.KernelIdeal2.main_arg4) = m ((c.tc : Thread Cert.KernelIdeal2.nD Cert.KernelIdeal2.τ).loc Cert.KernelIdeal2.main_arg4)
          ∧ r.2.mem ((c.tc : Thread Cert.KernelIdeal2.nD Cert.KernelIdeal2.τ).loc Cert.KernelIdeal2.main_arg5) = m ((c.tc : Thread Cert.KernelIdeal2.nD Cert.KernelIdeal2.τ).loc Cert.KernelIdeal2.main_arg5))
      ∧ θ_run (Cert.ReferenceIdeal2.defs (F := Ideal)) (onTc (τ := Cert.ReferenceIdeal2.τ) (Cert.ReferenceIdeal2.main (F := Ideal))) ⟨m', fun _ => 0, g'⟩ (fun r => ∀ c : Dev Cert.ReferenceIdeal2.nD,
          r.2.mem ((c.tc : Thread Cert.ReferenceIdeal2.nD Cert.ReferenceIdeal2.τ).loc Cert.ReferenceIdeal2.main_v22) = v0 c
          ∧ r.2.mem ((c.tc : Thread Cert.ReferenceIdeal2.nD Cert.ReferenceIdeal2.τ).loc Cert.ReferenceIdeal2.main_arg0) = m' ((c.tc : Thread Cert.ReferenceIdeal2.nD Cert.ReferenceIdeal2.τ).loc Cert.ReferenceIdeal2.main_arg0)
          ∧ r.2.mem ((c.tc : Thread Cert.ReferenceIdeal2.nD Cert.ReferenceIdeal2.τ).loc Cert.ReferenceIdeal2.main_arg1) = m' ((c.tc : Thread Cert.ReferenceIdeal2.nD Cert.ReferenceIdeal2.τ).loc Cert.ReferenceIdeal2.main_arg1)
          ∧ r.2.mem ((c.tc : Thread Cert.ReferenceIdeal2.nD Cert.ReferenceIdeal2.τ).loc Cert.ReferenceIdeal2.main_arg2) = m' ((c.tc : Thread Cert.ReferenceIdeal2.nD Cert.ReferenceIdeal2.τ).loc Cert.ReferenceIdeal2.main_arg2)
          ∧ r.2.mem ((c.tc : Thread Cert.ReferenceIdeal2.nD Cert.ReferenceIdeal2.τ).loc Cert.ReferenceIdeal2.main_arg3) = m' ((c.tc : Thread Cert.ReferenceIdeal2.nD Cert.ReferenceIdeal2.τ).loc Cert.ReferenceIdeal2.main_arg3)
          ∧ r.2.mem ((c.tc : Thread Cert.ReferenceIdeal2.nD Cert.ReferenceIdeal2.τ).loc Cert.ReferenceIdeal2.main_arg4) = m' ((c.tc : Thread Cert.ReferenceIdeal2.nD Cert.ReferenceIdeal2.τ).loc Cert.ReferenceIdeal2.main_arg4)
          ∧ r.2.mem ((c.tc : Thread Cert.ReferenceIdeal2.nD Cert.ReferenceIdeal2.τ).loc Cert.ReferenceIdeal2.main_arg5) = m' ((c.tc : Thread Cert.ReferenceIdeal2.nD Cert.ReferenceIdeal2.τ).loc Cert.ReferenceIdeal2.main_arg5))

def preserves_Kernel3_KernelIdeal3 : Prop :=
  IdealRules.named_const.Statement Cert.KernelIdeal3.κ "query_scale" .f32 0x3E38AA3B#32 (((1 / 8) * (Real.log 2)⁻¹ : ℝ) : EReal)

def algebraic_KernelIdeal3_ReferenceIdeal3 [hKernelIdeal3 : Cert.KernelIdeal3.Facts] [hReferenceIdeal3 : Cert.ReferenceIdeal3.Facts] : Prop :=
  ∀ (m : (ℓ : Loc Cert.KernelIdeal3.nD Cert.KernelIdeal3.τ Cert.KernelIdeal3.sig) → Buf (Elt Ideal) ℓ) (g : Dev Cert.KernelIdeal3.nD → PrngReg)
    (m' : (ℓ : Loc Cert.ReferenceIdeal3.nD Cert.ReferenceIdeal3.τ Cert.ReferenceIdeal3.sig) → Buf (Elt Ideal) ℓ) (g' : Dev Cert.ReferenceIdeal3.nD → PrngReg), Pre_KernelIdeal3 m →
    (∀ c : Dev Cert.KernelIdeal3.nD,
      m' ((c.tc : Thread Cert.ReferenceIdeal3.nD Cert.ReferenceIdeal3.τ).loc Cert.ReferenceIdeal3.main_arg0) = m ((c.tc : Thread Cert.KernelIdeal3.nD Cert.KernelIdeal3.τ).loc Cert.KernelIdeal3.main_arg0)
      ∧ m' ((c.tc : Thread Cert.ReferenceIdeal3.nD Cert.ReferenceIdeal3.τ).loc Cert.ReferenceIdeal3.main_arg1) = m ((c.tc : Thread Cert.KernelIdeal3.nD Cert.KernelIdeal3.τ).loc Cert.KernelIdeal3.main_arg1)
      ∧ m' ((c.tc : Thread Cert.ReferenceIdeal3.nD Cert.ReferenceIdeal3.τ).loc Cert.ReferenceIdeal3.main_arg2) = m ((c.tc : Thread Cert.KernelIdeal3.nD Cert.KernelIdeal3.τ).loc Cert.KernelIdeal3.main_arg2)
      ∧ m' ((c.tc : Thread Cert.ReferenceIdeal3.nD Cert.ReferenceIdeal3.τ).loc Cert.ReferenceIdeal3.main_arg3) = m ((c.tc : Thread Cert.KernelIdeal3.nD Cert.KernelIdeal3.τ).loc Cert.KernelIdeal3.main_arg3)
      ∧ m' ((c.tc : Thread Cert.ReferenceIdeal3.nD Cert.ReferenceIdeal3.τ).loc Cert.ReferenceIdeal3.main_arg4) = m ((c.tc : Thread Cert.KernelIdeal3.nD Cert.KernelIdeal3.τ).loc Cert.KernelIdeal3.main_arg4)) →
    ∃ (v0 : (c : Dev Cert.KernelIdeal3.nD) → Buf (Elt Ideal) ((c.tc : Thread Cert.KernelIdeal3.nD Cert.KernelIdeal3.τ).loc Cert.KernelIdeal3.main_v15_0)) (v1 : (c : Dev Cert.KernelIdeal3.nD) → Buf (Elt Ideal) ((c.tc : Thread Cert.KernelIdeal3.nD Cert.KernelIdeal3.τ).loc Cert.KernelIdeal3.main_v15_1)) (v2 : (c : Dev Cert.KernelIdeal3.nD) → Buf (Elt Ideal) ((c.tc : Thread Cert.KernelIdeal3.nD Cert.KernelIdeal3.τ).loc Cert.KernelIdeal3.main_v15_2)),
      θ_run (Cert.KernelIdeal3.defs (F := Ideal)) (onTc (τ := Cert.KernelIdeal3.τ) (Cert.KernelIdeal3.main (F := Ideal))) ⟨m, fun _ => 0, g⟩ (fun r => ∀ c : Dev Cert.KernelIdeal3.nD,
          r.2.mem ((c.tc : Thread Cert.KernelIdeal3.nD Cert.KernelIdeal3.τ).loc Cert.KernelIdeal3.main_v15_0) = v0 c
          ∧ r.2.mem ((c.tc : Thread Cert.KernelIdeal3.nD Cert.KernelIdeal3.τ).loc Cert.KernelIdeal3.main_v15_1) = v1 c
          ∧ r.2.mem ((c.tc : Thread Cert.KernelIdeal3.nD Cert.KernelIdeal3.τ).loc Cert.KernelIdeal3.main_v15_2) = v2 c
          ∧ r.2.mem ((c.tc : Thread Cert.KernelIdeal3.nD Cert.KernelIdeal3.τ).loc Cert.KernelIdeal3.main_arg0) = m ((c.tc : Thread Cert.KernelIdeal3.nD Cert.KernelIdeal3.τ).loc Cert.KernelIdeal3.main_arg0)
          ∧ r.2.mem ((c.tc : Thread Cert.KernelIdeal3.nD Cert.KernelIdeal3.τ).loc Cert.KernelIdeal3.main_arg1) = m ((c.tc : Thread Cert.KernelIdeal3.nD Cert.KernelIdeal3.τ).loc Cert.KernelIdeal3.main_arg1)
          ∧ r.2.mem ((c.tc : Thread Cert.KernelIdeal3.nD Cert.KernelIdeal3.τ).loc Cert.KernelIdeal3.main_arg2) = m ((c.tc : Thread Cert.KernelIdeal3.nD Cert.KernelIdeal3.τ).loc Cert.KernelIdeal3.main_arg2)
          ∧ r.2.mem ((c.tc : Thread Cert.KernelIdeal3.nD Cert.KernelIdeal3.τ).loc Cert.KernelIdeal3.main_arg3) = m ((c.tc : Thread Cert.KernelIdeal3.nD Cert.KernelIdeal3.τ).loc Cert.KernelIdeal3.main_arg3)
          ∧ r.2.mem ((c.tc : Thread Cert.KernelIdeal3.nD Cert.KernelIdeal3.τ).loc Cert.KernelIdeal3.main_arg4) = m ((c.tc : Thread Cert.KernelIdeal3.nD Cert.KernelIdeal3.τ).loc Cert.KernelIdeal3.main_arg4))
      ∧ θ_run (Cert.ReferenceIdeal3.defs (F := Ideal)) (onTc (τ := Cert.ReferenceIdeal3.τ) (Cert.ReferenceIdeal3.main (F := Ideal))) ⟨m', fun _ => 0, g'⟩ (fun r => ∀ c : Dev Cert.ReferenceIdeal3.nD,
          r.2.mem ((c.tc : Thread Cert.ReferenceIdeal3.nD Cert.ReferenceIdeal3.τ).loc Cert.ReferenceIdeal3.main_v53) = v0 c
          ∧ r.2.mem ((c.tc : Thread Cert.ReferenceIdeal3.nD Cert.ReferenceIdeal3.τ).loc Cert.ReferenceIdeal3.main_v55) = v1 c
          ∧ r.2.mem ((c.tc : Thread Cert.ReferenceIdeal3.nD Cert.ReferenceIdeal3.τ).loc Cert.ReferenceIdeal3.main_v57) = v2 c
          ∧ r.2.mem ((c.tc : Thread Cert.ReferenceIdeal3.nD Cert.ReferenceIdeal3.τ).loc Cert.ReferenceIdeal3.main_arg0) = m' ((c.tc : Thread Cert.ReferenceIdeal3.nD Cert.ReferenceIdeal3.τ).loc Cert.ReferenceIdeal3.main_arg0)
          ∧ r.2.mem ((c.tc : Thread Cert.ReferenceIdeal3.nD Cert.ReferenceIdeal3.τ).loc Cert.ReferenceIdeal3.main_arg1) = m' ((c.tc : Thread Cert.ReferenceIdeal3.nD Cert.ReferenceIdeal3.τ).loc Cert.ReferenceIdeal3.main_arg1)
          ∧ r.2.mem ((c.tc : Thread Cert.ReferenceIdeal3.nD Cert.ReferenceIdeal3.τ).loc Cert.ReferenceIdeal3.main_arg2) = m' ((c.tc : Thread Cert.ReferenceIdeal3.nD Cert.ReferenceIdeal3.τ).loc Cert.ReferenceIdeal3.main_arg2)
          ∧ r.2.mem ((c.tc : Thread Cert.ReferenceIdeal3.nD Cert.ReferenceIdeal3.τ).loc Cert.ReferenceIdeal3.main_arg3) = m' ((c.tc : Thread Cert.ReferenceIdeal3.nD Cert.ReferenceIdeal3.τ).loc Cert.ReferenceIdeal3.main_arg3)
          ∧ r.2.mem ((c.tc : Thread Cert.ReferenceIdeal3.nD Cert.ReferenceIdeal3.τ).loc Cert.ReferenceIdeal3.main_arg4) = m' ((c.tc : Thread Cert.ReferenceIdeal3.nD Cert.ReferenceIdeal3.τ).loc Cert.ReferenceIdeal3.main_arg4))

def preserves_Kernel4_KernelIdeal4 : Prop :=
  IdealRules.named_const.Statement Cert.KernelIdeal4.κ "inv_cap" .f32 0x3D888889#32 ((1 / 15 : ℝ) : EReal)

def algebraic_KernelIdeal4_ReferenceIdeal4 [hKernelIdeal4 : Cert.KernelIdeal4.Facts] [hReferenceIdeal4 : Cert.ReferenceIdeal4.Facts] : Prop :=
  ∀ (m : (ℓ : Loc Cert.KernelIdeal4.nD Cert.KernelIdeal4.τ Cert.KernelIdeal4.sig) → Buf (Elt Ideal) ℓ) (g : Dev Cert.KernelIdeal4.nD → PrngReg)
    (m' : (ℓ : Loc Cert.ReferenceIdeal4.nD Cert.ReferenceIdeal4.τ Cert.ReferenceIdeal4.sig) → Buf (Elt Ideal) ℓ) (g' : Dev Cert.ReferenceIdeal4.nD → PrngReg), Pre_KernelIdeal4 m →
    (∀ c : Dev Cert.KernelIdeal4.nD,
      m' ((c.tc : Thread Cert.ReferenceIdeal4.nD Cert.ReferenceIdeal4.τ).loc Cert.ReferenceIdeal4.main_arg0) = m ((c.tc : Thread Cert.KernelIdeal4.nD Cert.KernelIdeal4.τ).loc Cert.KernelIdeal4.main_arg0)
      ∧ m' ((c.tc : Thread Cert.ReferenceIdeal4.nD Cert.ReferenceIdeal4.τ).loc Cert.ReferenceIdeal4.main_arg1) = m ((c.tc : Thread Cert.KernelIdeal4.nD Cert.KernelIdeal4.τ).loc Cert.KernelIdeal4.main_arg1)
      ∧ m' ((c.tc : Thread Cert.ReferenceIdeal4.nD Cert.ReferenceIdeal4.τ).loc Cert.ReferenceIdeal4.main_arg2) = m ((c.tc : Thread Cert.KernelIdeal4.nD Cert.KernelIdeal4.τ).loc Cert.KernelIdeal4.main_arg2)
      ∧ m' ((c.tc : Thread Cert.ReferenceIdeal4.nD Cert.ReferenceIdeal4.τ).loc Cert.ReferenceIdeal4.main_arg3) = m ((c.tc : Thread Cert.KernelIdeal4.nD Cert.KernelIdeal4.τ).loc Cert.KernelIdeal4.main_arg3)) →
    ∃ (v0 : (c : Dev Cert.KernelIdeal4.nD) → Buf (Elt Ideal) ((c.tc : Thread Cert.KernelIdeal4.nD Cert.KernelIdeal4.τ).loc Cert.KernelIdeal4.main_v22_0)) (v1 : (c : Dev Cert.KernelIdeal4.nD) → Buf (Elt Ideal) ((c.tc : Thread Cert.KernelIdeal4.nD Cert.KernelIdeal4.τ).loc Cert.KernelIdeal4.main_v22_1)) (v2 : (c : Dev Cert.KernelIdeal4.nD) → Buf (Elt Ideal) ((c.tc : Thread Cert.KernelIdeal4.nD Cert.KernelIdeal4.τ).loc Cert.KernelIdeal4.main_v22_2)) (v3 : (c : Dev Cert.KernelIdeal4.nD) → Buf (Elt Ideal) ((c.tc : Thread Cert.KernelIdeal4.nD Cert.KernelIdeal4.τ).loc Cert.KernelIdeal4.main_v22_3)) (v4 : (c : Dev Cert.KernelIdeal4.nD) → Buf (Elt Ideal) ((c.tc : Thread Cert.KernelIdeal4.nD Cert.KernelIdeal4.τ).loc Cert.KernelIdeal4.main_v22_4)),
      θ_run (Cert.KernelIdeal4.defs (F := Ideal)) (onTc (τ := Cert.KernelIdeal4.τ) (Cert.KernelIdeal4.main (F := Ideal))) ⟨m, fun _ => 0, g⟩ (fun r => ∀ c : Dev Cert.KernelIdeal4.nD,
          r.2.mem ((c.tc : Thread Cert.KernelIdeal4.nD Cert.KernelIdeal4.τ).loc Cert.KernelIdeal4.main_v22_0) = v0 c
          ∧ r.2.mem ((c.tc : Thread Cert.KernelIdeal4.nD Cert.KernelIdeal4.τ).loc Cert.KernelIdeal4.main_v22_1) = v1 c
          ∧ r.2.mem ((c.tc : Thread Cert.KernelIdeal4.nD Cert.KernelIdeal4.τ).loc Cert.KernelIdeal4.main_v22_2) = v2 c
          ∧ r.2.mem ((c.tc : Thread Cert.KernelIdeal4.nD Cert.KernelIdeal4.τ).loc Cert.KernelIdeal4.main_v22_3) = v3 c
          ∧ r.2.mem ((c.tc : Thread Cert.KernelIdeal4.nD Cert.KernelIdeal4.τ).loc Cert.KernelIdeal4.main_v22_4) = v4 c
          ∧ r.2.mem ((c.tc : Thread Cert.KernelIdeal4.nD Cert.KernelIdeal4.τ).loc Cert.KernelIdeal4.main_arg0) = m ((c.tc : Thread Cert.KernelIdeal4.nD Cert.KernelIdeal4.τ).loc Cert.KernelIdeal4.main_arg0)
          ∧ r.2.mem ((c.tc : Thread Cert.KernelIdeal4.nD Cert.KernelIdeal4.τ).loc Cert.KernelIdeal4.main_arg1) = m ((c.tc : Thread Cert.KernelIdeal4.nD Cert.KernelIdeal4.τ).loc Cert.KernelIdeal4.main_arg1)
          ∧ r.2.mem ((c.tc : Thread Cert.KernelIdeal4.nD Cert.KernelIdeal4.τ).loc Cert.KernelIdeal4.main_arg2) = m ((c.tc : Thread Cert.KernelIdeal4.nD Cert.KernelIdeal4.τ).loc Cert.KernelIdeal4.main_arg2)
          ∧ r.2.mem ((c.tc : Thread Cert.KernelIdeal4.nD Cert.KernelIdeal4.τ).loc Cert.KernelIdeal4.main_arg3) = m ((c.tc : Thread Cert.KernelIdeal4.nD Cert.KernelIdeal4.τ).loc Cert.KernelIdeal4.main_arg3))
      ∧ θ_run (Cert.ReferenceIdeal4.defs (F := Ideal)) (onTc (τ := Cert.ReferenceIdeal4.τ) (Cert.ReferenceIdeal4.main (F := Ideal))) ⟨m', fun _ => 0, g'⟩ (fun r => ∀ c : Dev Cert.ReferenceIdeal4.nD,
          r.2.mem ((c.tc : Thread Cert.ReferenceIdeal4.nD Cert.ReferenceIdeal4.τ).loc Cert.ReferenceIdeal4.main_v36) = v0 c
          ∧ r.2.mem ((c.tc : Thread Cert.ReferenceIdeal4.nD Cert.ReferenceIdeal4.τ).loc Cert.ReferenceIdeal4.main_v38) = v1 c
          ∧ r.2.mem ((c.tc : Thread Cert.ReferenceIdeal4.nD Cert.ReferenceIdeal4.τ).loc Cert.ReferenceIdeal4.main_v40) = v2 c
          ∧ r.2.mem ((c.tc : Thread Cert.ReferenceIdeal4.nD Cert.ReferenceIdeal4.τ).loc Cert.ReferenceIdeal4.main_v41) = v3 c
          ∧ r.2.mem ((c.tc : Thread Cert.ReferenceIdeal4.nD Cert.ReferenceIdeal4.τ).loc Cert.ReferenceIdeal4.main_v43) = v4 c
          ∧ r.2.mem ((c.tc : Thread Cert.ReferenceIdeal4.nD Cert.ReferenceIdeal4.τ).loc Cert.ReferenceIdeal4.main_arg0) = m' ((c.tc : Thread Cert.ReferenceIdeal4.nD Cert.ReferenceIdeal4.τ).loc Cert.ReferenceIdeal4.main_arg0)
          ∧ r.2.mem ((c.tc : Thread Cert.ReferenceIdeal4.nD Cert.ReferenceIdeal4.τ).loc Cert.ReferenceIdeal4.main_arg1) = m' ((c.tc : Thread Cert.ReferenceIdeal4.nD Cert.ReferenceIdeal4.τ).loc Cert.ReferenceIdeal4.main_arg1)
          ∧ r.2.mem ((c.tc : Thread Cert.ReferenceIdeal4.nD Cert.ReferenceIdeal4.τ).loc Cert.ReferenceIdeal4.main_arg2) = m' ((c.tc : Thread Cert.ReferenceIdeal4.nD Cert.ReferenceIdeal4.τ).loc Cert.ReferenceIdeal4.main_arg2)
          ∧ r.2.mem ((c.tc : Thread Cert.ReferenceIdeal4.nD Cert.ReferenceIdeal4.τ).loc Cert.ReferenceIdeal4.main_arg3) = m' ((c.tc : Thread Cert.ReferenceIdeal4.nD Cert.ReferenceIdeal4.τ).loc Cert.ReferenceIdeal4.main_arg3))

def preserves_Kernel5_KernelIdeal5 : Prop :=
  IdealRules.named_const.Statement Cert.KernelIdeal5.κ "query_scale" .f32 0x3E38AA3B#32 (((1 / 8) * (Real.log 2)⁻¹ : ℝ) : EReal)

def algebraic_KernelIdeal5_ReferenceIdeal5 [hKernelIdeal5 : Cert.KernelIdeal5.Facts] [hReferenceIdeal5 : Cert.ReferenceIdeal5.Facts] : Prop :=
  ∀ (m : (ℓ : Loc Cert.KernelIdeal5.nD Cert.KernelIdeal5.τ Cert.KernelIdeal5.sig) → Buf (Elt Ideal) ℓ) (g : Dev Cert.KernelIdeal5.nD → PrngReg)
    (m' : (ℓ : Loc Cert.ReferenceIdeal5.nD Cert.ReferenceIdeal5.τ Cert.ReferenceIdeal5.sig) → Buf (Elt Ideal) ℓ) (g' : Dev Cert.ReferenceIdeal5.nD → PrngReg), Pre_KernelIdeal5 m →
    (∀ c : Dev Cert.KernelIdeal5.nD,
      m' ((c.tc : Thread Cert.ReferenceIdeal5.nD Cert.ReferenceIdeal5.τ).loc Cert.ReferenceIdeal5.main_arg0) = m ((c.tc : Thread Cert.KernelIdeal5.nD Cert.KernelIdeal5.τ).loc Cert.KernelIdeal5.main_arg0)
      ∧ m' ((c.tc : Thread Cert.ReferenceIdeal5.nD Cert.ReferenceIdeal5.τ).loc Cert.ReferenceIdeal5.main_arg1) = m ((c.tc : Thread Cert.KernelIdeal5.nD Cert.KernelIdeal5.τ).loc Cert.KernelIdeal5.main_arg1)
      ∧ m' ((c.tc : Thread Cert.ReferenceIdeal5.nD Cert.ReferenceIdeal5.τ).loc Cert.ReferenceIdeal5.main_arg2) = m ((c.tc : Thread Cert.KernelIdeal5.nD Cert.KernelIdeal5.τ).loc Cert.KernelIdeal5.main_arg2)
      ∧ m' ((c.tc : Thread Cert.ReferenceIdeal5.nD Cert.ReferenceIdeal5.τ).loc Cert.ReferenceIdeal5.main_arg3) = m ((c.tc : Thread Cert.KernelIdeal5.nD Cert.KernelIdeal5.τ).loc Cert.KernelIdeal5.main_arg3)
      ∧ m' ((c.tc : Thread Cert.ReferenceIdeal5.nD Cert.ReferenceIdeal5.τ).loc Cert.ReferenceIdeal5.main_arg4) = m ((c.tc : Thread Cert.KernelIdeal5.nD Cert.KernelIdeal5.τ).loc Cert.KernelIdeal5.main_arg4)) →
    ∃ (v0 : (c : Dev Cert.KernelIdeal5.nD) → Buf (Elt Ideal) ((c.tc : Thread Cert.KernelIdeal5.nD Cert.KernelIdeal5.τ).loc Cert.KernelIdeal5.main_v15_0)) (v1 : (c : Dev Cert.KernelIdeal5.nD) → Buf (Elt Ideal) ((c.tc : Thread Cert.KernelIdeal5.nD Cert.KernelIdeal5.τ).loc Cert.KernelIdeal5.main_v15_1)) (v2 : (c : Dev Cert.KernelIdeal5.nD) → Buf (Elt Ideal) ((c.tc : Thread Cert.KernelIdeal5.nD Cert.KernelIdeal5.τ).loc Cert.KernelIdeal5.main_v15_2)),
      θ_run (Cert.KernelIdeal5.defs (F := Ideal)) (onTc (τ := Cert.KernelIdeal5.τ) (Cert.KernelIdeal5.main (F := Ideal))) ⟨m, fun _ => 0, g⟩ (fun r => ∀ c : Dev Cert.KernelIdeal5.nD,
          r.2.mem ((c.tc : Thread Cert.KernelIdeal5.nD Cert.KernelIdeal5.τ).loc Cert.KernelIdeal5.main_v15_0) = v0 c
          ∧ r.2.mem ((c.tc : Thread Cert.KernelIdeal5.nD Cert.KernelIdeal5.τ).loc Cert.KernelIdeal5.main_v15_1) = v1 c
          ∧ r.2.mem ((c.tc : Thread Cert.KernelIdeal5.nD Cert.KernelIdeal5.τ).loc Cert.KernelIdeal5.main_v15_2) = v2 c
          ∧ r.2.mem ((c.tc : Thread Cert.KernelIdeal5.nD Cert.KernelIdeal5.τ).loc Cert.KernelIdeal5.main_arg0) = m ((c.tc : Thread Cert.KernelIdeal5.nD Cert.KernelIdeal5.τ).loc Cert.KernelIdeal5.main_arg0)
          ∧ r.2.mem ((c.tc : Thread Cert.KernelIdeal5.nD Cert.KernelIdeal5.τ).loc Cert.KernelIdeal5.main_arg1) = m ((c.tc : Thread Cert.KernelIdeal5.nD Cert.KernelIdeal5.τ).loc Cert.KernelIdeal5.main_arg1)
          ∧ r.2.mem ((c.tc : Thread Cert.KernelIdeal5.nD Cert.KernelIdeal5.τ).loc Cert.KernelIdeal5.main_arg2) = m ((c.tc : Thread Cert.KernelIdeal5.nD Cert.KernelIdeal5.τ).loc Cert.KernelIdeal5.main_arg2)
          ∧ r.2.mem ((c.tc : Thread Cert.KernelIdeal5.nD Cert.KernelIdeal5.τ).loc Cert.KernelIdeal5.main_arg3) = m ((c.tc : Thread Cert.KernelIdeal5.nD Cert.KernelIdeal5.τ).loc Cert.KernelIdeal5.main_arg3)
          ∧ r.2.mem ((c.tc : Thread Cert.KernelIdeal5.nD Cert.KernelIdeal5.τ).loc Cert.KernelIdeal5.main_arg4) = m ((c.tc : Thread Cert.KernelIdeal5.nD Cert.KernelIdeal5.τ).loc Cert.KernelIdeal5.main_arg4))
      ∧ θ_run (Cert.ReferenceIdeal5.defs (F := Ideal)) (onTc (τ := Cert.ReferenceIdeal5.τ) (Cert.ReferenceIdeal5.main (F := Ideal))) ⟨m', fun _ => 0, g'⟩ (fun r => ∀ c : Dev Cert.ReferenceIdeal5.nD,
          r.2.mem ((c.tc : Thread Cert.ReferenceIdeal5.nD Cert.ReferenceIdeal5.τ).loc Cert.ReferenceIdeal5.main_v53) = v0 c
          ∧ r.2.mem ((c.tc : Thread Cert.ReferenceIdeal5.nD Cert.ReferenceIdeal5.τ).loc Cert.ReferenceIdeal5.main_v55) = v1 c
          ∧ r.2.mem ((c.tc : Thread Cert.ReferenceIdeal5.nD Cert.ReferenceIdeal5.τ).loc Cert.ReferenceIdeal5.main_v57) = v2 c
          ∧ r.2.mem ((c.tc : Thread Cert.ReferenceIdeal5.nD Cert.ReferenceIdeal5.τ).loc Cert.ReferenceIdeal5.main_arg0) = m' ((c.tc : Thread Cert.ReferenceIdeal5.nD Cert.ReferenceIdeal5.τ).loc Cert.ReferenceIdeal5.main_arg0)
          ∧ r.2.mem ((c.tc : Thread Cert.ReferenceIdeal5.nD Cert.ReferenceIdeal5.τ).loc Cert.ReferenceIdeal5.main_arg1) = m' ((c.tc : Thread Cert.ReferenceIdeal5.nD Cert.ReferenceIdeal5.τ).loc Cert.ReferenceIdeal5.main_arg1)
          ∧ r.2.mem ((c.tc : Thread Cert.ReferenceIdeal5.nD Cert.ReferenceIdeal5.τ).loc Cert.ReferenceIdeal5.main_arg2) = m' ((c.tc : Thread Cert.ReferenceIdeal5.nD Cert.ReferenceIdeal5.τ).loc Cert.ReferenceIdeal5.main_arg2)
          ∧ r.2.mem ((c.tc : Thread Cert.ReferenceIdeal5.nD Cert.ReferenceIdeal5.τ).loc Cert.ReferenceIdeal5.main_arg3) = m' ((c.tc : Thread Cert.ReferenceIdeal5.nD Cert.ReferenceIdeal5.τ).loc Cert.ReferenceIdeal5.main_arg3)
          ∧ r.2.mem ((c.tc : Thread Cert.ReferenceIdeal5.nD Cert.ReferenceIdeal5.τ).loc Cert.ReferenceIdeal5.main_arg4) = m' ((c.tc : Thread Cert.ReferenceIdeal5.nD Cert.ReferenceIdeal5.τ).loc Cert.ReferenceIdeal5.main_arg4))

def preserves_Kernel6_KernelIdeal6 : Prop :=
  True

def algebraic_KernelIdeal6_ReferenceIdeal6 [hKernelIdeal6 : Cert.KernelIdeal6.Facts] [hReferenceIdeal6 : Cert.ReferenceIdeal6.Facts] : Prop :=
  ∀ (m : (ℓ : Loc Cert.KernelIdeal6.nD Cert.KernelIdeal6.τ Cert.KernelIdeal6.sig) → Buf (Elt Ideal) ℓ) (g : Dev Cert.KernelIdeal6.nD → PrngReg)
    (m' : (ℓ : Loc Cert.ReferenceIdeal6.nD Cert.ReferenceIdeal6.τ Cert.ReferenceIdeal6.sig) → Buf (Elt Ideal) ℓ) (g' : Dev Cert.ReferenceIdeal6.nD → PrngReg), Pre_KernelIdeal6 m →
    (∀ c : Dev Cert.KernelIdeal6.nD,
      m' ((c.tc : Thread Cert.ReferenceIdeal6.nD Cert.ReferenceIdeal6.τ).loc Cert.ReferenceIdeal6.main_arg0) = m ((c.tc : Thread Cert.KernelIdeal6.nD Cert.KernelIdeal6.τ).loc Cert.KernelIdeal6.main_arg0)
      ∧ m' ((c.tc : Thread Cert.ReferenceIdeal6.nD Cert.ReferenceIdeal6.τ).loc Cert.ReferenceIdeal6.main_arg1) = m ((c.tc : Thread Cert.KernelIdeal6.nD Cert.KernelIdeal6.τ).loc Cert.KernelIdeal6.main_arg1)
      ∧ m' ((c.tc : Thread Cert.ReferenceIdeal6.nD Cert.ReferenceIdeal6.τ).loc Cert.ReferenceIdeal6.main_arg2) = m ((c.tc : Thread Cert.KernelIdeal6.nD Cert.KernelIdeal6.τ).loc Cert.KernelIdeal6.main_arg2)
      ∧ m' ((c.tc : Thread Cert.ReferenceIdeal6.nD Cert.ReferenceIdeal6.τ).loc Cert.ReferenceIdeal6.main_arg3) = m ((c.tc : Thread Cert.KernelIdeal6.nD Cert.KernelIdeal6.τ).loc Cert.KernelIdeal6.main_arg3)
      ∧ m' ((c.tc : Thread Cert.ReferenceIdeal6.nD Cert.ReferenceIdeal6.τ).loc Cert.ReferenceIdeal6.main_arg4) = m ((c.tc : Thread Cert.KernelIdeal6.nD Cert.KernelIdeal6.τ).loc Cert.KernelIdeal6.main_arg4)
      ∧ m' ((c.tc : Thread Cert.ReferenceIdeal6.nD Cert.ReferenceIdeal6.τ).loc Cert.ReferenceIdeal6.main_arg5) = m ((c.tc : Thread Cert.KernelIdeal6.nD Cert.KernelIdeal6.τ).loc Cert.KernelIdeal6.main_arg5)) →
    ∃ (v0 : (c : Dev Cert.KernelIdeal6.nD) → Buf (Elt Ideal) ((c.tc : Thread Cert.KernelIdeal6.nD Cert.KernelIdeal6.τ).loc Cert.KernelIdeal6.main_v6)),
      θ_run (Cert.KernelIdeal6.defs (F := Ideal)) (onTc (τ := Cert.KernelIdeal6.τ) (Cert.KernelIdeal6.main (F := Ideal))) ⟨m, fun _ => 0, g⟩ (fun r => ∀ c : Dev Cert.KernelIdeal6.nD,
          r.2.mem ((c.tc : Thread Cert.KernelIdeal6.nD Cert.KernelIdeal6.τ).loc Cert.KernelIdeal6.main_v6) = v0 c
          ∧ r.2.mem ((c.tc : Thread Cert.KernelIdeal6.nD Cert.KernelIdeal6.τ).loc Cert.KernelIdeal6.main_arg0) = m ((c.tc : Thread Cert.KernelIdeal6.nD Cert.KernelIdeal6.τ).loc Cert.KernelIdeal6.main_arg0)
          ∧ r.2.mem ((c.tc : Thread Cert.KernelIdeal6.nD Cert.KernelIdeal6.τ).loc Cert.KernelIdeal6.main_arg1) = m ((c.tc : Thread Cert.KernelIdeal6.nD Cert.KernelIdeal6.τ).loc Cert.KernelIdeal6.main_arg1)
          ∧ r.2.mem ((c.tc : Thread Cert.KernelIdeal6.nD Cert.KernelIdeal6.τ).loc Cert.KernelIdeal6.main_arg2) = m ((c.tc : Thread Cert.KernelIdeal6.nD Cert.KernelIdeal6.τ).loc Cert.KernelIdeal6.main_arg2)
          ∧ r.2.mem ((c.tc : Thread Cert.KernelIdeal6.nD Cert.KernelIdeal6.τ).loc Cert.KernelIdeal6.main_arg3) = m ((c.tc : Thread Cert.KernelIdeal6.nD Cert.KernelIdeal6.τ).loc Cert.KernelIdeal6.main_arg3)
          ∧ r.2.mem ((c.tc : Thread Cert.KernelIdeal6.nD Cert.KernelIdeal6.τ).loc Cert.KernelIdeal6.main_arg4) = m ((c.tc : Thread Cert.KernelIdeal6.nD Cert.KernelIdeal6.τ).loc Cert.KernelIdeal6.main_arg4)
          ∧ r.2.mem ((c.tc : Thread Cert.KernelIdeal6.nD Cert.KernelIdeal6.τ).loc Cert.KernelIdeal6.main_arg5) = m ((c.tc : Thread Cert.KernelIdeal6.nD Cert.KernelIdeal6.τ).loc Cert.KernelIdeal6.main_arg5))
      ∧ θ_run (Cert.ReferenceIdeal6.defs (F := Ideal)) (onTc (τ := Cert.ReferenceIdeal6.τ) (Cert.ReferenceIdeal6.main (F := Ideal))) ⟨m', fun _ => 0, g'⟩ (fun r => ∀ c : Dev Cert.ReferenceIdeal6.nD,
          r.2.mem ((c.tc : Thread Cert.ReferenceIdeal6.nD Cert.ReferenceIdeal6.τ).loc Cert.ReferenceIdeal6.main_v22) = v0 c
          ∧ r.2.mem ((c.tc : Thread Cert.ReferenceIdeal6.nD Cert.ReferenceIdeal6.τ).loc Cert.ReferenceIdeal6.main_arg0) = m' ((c.tc : Thread Cert.ReferenceIdeal6.nD Cert.ReferenceIdeal6.τ).loc Cert.ReferenceIdeal6.main_arg0)
          ∧ r.2.mem ((c.tc : Thread Cert.ReferenceIdeal6.nD Cert.ReferenceIdeal6.τ).loc Cert.ReferenceIdeal6.main_arg1) = m' ((c.tc : Thread Cert.ReferenceIdeal6.nD Cert.ReferenceIdeal6.τ).loc Cert.ReferenceIdeal6.main_arg1)
          ∧ r.2.mem ((c.tc : Thread Cert.ReferenceIdeal6.nD Cert.ReferenceIdeal6.τ).loc Cert.ReferenceIdeal6.main_arg2) = m' ((c.tc : Thread Cert.ReferenceIdeal6.nD Cert.ReferenceIdeal6.τ).loc Cert.ReferenceIdeal6.main_arg2)
          ∧ r.2.mem ((c.tc : Thread Cert.ReferenceIdeal6.nD Cert.ReferenceIdeal6.τ).loc Cert.ReferenceIdeal6.main_arg3) = m' ((c.tc : Thread Cert.ReferenceIdeal6.nD Cert.ReferenceIdeal6.τ).loc Cert.ReferenceIdeal6.main_arg3)
          ∧ r.2.mem ((c.tc : Thread Cert.ReferenceIdeal6.nD Cert.ReferenceIdeal6.τ).loc Cert.ReferenceIdeal6.main_arg4) = m' ((c.tc : Thread Cert.ReferenceIdeal6.nD Cert.ReferenceIdeal6.τ).loc Cert.ReferenceIdeal6.main_arg4)
          ∧ r.2.mem ((c.tc : Thread Cert.ReferenceIdeal6.nD Cert.ReferenceIdeal6.τ).loc Cert.ReferenceIdeal6.main_arg5) = m' ((c.tc : Thread Cert.ReferenceIdeal6.nD Cert.ReferenceIdeal6.τ).loc Cert.ReferenceIdeal6.main_arg5))

def preserves_Kernel7_KernelIdeal7 : Prop :=
  IdealRules.named_const.Statement Cert.KernelIdeal7.κ "inv_cap" .f32 0x3D888889#32 ((1 / 15 : ℝ) : EReal)

def algebraic_KernelIdeal7_ReferenceIdeal7 [hKernelIdeal7 : Cert.KernelIdeal7.Facts] [hReferenceIdeal7 : Cert.ReferenceIdeal7.Facts] : Prop :=
  ∀ (m : (ℓ : Loc Cert.KernelIdeal7.nD Cert.KernelIdeal7.τ Cert.KernelIdeal7.sig) → Buf (Elt Ideal) ℓ) (g : Dev Cert.KernelIdeal7.nD → PrngReg)
    (m' : (ℓ : Loc Cert.ReferenceIdeal7.nD Cert.ReferenceIdeal7.τ Cert.ReferenceIdeal7.sig) → Buf (Elt Ideal) ℓ) (g' : Dev Cert.ReferenceIdeal7.nD → PrngReg), Pre_KernelIdeal7 m →
    (∀ c : Dev Cert.KernelIdeal7.nD,
      m' ((c.tc : Thread Cert.ReferenceIdeal7.nD Cert.ReferenceIdeal7.τ).loc Cert.ReferenceIdeal7.main_arg0) = m ((c.tc : Thread Cert.KernelIdeal7.nD Cert.KernelIdeal7.τ).loc Cert.KernelIdeal7.main_arg0)
      ∧ m' ((c.tc : Thread Cert.ReferenceIdeal7.nD Cert.ReferenceIdeal7.τ).loc Cert.ReferenceIdeal7.main_arg1) = m ((c.tc : Thread Cert.KernelIdeal7.nD Cert.KernelIdeal7.τ).loc Cert.KernelIdeal7.main_arg1)
      ∧ m' ((c.tc : Thread Cert.ReferenceIdeal7.nD Cert.ReferenceIdeal7.τ).loc Cert.ReferenceIdeal7.main_arg2) = m ((c.tc : Thread Cert.KernelIdeal7.nD Cert.KernelIdeal7.τ).loc Cert.KernelIdeal7.main_arg2)
      ∧ m' ((c.tc : Thread Cert.ReferenceIdeal7.nD Cert.ReferenceIdeal7.τ).loc Cert.ReferenceIdeal7.main_arg3) = m ((c.tc : Thread Cert.KernelIdeal7.nD Cert.KernelIdeal7.τ).loc Cert.KernelIdeal7.main_arg3)) →
    ∃ (v0 : (c : Dev Cert.KernelIdeal7.nD) → Buf (Elt Ideal) ((c.tc : Thread Cert.KernelIdeal7.nD Cert.KernelIdeal7.τ).loc Cert.KernelIdeal7.main_v22_0)) (v1 : (c : Dev Cert.KernelIdeal7.nD) → Buf (Elt Ideal) ((c.tc : Thread Cert.KernelIdeal7.nD Cert.KernelIdeal7.τ).loc Cert.KernelIdeal7.main_v22_1)) (v2 : (c : Dev Cert.KernelIdeal7.nD) → Buf (Elt Ideal) ((c.tc : Thread Cert.KernelIdeal7.nD Cert.KernelIdeal7.τ).loc Cert.KernelIdeal7.main_v22_2)) (v3 : (c : Dev Cert.KernelIdeal7.nD) → Buf (Elt Ideal) ((c.tc : Thread Cert.KernelIdeal7.nD Cert.KernelIdeal7.τ).loc Cert.KernelIdeal7.main_v22_3)) (v4 : (c : Dev Cert.KernelIdeal7.nD) → Buf (Elt Ideal) ((c.tc : Thread Cert.KernelIdeal7.nD Cert.KernelIdeal7.τ).loc Cert.KernelIdeal7.main_v22_4)),
      θ_run (Cert.KernelIdeal7.defs (F := Ideal)) (onTc (τ := Cert.KernelIdeal7.τ) (Cert.KernelIdeal7.main (F := Ideal))) ⟨m, fun _ => 0, g⟩ (fun r => ∀ c : Dev Cert.KernelIdeal7.nD,
          r.2.mem ((c.tc : Thread Cert.KernelIdeal7.nD Cert.KernelIdeal7.τ).loc Cert.KernelIdeal7.main_v22_0) = v0 c
          ∧ r.2.mem ((c.tc : Thread Cert.KernelIdeal7.nD Cert.KernelIdeal7.τ).loc Cert.KernelIdeal7.main_v22_1) = v1 c
          ∧ r.2.mem ((c.tc : Thread Cert.KernelIdeal7.nD Cert.KernelIdeal7.τ).loc Cert.KernelIdeal7.main_v22_2) = v2 c
          ∧ r.2.mem ((c.tc : Thread Cert.KernelIdeal7.nD Cert.KernelIdeal7.τ).loc Cert.KernelIdeal7.main_v22_3) = v3 c
          ∧ r.2.mem ((c.tc : Thread Cert.KernelIdeal7.nD Cert.KernelIdeal7.τ).loc Cert.KernelIdeal7.main_v22_4) = v4 c
          ∧ r.2.mem ((c.tc : Thread Cert.KernelIdeal7.nD Cert.KernelIdeal7.τ).loc Cert.KernelIdeal7.main_arg0) = m ((c.tc : Thread Cert.KernelIdeal7.nD Cert.KernelIdeal7.τ).loc Cert.KernelIdeal7.main_arg0)
          ∧ r.2.mem ((c.tc : Thread Cert.KernelIdeal7.nD Cert.KernelIdeal7.τ).loc Cert.KernelIdeal7.main_arg1) = m ((c.tc : Thread Cert.KernelIdeal7.nD Cert.KernelIdeal7.τ).loc Cert.KernelIdeal7.main_arg1)
          ∧ r.2.mem ((c.tc : Thread Cert.KernelIdeal7.nD Cert.KernelIdeal7.τ).loc Cert.KernelIdeal7.main_arg2) = m ((c.tc : Thread Cert.KernelIdeal7.nD Cert.KernelIdeal7.τ).loc Cert.KernelIdeal7.main_arg2)
          ∧ r.2.mem ((c.tc : Thread Cert.KernelIdeal7.nD Cert.KernelIdeal7.τ).loc Cert.KernelIdeal7.main_arg3) = m ((c.tc : Thread Cert.KernelIdeal7.nD Cert.KernelIdeal7.τ).loc Cert.KernelIdeal7.main_arg3))
      ∧ θ_run (Cert.ReferenceIdeal7.defs (F := Ideal)) (onTc (τ := Cert.ReferenceIdeal7.τ) (Cert.ReferenceIdeal7.main (F := Ideal))) ⟨m', fun _ => 0, g'⟩ (fun r => ∀ c : Dev Cert.ReferenceIdeal7.nD,
          r.2.mem ((c.tc : Thread Cert.ReferenceIdeal7.nD Cert.ReferenceIdeal7.τ).loc Cert.ReferenceIdeal7.main_v36) = v0 c
          ∧ r.2.mem ((c.tc : Thread Cert.ReferenceIdeal7.nD Cert.ReferenceIdeal7.τ).loc Cert.ReferenceIdeal7.main_v38) = v1 c
          ∧ r.2.mem ((c.tc : Thread Cert.ReferenceIdeal7.nD Cert.ReferenceIdeal7.τ).loc Cert.ReferenceIdeal7.main_v40) = v2 c
          ∧ r.2.mem ((c.tc : Thread Cert.ReferenceIdeal7.nD Cert.ReferenceIdeal7.τ).loc Cert.ReferenceIdeal7.main_v41) = v3 c
          ∧ r.2.mem ((c.tc : Thread Cert.ReferenceIdeal7.nD Cert.ReferenceIdeal7.τ).loc Cert.ReferenceIdeal7.main_v43) = v4 c
          ∧ r.2.mem ((c.tc : Thread Cert.ReferenceIdeal7.nD Cert.ReferenceIdeal7.τ).loc Cert.ReferenceIdeal7.main_arg0) = m' ((c.tc : Thread Cert.ReferenceIdeal7.nD Cert.ReferenceIdeal7.τ).loc Cert.ReferenceIdeal7.main_arg0)
          ∧ r.2.mem ((c.tc : Thread Cert.ReferenceIdeal7.nD Cert.ReferenceIdeal7.τ).loc Cert.ReferenceIdeal7.main_arg1) = m' ((c.tc : Thread Cert.ReferenceIdeal7.nD Cert.ReferenceIdeal7.τ).loc Cert.ReferenceIdeal7.main_arg1)
          ∧ r.2.mem ((c.tc : Thread Cert.ReferenceIdeal7.nD Cert.ReferenceIdeal7.τ).loc Cert.ReferenceIdeal7.main_arg2) = m' ((c.tc : Thread Cert.ReferenceIdeal7.nD Cert.ReferenceIdeal7.τ).loc Cert.ReferenceIdeal7.main_arg2)
          ∧ r.2.mem ((c.tc : Thread Cert.ReferenceIdeal7.nD Cert.ReferenceIdeal7.τ).loc Cert.ReferenceIdeal7.main_arg3) = m' ((c.tc : Thread Cert.ReferenceIdeal7.nD Cert.ReferenceIdeal7.τ).loc Cert.ReferenceIdeal7.main_arg3))

def Claim : Prop :=
  ∃ (hKernel : Cert.Kernel.Facts) (hKernelIdeal : Cert.KernelIdeal.Facts) (hReferenceIdeal : Cert.ReferenceIdeal.Facts) (hKernel2 : Cert.Kernel2.Facts) (hKernelIdeal2 : Cert.KernelIdeal2.Facts) (hReferenceIdeal2 : Cert.ReferenceIdeal2.Facts) (hKernel3 : Cert.Kernel3.Facts) (hKernelIdeal3 : Cert.KernelIdeal3.Facts) (hReferenceIdeal3 : Cert.ReferenceIdeal3.Facts) (hKernel4 : Cert.Kernel4.Facts) (hKernelIdeal4 : Cert.KernelIdeal4.Facts) (hReferenceIdeal4 : Cert.ReferenceIdeal4.Facts) (hKernel5 : Cert.Kernel5.Facts) (hKernelIdeal5 : Cert.KernelIdeal5.Facts) (hReferenceIdeal5 : Cert.ReferenceIdeal5.Facts) (hKernel6 : Cert.Kernel6.Facts) (hKernelIdeal6 : Cert.KernelIdeal6.Facts) (hReferenceIdeal6 : Cert.ReferenceIdeal6.Facts) (hKernel7 : Cert.Kernel7.Facts) (hKernelIdeal7 : Cert.KernelIdeal7.Facts) (hReferenceIdeal7 : Cert.ReferenceIdeal7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_KernelIdeal2 (hKernelIdeal2 := hKernelIdeal2)
    ∧ quiescent_ReferenceIdeal2 (hReferenceIdeal2 := hReferenceIdeal2)
    ∧ quiescent_Kernel3 (hKernel3 := hKernel3)
    ∧ quiescent_KernelIdeal3 (hKernelIdeal3 := hKernelIdeal3)
    ∧ quiescent_ReferenceIdeal3 (hReferenceIdeal3 := hReferenceIdeal3)
    ∧ quiescent_Kernel4 (hKernel4 := hKernel4)
    ∧ quiescent_KernelIdeal4 (hKernelIdeal4 := hKernelIdeal4)
    ∧ quiescent_ReferenceIdeal4 (hReferenceIdeal4 := hReferenceIdeal4)
    ∧ quiescent_Kernel5 (hKernel5 := hKernel5)
    ∧ quiescent_KernelIdeal5 (hKernelIdeal5 := hKernelIdeal5)
    ∧ quiescent_ReferenceIdeal5 (hReferenceIdeal5 := hReferenceIdeal5)
    ∧ quiescent_Kernel6 (hKernel6 := hKernel6)
    ∧ quiescent_KernelIdeal6 (hKernelIdeal6 := hKernelIdeal6)
    ∧ quiescent_ReferenceIdeal6 (hReferenceIdeal6 := hReferenceIdeal6)
    ∧ quiescent_Kernel7 (hKernel7 := hKernel7)
    ∧ quiescent_KernelIdeal7 (hKernelIdeal7 := hKernelIdeal7)
    ∧ quiescent_ReferenceIdeal7 (hReferenceIdeal7 := hReferenceIdeal7)
    ∧ preserves_Kernel_KernelIdeal
    ∧ algebraic_KernelIdeal_ReferenceIdeal (hKernelIdeal := hKernelIdeal) (hReferenceIdeal := hReferenceIdeal)
    ∧ preserves_Kernel2_KernelIdeal2
    ∧ algebraic_KernelIdeal2_ReferenceIdeal2 (hKernelIdeal2 := hKernelIdeal2) (hReferenceIdeal2 := hReferenceIdeal2)
    ∧ preserves_Kernel3_KernelIdeal3
    ∧ algebraic_KernelIdeal3_ReferenceIdeal3 (hKernelIdeal3 := hKernelIdeal3) (hReferenceIdeal3 := hReferenceIdeal3)
    ∧ preserves_Kernel4_KernelIdeal4
    ∧ algebraic_KernelIdeal4_ReferenceIdeal4 (hKernelIdeal4 := hKernelIdeal4) (hReferenceIdeal4 := hReferenceIdeal4)
    ∧ preserves_Kernel5_KernelIdeal5
    ∧ algebraic_KernelIdeal5_ReferenceIdeal5 (hKernelIdeal5 := hKernelIdeal5) (hReferenceIdeal5 := hReferenceIdeal5)
    ∧ preserves_Kernel6_KernelIdeal6
    ∧ algebraic_KernelIdeal6_ReferenceIdeal6 (hKernelIdeal6 := hKernelIdeal6) (hReferenceIdeal6 := hReferenceIdeal6)
    ∧ preserves_Kernel7_KernelIdeal7
    ∧ algebraic_KernelIdeal7_ReferenceIdeal7 (hKernelIdeal7 := hKernelIdeal7) (hReferenceIdeal7 := hReferenceIdeal7)
-- ==== Kernel.lean ====
abbrev S16x2048x16x64 : Shape := ⟨4, ![16, 2048, 16, 64]⟩
abbrev S16 : Shape := ⟨1, ![16]⟩
abbrev S_ : Shape := ⟨0, ![]⟩
abbrev S32768x1024 : Shape := ⟨2, ![32768, 1024]⟩
abbrev S16x16x64x2048 : Shape := ⟨4, ![16, 16, 64, 2048]⟩
abbrev S16x1024x2048 : Shape := ⟨3, ![16, 1024, 2048]⟩
abbrev S2048x128 : Shape := ⟨2, ![2048, 128]⟩
abbrev S1x128x2048 : Shape := ⟨3, ![1, 128, 2048]⟩
abbrev S128x2048 : Shape := ⟨2, ![128, 2048]⟩
abbrev S256x256 : Shape := ⟨2, ![256, 256]⟩
abbrev S2x1024x128 : Shape := ⟨3, ![2, 1024, 128]⟩
abbrev S1x1024x128 : Shape := ⟨3, ![1, 1024, 128]⟩
abbrev S2x1024x1 : Shape := ⟨3, ![2, 1024, 1]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S1024x128 : Shape := ⟨2, ![1024, 128]⟩
abbrev S1x256x128 : Shape := ⟨3, ![1, 256, 128]⟩
abbrev S256x128 : Shape := ⟨2, ![256, 128]⟩
abbrev S128x256 : Shape := ⟨2, ![128, 256]⟩
abbrev S128x512 : Shape := ⟨2, ![128, 512]⟩
abbrev S256x512 : Shape := ⟨2, ![256, 512]⟩
abbrev S128x768 : Shape := ⟨2, ![128, 768]⟩
abbrev S256x768 : Shape := ⟨2, ![256, 768]⟩
abbrev S128x1024 : Shape := ⟨2, ![128, 1024]⟩
abbrev S256x1024 : Shape := ⟨2, ![256, 1024]⟩
abbrev S256x1 : Shape := ⟨2, ![256, 1]⟩
abbrev S1x256x1 : Shape := ⟨3, ![1, 256, 1]⟩
abbrev S512x128 : Shape := ⟨2, ![512, 128]⟩
abbrev S768x128 : Shape := ⟨2, ![768, 128]⟩
abbrev S1024x1024 : Shape := ⟨2, ![1024, 1024]⟩
abbrev S1024x256 : Shape := ⟨2, ![1024, 256]⟩
abbrev S1024x1 : Shape := ⟨2, ![1024, 1]⟩
abbrev S1x1024x1 : Shape := ⟨3, ![1, 1024, 1]⟩

abbrev nBuf : Space → Nat
  | .hbm => 17
  | .vmem => 14
  | .smem => 1
  | _ => 0

abbrev bufTy : (tb : Table) → Fin (tcTables nBuf tb) → BufTy
  | .hbm, ⟨0, _⟩ => ⟨S16x2048x16x64, .f32⟩
  | .hbm, ⟨1, _⟩ => ⟨S16x2048x16x64, .f32⟩
  | .hbm, ⟨2, _⟩ => ⟨S16x2048x16x64, .f32⟩
  | .hbm, ⟨3, _⟩ => ⟨S16, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x2048x16x64, .f32⟩
  | .hbm, ⟨9, _⟩ => ⟨S16x2048x16x64, .f32⟩
  | .hbm, ⟨10, _⟩ => ⟨S16x2048x16x64, .bf16⟩
  | .hbm, ⟨11, _⟩ => ⟨S32768x1024, .bf16⟩
  | .hbm, ⟨12, _⟩ => ⟨S16x16x64x2048, .f32⟩
  | .hbm, ⟨13, _⟩ => ⟨S16x1024x2048, .f32⟩
  | .hbm, ⟨14, _⟩ => ⟨S16x16x64x2048, .f32⟩
  | .hbm, ⟨15, _⟩ => ⟨S16x1024x2048, .f32⟩
  | .hbm, ⟨16, _⟩ => ⟨S32768x1024, .bf16⟩
  | .local _ .vmem, ⟨0, _⟩ => ⟨S2048x128, .bf16⟩
  | .local _ .vmem, ⟨1, _⟩ => ⟨S2048x128, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S2048x128, .bf16⟩
  | .local _ .vmem, ⟨7, _⟩ => ⟨S2048x128, .bf16⟩
  | .local _ .vmem, ⟨8, _⟩ => ⟨S128x2048, .bf16⟩
  | .local _ .vmem, ⟨9, _⟩ => ⟨S2048x128, .bf16⟩
  | .local _ .vmem, ⟨10, _⟩ => ⟨S256x256, .bf16⟩
  | .local _ .vmem, ⟨11, _⟩ => ⟨S2x1024x128, .bf16⟩
  | .local _ .vmem, ⟨12, _⟩ => ⟨S1x1024x128, .f32⟩
  | .local _ .vmem, ⟨13, _⟩ => ⟨S2x1024x1, .f32⟩
  | .local _ .smem, ⟨0, _⟩ => ⟨S16, .f32⟩
  | _, _ => ⟨S16x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_off1 (i : grid0.Coords) (c0_i32_0 : BitVec 32) : Fin 1 → Nat :=
  let c2_i32 : BitVec 32 := 2#32
  let arg1 : BitVec 32 := BitVec.ofNat 32 (i 1).val
  let c1_i32 : BitVec 32 := 1#32
  let v3 : BitVec 32 := Scalar.muli arg1 c1_i32
  let c0_i32 : BitVec 32 := 0#32
  let v4 : BitVec 32 := Scalar.addi v3 c0_i32
  let v5 : BitVec 32 := Scalar.muli c2_i32 v4
  let v6 : BitVec 32 := Scalar.addi v5 c0_i32_0
  let v7 : Index := Scalar.indexCast v6
  ![v7.toNat]
@[reducible] def k0_t1_loop : Scf.Loop 32 :=
  let c0_i32_79 : BitVec 32 := 0#32
  let c2_i32_80 : BitVec 32 := 2#32
  let v148 : BitVec 32 := Scalar.addi c0_i32_79 c2_i32_80
  let c1_i32_81 : BitVec 32 := 1#32
  ⟨c0_i32_79, v148, c1_i32_81⟩
def k0_mult1 (k0_t1 : Fin k0_t1_loop.trips) : BitVec 32 :=
  let c0_i32_79 : BitVec 32 := 0#32
  let c1_i32_81 : BitVec 32 := 1#32
  let arg13 : BitVec 32 := Scf.iv c0_i32_79 c1_i32_81 k0_t1
  let c1024_i32 : BitVec 32 := 1024#32
  let v149 : BitVec 32 := Scalar.muli arg13 c1024_i32
  v149
def k0_off2 (k0_t1 : Fin k0_t1_loop.trips) : Fin 2 → Nat :=
  let c0_i32_79 : BitVec 32 := 0#32
  let c1_i32_81 : BitVec 32 := 1#32
  let arg13 : BitVec 32 := Scf.iv c0_i32_79 c1_i32_81 k0_t1
  let c1024_i32 : BitVec 32 := 1024#32
  let v149 : BitVec 32 := Scalar.muli arg13 c1024_i32
  let v150 : BitVec 32 := v149
  let v151 : Index := Scalar.indexCast v150
  let c0_83 : Index := 0#32
  ![v151.toNat, 0]
def k0_mult2 (k0_t1 : Fin k0_t1_loop.trips) : BitVec 32 :=
  let c0_i32_79 : BitVec 32 := 0#32
  let c1_i32_81 : BitVec 32 := 1#32
  let arg13 : BitVec 32 := Scf.iv c0_i32_79 c1_i32_81 k0_t1
  let c1024_i32_91 : BitVec 32 := 1024#32
  let v168 : BitVec 32 := Scalar.muli arg13 c1024_i32_91
  v168
def k0_off3 (k0_t1 : Fin k0_t1_loop.trips) : Fin 2 → Nat :=
  let c0_95 : Index := 0#32
  let c0_i32_79 : BitVec 32 := 0#32
  let c1_i32_81 : BitVec 32 := 1#32
  let arg13 : BitVec 32 := Scf.iv c0_i32_79 c1_i32_81 k0_t1
  let c1024_i32_91 : BitVec 32 := 1024#32
  let v168 : BitVec 32 := Scalar.muli arg13 c1024_i32_91
  let v169 : BitVec 32 := v168
  let v172 : Index := Scalar.indexCast v169
  ![0, v172.toNat]
def k0_off4 (k0_t1 : Fin k0_t1_loop.trips) : Fin 2 → Nat :=
  let c0_100 : Index := 0#32
  let c0_i32_79 : BitVec 32 := 0#32
  let c1_i32_81 : BitVec 32 := 1#32
  let arg13 : BitVec 32 := Scf.iv c0_i32_79 c1_i32_81 k0_t1
  let c1024_i32_91 : BitVec 32 := 1024#32
  let v168 : BitVec 32 := Scalar.muli arg13 c1024_i32_91
  let v169 : BitVec 32 := v168
  let v179 : Index := Scalar.indexCast v169
  ![0, v179.toNat]
def k0_off5 (k0_t1 : Fin k0_t1_loop.trips) : Fin 2 → Nat :=
  let c0_105 : Index := 0#32
  let c0_i32_79 : BitVec 32 := 0#32
  let c1_i32_81 : BitVec 32 := 1#32
  let arg13 : BitVec 32 := Scf.iv c0_i32_79 c1_i32_81 k0_t1
  let c1024_i32_91 : BitVec 32 := 1024#32
  let v168 : BitVec 32 := Scalar.muli arg13 c1024_i32_91
  let v169 : BitVec 32 := v168
  let v186 : Index := Scalar.indexCast v169
  ![0, v186.toNat]
def k0_off6 (k0_t1 : Fin k0_t1_loop.trips) : Fin 2 → Nat :=
  let c0_110 : Index := 0#32
  let c0_i32_79 : BitVec 32 := 0#32
  let c1_i32_81 : BitVec 32 := 1#32
  let arg13 : BitVec 32 := Scf.iv c0_i32_79 c1_i32_81 k0_t1
  let c1024_i32_91 : BitVec 32 := 1024#32
  let v168 : BitVec 32 := Scalar.muli arg13 c1024_i32_91
  let v169 : BitVec 32 := v168
  let v193 : Index := Scalar.indexCast v169
  ![0, v193.toNat]
def k0_off7 (k0_t1 : Fin k0_t1_loop.trips) : Fin 2 → Nat :=
  let c0_i32_79 : BitVec 32 := 0#32
  let c1_i32_81 : BitVec 32 := 1#32
  let arg13 : BitVec 32 := Scf.iv c0_i32_79 c1_i32_81 k0_t1
  let c1024_i32_91 : BitVec 32 := 1024#32
  let v168 : BitVec 32 := Scalar.muli arg13 c1024_i32_91
  let v169 : BitVec 32 := v168
  let v625 : Index := Scalar.indexCast v169
  let c0_292 : Index := 0#32
  ![v625.toNat, 0]
def k0_off8 (k0_t1 : Fin k0_t1_loop.trips) : Fin 2 → Nat :=
  let c0_i32_79 : BitVec 32 := 0#32
  let c1_i32_81 : BitVec 32 := 1#32
  let arg13 : BitVec 32 := Scf.iv c0_i32_79 c1_i32_81 k0_t1
  let c1024_i32_91 : BitVec 32 := 1024#32
  let v168 : BitVec 32 := Scalar.muli arg13 c1024_i32_91
  let v169 : BitVec 32 := v168
  let v660 : Index := Scalar.indexCast v169
  let c0_307 : Index := 0#32
  ![v660.toNat, 0]
def k0_off9 (k0_t1 : Fin k0_t1_loop.trips) : Fin 2 → Nat :=
  let c0_i32_79 : BitVec 32 := 0#32
  let c1_i32_81 : BitVec 32 := 1#32
  let arg13 : BitVec 32 := Scf.iv c0_i32_79 c1_i32_81 k0_t1
  let c1024_i32_91 : BitVec 32 := 1024#32
  let v168 : BitVec 32 := Scalar.muli arg13 c1024_i32_91
  let v169 : BitVec 32 := v168
  let v704 : Index := Scalar.indexCast v169
  let c0_322 : Index := 0#32
  ![v704.toNat, 0]
@[reducible] def k0_t2_loop (k0_t1 : Fin k0_t1_loop.trips) : Scf.Loop 32 :=
  let c0_i32_348 : BitVec 32 := 0#32
  let c0_i32_79 : BitVec 32 := 0#32
  let c1_i32_81 : BitVec 32 := 1#32
  let arg13 : BitVec 32 := Scf.iv c0_i32_79 c1_i32_81 k0_t1
  let v790 : BitVec 32 := Scalar.subi arg13 c0_i32_348
  let c1_i32_350 : BitVec 32 := 1#32
  let v792 : BitVec 32 := Scalar.divsi v790 c1_i32_350
  let v793 : BitVec 32 := Scalar.muli v792 c1_i32_350
  let v794 : BitVec 32 := Scalar.addi c0_i32_348 v793
  let c1_i32_351 : BitVec 32 := 1#32
  ⟨c0_i32_348, v794, c1_i32_351⟩
def k0_mult3 (k0_t1 : Fin k0_t1_loop.trips) (k0_t2 : Fin (k0_t2_loop k0_t1).trips) : BitVec 32 :=
  let c0_i32_79 : BitVec 32 := 0#32
  let c1_i32_81 : BitVec 32 := 1#32
  let arg13 : BitVec 32 := Scf.iv c0_i32_79 c1_i32_81 k0_t1
  let c1_i32_357 : BitVec 32 := 1#32
  let v802 : BitVec 32 := Scalar.subi arg13 c1_i32_357
  let c0_i32_348 : BitVec 32 := 0#32
  let c1_i32_351 : BitVec 32 := 1#32
  let arg14 : BitVec 32 := Scf.iv c0_i32_348 c1_i32_351 k0_t2
  let v803 : BitVec 32 := Scalar.subi v802 arg14
  let c1024_i32_358 : BitVec 32 := 1024#32
  let v804 : BitVec 32 := Scalar.muli v803 c1024_i32_358
  v804
def k0_off10 (k0_t1 : Fin k0_t1_loop.trips) (k0_t2 : Fin (k0_t2_loop k0_t1).trips) : Fin 2 → Nat :=
  let c0_362 : Index := 0#32
  let c0_i32_79 : BitVec 32 := 0#32
  let c1_i32_81 : BitVec 32 := 1#32
  let arg13 : BitVec 32 := Scf.iv c0_i32_79 c1_i32_81 k0_t1
  let c1_i32_357 : BitVec 32 := 1#32
  let v802 : BitVec 32 := Scalar.subi arg13 c1_i32_357
  let c0_i32_348 : BitVec 32 := 0#32
  let c1_i32_351 : BitVec 32 := 1#32
  let arg14 : BitVec 32 := Scf.iv c0_i32_348 c1_i32_351 k0_t2
  let v803 : BitVec 32 := Scalar.subi v802 arg14
  let c1024_i32_358 : BitVec 32 := 1024#32
  let v804 : BitVec 32 := Scalar.muli v803 c1024_i32_358
  let v805 : BitVec 32 := v804
  let v808 : Index := Scalar.indexCast v805
  ![0, v808.toNat]
def k0_off11 (k0_t1 : Fin k0_t1_loop.trips) (k0_t2 : Fin (k0_t2_loop k0_t1).trips) : Fin 2 → Nat :=
  let c0_i32_79 : BitVec 32 := 0#32
  let c1_i32_81 : BitVec 32 := 1#32
  let arg13 : BitVec 32 := Scf.iv c0_i32_79 c1_i32_81 k0_t1
  let c1_i32_357 : BitVec 32 := 1#32
  let v802 : BitVec 32 := Scalar.subi arg13 c1_i32_357
  let c0_i32_348 : BitVec 32 := 0#32
  let c1_i32_351 : BitVec 32 := 1#32
  let arg14 : BitVec 32 := Scf.iv c0_i32_348 c1_i32_351 k0_t2
  let v803 : BitVec 32 := Scalar.subi v802 arg14
  let c1024_i32_358 : BitVec 32 := 1024#32
  let v804 : BitVec 32 := Scalar.muli v803 c1024_i32_358
  let v805 : BitVec 32 := v804
  let v990 : Index := Scalar.indexCast v805
  let c0_431 : Index := 0#32
  ![v990.toNat, 0]
@[reducible] def k0_t3_loop (k0_t1 : Fin k0_t1_loop.trips) : Scf.Loop 32 :=
  let c0_i32_348 : BitVec 32 := 0#32
  let c0_i32_79 : BitVec 32 := 0#32
  let c1_i32_81 : BitVec 32 := 1#32
  let arg13 : BitVec 32 := Scf.iv c0_i32_79 c1_i32_81 k0_t1
  let v790 : BitVec 32 := Scalar.subi arg13 c0_i32_348
  let c1_i32_350 : BitVec 32 := 1#32
  let v792 : BitVec 32 := Scalar.divsi v790 c1_i32_350
  let v793 : BitVec 32 := Scalar.muli v792 c1_i32_350
  let v794 : BitVec 32 := Scalar.addi c0_i32_348 v793
  let v791 : BitVec 32 := Scalar.addi c0_i32_348 v790
  let c1_i32_352 : BitVec 32 := 1#32
  ⟨v794, v791, c1_i32_352⟩
def k0_mult4 (k0_t1 : Fin k0_t1_loop.trips) (k0_t3 : Fin (k0_t3_loop k0_t1).trips) : BitVec 32 :=
  let c0_i32_79 : BitVec 32 := 0#32
  let c1_i32_81 : BitVec 32 := 1#32
  let arg13 : BitVec 32 := Scf.iv c0_i32_79 c1_i32_81 k0_t1
  let c1_i32_357 : BitVec 32 := 1#32
  let v802 : BitVec 32 := Scalar.subi arg13 c1_i32_357
  let c0_i32_348 : BitVec 32 := 0#32
  let v790 : BitVec 32 := Scalar.subi arg13 c0_i32_348
  let c1_i32_350 : BitVec 32 := 1#32
  let v792 : BitVec 32 := Scalar.divsi v790 c1_i32_350
  let v793 : BitVec 32 := Scalar.muli v792 c1_i32_350
  let v794 : BitVec 32 := Scalar.addi c0_i32_348 v793
  let c1_i32_352 : BitVec 32 := 1#32
  let arg14 : BitVec 32 := Scf.iv v794 c1_i32_352 k0_t3
  let v803 : BitVec 32 := Scalar.subi v802 arg14
  let c1024_i32_358 : BitVec 32 := 1024#32
  let v804 : BitVec 32 := Scalar.muli v803 c1024_i32_358
  v804
def k0_off12 (k0_t1 : Fin k0_t1_loop.trips) (k0_t3 : Fin (k0_t3_loop k0_t1).trips) : Fin 2 → Nat :=
  let c0_362 : Index := 0#32
  let c0_i32_79 : BitVec 32 := 0#32
  let c1_i32_81 : BitVec 32 := 1#32
  let arg13 : BitVec 32 := Scf.iv c0_i32_79 c1_i32_81 k0_t1
  let c1_i32_357 : BitVec 32 := 1#32
  let v802 : BitVec 32 := Scalar.subi arg13 c1_i32_357
  let c0_i32_348 : BitVec 32 := 0#32
  let v790 : BitVec 32 := Scalar.subi arg13 c0_i32_348
  let c1_i32_350 : BitVec 32 := 1#32
  let v792 : BitVec 32 := Scalar.divsi v790 c1_i32_350
  let v793 : BitVec 32 := Scalar.muli v792 c1_i32_350
  let v794 : BitVec 32 := Scalar.addi c0_i32_348 v793
  let c1_i32_352 : BitVec 32 := 1#32
  let arg14 : BitVec 32 := Scf.iv v794 c1_i32_352 k0_t3
  let v803 : BitVec 32 := Scalar.subi v802 arg14
  let c1024_i32_358 : BitVec 32 := 1024#32
  let v804 : BitVec 32 := Scalar.muli v803 c1024_i32_358
  let v805 : BitVec 32 := v804
  let v808 : Index := Scalar.indexCast v805
  ![0, v808.toNat]
def k0_off13 (k0_t1 : Fin k0_t1_loop.trips) (k0_t3 : Fin (k0_t3_loop k0_t1).trips) : Fin 2 → Nat :=
  let c0_i32_79 : BitVec 32 := 0#32
  let c1_i32_81 : BitVec 32 := 1#32
  let arg13 : BitVec 32 := Scf.iv c0_i32_79 c1_i32_81 k0_t1
  let c1_i32_357 : BitVec 32 := 1#32
  let v802 : BitVec 32 := Scalar.subi arg13 c1_i32_357
  let c0_i32_348 : BitVec 32 := 0#32
  let v790 : BitVec 32 := Scalar.subi arg13 c0_i32_348
  let c1_i32_350 : BitVec 32 := 1#32
  let v792 : BitVec 32 := Scalar.divsi v790 c1_i32_350
  let v793 : BitVec 32 := Scalar.muli v792 c1_i32_350
  let v794 : BitVec 32 := Scalar.addi c0_i32_348 v793
  let c1_i32_352 : BitVec 32 := 1#32
  let arg14 : BitVec 32 := Scf.iv v794 c1_i32_352 k0_t3
  let v803 : BitVec 32 := Scalar.subi v802 arg14
  let c1024_i32_358 : BitVec 32 := 1024#32
  let v804 : BitVec 32 := Scalar.muli v803 c1024_i32_358
  let v805 : BitVec 32 := v804
  let v990 : Index := Scalar.indexCast v805
  let c0_431 : Index := 0#32
  ![v990.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16x2048x16x64 : Shape := ⟨4, ![16, 2048, 16, 64]⟩
abbrev S16 : Shape := ⟨1, ![16]⟩
abbrev S2048 : Shape := ⟨1, ![2048]⟩
abbrev S16x16x2048x2048 : Shape := ⟨4, ![16, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S1x16x1x1 : Shape := ⟨4, ![1, 16, 1, 1]⟩
abbrev S16x16x64x2048 : Shape := ⟨4, ![16, 16, 64, 2048]⟩
abbrev S32768x1024 : Shape := ⟨2, ![32768, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16x2048x16x64, .f32⟩
  | .hbm, ⟨1, _⟩ => ⟨S16x2048x16x64, .f32⟩
  | .hbm, ⟨2, _⟩ => ⟨S16x2048x16x64, .f32⟩
  | .hbm, ⟨3, _⟩ => ⟨S16, .f32⟩
  | .hbm, ⟨4, _⟩ => ⟨S2048, .i32⟩
  | .hbm, ⟨5, _⟩ => ⟨S16x16x2048x2048, .f32⟩
  | .hbm, ⟨6, _⟩ => ⟨S_, .f32⟩
  | .hbm, ⟨7, _⟩ => ⟨S16x16x2048x2048, .f32⟩
  | .hbm, ⟨8, _⟩ => ⟨S16x16x2048x2048, .f32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S1x16x1x1, .f32⟩
  | .hbm, ⟨15, _⟩ => ⟨S16x16x2048x2048, .f32⟩
  | .hbm, ⟨16, _⟩ => ⟨S16x16x2048x2048, .f32⟩
  | .hbm, ⟨17, _⟩ => ⟨S16x16x2048x2048, .f32⟩
  | .hbm, ⟨18, _⟩ => ⟨S_, .f32⟩
  | .hbm, ⟨19, _⟩ => ⟨S16x16x2048x2048, .f32⟩
  | .hbm, ⟨20, _⟩ => ⟨S16x16x2048x2048, .f32⟩
  | .hbm, ⟨21, _⟩ => ⟨S16x16x2048x2048, .f32⟩
  | .hbm, ⟨22, _⟩ => ⟨S16x16x2048x2048, .f32⟩
  | .hbm, ⟨23, _⟩ => ⟨S16x16x2048x2048, .i1⟩
  | .hbm, ⟨24, _⟩ => ⟨S16x16x2048x2048, .f32⟩
  | .hbm, ⟨25, _⟩ => ⟨S16x16x2048x2048, .f32⟩
  | .hbm, ⟨26, _⟩ => ⟨S16x16x2048x2048, .f32⟩
  | .hbm, ⟨27, _⟩ => ⟨S16x16x2048x2048, .f32⟩
  | .hbm, ⟨28, _⟩ => ⟨S16x16x2048x2048, .f32⟩
  | .hbm, ⟨29, _⟩ => ⟨S16x16x2048x2048, .f32⟩
  | .hbm, ⟨30, _⟩ => ⟨S16x16x2048x2048, .f32⟩
  | .hbm, ⟨31, _⟩ => ⟨S16x16x2048x2048, .f32⟩
  | .hbm, ⟨32, _⟩ => ⟨S16x16x2048x2048, .f32⟩
  | .hbm, ⟨33, _⟩ => ⟨S16x16x2048x2048, .f32⟩
  | .hbm, ⟨34, _⟩ => ⟨S16x16x2048x2048, .f32⟩
  | .hbm, ⟨35, _⟩ => ⟨S_, .f32⟩
  | .hbm, ⟨36, _⟩ => ⟨S16x16x2048x2048, .f32⟩
  | .hbm, ⟨37, _⟩ => ⟨S16x16x2048x2048, .f32⟩
  | .hbm, ⟨38, _⟩ => ⟨S16x16x2048x2048, .f32⟩
  | .hbm, ⟨39, _⟩ => ⟨S16x16x2048x2048, .f32⟩
  | .hbm, ⟨40, _⟩ => ⟨S16x16x2048x2048, .i1⟩
  | .hbm, ⟨41, _⟩ => ⟨S16x16x2048x2048, .f32⟩
  | .hbm, ⟨42, _⟩ => ⟨S16x16x2048x2048, .f32⟩
  | .hbm, ⟨43, _⟩ => ⟨S16x16x2048x2048, .f32⟩
  | .hbm, ⟨44, _⟩ => ⟨S16x16x2048x2048, .f32⟩
  | .hbm, ⟨45, _⟩ => ⟨S16x16x2048x2048, .f32⟩
  | .hbm, ⟨46, _⟩ => ⟨S16x16x2048x2048, .f32⟩
  | .hbm, ⟨47, _⟩ => ⟨S16x16x2048x2048, .f32⟩
  | .hbm, ⟨48, _⟩ => ⟨S16x16x2048x2048, .f32⟩
  | .hbm, ⟨49, _⟩ => ⟨S16x16x2048x2048, .f32⟩
  | .hbm, ⟨50, _⟩ => ⟨S_, .f32⟩
  | .hbm, ⟨51, _⟩ => ⟨S_, .f32⟩
  | .hbm, ⟨52, _⟩ => ⟨S16x16x2048x2048, .i1⟩
  | .hbm, ⟨53, _⟩ => ⟨S16x16x2048x2048, .f32⟩
  | .hbm, ⟨54, _⟩ => ⟨S16x16x2048x2048, .f32⟩
  | .hbm, ⟨55, _⟩ => ⟨S_, .f32⟩
  | .hbm, ⟨56, _⟩ => ⟨S_, .f32⟩
  | .hbm, ⟨57, _⟩ => ⟨S16x16x2048x2048, .f32⟩
  | .hbm, ⟨58, _⟩ => ⟨S16x16x2048x2048, .f32⟩
  | .hbm, ⟨59, _⟩ => ⟨S16x16x2048x2048, .f32⟩
  | .hbm, ⟨60, _⟩ => ⟨S16x16x2048x2048, .f32⟩
  | .hbm, ⟨61, _⟩ => ⟨S_, .f32⟩
  | .hbm, ⟨62, _⟩ => ⟨S_, .f32⟩
  | .hbm, ⟨63, _⟩ => ⟨S16x16x2048x2048, .i1⟩
  | .hbm, ⟨64, _⟩ => ⟨S16x16x2048x2048, .f32⟩
  | .hbm, ⟨65, _⟩ => ⟨S16x16x2048x2048, .f32⟩
  | .hbm, ⟨66, _⟩ => ⟨S16x16x64x2048, .f32⟩
  | .hbm, ⟨67, _⟩ => ⟨S16x2048x16x64, .f32⟩
  | .hbm, ⟨68, _⟩ => ⟨S32768x1024, .f32⟩
  | .hbm, ⟨69, _⟩ => ⟨S32768x1024, .bf16⟩
  | _, _ => ⟨S16x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v12 : Ref sig .tc := ⟨.hbm, 32, rfl⟩
abbrev main_v13 : Ref sig .tc := ⟨.hbm, 33, rfl⟩
abbrev main_call1_v0 : Ref sig .tc := ⟨.hbm, 34, rfl⟩
abbrev main_call1_call0_cst : Ref sig .tc := ⟨.hbm, 35, rfl⟩
abbrev main_call1_call0_v0 : Ref sig .tc := ⟨.hbm, 36, rfl⟩
abbrev main_call1_call0_v1 : Ref sig .tc := ⟨.hbm, 37, rfl⟩
abbrev main_call1_call0_v2 : Ref sig .tc := ⟨.hbm, 38, rfl⟩
abbrev main_call1_call0_v3 : Ref sig .tc := ⟨.hbm, 39, rfl⟩
abbrev main_call1_call0_v4 : Ref sig .tc := ⟨.hbm, 40, rfl⟩
abbrev main_call1_call0_v5 : Ref sig .tc := ⟨.hbm, 41, rfl⟩
abbrev main_call1_call0_v6 : Ref sig .tc := ⟨.hbm, 42, rfl⟩
abbrev main_call1_call0_v7 : Ref sig .tc := ⟨.hbm, 43, rfl⟩
abbrev main_call1_call0_v8 : Ref sig .tc := ⟨.hbm, 44, rfl⟩
abbrev main_call1_call0_v9 : Ref sig .tc := ⟨.hbm, 45, rfl⟩
abbrev main_call1_call0_v10 : Ref sig .tc := ⟨.hbm, 46, rfl⟩
abbrev main_call1_call0_v11 : Ref sig .tc := ⟨.hbm, 47, rfl⟩
abbrev main_call1_v1 : Ref sig .tc := ⟨.hbm, 48, rfl⟩
abbrev main_v14 : Ref sig .tc := ⟨.hbm, 49, rfl⟩
abbrev main_cst_0 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v15 : Ref sig .tc := ⟨.hbm, 54, rfl⟩
abbrev main_call3_cst : Ref sig .tc := ⟨.hbm, 55, rfl⟩
abbrev main_call3_v0 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 11
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S16x2048x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S32768x1024, .bf16⟩
  | .hbm, ⟨7, _⟩ => ⟨S1024x1024, .bf16⟩
  | .hbm, ⟨8, _⟩ => ⟨S32768x1024, .f32⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | _, _ => ⟨S16x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c256_i32 : BitVec 32 := 256#32
  let v27 : BitVec 32 := Scalar.muli c0_i32 c256_i32
  v27
def k0_mult2 : BitVec 32 :=
  let c2816_i32 : BitVec 32 := 2816#32
  let c0_i32 : BitVec 32 := 0#32
  let c256_i32_14 : BitVec 32 := 256#32
  let v29 : BitVec 32 := Scalar.muli c0_i32 c256_i32_14
  let v30 : BitVec 32 := Scalar.addi c2816_i32 v29
  v30
def k0_off1 (c0_i32 : BitVec 32) : Fin 2 → Nat :=
  let c0_17 : Index := 0#32
  let c256_i32 : BitVec 32 := 256#32
  let v27 : BitVec 32 := Scalar.muli c0_i32 c256_i32
  let v28 : BitVec 32 := v27
  let v33 : Index := Scalar.indexCast v28
  ![0, v33.toNat]
def k0_off2 (c0_i32 : BitVec 32) : Fin 2 → Nat :=
  let c0_21 : Index := 0#32
  let c2816_i32 : BitVec 32 := 2816#32
  let c256_i32_14 : BitVec 32 := 256#32
  let v29 : BitVec 32 := Scalar.muli c0_i32 c256_i32_14
  let v30 : BitVec 32 := Scalar.addi c2816_i32 v29
  let v31 : BitVec 32 := v30
  let v38 : Index := Scalar.indexCast v31
  ![0, v38.toNat]
def k0_off3 (c0_i32 : BitVec 32) : Fin 2 → Nat :=
  let c256_i32 : BitVec 32 := 256#32
  let v27 : BitVec 32 := Scalar.muli c0_i32 c256_i32
  let v28 : BitVec 32 := v27
  let v48 : Index := Scalar.indexCast v28
  let c0_25 : Index := 0#32
  ![v48.toNat, 0]
def k0_mult3 : BitVec 32 :=
  let c1_i32 : BitVec 32 := 1#32
  let c256_i32_29 : BitVec 32 := 256#32
  let v54 : BitVec 32 := Scalar.muli c1_i32 c256_i32_29
  v54
def k0_mult4 : BitVec 32 :=
  let c2816_i32_31 : BitVec 32 := 2816#32
  let c1_i32 : BitVec 32 := 1#32
  let c256_i32_30 : BitVec 32 := 256#32
  let v56 : BitVec 32 := Scalar.muli c1_i32 c256_i32_30
  let v57 : BitVec 32 := Scalar.addi c2816_i32_31 v56
  v57
def k0_mult5 : BitVec 32 :=
  let c2_i32 : BitVec 32 := 2#32
  let c256_i32_46 : BitVec 32 := 256#32
  let v81 : BitVec 32 := Scalar.muli c2_i32 c256_i32_46
  v81
def k0_mult6 : BitVec 32 :=
  let c2816_i32_48 : BitVec 32 := 2816#32
  let c2_i32 : BitVec 32 := 2#32
  let c256_i32_47 : BitVec 32 := 256#32
  let v83 : BitVec 32 := Scalar.muli c2_i32 c256_i32_47
  let v84 : BitVec 32 := Scalar.addi c2816_i32_48 v83
  v84
def k0_mult7 : BitVec 32 :=
  let c3_i32 : BitVec 32 := 3#32
  let c256_i32_63 : BitVec 32 := 256#32
  let v108 : BitVec 32 := Scalar.muli c3_i32 c256_i32_63
  v108
def k0_mult8 : BitVec 32 :=
  let c2816_i32_65 : BitVec 32 := 2816#32
  let c3_i32 : BitVec 32 := 3#32
  let c256_i32_64 : BitVec 32 := 256#32
  let v110 : BitVec 32 := Scalar.muli c3_i32 c256_i32_64
  let v111 : BitVec 32 := Scalar.addi c2816_i32_65 v110
  v111
def k0_mult9 : BitVec 32 :=
  let c4_i32 : BitVec 32 := 4#32
  let c256_i32_80 : BitVec 32 := 256#32
  let v135 : BitVec 32 := Scalar.muli c4_i32 c256_i32_80
  v135
def k0_mult10 : BitVec 32 :=
  let c2816_i32_82 : BitVec 32 := 2816#32
  let c4_i32 : BitVec 32 := 4#32
  let c256_i32_81 : BitVec 32 := 256#32
  let v137 : BitVec 32 := Scalar.muli c4_i32 c256_i32_81
  let v138 : BitVec 32 := Scalar.addi c2816_i32_82 v137
  v138
def k0_mult11 : BitVec 32 :=
  let c5_i32 : BitVec 32 := 5#32
  let c256_i32_97 : BitVec 32 := 256#32
  let v162 : BitVec 32 := Scalar.muli c5_i32 c256_i32_97
  v162
def k0_mult12 : BitVec 32 :=
  let c2816_i32_99 : BitVec 32 := 2816#32
  let c5_i32 : BitVec 32 := 5#32
  let c256_i32_98 : BitVec 32 := 256#32
  let v164 : BitVec 32 := Scalar.muli c5_i32 c256_i32_98
  let v165 : BitVec 32 := Scalar.addi c2816_i32_99 v164
  v165
def k0_mult13 : BitVec 32 :=
  let c6_i32 : BitVec 32 := 6#32
  let c256_i32_114 : BitVec 32 := 256#32
  let v189 : BitVec 32 := Scalar.muli c6_i32 c256_i32_114
  v189
def k0_mult14 : BitVec 32 :=
  let c2816_i32_116 : BitVec 32 := 2816#32
  let c6_i32 : BitVec 32 := 6#32
  let c256_i32_115 : BitVec 32 := 256#32
  let v191 : BitVec 32 := Scalar.muli c6_i32 c256_i32_115
  let v192 : BitVec 32 := Scalar.addi c2816_i32_116 v191
  v192
def k0_mult15 : BitVec 32 :=
  let c7_i32 : BitVec 32 := 7#32
  let c256_i32_131 : BitVec 32 := 256#32
  let v216 : BitVec 32 := Scalar.muli c7_i32 c256_i32_131
  v216
def k0_mult16 : BitVec 32 :=
  let c2816_i32_133 : BitVec 32 := 2816#32
  let c7_i32 : BitVec 32 := 7#32
  let c256_i32_132 : BitVec 32 := 256#32
  let v218 : BitVec 32 := Scalar.muli c7_i32 c256_i32_132
  let v219 : BitVec 32 := Scalar.addi c2816_i32_133 v218
  v219
def k0_mult17 : BitVec 32 :=
  let c8_i32 : BitVec 32 := 8#32
  let c256_i32_148 : BitVec 32 := 256#32
  let v243 : BitVec 32 := Scalar.muli c8_i32 c256_i32_148
  v243
def k0_mult18 : BitVec 32 :=
  let c2816_i32_150 : BitVec 32 := 2816#32
  let c8_i32 : BitVec 32 := 8#32
  let c256_i32_149 : BitVec 32 := 256#32
  let v245 : BitVec 32 := Scalar.muli c8_i32 c256_i32_149
  let v246 : BitVec 32 := Scalar.addi c2816_i32_150 v245
  v246
def k0_mult19 : BitVec 32 :=
  let c9_i32 : BitVec 32 := 9#32
  let c256_i32_165 : BitVec 32 := 256#32
  let v270 : BitVec 32 := Scalar.muli c9_i32 c256_i32_165
  v270
def k0_mult20 : BitVec 32 :=
  let c2816_i32_167 : BitVec 32 := 2816#32
  let c9_i32 : BitVec 32 := 9#32
  let c256_i32_166 : BitVec 32 := 256#32
  let v272 : BitVec 32 := Scalar.muli c9_i32 c256_i32_166
  let v273 : BitVec 32 := Scalar.addi c2816_i32_167 v272
  v273
def k0_mult21 : BitVec 32 :=
  let c10_i32 : BitVec 32 := 10#32
  let c256_i32_182 : BitVec 32 := 256#32
  let v297 : BitVec 32 := Scalar.muli c10_i32 c256_i32_182
  v297
def k0_mult22 : BitVec 32 :=
  let c2816_i32_184 : BitVec 32 := 2816#32
  let c10_i32 : BitVec 32 := 10#32
  let c256_i32_183 : BitVec 32 := 256#32
  let v299 : BitVec 32 := Scalar.muli c10_i32 c256_i32_183
  let v300 : BitVec 32 := Scalar.addi c2816_i32_184 v299
  v300
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal2.lean ====
abbrev S16x2048x1024 : Shape := ⟨3, ![16, 2048, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16x2048x1024, .bf16⟩
  | .hbm, ⟨1, _⟩ => ⟨S1024x1024, .f32⟩
  | .hbm, ⟨2, _⟩ => ⟨S16x2048x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S16x2048x1024, .f32⟩
  | .hbm, ⟨7, _⟩ => ⟨S16x2048x1024, .f32⟩
  | .hbm, ⟨8, _⟩ => ⟨S16x2048x1024, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x1024, .f32⟩
  | .hbm, ⟨20, _⟩ => ⟨S16x2048x1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S16x2048x5632, .f32⟩
  | .hbm, ⟨25, _⟩ => ⟨S16x2048x2816, .f32⟩
  | .hbm, ⟨26, _⟩ => ⟨S16x2048x2816, .f32⟩
  | .hbm, ⟨27, _⟩ => ⟨S16x2048x2816, .f32⟩
  | .hbm, ⟨28, _⟩ => ⟨S16x2048x2816, .f32⟩
  | .hbm, ⟨29, _⟩ => ⟨S_, .f32⟩
  | .hbm, ⟨30, _⟩ => ⟨S16x2048x2816, .f32⟩
  | .hbm, ⟨31, _⟩ => ⟨S16x2048x2816, .f32⟩
  | .hbm, ⟨32, _⟩ => ⟨S_, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S16x2048x1024, .f32⟩
  | .hbm, ⟨38, _⟩ => ⟨S16x2048x1024, .f32⟩
  | .hbm, ⟨39, _⟩ => ⟨S32768x1024, .f32⟩
  | _, _ => ⟨S16x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x3072 : Shape := ⟨2, ![1024, 3072]⟩
abbrev S64 : Shape := ⟨1, ![64]⟩
abbrev S1024x1024 : Shape := ⟨2, ![1024, 1024]⟩
abbrev S1x64 : Shape := ⟨2, ![1, 64]⟩
abbrev S16x64 : Shape := ⟨2, ![16, 64]⟩
abbrev S1x1024 : Shape := ⟨2, ![1, 1024]⟩
abbrev S1x64x1 : Shape := ⟨3, ![1, 64, 1]⟩
abbrev S32768x1024 : Shape := ⟨2, ![32768, 1024]⟩
abbrev S16x1024x2048 : Shape := ⟨3, ![16, 1024, 2048]⟩
abbrev S512x1024 : Shape := ⟨2, ![512, 1024]⟩
abbrev S1x1024x512 : Shape := ⟨3, ![1, 1024, 512]⟩
abbrev S512 : Shape := ⟨1, ![512]⟩
abbrev S512x1 : Shape := ⟨2, ![512, 1]⟩
abbrev S256x256 : Shape := ⟨2, ![256, 256]⟩
abbrev S1024x256 : Shape := ⟨2, ![1024, 256]⟩
abbrev S512x256 : Shape := ⟨2, ![512, 256]⟩
abbrev S1024x512 : Shape := ⟨2, ![1024, 512]⟩
abbrev S16x64x512 : Shape := ⟨3, ![16, 64, 512]⟩
abbrev S1x256 : Shape := ⟨2, ![1, 256]⟩
abbrev S16x512 : Shape := ⟨2, ![16, 512]⟩
abbrev S16x1x512 : Shape := ⟨3, ![16, 1, 512]⟩

abbrev nBuf : Space → Nat
  | .hbm => 23
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1x64, .f32⟩
  | .hbm, ⟨14, _⟩ => ⟨S16x64, .f32⟩
  | .hbm, ⟨15, _⟩ => ⟨S1024, .f32⟩
  | .hbm, ⟨16, _⟩ => ⟨S1x1024, .f32⟩
  | .hbm, ⟨17, _⟩ => ⟨S1x64x1, .f32⟩
  | .hbm, ⟨18, _⟩ => ⟨S32768x1024, .f32⟩
  | .hbm, ⟨19, _⟩ => ⟨S1x1024, .f32⟩
  | .hbm, ⟨20, _⟩ => ⟨S32768x1024, .bf16⟩
  | .hbm, ⟨21, _⟩ => ⟨S16x1024x2048, .f32⟩
  | .hbm, ⟨22, _⟩ => ⟨S16x1024x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x64x1, .f32⟩
  | .local _ .vmem, ⟨8, _⟩ => ⟨S512x1024, .bf16⟩
  | .local _ .vmem, ⟨9, _⟩ => ⟨S512x1024, .bf16⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal3.lean ====
variable {F : FTy → Type} [FloatOps F] [Named F]
def κ : String → Option EReal := fun
  | "query_scale" => some (((1 / 8) * (Real.log 2)⁻¹ : ℝ) : EReal)
  | _ => none
-- ==== ReferenceIdeal3.lean ====
abbrev S16x2048x1024 : Shape := ⟨3, ![16, 2048, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S16x2048x3x16x64 : Shape := ⟨5, ![16, 2048, 3, 16, 64]⟩
abbrev S16x2048x1x16x64 : Shape := ⟨5, ![16, 2048, 1, 16, 64]⟩
abbrev S16x2048x16x64 : Shape := ⟨4, ![16, 2048, 16, 64]⟩
abbrev S16x2048x16 : Shape := ⟨3, ![16, 2048, 16]⟩
abbrev S16x2048x16x1 : Shape := ⟨4, ![16, 2048, 16, 1]⟩
abbrev S1x1x1x64 : Shape := ⟨4, ![1, 1, 1, 64]⟩
abbrev S32768x1024 : Shape := ⟨2, ![32768, 1024]⟩
abbrev S16x16x64x2048 : Shape := ⟨4, ![16, 16, 64, 2048]⟩
abbrev S16x1024x2048 : Shape := ⟨3, ![16, 1024, 2048]⟩

abbrev nBuf : Space → Nat
  | .hbm => 74
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x3072, .f32⟩
  | .hbm, ⟨22, _⟩ => ⟨S16x2048x3x16x64, .f32⟩
  | .hbm, ⟨23, _⟩ => ⟨S16x2048x1x16x64, .f32⟩
  | .hbm, ⟨24, _⟩ => ⟨S16x2048x16x64, .f32⟩
  | .hbm, ⟨25, _⟩ => ⟨S16x2048x16x64, .f32⟩
  | .hbm, ⟨26, _⟩ => ⟨S_, .f32⟩
  | .hbm, ⟨27, _⟩ => ⟨S16x2048x16, .f32⟩
  | .hbm, ⟨28, _⟩ => ⟨S16x2048x16x1, .f32⟩
  | .hbm, ⟨29, _⟩ => ⟨S_, .f32⟩
  | .hbm, ⟨30, _⟩ => ⟨S16x2048x16x1, .f32⟩
  | .hbm, ⟨31, _⟩ => ⟨S16x2048x16x1, .f32⟩
  | .hbm, ⟨32, _⟩ => ⟨S_, .f32⟩
  | .hbm, ⟨33, _⟩ => ⟨S16x2048x16x1, .f32⟩
  | .hbm, ⟨34, _⟩ => ⟨S16x2048x16x1, .f32⟩
  | .hbm, ⟨35, _⟩ => ⟨S16x2048x16x1, .f32⟩
  | .hbm, ⟨36, _⟩ => ⟨S16x2048x16x64, .f32⟩
  | .hbm, ⟨37, _⟩ => ⟨S16x2048x16x64, .f32⟩
  | .hbm, ⟨38, _⟩ => ⟨S1x1x1x64, .f32⟩
  | .hbm, ⟨39, _⟩ => ⟨S16x2048x16x64, .f32⟩
  | .hbm, ⟨40, _⟩ => ⟨S16x2048x16x64, .f32⟩
  | .hbm, ⟨41, _⟩ => ⟨S16x2048x1x16x64, .f32⟩
  | .hbm, ⟨42, _⟩ => ⟨S16x2048x16x64, .f32⟩
  | .hbm, ⟨43, _⟩ => ⟨S16x2048x16x64, .f32⟩
  | .hbm, ⟨44, _⟩ => ⟨S_, .f32⟩
  | .hbm, ⟨45, _⟩ => ⟨S16x2048x16, .f32⟩
  | .hbm, ⟨46, _⟩ => ⟨S16x2048x16x1, .f32⟩
  | .hbm, ⟨47, _⟩ => ⟨S_, .f32⟩
  | .hbm, ⟨48, _⟩ => ⟨S16x2048x16x1, .f32⟩
  | .hbm, ⟨49, _⟩ => ⟨S16x2048x16x1, .f32⟩
  | .hbm, ⟨50, _⟩ => ⟨S_, .f32⟩
  | .hbm, ⟨51, _⟩ => ⟨S16x2048x16x1, .f32⟩
  | .hbm, ⟨52, _⟩ => ⟨S16x2048x16x1, .f32⟩
  | .hbm, ⟨53, _⟩ => ⟨S16x2048x16x1, .f32⟩
  | .hbm, ⟨54, _⟩ => ⟨S16x2048x16x64, .f32⟩
  | .hbm, ⟨55, _⟩ => ⟨S16x2048x16x64, .f32⟩
  | .hbm, ⟨56, _⟩ => ⟨S1x1x1x64, .f32⟩
  | .hbm, ⟨57, _⟩ => ⟨S16x2048x16x64, .f32⟩
  | .hbm, ⟨58, _⟩ => ⟨S16x2048x16x64, .f32⟩
  | .hbm, ⟨59, _⟩ => ⟨S16x2048x1x16x64, .f32⟩
  | .hbm, ⟨60, _⟩ => ⟨S16x2048x16x64, .f32⟩
  | .hbm, ⟨61, _⟩ => ⟨S_, .f32⟩
  | .hbm, ⟨62, _⟩ => ⟨S16x2048x16x64, .f32⟩
  | .hbm, ⟨63, _⟩ => ⟨S16x2048x16x64, .f32⟩
  | .hbm, ⟨64, _⟩ => ⟨S_, .f32⟩
  | .hbm, ⟨65, _⟩ => ⟨S_, .f32⟩
  | .hbm, ⟨66, _⟩ => ⟨S16x2048x16x64, .f32⟩
  | .hbm, ⟨67, _⟩ => ⟨S16x2048x16x64, .f32⟩
  | .hbm, ⟨68, _⟩ => ⟨S32768x1024, .f32⟩
  | .hbm, ⟨69, _⟩ => ⟨S32768x1024, .bf16⟩
  | .hbm, ⟨70, _⟩ => ⟨S16x16x64x2048, .f32⟩
  | .hbm, ⟨71, _⟩ => ⟨S16x1024x2048, .f32⟩
  | .hbm, ⟨72, _⟩ => ⟨S16x16x64x2048, .f32⟩
  | .hbm, ⟨73, _⟩ => ⟨S16x1024x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S1024x3088 : Shape := ⟨2, ![1024, 3088]⟩
abbrev S16 : Shape := ⟨1, ![16]⟩
abbrev S1024x3072 : Shape := ⟨2, ![1024, 3072]⟩
abbrev S1024x16 : Shape := ⟨2, ![1024, 16]⟩
abbrev S_ : Shape := ⟨0, ![]⟩
abbrev S16x1 : Shape := ⟨2, ![16, 1]⟩
abbrev S16x1024 : Shape := ⟨2, ![16, 1024]⟩
abbrev S32768x1024 : Shape := ⟨2, ![32768, 1024]⟩
abbrev S1x1024 : Shape := ⟨2, ![1, 1024]⟩
abbrev S32768x512 : Shape := ⟨2, ![32768, 512]⟩
abbrev S16x32768 : Shape := ⟨2, ![16, 32768]⟩
abbrev S512x1024 : Shape := ⟨2, ![512, 1024]⟩
abbrev S512x512 : Shape := ⟨2, ![512, 512]⟩
abbrev S16x512 : Shape := ⟨2, ![16, 512]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩

abbrev nBuf : Space → Nat
  | .hbm => 36
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S16, .i32⟩
  | .hbm, ⟨5, _⟩ => ⟨S1024x3072, .f32⟩
  | .hbm, ⟨6, _⟩ => ⟨S1024x3072, .bf16⟩
  | .hbm, ⟨7, _⟩ => ⟨S1024x16, .f32⟩
  | .hbm, ⟨8, _⟩ => ⟨S_, .i32⟩
  | .hbm, ⟨9, _⟩ => ⟨S16, .i32⟩
  | .hbm, ⟨10, _⟩ => ⟨S16, .i1⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S16x1, .i32⟩
  | .hbm, ⟨16, _⟩ => ⟨S1024x16, .f32⟩
  | .hbm, ⟨17, _⟩ => ⟨S16x1024, .f32⟩
  | .hbm, ⟨18, _⟩ => ⟨S16x1024, .bf16⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S16x1, .i32⟩
  | .hbm, ⟨27, _⟩ => ⟨S16, .f32⟩
  | .hbm, ⟨28, _⟩ => ⟨S16x1, .f32⟩
  | .hbm, ⟨29, _⟩ => ⟨S32768x1024, .f32⟩
  | .hbm, ⟨30, _⟩ => ⟨S1x1024, .f32⟩
  | .hbm, ⟨31, _⟩ => ⟨S32768x512, .bf16⟩
  | .hbm, ⟨32, _⟩ => ⟨S32768x512, .bf16⟩
  | .hbm, ⟨33, _⟩ => ⟨S32768x1024, .bf16⟩
  | .hbm, ⟨34, _⟩ => ⟨S32768x1024, .f32⟩
  | .hbm, ⟨35, _⟩ => ⟨S16x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S16x1024, .bf16⟩
  | .local _ .vmem, ⟨5, _⟩ => ⟨S16x1, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S16x512, .f32⟩
  | .local _ .vmem, ⟨15, _⟩ => ⟨S16x512, .f32⟩
  | .local _ .vmem, ⟨16, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal4.lean ====
variable {F : FTy → Type} [FloatOps F] [Named F]
def κ : String → Option EReal := fun
  | "inv_cap" => some ((1 / 15 : ℝ) : EReal)
  | _ => none
-- ==== ReferenceIdeal4.lean ====
abbrev S16x2048x1024 : Shape := ⟨3, ![16, 2048, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3088 : Shape := ⟨3, ![16, 2048, 3088]⟩
abbrev S16x2048x512 : Shape := ⟨3, ![16, 2048, 512]⟩
abbrev S16x2048x16 : Shape := ⟨3, ![16, 2048, 16]⟩
abbrev S1x1x16 : Shape := ⟨3, ![1, 1, 16]⟩
abbrev S16x2048x8 : Shape := ⟨3, ![16, 2048, 8]⟩
abbrev S32768x4x2 : Shape := ⟨3, ![32768, 4, 2]⟩
abbrev S32768x4x4 : Shape := ⟨3, ![32768, 4, 4]⟩
abbrev S32768x512 : Shape := ⟨2, ![32768, 512]⟩
abbrev S32768x1024 : Shape := ⟨2, ![32768, 1024]⟩
abbrev S32768x16 : Shape := ⟨2, ![32768, 16]⟩
abbrev S16x32768 : Shape := ⟨2, ![16, 32768]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x3088, .f32⟩
  | .hbm, ⟨21, _⟩ => ⟨S16x2048x512, .f32⟩
  | .hbm, ⟨22, _⟩ => ⟨S16x2048x512, .f32⟩
  | .hbm, ⟨23, _⟩ => ⟨S16x2048x1024, .f32⟩
  | .hbm, ⟨24, _⟩ => ⟨S16x2048x1024, .f32⟩
  | .hbm, ⟨25, _⟩ => ⟨S16x2048x16, .f32⟩
  | .hbm, ⟨26, _⟩ => ⟨S_, .f32⟩
  | .hbm, ⟨27, _⟩ => ⟨S16x2048x512, .f32⟩
  | .hbm, ⟨28, _⟩ => ⟨S16x2048x512, .f32⟩
  | .hbm, ⟨29, _⟩ => ⟨S1x1x16, .f32⟩
  | .hbm, ⟨30, _⟩ => ⟨S16x2048x16, .f32⟩
  | .hbm, ⟨31, _⟩ => ⟨S16x2048x16, .f32⟩
  | .hbm, ⟨32, _⟩ => ⟨S_, .f32⟩
  | .hbm, ⟨33, _⟩ => ⟨S16x2048x16, .f32⟩
  | .hbm, ⟨34, _⟩ => ⟨S16x2048x16, .f32⟩
  | .hbm, ⟨35, _⟩ => ⟨S16x2048x16, .f32⟩
  | .hbm, ⟨36, _⟩ => ⟨S_, .f32⟩
  | .hbm, ⟨37, _⟩ => ⟨S16x2048x16, .f32⟩
  | .hbm, ⟨38, _⟩ => ⟨S16x2048x16, .f32⟩
  | .hbm, ⟨39, _⟩ => ⟨S16x2048x8, .f32⟩
  | .hbm, ⟨40, _⟩ => ⟨S16x2048x8, .f32⟩
  | .hbm, ⟨41, _⟩ => ⟨S16x2048x8, .f32⟩
  | .hbm, ⟨42, _⟩ => ⟨S_, .f32⟩
  | .hbm, ⟨43, _⟩ => ⟨S16x2048x8, .f32⟩
  | .hbm, ⟨44, _⟩ => ⟨S16x2048x8, .f32⟩
  | .hbm, ⟨45, _⟩ => ⟨S16x2048x8, .f32⟩
  | .hbm, ⟨46, _⟩ => ⟨S16x2048x8, .f32⟩
  | .hbm, ⟨47, _⟩ => ⟨S16x2048x8, .i1⟩
  | .hbm, ⟨48, _⟩ => ⟨S16x2048x8, .f32⟩
  | .hbm, ⟨49, _⟩ => ⟨S16x2048x8, .f32⟩
  | .hbm, ⟨50, _⟩ => ⟨S16x2048x8, .f32⟩
  | .hbm, ⟨51, _⟩ => ⟨S16x2048x8, .f32⟩
  | .hbm, ⟨52, _⟩ => ⟨S16x2048x8, .f32⟩
  | .hbm, ⟨53, _⟩ => ⟨S16x2048x8, .f32⟩
  | .hbm, ⟨54, _⟩ => ⟨S16x2048x8, .f32⟩
  | .hbm, ⟨55, _⟩ => ⟨S16x2048x8, .f32⟩
  | .hbm, ⟨56, _⟩ => ⟨S16x2048x8, .f32⟩
  | .hbm, ⟨57, _⟩ => ⟨S32768x4x2, .f32⟩
  | .hbm, ⟨58, _⟩ => ⟨S32768x4x2, .f32⟩
  | .hbm, ⟨59, _⟩ => ⟨S32768x4x4, .f32⟩
  | .hbm, ⟨60, _⟩ => ⟨S32768x512, .f32⟩
  | .hbm, ⟨61, _⟩ => ⟨S32768x512, .bf16⟩
  | .hbm, ⟨62, _⟩ => ⟨S32768x512, .f32⟩
  | .hbm, ⟨63, _⟩ => ⟨S32768x512, .bf16⟩
  | .hbm, ⟨64, _⟩ => ⟨S32768x1024, .f32⟩
  | .hbm, ⟨65, _⟩ => ⟨S32768x1024, .bf16⟩
  | .hbm, ⟨66, _⟩ => ⟨S32768x1024, .f32⟩
  | .hbm, ⟨67, _⟩ => ⟨S32768x16, .f32⟩
  | .hbm, ⟨68, _⟩ => ⟨S16x32768, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Kernel5.lean ====
abbrev S32x4x1024 : Shape := ⟨3, ![32, 4, 1024]⟩
abbrev S1024 : Shape := ⟨1, ![1024]⟩
abbrev S1024x3072 : Shape := ⟨2, ![1024, 3072]⟩
abbrev S64 : Shape := ⟨1, ![64]⟩
abbrev S1024x1024 : Shape := ⟨2, ![1024, 1024]⟩
abbrev S1x64 : Shape := ⟨2, ![1, 64]⟩
abbrev S16x64 : Shape := ⟨2, ![16, 64]⟩
abbrev S1x1024 : Shape := ⟨2, ![1, 1024]⟩
abbrev S1x64x1 : Shape := ⟨3, ![1, 64, 1]⟩
abbrev S128x1024 : Shape := ⟨2, ![128, 1024]⟩
abbrev S1x1024x128 : Shape := ⟨3, ![1, 1024, 128]⟩
abbrev S128 : Shape := ⟨1, ![128]⟩
abbrev S128x1 : Shape := ⟨2, ![128, 1]⟩
abbrev S256x256 : Shape := ⟨2, ![256, 256]⟩
abbrev S1024x256 : Shape := ⟨2, ![1024, 256]⟩
abbrev S128x256 : Shape := ⟨2, ![128, 256]⟩
abbrev S1024x128 : Shape := ⟨2, ![1024, 128]⟩
abbrev S16x64x128 : Shape := ⟨3, ![16, 64, 128]⟩
abbrev S1x256 : Shape := ⟨2, ![1, 256]⟩
abbrev S16x128 : Shape := ⟨2, ![16, 128]⟩
abbrev S16x1x128 : Shape := ⟨3, ![16, 1, 128]⟩

abbrev nBuf : Space → Nat
  | .hbm => 23
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1x64, .f32⟩
  | .hbm, ⟨14, _⟩ => ⟨S16x64, .f32⟩
  | .hbm, ⟨15, _⟩ => ⟨S1024, .f32⟩
  | .hbm, ⟨16, _⟩ => ⟨S1x1024, .f32⟩
  | .hbm, ⟨17, _⟩ => ⟨S1x64x1, .f32⟩
  | .hbm, ⟨18, _⟩ => ⟨S128x1024, .f32⟩
  | .hbm, ⟨19, _⟩ => ⟨S1x1024, .f32⟩
  | .hbm, ⟨20, _⟩ => ⟨S128x1024, .bf16⟩
  | .hbm, ⟨21, _⟩ => ⟨S1x1024x128, .f32⟩
  | .hbm, ⟨22, _⟩ => ⟨S1x1024x128, .f32⟩
  | .local _ .vmem, ⟨0, _⟩ => ⟨S128x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x64x1, .f32⟩
  | .local _ .vmem, ⟨7, _⟩ => ⟨S128x1024, .bf16⟩
  | .local _ .vmem, ⟨8, _⟩ => ⟨S1x1024x128, .f32⟩
  | .local _ .vmem, ⟨9, _⟩ => ⟨S1x1024x128, .f32⟩
  | .local _ .vmem, ⟨10, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_9 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== KernelIdeal5.lean ====
variable {F : FTy → Type} [FloatOps F] [Named F]
def κ : String → Option EReal := fun
  | "query_scale" => some (((1 / 8) * (Real.log 2)⁻¹ : ℝ) : EReal)
  | _ => none
-- ==== ReferenceIdeal5.lean ====
abbrev S32x4x1024 : Shape := ⟨3, ![32, 4, 1024]⟩
abbrev S1024 : Shape := ⟨1, ![1024]⟩
abbrev S1024x3072 : Shape := ⟨2, ![1024, 3072]⟩
abbrev S64 : Shape := ⟨1, ![64]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x3072 : Shape := ⟨3, ![32, 4, 3072]⟩
abbrev S32x4x3x16x64 : Shape := ⟨5, ![32, 4, 3, 16, 64]⟩
abbrev S32x4x1x16x64 : Shape := ⟨5, ![32, 4, 1, 16, 64]⟩
abbrev S32x4x16x64 : Shape := ⟨4, ![32, 4, 16, 64]⟩
abbrev S32x4x16 : Shape := ⟨3, ![32, 4, 16]⟩
abbrev S32x4x16x1 : Shape := ⟨4, ![32, 4, 16, 1]⟩
abbrev S1x1x1x64 : Shape := ⟨4, ![1, 1, 1, 64]⟩
abbrev S128x1024 : Shape := ⟨2, ![128, 1024]⟩
abbrev S16x64x32x4 : Shape := ⟨4, ![16, 64, 32, 4]⟩
abbrev S1x1024x128 : Shape := ⟨3, ![1, 1024, 128]⟩

abbrev nBuf : Space → Nat
  | .hbm => 74
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S32x4x1024, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S32x4x1024, .f32⟩
  | .hbm, ⟨20, _⟩ => ⟨S32x4x1024, .f32⟩
  | .hbm, ⟨21, _⟩ => ⟨S32x4x3072, .f32⟩
  | .hbm, ⟨22, _⟩ => ⟨S32x4x3x16x64, .f32⟩
  | .hbm, ⟨23, _⟩ => ⟨S32x4x1x16x64, .f32⟩
  | .hbm, ⟨24, _⟩ => ⟨S32x4x16x64, .f32⟩
  | .hbm, ⟨25, _⟩ => ⟨S32x4x16x64, .f32⟩
  | .hbm, ⟨26, _⟩ => ⟨S_, .f32⟩
  | .hbm, ⟨27, _⟩ => ⟨S32x4x16, .f32⟩
  | .hbm, ⟨28, _⟩ => ⟨S32x4x16x1, .f32⟩
  | .hbm, ⟨29, _⟩ => ⟨S_, .f32⟩
  | .hbm, ⟨30, _⟩ => ⟨S32x4x16x1, .f32⟩
  | .hbm, ⟨31, _⟩ => ⟨S32x4x16x1, .f32⟩
  | .hbm, ⟨32, _⟩ => ⟨S_, .f32⟩
  | .hbm, ⟨33, _⟩ => ⟨S32x4x16x1, .f32⟩
  | .hbm, ⟨34, _⟩ => ⟨S32x4x16x1, .f32⟩
  | .hbm, ⟨35, _⟩ => ⟨S32x4x16x1, .f32⟩
  | .hbm, ⟨36, _⟩ => ⟨S32x4x16x64, .f32⟩
  | .hbm, ⟨37, _⟩ => ⟨S32x4x16x64, .f32⟩
  | .hbm, ⟨38, _⟩ => ⟨S1x1x1x64, .f32⟩
  | .hbm, ⟨39, _⟩ => ⟨S32x4x16x64, .f32⟩
  | .hbm, ⟨40, _⟩ => ⟨S32x4x16x64, .f32⟩
  | .hbm, ⟨41, _⟩ => ⟨S32x4x1x16x64, .f32⟩
  | .hbm, ⟨42, _⟩ => ⟨S32x4x16x64, .f32⟩
  | .hbm, ⟨43, _⟩ => ⟨S32x4x16x64, .f32⟩
  | .hbm, ⟨44, _⟩ => ⟨S_, .f32⟩
  | .hbm, ⟨45, _⟩ => ⟨S32x4x16, .f32⟩
  | .hbm, ⟨46, _⟩ => ⟨S32x4x16x1, .f32⟩
  | .hbm, ⟨47, _⟩ => ⟨S_, .f32⟩
  | .hbm, ⟨48, _⟩ => ⟨S32x4x16x1, .f32⟩
  | .hbm, ⟨49, _⟩ => ⟨S32x4x16x1, .f32⟩
  | .hbm, ⟨50, _⟩ => ⟨S_, .f32⟩
  | .hbm, ⟨51, _⟩ => ⟨S32x4x16x1, .f32⟩
  | .hbm, ⟨52, _⟩ => ⟨S32x4x16x1, .f32⟩
  | .hbm, ⟨53, _⟩ => ⟨S32x4x16x1, .f32⟩
  | .hbm, ⟨54, _⟩ => ⟨S32x4x16x64, .f32⟩
  | .hbm, ⟨55, _⟩ => ⟨S32x4x16x64, .f32⟩
  | .hbm, ⟨56, _⟩ => ⟨S1x1x1x64, .f32⟩
  | .hbm, ⟨57, _⟩ => ⟨S32x4x16x64, .f32⟩
  | .hbm, ⟨58, _⟩ => ⟨S32x4x16x64, .f32⟩
  | .hbm, ⟨59, _⟩ => ⟨S32x4x1x16x64, .f32⟩
  | .hbm, ⟨60, _⟩ => ⟨S32x4x16x64, .f32⟩
  | .hbm, ⟨61, _⟩ => ⟨S_, .f32⟩
  | .hbm, ⟨62, _⟩ => ⟨S32x4x16x64, .f32⟩
  | .hbm, ⟨63, _⟩ => ⟨S32x4x16x64, .f32⟩
  | .hbm, ⟨64, _⟩ => ⟨S_, .f32⟩
  | .hbm, ⟨65, _⟩ => ⟨S_, .f32⟩
  | .hbm, ⟨66, _⟩ => ⟨S32x4x16x64, .f32⟩
  | .hbm, ⟨67, _⟩ => ⟨S32x4x16x64, .f32⟩
  | .hbm, ⟨68, _⟩ => ⟨S128x1024, .f32⟩
  | .hbm, ⟨69, _⟩ => ⟨S128x1024, .bf16⟩
  | .hbm, ⟨70, _⟩ => ⟨S16x64x32x4, .f32⟩
  | .hbm, ⟨71, _⟩ => ⟨S1x1024x128, .f32⟩
  | .hbm, ⟨72, _⟩ => ⟨S16x64x32x4, .f32⟩
  | .hbm, ⟨73, _⟩ => ⟨S1x1024x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Kernel6.lean ====
abbrev S32x4x1024 : Shape := ⟨3, ![32, 4, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 13
  | .vmem => 8
  | .smem => 0
  | _ => 0

abbrev bufTy : (tb : Table) → Fin (tcTables nBuf tb) → BufTy
  | .hbm, ⟨0, _⟩ => ⟨S32x4x1024, .bf16⟩
  | .hbm, ⟨1, _⟩ => ⟨S1024x1024, .f32⟩
  | .hbm, ⟨2, _⟩ => ⟨S32x4x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S128x1024, .bf16⟩
  | .hbm, ⟨7, _⟩ => ⟨S1024x1024, .bf16⟩
  | .hbm, ⟨8, _⟩ => ⟨S128x1024, .f32⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S128x1024, .f32⟩
  | .local _ .vmem, ⟨0, _⟩ => ⟨S128x1024, .bf16⟩
  | .local _ .vmem, ⟨1, _⟩ => ⟨S1024x1024, .bf16⟩
  | .local _ .vmem, ⟨2, _⟩ => ⟨S128x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S128x1024, .f32⟩
  | .local _ .vmem, ⟨7, _⟩ => ⟨S128x1024, .bf16⟩
  | _, _ => ⟨S32x4x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c256_i32 : BitVec 32 := 256#32
  let v27 : BitVec 32 := Scalar.muli c0_i32 c256_i32
  v27
def k0_mult2 : BitVec 32 :=
  let c2816_i32 : BitVec 32 := 2816#32
  let c0_i32 : BitVec 32 := 0#32
  let c256_i32_14 : BitVec 32 := 256#32
  let v29 : BitVec 32 := Scalar.muli c0_i32 c256_i32_14
  let v30 : BitVec 32 := Scalar.addi c2816_i32 v29
  v30
def k0_off1 (c0_i32 : BitVec 32) : Fin 2 → Nat :=
  let c0_17 : Index := 0#32
  let c256_i32 : BitVec 32 := 256#32
  let v27 : BitVec 32 := Scalar.muli c0_i32 c256_i32
  let v28 : BitVec 32 := v27
  let v33 : Index := Scalar.indexCast v28
  ![0, v33.toNat]
def k0_off2 (c0_i32 : BitVec 32) : Fin 2 → Nat :=
  let c0_21 : Index := 0#32
  let c2816_i32 : BitVec 32 := 2816#32
  let c256_i32_14 : BitVec 32 := 256#32
  let v29 : BitVec 32 := Scalar.muli c0_i32 c256_i32_14
  let v30 : BitVec 32 := Scalar.addi c2816_i32 v29
  let v31 : BitVec 32 := v30
  let v38 : Index := Scalar.indexCast v31
  ![0, v38.toNat]
def k0_off3 (c0_i32 : BitVec 32) : Fin 2 → Nat :=
  let c256_i32 : BitVec 32 := 256#32
  let v27 : BitVec 32 := Scalar.muli c0_i32 c256_i32
  let v28 : BitVec 32 := v27
  let v48 : Index := Scalar.indexCast v28
  let c0_25 : Index := 0#32
  ![v48.toNat, 0]
def k0_mult3 : BitVec 32 :=
  let c1_i32 : BitVec 32 := 1#32
  let c256_i32_29 : BitVec 32 := 256#32
  let v54 : BitVec 32 := Scalar.muli c1_i32 c256_i32_29
  v54
def k0_mult4 : BitVec 32 :=
  let c2816_i32_31 : BitVec 32 := 2816#32
  let c1_i32 : BitVec 32 := 1#32
  let c256_i32_30 : BitVec 32 := 256#32
  let v56 : BitVec 32 := Scalar.muli c1_i32 c256_i32_30
  let v57 : BitVec 32 := Scalar.addi c2816_i32_31 v56
  v57
def k0_mult5 : BitVec 32 :=
  let c2_i32 : BitVec 32 := 2#32
  let c256_i32_46 : BitVec 32 := 256#32
  let v81 : BitVec 32 := Scalar.muli c2_i32 c256_i32_46
  v81
def k0_mult6 : BitVec 32 :=
  let c2816_i32_48 : BitVec 32 := 2816#32
  let c2_i32 : BitVec 32 := 2#32
  let c256_i32_47 : BitVec 32 := 256#32
  let v83 : BitVec 32 := Scalar.muli c2_i32 c256_i32_47
  let v84 : BitVec 32 := Scalar.addi c2816_i32_48 v83
  v84
def k0_mult7 : BitVec 32 :=
  let c3_i32 : BitVec 32 := 3#32
  let c256_i32_63 : BitVec 32 := 256#32
  let v108 : BitVec 32 := Scalar.muli c3_i32 c256_i32_63
  v108
def k0_mult8 : BitVec 32 :=
  let c2816_i32_65 : BitVec 32 := 2816#32
  let c3_i32 : BitVec 32 := 3#32
  let c256_i32_64 : BitVec 32 := 256#32
  let v110 : BitVec 32 := Scalar.muli c3_i32 c256_i32_64
  let v111 : BitVec 32 := Scalar.addi c2816_i32_65 v110
  v111
def k0_mult9 : BitVec 32 :=
  let c4_i32 : BitVec 32 := 4#32
  let c256_i32_80 : BitVec 32 := 256#32
  let v135 : BitVec 32 := Scalar.muli c4_i32 c256_i32_80
  v135
def k0_mult10 : BitVec 32 :=
  let c2816_i32_82 : BitVec 32 := 2816#32
  let c4_i32 : BitVec 32 := 4#32
  let c256_i32_81 : BitVec 32 := 256#32
  let v137 : BitVec 32 := Scalar.muli c4_i32 c256_i32_81
  let v138 : BitVec 32 := Scalar.addi c2816_i32_82 v137
  v138
def k0_mult11 : BitVec 32 :=
  let c5_i32 : BitVec 32 := 5#32
  let c256_i32_97 : BitVec 32 := 256#32
  let v162 : BitVec 32 := Scalar.muli c5_i32 c256_i32_97
  v162
def k0_mult12 : BitVec 32 :=
  let c2816_i32_99 : BitVec 32 := 2816#32
  let c5_i32 : BitVec 32 := 5#32
  let c256_i32_98 : BitVec 32 := 256#32
  let v164 : BitVec 32 := Scalar.muli c5_i32 c256_i32_98
  let v165 : BitVec 32 := Scalar.addi c2816_i32_99 v164
  v165
def k0_mult13 : BitVec 32 :=
  let c6_i32 : BitVec 32 := 6#32
  let c256_i32_114 : BitVec 32 := 256#32
  let v189 : BitVec 32 := Scalar.muli c6_i32 c256_i32_114
  v189
def k0_mult14 : BitVec 32 :=
  let c2816_i32_116 : BitVec 32 := 2816#32
  let c6_i32 : BitVec 32 := 6#32
  let c256_i32_115 : BitVec 32 := 256#32
  let v191 : BitVec 32 := Scalar.muli c6_i32 c256_i32_115
  let v192 : BitVec 32 := Scalar.addi c2816_i32_116 v191
  v192
def k0_mult15 : BitVec 32 :=
  let c7_i32 : BitVec 32 := 7#32
  let c256_i32_131 : BitVec 32 := 256#32
  let v216 : BitVec 32 := Scalar.muli c7_i32 c256_i32_131
  v216
def k0_mult16 : BitVec 32 :=
  let c2816_i32_133 : BitVec 32 := 2816#32
  let c7_i32 : BitVec 32 := 7#32
  let c256_i32_132 : BitVec 32 := 256#32
  let v218 : BitVec 32 := Scalar.muli c7_i32 c256_i32_132
  let v219 : BitVec 32 := Scalar.addi c2816_i32_133 v218
  v219
def k0_mult17 : BitVec 32 :=
  let c8_i32 : BitVec 32 := 8#32
  let c256_i32_148 : BitVec 32 := 256#32
  let v243 : BitVec 32 := Scalar.muli c8_i32 c256_i32_148
  v243
def k0_mult18 : BitVec 32 :=
  let c2816_i32_150 : BitVec 32 := 2816#32
  let c8_i32 : BitVec 32 := 8#32
  let c256_i32_149 : BitVec 32 := 256#32
  let v245 : BitVec 32 := Scalar.muli c8_i32 c256_i32_149
  let v246 : BitVec 32 := Scalar.addi c2816_i32_150 v245
  v246
def k0_mult19 : BitVec 32 :=
  let c9_i32 : BitVec 32 := 9#32
  let c256_i32_165 : BitVec 32 := 256#32
  let v270 : BitVec 32 := Scalar.muli c9_i32 c256_i32_165
  v270
def k0_mult20 : BitVec 32 :=
  let c2816_i32_167 : BitVec 32 := 2816#32
  let c9_i32 : BitVec 32 := 9#32
  let c256_i32_166 : BitVec 32 := 256#32
  let v272 : BitVec 32 := Scalar.muli c9_i32 c256_i32_166
  let v273 : BitVec 32 := Scalar.addi c2816_i32_167 v272
  v273
def k0_mult21 : BitVec 32 :=
  let c10_i32 : BitVec 32 := 10#32
  let c256_i32_182 : BitVec 32 := 256#32
  let v297 : BitVec 32 := Scalar.muli c10_i32 c256_i32_182
  v297
def k0_mult22 : BitVec 32 :=
  let c2816_i32_184 : BitVec 32 := 2816#32
  let c10_i32 : BitVec 32 := 10#32
  let c256_i32_183 : BitVec 32 := 256#32
  let v299 : BitVec 32 := Scalar.muli c10_i32 c256_i32_183
  let v300 : BitVec 32 := Scalar.addi c2816_i32_184 v299
  v300
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceIdeal6.lean ====
abbrev S32x4x1024 : Shape := ⟨3, ![32, 4, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x5632 : Shape := ⟨3, ![32, 4, 5632]⟩
abbrev S32x4x2816 : Shape := ⟨3, ![32, 4, 2816]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S32x4x1024, .bf16⟩
  | .hbm, ⟨1, _⟩ => ⟨S1024x1024, .f32⟩
  | .hbm, ⟨2, _⟩ => ⟨S32x4x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S32x4x1024, .f32⟩
  | .hbm, ⟨7, _⟩ => ⟨S32x4x1024, .f32⟩
  | .hbm, ⟨8, _⟩ => ⟨S32x4x1024, .f32⟩
  | .hbm, ⟨9, _⟩ => ⟨S_, .f32⟩
  | .hbm, ⟨10, _⟩ => ⟨S32x4, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S32x4x1, .f32⟩
  | .hbm, ⟨19, _⟩ => ⟨S32x4x1024, .f32⟩
  | .hbm, ⟨20, _⟩ => ⟨S32x4x1024, .f32⟩
  | .hbm, ⟨21, _⟩ => ⟨S1x1x1024, .f32⟩
  | .hbm, ⟨22, _⟩ => ⟨S32x4x1024, .f32⟩
  | .hbm, ⟨23, _⟩ => ⟨S32x4x1024, .f32⟩
  | .hbm, ⟨24, _⟩ => ⟨S32x4x5632, .f32⟩
  | .hbm, ⟨25, _⟩ => ⟨S32x4x2816, .f32⟩
  | .hbm, ⟨26, _⟩ => ⟨S32x4x2816, .f32⟩
  | .hbm, ⟨27, _⟩ => ⟨S32x4x2816, .f32⟩
  | .hbm, ⟨28, _⟩ => ⟨S32x4x2816, .f32⟩
  | .hbm, ⟨29, _⟩ => ⟨S_, .f32⟩
  | .hbm, ⟨30, _⟩ => ⟨S32x4x2816, .f32⟩
  | .hbm, ⟨31, _⟩ => ⟨S32x4x2816, .f32⟩
  | .hbm, ⟨32, _⟩ => ⟨S_, .f32⟩
  | .hbm, ⟨33, _⟩ => ⟨S32x4x2816, .f32⟩
  | .hbm, ⟨34, _⟩ => ⟨S32x4x2816, .f32⟩
  | .hbm, ⟨35, _⟩ => ⟨S32x4x2816, .f32⟩
  | .hbm, ⟨36, _⟩ => ⟨S32x4x2816, .f32⟩
  | .hbm, ⟨37, _⟩ => ⟨S32x4x1024, .f32⟩
  | .hbm, ⟨38, _⟩ => ⟨S32x4x1024, .f32⟩
  | .hbm, ⟨39, _⟩ => ⟨S128x1024, .f32⟩
  | _, _ => ⟨S32x4x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel7.lean ====
abbrev S32x4x1024 : Shape := ⟨3, ![32, 4, 1024]⟩
abbrev S1024 : Shape := ⟨1, ![1024]⟩
abbrev S1024x3088 : Shape := ⟨2, ![1024, 3088]⟩
abbrev S16 : Shape := ⟨1, ![16]⟩
abbrev S1024x3072 : Shape := ⟨2, ![1024, 3072]⟩
abbrev S1024x16 : Shape := ⟨2, ![1024, 16]⟩
abbrev S_ : Shape := ⟨0, ![]⟩
abbrev S16x1 : Shape := ⟨2, ![16, 1]⟩
abbrev S16x1024 : Shape := ⟨2, ![16, 1024]⟩
abbrev S128x1024 : Shape := ⟨2, ![128, 1024]⟩
abbrev S1x1024 : Shape := ⟨2, ![1, 1024]⟩
abbrev S128x512 : Shape := ⟨2, ![128, 512]⟩
abbrev S16x128 : Shape := ⟨2, ![16, 128]⟩
abbrev S128 : Shape := ⟨1, ![128]⟩
abbrev S128x1 : Shape := ⟨2, ![128, 1]⟩
abbrev S1024x512 : Shape := ⟨2, ![1024, 512]⟩
abbrev S1024x1024 : Shape := ⟨2, ![1024, 1024]⟩

abbrev nBuf : Space → Nat
  | .hbm => 36
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S16, .i32⟩
  | .hbm, ⟨5, _⟩ => ⟨S1024x3072, .f32⟩
  | .hbm, ⟨6, _⟩ => ⟨S1024x3072, .bf16⟩
  | .hbm, ⟨7, _⟩ => ⟨S1024x16, .f32⟩
  | .hbm, ⟨8, _⟩ => ⟨S_, .i32⟩
  | .hbm, ⟨9, _⟩ => ⟨S16, .i32⟩
  | .hbm, ⟨10, _⟩ => ⟨S16, .i1⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S16x1, .i32⟩
  | .hbm, ⟨16, _⟩ => ⟨S1024x16, .f32⟩
  | .hbm, ⟨17, _⟩ => ⟨S16x1024, .f32⟩
  | .hbm, ⟨18, _⟩ => ⟨S16x1024, .bf16⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S16x1, .i32⟩
  | .hbm, ⟨27, _⟩ => ⟨S16, .f32⟩
  | .hbm, ⟨28, _⟩ => ⟨S16x1, .f32⟩
  | .hbm, ⟨29, _⟩ => ⟨S128x1024, .f32⟩
  | .hbm, ⟨30, _⟩ => ⟨S1x1024, .f32⟩
  | .hbm, ⟨31, _⟩ => ⟨S128x512, .bf16⟩
  | .hbm, ⟨32, _⟩ => ⟨S128x512, .bf16⟩
  | .hbm, ⟨33, _⟩ => ⟨S128x1024, .bf16⟩
  | .hbm, ⟨34, _⟩ => ⟨S128x1024, .f32⟩
  | .hbm, ⟨35, _⟩ => ⟨S16x128, .f32⟩
  | .local _ .vmem, ⟨0, _⟩ => ⟨S128x1024, .f32⟩
  | .local _ .vmem, ⟨1, _⟩ => ⟨S1x1024, .f32⟩
  | .local _ .vmem, ⟨2, _⟩ => ⟨S1024x3072, .bf16⟩
  | .local _ .vmem, ⟨3, _⟩ => ⟨S16x1024, .bf16⟩
  | .local _ .vmem, ⟨4, _⟩ => ⟨S16x1, .f32⟩
  | .local _ .vmem, ⟨5, _⟩ => ⟨S128x512, .bf16⟩
  | .local _ .vmem, ⟨6, _⟩ => ⟨S128x512, .bf16⟩
  | .local _ .vmem, ⟨7, _⟩ => ⟨S128x1024, .bf16⟩
  | .local _ .vmem, ⟨8, _⟩ => ⟨S128x1024, .f32⟩
  | .local _ .vmem, ⟨9, _⟩ => ⟨S16x128, .f32⟩
  | .local _ .vmem, ⟨10, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== KernelIdeal7.lean ====
variable {F : FTy → Type} [FloatOps F] [Named F]
def κ : String → Option EReal := fun
  | "inv_cap" => some ((1 / 15 : ℝ) : EReal)
  | _ => none
-- ==== ReferenceIdeal7.lean ====
abbrev S32x4x1024 : Shape := ⟨3, ![32, 4, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x3088 : Shape := ⟨3, ![32, 4, 3088]⟩
abbrev S32x4x512 : Shape := ⟨3, ![32, 4, 512]⟩
abbrev S32x4x16 : Shape := ⟨3, ![32, 4, 16]⟩
abbrev S1x1x16 : Shape := ⟨3, ![1, 1, 16]⟩
abbrev S32x4x8 : Shape := ⟨3, ![32, 4, 8]⟩
abbrev S128x4x2 : Shape := ⟨3, ![128, 4, 2]⟩
abbrev S128x4x4 : Shape := ⟨3, ![128, 4, 4]⟩
abbrev S128x512 : Shape := ⟨2, ![128, 512]⟩
abbrev S128x1024 : Shape := ⟨2, ![128, 1024]⟩
abbrev S128x16 : Shape := ⟨2, ![128, 16]⟩
abbrev S16x128 : Shape := ⟨2, ![16, 128]⟩

abbrev nBuf : Space → Nat
  | .hbm => 69
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S32x4x1024, .f32⟩
  | .hbm, ⟨5, _⟩ => ⟨S_, .f32⟩
  | .hbm, ⟨6, _⟩ => ⟨S32x4, .f32⟩
  | .hbm, ⟨7, _⟩ => ⟨S32x4x1, .f32⟩
  | .hbm, ⟨8, _⟩ => ⟨S_, .f32⟩
  | .hbm, ⟨9, _⟩ => ⟨S32x4x1, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S32x4x1, .f32⟩
  | .hbm, ⟨15, _⟩ => ⟨S32x4x1024, .f32⟩
  | .hbm, ⟨16, _⟩ => ⟨S32x4x1024, .f32⟩
  | .hbm, ⟨17, _⟩ => ⟨S1x1x1024, .f32⟩
  | .hbm, ⟨18, _⟩ => ⟨S32x4x1024, .f32⟩
  | .hbm, ⟨19, _⟩ => ⟨S32x4x1024, .f32⟩
  | .hbm, ⟨20, _⟩ => ⟨S32x4x3088, .f32⟩
  | .hbm, ⟨21, _⟩ => ⟨S32x4x512, .f32⟩
  | .hbm, ⟨22, _⟩ => ⟨S32x4x512, .f32⟩
  | .hbm, ⟨23, _⟩ => ⟨S32x4x1024, .f32⟩
  | .hbm, ⟨24, _⟩ => ⟨S32x4x1024, .f32⟩
  | .hbm, ⟨25, _⟩ => ⟨S32x4x16, .f32⟩
  | .hbm, ⟨26, _⟩ => ⟨S_, .f32⟩
  | .hbm, ⟨27, _⟩ => ⟨S32x4x512, .f32⟩
  | .hbm, ⟨28, _⟩ => ⟨S32x4x512, .f32⟩
  | .hbm, ⟨29, _⟩ => ⟨S1x1x16, .f32⟩
  | .hbm, ⟨30, _⟩ => ⟨S32x4x16, .f32⟩
  | .hbm, ⟨31, _⟩ => ⟨S32x4x16, .f32⟩
  | .hbm, ⟨32, _⟩ => ⟨S_, .f32⟩
  | .hbm, ⟨33, _⟩ => ⟨S32x4x16, .f32⟩
  | .hbm, ⟨34, _⟩ => ⟨S32x4x16, .f32⟩
  | .hbm, ⟨35, _⟩ => ⟨S32x4x16, .f32⟩
  | .hbm, ⟨36, _⟩ => ⟨S_, .f32⟩
  | .hbm, ⟨37, _⟩ => ⟨S32x4x16, .f32⟩
  | .hbm, ⟨38, _⟩ => ⟨S32x4x16, .f32⟩
  | .hbm, ⟨39, _⟩ => ⟨S32x4x8, .f32⟩
  | .hbm, ⟨40, _⟩ => ⟨S32x4x8, .f32⟩
  | .hbm, ⟨41, _⟩ => ⟨S32x4x8, .f32⟩
  | .hbm, ⟨42, _⟩ => ⟨S_, .f32⟩
  | .hbm, ⟨43, _⟩ => ⟨S32x4x8, .f32⟩
  | .hbm, ⟨44, _⟩ => ⟨S32x4x8, .f32⟩
  | .hbm, ⟨45, _⟩ => ⟨S32x4x8, .f32⟩
  | .hbm, ⟨46, _⟩ => ⟨S32x4x8, .f32⟩
  | .hbm, ⟨47, _⟩ => ⟨S32x4x8, .i1⟩
  | .hbm, ⟨48, _⟩ => ⟨S32x4x8, .f32⟩
  | .hbm, ⟨49, _⟩ => ⟨S32x4x8, .f32⟩
  | .hbm, ⟨50, _⟩ => ⟨S32x4x8, .f32⟩
  | .hbm, ⟨51, _⟩ => ⟨S32x4x8, .f32⟩
  | .hbm, ⟨52, _⟩ => ⟨S32x4x8, .f32⟩
  | .hbm, ⟨53, _⟩ => ⟨S32x4x8, .f32⟩
  | .hbm, ⟨54, _⟩ => ⟨S32x4x8, .f32⟩
  | .hbm, ⟨55, _⟩ => ⟨S32x4x8, .f32⟩
  | .hbm, ⟨56, _⟩ => ⟨S32x4x8, .f32⟩
  | .hbm, ⟨57, _⟩ => ⟨S128x4x2, .f32⟩
  | .hbm, ⟨58, _⟩ => ⟨S128x4x2, .f32⟩
  | .hbm, ⟨59, _⟩ => ⟨S128x4x4, .f32⟩
  | .hbm, ⟨60, _⟩ => ⟨S128x512, .f32⟩
  | .hbm, ⟨61, _⟩ => ⟨S128x512, .bf16⟩
  | .hbm, ⟨62, _⟩ => ⟨S128x512, .f32⟩
  | .hbm, ⟨63, _⟩ => ⟨S128x512, .bf16⟩
  | .hbm, ⟨64, _⟩ => ⟨S128x1024, .f32⟩
  | .hbm, ⟨65, _⟩ => ⟨S128x1024, .bf16⟩
  | .hbm, ⟨66, _⟩ => ⟨S128x1024, .f32⟩
  | .hbm, ⟨67, _⟩ => ⟨S128x16, .f32⟩
  | .hbm, ⟨68, _⟩ => ⟨S16x128, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Proof.KernelIdeal.Trip.lean ====
/- One trip of the loop over the query blocks: the run of its body, with the rows it leaves in the result, and the
   loop's invariant over it. -/
module

public import proofs.«01_k».proof.Proof.Gen.KernelIdeal
public import proofs.«01_k».proof.Proof.Gen.KernelIdeal.Skeleton
public import proofs.«01_k».proof.Proof.Gen.KernelIdeal.Loops

@[expose] public section

set_option maxRecDepth 65536
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

/-- The algebra of the run: the points-tos alone. -/
local notation "𝕄" => MT nD τ sig Unit (Elt F) ℕ (UR sig nD τ) ℕ

section
variable (c : Dev nD) (i : grid0.Coords)
  (arg2 : Memref sig .tc .smem S16 .f32) (harg2 : arg2.IsWhole)
  (arg3 : Memref sig .tc .vmem S2048x128 .bf16) (harg3 : arg3.IsWhole)
  (arg4 : Memref sig .tc .vmem S1x128x2048 .f32) (harg4 : arg4.IsWhole)
  (arg5 : Memref sig .tc .vmem S1x128x2048 .f32) (harg5 : arg5.IsWhole)
  (arg6 : Memref sig .tc .vmem S2048x128 .bf16) (harg6 : arg6.IsWhole)
  (arg7 : Memref sig .tc .vmem S128x2048 .bf16) (harg7 : arg7.IsWhole)
  (arg8 : Memref sig .tc .vmem S2048x128 .bf16) (harg8 : arg8.IsWhole)
  (arg9 : Memref sig .tc .vmem S256x256 .bf16) (harg9 : arg9.IsWhole)
  (arg10 : Memref sig .tc .vmem S2x1024x128 .bf16) (harg10 : arg10.IsWhole)
  (arg11 : Memref sig .tc .vmem S1x1024x128 .f32) (harg11 : arg11.IsWhole)
  (arg12 : Memref sig .tc .vmem S2x1024x1 .f32) (harg12 : arg12.IsWhole)
  (v2 : IVec S1x128 1) (v9 : F .f32) (v16 : F .f32)
  (X3 : BufTy.Contents (Elt F) arg3.view.ty) (X7 : BufTy.Contents (Elt F) arg7.view.ty)
  (X8 : BufTy.Contents (Elt F) arg8.view.ty) (X9 : BufTy.Contents (Elt F) arg9.view.ty)

/-- What a trip holds: the queries, the cast keys and values and the matrix of the tail sums, which it reads; the
result, the masked queries, the accumulator and the carries, which it writes. -/
abbrev Held (f6 : BufTy.Contents (Elt F) arg6.view.ty) (f10 : BufTy.Contents (Elt F) arg10.view.ty)
    (f11 : BufTy.Contents (Elt F) arg11.view.ty) (f12 : BufTy.Contents (Elt F) arg12.view.ty) :
    sProp 𝕄 :=
  iprop((arg3.view.loc (c : Thread nD τ) ↦[arg3.view.set]{fullShare} X3)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (arg6.view.loc (c : Thread nD τ) ↦[arg6.view.set]{fullShare} f6)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12))

/-- One trip at a symbolic `k`: the rows it writes into the result are the run's own find, and speak of nothing the
trip finds in the memrefs it writes; what it leaves in the scratch is not named. -/
@[irreducible] def trip (k : Fin k0_t1_loop.trips) :
    { v : Vec F S1024x128 .bf16 //
      ∀ (E : Set ℕ) (f6 : BufTy.Contents (Elt F) arg6.view.ty) (f10 : BufTy.Contents (Elt F) arg10.view.ty)
        (f11 : BufTy.Contents (Elt F) arg11.view.ty) (f12 : BufTy.Contents (Elt F) arg12.view.ty),
      Held c arg3 arg6 arg7 arg8 arg9 arg10 arg11 arg12 X3 X7 X8 X9 f6 f10 f11 f12
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 v2 v9 v16 k ⟨⟩)
          (fun _ => iprop(∃ f10 f11 f12, Held c arg3 arg6 arg7 arg8 arg9 arg10 arg11 arg12 X3 X7 X8 X9
            (arg6.view.writes (Elt F) f6 [⟨Rect.unit (s := S2048x128) (k0_off2 k) S1024x128.size (k0_off2_inb k), v⟩])
            f10 f11 f12)) } := by
  refine ⟨?_, fun E f6 f10 f11 f12 => ?run⟩
  case run =>
    unfold k0_t1_body
    iintro ⟨H3, H7, H8, H9, H6, H10, H11, H12⟩
    sl_exec
    sl_step
    iexists _, _, _
    sl_close

/-- The pieces of the trips before `k`, last first. -/
def rows : ℕ → List (View.Piece (Elt F) S2048x128 .bf16)
  | 0 => []
  | k + 1 =>
    if h : k < k0_t1_loop.trips then
      ⟨Rect.unit (s := S2048x128) (k0_off2 ⟨k, h⟩) S1024x128.size (k0_off2_inb ⟨k, h⟩),
        (trip (F := F) c i arg2 harg2 arg3 harg3 arg4 harg4 arg5 harg5 arg6 harg6 arg7 harg7 arg8 harg8 arg9 harg9 arg10 harg10 arg11 harg11 arg12 harg12 v2 v9 v16 X3 X7 X8 X9 ⟨k, h⟩).1⟩ :: rows k
    else rows k

theorem rows_succ (k : Fin k0_t1_loop.trips) :
    rows (F := F) c i arg2 harg2 arg3 harg3 arg4 harg4 arg5 harg5 arg6 harg6 arg7 harg7 arg8 harg8 arg9 harg9 arg10 harg10 arg11 harg11 arg12 harg12 v2 v9 v16 X3 X7 X8 X9 (k.val + 1)
      = ⟨Rect.unit (s := S2048x128) (k0_off2 k) S1024x128.size (k0_off2_inb k),
          (trip (F := F) c i arg2 harg2 arg3 harg3 arg4 harg4 arg5 harg5 arg6 harg6 arg7 harg7 arg8 harg8 arg9 harg9 arg10 harg10 arg11 harg11 arg12 harg12 v2 v9 v16 X3 X7 X8 X9 k).1⟩
        :: rows (F := F) c i arg2 harg2 arg3 harg3 arg4 harg4 arg5 harg5 arg6 harg6 arg7 harg7 arg8 harg8 arg9 harg9 arg10 harg10 arg11 harg11 arg12 harg12 v2 v9 v16 X3 X7 X8 X9 k.val := by
  rw [rows.eq_2]; exact dif_pos k.isLt

set_option warn.classDefReducibility false in
/-- The loop over the query blocks: before trip `k` the result holds the rows of the trips before it, over what it held
at the loop's entry; the scratch holds anything. -/
@[sl_loop] def loopInv (G6 : BufTy.Contents (Elt F) arg6.view.ty) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 v2 v9 v16 where
  inv k _ := iprop((arg3.view.loc (c : Thread nD τ) ↦[arg3.view.set]{fullShare} X3)
    ∗ (arg7.view.loc (c : Thread nD τ) ↦[arg7.view.set]{fullShare} X7)
    ∗ (arg8.view.loc (c : Thread nD τ) ↦[arg8.view.set]{fullShare} X8)
    ∗ (arg9.view.loc (c : Thread nD τ) ↦[arg9.view.set]{fullShare} X9)
    ∗ (∃ f, (arg6.view.loc (c : Thread nD τ) ↦[arg6.view.set]{fullShare} f)
        ∗ ⌜f = arg6.view.writes (Elt F) G6 (rows (F := F) c i arg2 harg2 arg3 harg3 arg4 harg4 arg5 harg5 arg6 harg6 arg7 harg7 arg8 harg8 arg9 harg9 arg10 harg10 arg11 harg11 arg12 harg12 v2 v9 v16 X3 X7 X8 X9 k)⌝)
    ∗ (∃ f, arg10.view.loc (c : Thread nD τ) ↦[arg10.view.set]{fullShare} f)
    ∗ (∃ f, arg11.view.loc (c : Thread nD τ) ↦[arg11.view.set]{fullShare} f)
    ∗ (∃ f, arg12.view.loc (c : Thread nD τ) ↦[arg12.view.set]{fullShare} f))
  step k acc := by
    iintro ⟨H3, H7, H8, H9, ⟨%f6, H6, %h6⟩, ⟨%f10, H10⟩, ⟨%f11, H11⟩, ⟨%f12, H12⟩⟩
    iapply (wp_wand_r Idealize.ShloMosaic.frame (wpE (defs₀ (F := F)) Variants.none (c : Thread nD τ) none) Set.univ)
    isplitl [H3 H7 H8 H9 H6 H10 H11 H12]
    · iapply ((trip (F := F) c i arg2 harg2 arg3 harg3 arg4 harg4 arg5 harg5 arg6 harg6 arg7 harg7 arg8 harg8 arg9 harg9 arg10 harg10 arg11 harg11 arg12 harg12 v2 v9 v16 X3 X7 X8 X9 k).2 Set.univ f6 f10 f11 f12)
      isplitl [H3]; · iexact H3
      isplitl [H7]; · iexact H7
      isplitl [H8]; · iexact H8
      isplitl [H9]; · iexact H9
      isplitl [H6]; · iexact H6
      isplitl [H10]; · iexact H10
      isplitl [H11]; · iexact H11
      iexact H12
    · iintro %_ ⟨%g10, %g11, %g12, H3, H7, H8, H9, H6, H10, H11, H12⟩
      isplitl [H3]; · iexact H3
      isplitl [H7]; · iexact H7
      isplitl [H8]; · iexact H8
      isplitl [H9]; · iexact H9
      isplitl [H6]
      · iexists _; isplitl [H6]; · iexact H6
        ipureintro
        rw [rows_succ, h6]; rfl
      isplitl [H10]; · iexists _; iexact H10
      isplitl [H11]; · iexists _; iexact H11
      iexists _; iexact H12

end
end Cert.KernelIdeal.Attn
-- ==== Proof.KernelIdeal.Body.lean ====
/- The body at a grid point: the run of the whole kernel function on whole memrefs, with the pieces it leaves in the
   result. -/
module

public import proofs.«01_k».proof.Proof.KernelIdeal.Trip
public import proofs.«01_k».proof.Proof.Gen.KernelIdeal.Launch
public import proofs.«01_k».proof.Proof.Gen.KernelIdeal.Points
public import proofs.«01_k».proof.Proof.Gen.KernelIdeal.Frame

@[expose] public section

set_option maxRecDepth 65536
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

/-- The algebra of the run: the points-tos alone. -/
local notation "𝕄" => MT nD τ sig Unit (Elt F) ℕ (UR sig nD τ) ℕ

/-- The body's triple: the inputs at their blocks, the result and the scratch at anything; the result ends with the
pieces the run finds, written over what it held. -/
def bodyRun (c : Dev nD) (i : grid0.Coords)
  (arg2 : Memref sig .tc .smem S16 .f32) (harg2 : arg2.IsWhole)
  (arg3 : Memref sig .tc .vmem S2048x128 .bf16) (harg3 : arg3.IsWhole)
  (arg4 : Memref sig .tc .vmem S1x128x2048 .f32) (harg4 : arg4.IsWhole)
  (arg5 : Memref sig .tc .vmem S1x128x2048 .f32) (harg5 : arg5.IsWhole)
  (arg6 : Memref sig .tc .vmem S2048x128 .bf16) (harg6 : arg6.IsWhole)
  (arg7 : Memref sig .tc .vmem S128x2048 .bf16) (harg7 : arg7.IsWhole)
  (arg8 : Memref sig .tc .vmem S2048x128 .bf16) (harg8 : arg8.IsWhole)
  (arg9 : Memref sig .tc .vmem S256x256 .bf16) (harg9 : arg9.IsWhole)
  (arg10 : Memref sig .tc .vmem S2x1024x128 .bf16) (harg10 : arg10.IsWhole)
  (arg11 : Memref sig .tc .vmem S1x1024x128 .f32) (harg11 : arg11.IsWhole)
  (arg12 : Memref sig .tc .vmem S2x1024x1 .f32) (harg12 : arg12.IsWhole)
    (x0 : Vec F S16 .f32) (x1 : Vec F S2048x128 .bf16) (x2 : Vec F S1x128x2048 .f32) (x3 : Vec F S1x128x2048 .f32) :
    { L : List (View.Piece (Elt F) S2048x128 .bf16) //
      ∀ K : PUnit → sProp 𝕄,
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1
              ∗ owns (c : Thread nD τ) arg4 fullShare x2 ∗ owns (c : Thread nD τ) arg5 fullShare x3
              ∗ (∃ f, arg6.view.loc (c : Thread nD τ) ↦[arg6.view.set]{fullShare} arg6.view.writes (Elt F) f L)
              ∗ (∃ f, arg7.view.loc (c : Thread nD τ) ↦[arg7.view.set]{fullShare} f)
              ∗ (∃ f, arg8.view.loc (c : Thread nD τ) ↦[arg8.view.set]{fullShare} f)
              ∗ (∃ f, arg9.view.loc (c : Thread nD τ) ↦[arg9.view.set]{fullShare} f)
              ∗ (∃ f, arg10.view.loc (c : Thread nD τ) ↦[arg10.view.set]{fullShare} f)
              ∗ (∃ f, arg11.view.loc (c : Thread nD τ) ↦[arg11.view.set]{fullShare} f)
              ∗ (∃ f, arg12.view.loc (c : Thread nD τ) ↦[arg12.view.set]{fullShare} f)) -∗ K ⟨⟩))
          ⊢ wp frame (wpE (defs₀ (F := F)) Variants.none c none) Set.univ (cc0_sb_attn_prompt i arg2 harg2 arg3 harg3 arg4 harg4 arg5 harg5 arg6 harg6 arg7 harg7 arg8 harg8 arg9 harg9 arg10 harg10 arg11 harg11 arg12 harg12) K } := by
  refine ⟨?_, fun K => ?run⟩
  case run =>
    simp only [cc0_sb_attn_prompt_eq_skeleton]; unfold cc0_sb_attn_prompt_skel
    simp only [k0_part27_eq_skeleton, k0_part28_eq_skeleton, k0_part29_eq_skeleton, k0_part30_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3
    obtain rfl := harg4.eq_unread hf4; obtain rfl := harg5.eq_unread hf5
    sl_exec
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Attn
-- ==== Proof.KernelIdeal.Run.lean ====
/- The proof data of the pipeline, the body obligation, the run of the program and its frame. -/
module

public import proofs.«01_k».proof.Proof.KernelIdeal.Body
public import Idealize.ShloMosaic.Lib.Pipeline.Frame
public import Idealize.ShloMosaic.Lib.Pipeline.FrameBody
public import Idealize.ShloMosaic.Lib.Claim

@[expose] public section

set_option maxRecDepth 65536
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

/-- The algebra of the run: the points-tos alone. -/
local notation "𝕄" => MT nD τ sig Unit (Elt F) ℕ (UR sig nD τ) ℕ

variable (m : (ℓ : Loc nD τ sig) → Buf (Elt F) ℓ) (ρ : Dev nD → PrngReg)

/-- One staging buffer of the result, through which its contents are stated. -/
abbrev VO : View sig .tc .vmem S2048x128 .bf16 := (Memref.whole cc0_stg4_0 : Memref sig .tc .vmem S2048x128 .bf16).view
abbrev ms_0 (t : Fin cfg0.N) : Memref sig .tc .smem S16 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S2048x128 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x128x2048 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x128x2048 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2048x128 .bf16 := win0_4.stage (cfg0.slots t 4)
abbrev hs_4 (t : Fin cfg0.N) : (ms_4 t).IsWhole := hstage0_4 ((cfg0.slots t 4).cast nbuf0_4)
abbrev sc_0 : Memref sig .tc .vmem S128x2048 .bf16 := Memref.whole cc0_scratch0
abbrev sc_1 : Memref sig .tc .vmem S2048x128 .bf16 := Memref.whole cc0_scratch1
abbrev sc_2 : Memref sig .tc .vmem S256x256 .bf16 := Memref.whole cc0_scratch2
abbrev sc_3 : Memref sig .tc .vmem S2x1024x128 .bf16 := Memref.whole cc0_scratch3
abbrev sc_4 : Memref sig .tc .vmem S1x1024x128 .f32 := Memref.whole cc0_scratch4
abbrev sc_5 : Memref sig .tc .vmem S2x1024x1 .f32 := Memref.whole cc0_scratch5

/-- The launch's invariant with the scratch as memrefs held at some contents. -/
theorem PhiA_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d) ∗ (∃ d, owns (c : Thread nD τ) sc_4 fullShare d) ∗ (∃ d, owns (c : Thread nD τ) sc_5 fullShare d)) ∗ (∃ r, prngReg c r)) := by
  unfold Pipeline.ΦA; rw [scopedRest0_eq]; simp only [sc_0, sc_1, sc_2, sc_3, sc_4, sc_5, owns_whole]; try rfl

/-- The pieces of the body's run tile the result's block. -/
theorem cover (c : Dev nD) (i : grid0.Coords)
  (arg2 : Memref sig .tc .smem S16 .f32) (harg2 : arg2.IsWhole)
  (arg3 : Memref sig .tc .vmem S2048x128 .bf16) (harg3 : arg3.IsWhole)
  (arg4 : Memref sig .tc .vmem S1x128x2048 .f32) (harg4 : arg4.IsWhole)
  (arg5 : Memref sig .tc .vmem S1x128x2048 .f32) (harg5 : arg5.IsWhole)
  (arg6 : Memref sig .tc .vmem S2048x128 .bf16) (harg6 : arg6.IsWhole)
  (arg7 : Memref sig .tc .vmem S128x2048 .bf16) (harg7 : arg7.IsWhole)
  (arg8 : Memref sig .tc .vmem S2048x128 .bf16) (harg8 : arg8.IsWhole)
  (arg9 : Memref sig .tc .vmem S256x256 .bf16) (harg9 : arg9.IsWhole)
  (arg10 : Memref sig .tc .vmem S2x1024x128 .bf16) (harg10 : arg10.IsWhole)
  (arg11 : Memref sig .tc .vmem S1x1024x128 .f32) (harg11 : arg11.IsWhole)
  (arg12 : Memref sig .tc .vmem S2x1024x1 .f32) (harg12 : arg12.IsWhole)
    (x0 : Vec F S16 .f32) (x1 : Vec F S2048x128 .bf16) (x2 : Vec F S1x128x2048 .f32) (x3 : Vec F S1x128x2048 .f32)
    (y : S2048x128.Idx) :
    ∃ pc ∈ (bodyRun c i arg2 harg2 arg3 harg3 arg4 harg4 arg5 harg5 arg6 harg6 arg7 harg7 arg8 harg8 arg9 harg9 arg10 harg10 arg11 harg11 arg12 harg12 x0 x1 x2 x3).1, y ∈ pc.1.set :=
  View.cover_of_tiledL (bodyRun c i arg2 harg2 arg3 harg3 arg4 harg4 arg5 harg5 arg6 harg6 arg7 harg7 arg8 harg8 arg9 harg9 arg10 harg10 arg11 harg11 arg12 harg12 x0 x1 x2 x3).1 S1024x128.size (by sl_kernel_rfl) y

/-- What the body leaves in the result's staging buffer at point `t`. -/
def outAt (c : Dev nD) (t : Fin cfg0.N) : Vec F S2048x128 .bf16 :=
  VO.read (Elt F) (VO.writes (Elt F) VO.junk
    (bodyRun c (grid0.coords t) (ms_0 t) (hs_0 t) (ms_1 t) (hs_1 t) (ms_2 t) (hs_2 t) (ms_3 t) (hs_3 t) (ms_4 t) (hs_4 t) sc_0 (Memref.isWhole_whole _) sc_1 (Memref.isWhole_whole _) sc_2 (Memref.isWhole_whole _) sc_3 (Memref.isWhole_whole _) sc_4 (Memref.isWhole_whole _) sc_5 (Memref.isWhole_whole _) (iblk m c 0 t) (iblk m c 1 t) (iblk m c 2 t) (iblk m c 3 t)).1)

/-- The proof data: the arrays as the region finds them, each input's buffer at its block after the body, the result's
at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, PhiA_eq]
  unfold outAt
  iintro ⟨⟨⟨HS0, HS1, HS2, HS3, HS4, HS5⟩, Hg⟩, Ho, ⟨%d0, H0⟩, ⟨%d1, H1⟩, ⟨%d2, H2⟩, ⟨%d3, H3⟩, ⟨%d4, H4⟩⟩
  iapply ((bodyRun c (grid0.coords t) _ _ _ _ _ _ _ _ _ _ _ _ _ _ _ _ _ _ _ _ _ _ (iblk m c 0 t) (iblk m c 1 t) (iblk m c 2 t) (iblk m c 3 t)).2 _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, ⟨%e4, H4⟩, ⟨%g0, HS0⟩, ⟨%g1, HS1⟩, ⟨%g2, HS2⟩, ⟨%g3, HS3⟩, ⟨%g4, HS4⟩, ⟨%g5, HS5⟩⟩
  isplitl [HS0 HS1 HS2 HS3 HS4 HS5 Hg]
  · isplitl [HS0 HS1 HS2 HS3 HS4 HS5]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      iexists _; unfold owns; iexists _; isplitr
      swap; · iexact HS5
      ipureintro; rfl
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact Idealize.ShloMosaic.triple_restated (sound_body m c t) rfl .rfl fun _ => .rfl

set_option backward.isDefEq.respectTransparency.types false in
/-- The launch: every array of the pipeline ends at what the proof data says, every other buffer as the region found it,
every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_main m ρ))
    ((θ_run defs _ _).mono (fun _ h => h.2) (run_main_quiescent m ρ))

end Cert.KernelIdeal.Attn
-- ==== Proof.AttnV.Ops.lean ====
/- The arithmetic of one block of keys: the softplus terms, their running sums, the exponents and the weights, at an index. -/
module

public import proofs.«01_k».proof.Proof.Gen.KernelIdeal
public import proofs.«01_k».proof.Proof.Gen.KernelIdeal.Skeleton
public import Idealize.ShloMosaic.Lib.Pipeline.ValueKit

@[expose] public section

set_option maxRecDepth 16384
set_option maxHeartbeats 400000

noncomputable section

namespace Cert.KernelIdeal.AttnV

open Cert.KernelIdeal Cert.KernelIdeal.Gen
open Idealize.ShloMosaic Idealize.ShloMosaic.TcCoe Idealize.SL.Sem

abbrev κL : Ideal .f32 := Named.named (F := Ideal) (φ := .f32) κ "log2e" 0x3FB8AA3B#32

theorem κL_eq : κL = (((Real.log 2)⁻¹ : ℝ) : EReal) :=
  IdealRules.named_const.ideal_named_scalar _ _ _ _ rfl

/-- The softplus of `x log 2`, over `log 2`. -/
def sp (x : EReal) : EReal := max x 0 + Ideal.log (((1 : ℝ) : EReal) + Ideal.exp2 (0 - max x (-x))) * κL

/-- The sum of the keys' terms from `a` to before `b`. -/
def TS (Z : ℕ → EReal) (a b : ℕ) : EReal := ∑ t ∈ Finset.Ico a b, -sp (Z t)

/-- The weight of key `t` for the query at place `s`. -/
def wt (Z : ℕ → EReal) (s t : ℕ) : EReal := if t < s then Ideal.exp2 (Z t + TS Z t s) else 0

theorem TS_add (Z : ℕ → EReal) (a b c : ℕ) (h : a ≤ b) (h' : b ≤ c) : TS Z a b + TS Z b c = TS Z a c :=
  Finset.sum_Ico_consecutive _ h h'

theorem TS_self (Z : ℕ → EReal) (a : ℕ) : TS Z a a = 0 := by
  unfold TS
  rw [Finset.Ico_self, Finset.sum_empty]

theorem c_zero : Ideal.ofBits FTy.f32 0#32 = 0 := by
  simp [Ideal.ofBits, Ideal.ieee]
theorem c_zero16 : Ideal.ofBits FTy.bf16 0#16 = 0 := by
  simp [Ideal.ofBits, Ideal.ieee]
theorem c_one : Ideal.ofBits FTy.f32 0x3F800000#32 = ((1 : ℝ) : EReal) := by
  simp [Ideal.ofBits, Ideal.ieee, -EReal.coe_mul]; norm_num
theorem c_neg : Ideal.ofBits FTy.f32 0xBF800000#32 = -1 := by
  simp [Ideal.ofBits, Ideal.ieee, -EReal.coe_mul]; norm_num
theorem c_bot : Ideal.ofBits FTy.f32 0xFF800000#32 = ⊥ := by
  simp [Ideal.ofBits, Ideal.ieee]

theorem exp2_real (r : ℝ) : Ideal.exp2 (r : EReal) = (((2 : ℝ) ^ r : ℝ) : EReal) := rfl
theorem exp2_bot : Ideal.exp2 ⊥ = 0 := rfl
theorem log_real (r : ℝ) (h : 0 < r) : Ideal.log (r : EReal) = ((Real.log r : ℝ) : EReal) := by
  show (if r ≤ 0 then (⊥ : EReal) else ((Real.log r : ℝ) : EReal)) = _
  rw [if_neg (not_le.mpr h)]

theorem coe_max (a b : ℝ) : max (a : EReal) (b : EReal) = ((max a b : ℝ) : EReal) :=
  (EReal.coe_strictMono.monotone.map_max).symm

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem tail_Ico (g : ℕ → EReal) (b c r n : ℕ) (hr : r ≤ n) :
    ∑ k ∈ Finset.range n, (if c ≤ k ∧ k < r then g (b + k) else 0) = ∑ t ∈ Finset.Ico (b + c) (b + r), g t := by
  have e : ∑ k ∈ Finset.Ico c r, g (b + k) = ∑ t ∈ Finset.Ico (b + c) (b + r), g t := by
    rw [Nat.add_comm b c, Nat.add_comm b r]
    exact Finset.sum_Ico_add g c r b
  rw [← e, ← Finset.sum_filter]
  refine Finset.sum_congr (Finset.ext fun k => ?_) fun _ _ => rfl
  simp only [Finset.mem_filter, Finset.mem_range, Finset.mem_Ico]
  omega

/-- The sum of a column of the tails, all keys in the sum. -/
theorem tail_sum (Z : ℕ → EReal) (b : ℕ) (c : Fin 256) :
    ∑ k : Fin 256, sp (Z (b + k.val)) * (if c.val ≤ k.val then -1 else 0) = TS Z (b + c.val) (b + 256) := by
  unfold TS
  rw [← tail_Ico (fun t => -sp (Z t)) b c.val 256 256 le_rfl, ← Fin.sum_univ_eq_sum_range (fun k => if c.val ≤ k ∧ k < 256 then -sp (Z (b + k)) else 0) 256]
  refine Finset.sum_congr rfl fun k _ => ?_
  by_cases hk : c.val ≤ k.val
  · rw [if_pos hk, if_pos ⟨hk, k.isLt⟩, mul_neg_one]
  · rw [if_neg hk, if_neg (fun h' => hk (And.left h')), mul_zero]

/-- The same with the keys before row `r` alone in the sum. -/
theorem tail_sum_masked (Z : ℕ → EReal) (b : ℕ) (r c : Fin 256) :
    ∑ k : Fin 256, (if k.val < r.val then sp (Z (b + k.val)) else 0) * (if c.val ≤ k.val then -1 else 0) = TS Z (b + c.val) (b + r.val) := by
  unfold TS
  rw [← tail_Ico (fun t => -sp (Z t)) b c.val r.val 256 (by omega), ← Fin.sum_univ_eq_sum_range (fun k => if c.val ≤ k ∧ k < r.val then -sp (Z (b + k)) else 0) 256]
  refine Finset.sum_congr rfl fun k _ => ?_
  by_cases hk : c.val ≤ k.val
  · by_cases hr : k.val < r.val
    · rw [if_pos hk, if_pos hr, if_pos ⟨hk, hr⟩, mul_neg_one]
    · rw [if_neg hr, if_neg (fun h' => hr (And.right h')), zero_mul]
  · rw [if_neg hk, if_neg (fun h' => hk (And.left h')), mul_zero]

/-- The matrix of the tail sums at an index. -/
theorem up_at (k c : Fin 256) : k0_pay2 (F := Ideal) (ix2 k c) = if c.val ≤ k.val then -1 else 0 := by
  pointwise [k0_pay2]
  have h : ∀ a b : Fin 256, IntOp.cmpi CmpIPredicate.sge (BitVec.ofNat 32 a.val) (BitVec.ofNat 32 b.val) = if b.val ≤ a.val then 1#1 else 0#1 := by
    decide +kernel
  rw [h]
  by_cases hk : c.val ≤ k.val
  · rw [if_pos hk, if_pos hk]; exact c_neg
  · rw [if_neg hk, if_neg hk]; rfl

/-- The mask of a diagonal block at an index. -/
theorem older_at (r c : Fin 256) : k0_pay3 (ix2 r c) = if c.val < r.val then 1#1 else 0#1 := by
  pointwise [k0_pay3]
  have h : ∀ a b : Fin 256, IntOp.cmpi CmpIPredicate.slt (BitVec.ofNat 32 b.val) (BitVec.ofNat 32 a.val) = if b.val < a.val then 1#1 else 0#1 := by
    decide +kernel
  exact h r c

/-! ## Blocks of 256 rows -/

def SP256 (z : FVec Ideal S256x256 .f32) : FVec Ideal S256x256 .f32 :=
  addf (maximumf z (broadcast S256x256 (Scalar.ofBits .f32 0x00000000#32)))
    (mulf (log (addf (broadcast S256x256 (Scalar.ofBits .f32 0x3F800000#32))
      (exp2 (subf (broadcast S256x256 (Scalar.ofBits .f32 0x00000000#32)) (absf z))))) (broadcast S256x256 κL))

def TL256 (z : FVec Ideal S256x256 .f32) (U : FVec Ideal S256x256 .bf16) : FVec Ideal S256x256 .f32 :=
  matmul dot_S256x256_S256x256_S256x256_1_0_0_1_n_n none (truncf .bf16 (SP256 z) bitsLt_bf16_f32) U (constant S256x256 .f32 0x00000000#32)

def EX256 (z : FVec Ideal S256x256 .f32) (U : FVec Ideal S256x256 .bf16) : FVec Ideal S256x256 .f32 := addf z (TL256 z U)

def CO256 (t : FVec Ideal S256x256 .f32) : FVec Ideal S256x1 .f32 := extractStridedSlice S256x1 ![0, 0] t slices_S256x256_o0_0_S256x1

def WT256 (e : FVec Ideal S256x256 .f32) (d : FVec Ideal S256x1 .f32) : FVec Ideal S256x256 .f32 :=
  exp2 (addf e (broadcastTo S256x256 d broadcasts_S256x1_S256x256))

theorem SP256_at (z : FVec Ideal S256x256 .f32) (r : Fin 256) (c : Fin 256) (x : EReal) (h : z (ix2 r c) = x) : SP256 z (ix2 r c) = sp x := by
  unfold sp
  rw [← h, ← c_zero, ← c_one]
  rfl

theorem TL256_at (z : FVec Ideal S256x256 .f32) (U : FVec Ideal S256x256 .bf16) (Z : ℕ → EReal) (b : ℕ) (r : Fin 256) (c : Fin 256)
    (hU : ∀ k c : Fin 256, U (ix2 k c) = if c.val ≤ k.val then -1 else 0)
    (hz : ∀ c : Fin 256, z (ix2 r c) = Z (b + c.val)) :
    TL256 z U (ix2 r c) = TS Z (b + c.val) (b + 256) := by
  refine Eq.trans ?_ (tail_sum Z b c)
  have h : ∀ k : Fin 256, SP256 z (ix2 r k) = sp (Z (b + k.val)) := fun k => SP256_at z r k _ (hz k)
  unfold TL256
  generalize SP256 z = y at h ⊢
  pointwise []
  simp only [h, hU]

theorem EX256_at (z : FVec Ideal S256x256 .f32) (U : FVec Ideal S256x256 .bf16) (Z : ℕ → EReal) (b : ℕ) (r : Fin 256) (c : Fin 256)
    (hU : ∀ k c : Fin 256, U (ix2 k c) = if c.val ≤ k.val then -1 else 0)
    (hz : ∀ c : Fin 256, z (ix2 r c) = Z (b + c.val)) :
    EX256 z U (ix2 r c) = Z (b + c.val) + TS Z (b + c.val) (b + 256) := by
  show z (ix2 r c) + TL256 z U (ix2 r c) = _
  rw [hz, TL256_at z U Z b r c hU hz]

theorem CO256_at (t : FVec Ideal S256x256 .f32) (r : Fin 256) : CO256 t (ix2 r 0) = t (ix2 r 0) := by
  pointwise [CO256]

theorem WT256_at (e : FVec Ideal S256x256 .f32) (d : FVec Ideal S256x1 .f32) (r : Fin 256) (c : Fin 256) :
    WT256 e d (ix2 r c) = Ideal.exp2 (e (ix2 r c) + d (ix2 r 0)) := by
  pointwise [WT256]
  rfl

/-- The weights of a block wholly before the query, from the sum of the terms after the block. -/
theorem W256_at (z : FVec Ideal S256x256 .f32) (U : FVec Ideal S256x256 .bf16) (d : FVec Ideal S256x1 .f32) (Z : ℕ → EReal) (b s : ℕ) (r : Fin 256)
    (c : Fin 256) (hU : ∀ k c : Fin 256, U (ix2 k c) = if c.val ≤ k.val then -1 else 0)
    (hz : ∀ c : Fin 256, z (ix2 r c) = Z (b + c.val)) (hs : b + 256 ≤ s)
    (hd : d (ix2 r 0) = TS Z (b + 256) s) :
    WT256 (EX256 z U) d (ix2 r c) = wt Z s (b + c.val) := by
  rw [WT256_at, EX256_at z U Z b r c hU hz, hd, add_assoc, TS_add Z _ _ _ (by omega) hs]
  unfold wt
  rw [if_pos (by omega)]

/-- The sum of the terms after the block before. -/
theorem C256_at (z : FVec Ideal S256x256 .f32) (U : FVec Ideal S256x256 .bf16) (d : FVec Ideal S256x1 .f32) (Z : ℕ → EReal) (b s : ℕ) (r : Fin 256)
    (hU : ∀ k c : Fin 256, U (ix2 k c) = if c.val ≤ k.val then -1 else 0)
    (hz : ∀ c : Fin 256, z (ix2 r c) = Z (b + c.val))
    (hs : b + 256 ≤ s)
    (hd : d (ix2 r 0) = TS Z (b + 256) s) :
    addf d (CO256 (TL256 z U)) (ix2 r 0) = TS Z b s := by
  show d (ix2 r 0) + CO256 (TL256 z U) (ix2 r 0) = _
  rw [CO256_at, TL256_at z U Z b r 0 hU hz, hd, add_comm]
  exact TS_add Z b (b + 256) s (by omega) hs

/-! ## Blocks of 1024 rows -/

def SP1024 (z : FVec Ideal S1024x256 .f32) : FVec Ideal S1024x256 .f32 :=
  addf (maximumf z (broadcast S1024x256 (Scalar.ofBits .f32 0x00000000#32)))
    (mulf (log (addf (broadcast S1024x256 (Scalar.ofBits .f32 0x3F800000#32))
      (exp2 (subf (broadcast S1024x256 (Scalar.ofBits .f32 0x00000000#32)) (absf z))))) (broadcast S1024x256 κL))

def TL1024 (z : FVec Ideal S1024x256 .f32) (U : FVec Ideal S256x256 .bf16) : FVec Ideal S1024x256 .f32 :=
  matmul dot_S1024x256_S256x256_S1024x256_1_0_0_1_n_n none (truncf .bf16 (SP1024 z) bitsLt_bf16_f32) U (constant S1024x256 .f32 0x00000000#32)

def EX1024 (z : FVec Ideal S1024x256 .f32) (U : FVec Ideal S256x256 .bf16) : FVec Ideal S1024x256 .f32 := addf z (TL1024 z U)

def CO1024 (t : FVec Ideal S1024x256 .f32) : FVec Ideal S1024x1 .f32 := extractStridedSlice S1024x1 ![0, 0] t slices_S1024x256_o0_0_S1024x1

def WT1024 (e : FVec Ideal S1024x256 .f32) (d : FVec Ideal S1024x1 .f32) : FVec Ideal S1024x256 .f32 :=
  exp2 (addf e (broadcastTo S1024x256 d broadcasts_S1024x1_S1024x256))

theorem SP1024_at (z : FVec Ideal S1024x256 .f32) (r : Fin 1024) (c : Fin 256) (x : EReal) (h : z (ix2 r c) = x) : SP1024 z (ix2 r c) = sp x := by
  unfold sp
  rw [← h, ← c_zero, ← c_one]
  rfl

theorem TL1024_at (z : FVec Ideal S1024x256 .f32) (U : FVec Ideal S256x256 .bf16) (Z : ℕ → EReal) (b : ℕ) (r : Fin 1024) (c : Fin 256)
    (hU : ∀ k c : Fin 256, U (ix2 k c) = if c.val ≤ k.val then -1 else 0)
    (hz : ∀ c : Fin 256, z (ix2 r c) = Z (b + c.val)) :
    TL1024 z U (ix2 r c) = TS Z (b + c.val) (b + 256) := by
  refine Eq.trans ?_ (tail_sum Z b c)
  have h : ∀ k : Fin 256, SP1024 z (ix2 r k) = sp (Z (b + k.val)) := fun k => SP1024_at z r k _ (hz k)
  unfold TL1024
  generalize SP1024 z = y at h ⊢
  pointwise []
  simp only [h, hU]

theorem EX1024_at (z : FVec Ideal S1024x256 .f32) (U : FVec Ideal S256x256 .bf16) (Z : ℕ → EReal) (b : ℕ) (r : Fin 1024) (c : Fin 256)
    (hU : ∀ k c : Fin 256, U (ix2 k c) = if c.val ≤ k.val then -1 else 0)
    (hz : ∀ c : Fin 256, z (ix2 r c) = Z (b + c.val)) :
    EX1024 z U (ix2 r c) = Z (b + c.val) + TS Z (b + c.val) (b + 256) := by
  show z (ix2 r c) + TL1024 z U (ix2 r c) = _
  rw [hz, TL1024_at z U Z b r c hU hz]

theorem CO1024_at (t : FVec Ideal S1024x256 .f32) (r : Fin 1024) : CO1024 t (ix2 r 0) = t (ix2 r 0) := by
  pointwise [CO1024]

theorem WT1024_at (e : FVec Ideal S1024x256 .f32) (d : FVec Ideal S1024x1 .f32) (r : Fin 1024) (c : Fin 256) :
    WT1024 e d (ix2 r c) = Ideal.exp2 (e (ix2 r c) + d (ix2 r 0)) := by
  pointwise [WT1024]
  rfl

/-- The weights of a block wholly before the query, from the sum of the terms after the block. -/
theorem W1024_at (z : FVec Ideal S1024x256 .f32) (U : FVec Ideal S256x256 .bf16) (d : FVec Ideal S1024x1 .f32) (Z : ℕ → EReal) (b s : ℕ) (r : Fin 1024)
    (c : Fin 256) (hU : ∀ k c : Fin 256, U (ix2 k c) = if c.val ≤ k.val then -1 else 0)
    (hz : ∀ c : Fin 256, z (ix2 r c) = Z (b + c.val)) (hs : b + 256 ≤ s)
    (hd : d (ix2 r 0) = TS Z (b + 256) s) :
    WT1024 (EX1024 z U) d (ix2 r c) = wt Z s (b + c.val) := by
  rw [WT1024_at, EX1024_at z U Z b r c hU hz, hd, add_assoc, TS_add Z _ _ _ (by omega) hs]
  unfold wt
  rw [if_pos (by omega)]

/-- The sum of the terms after the block before. -/
theorem C1024_at (z : FVec Ideal S1024x256 .f32) (U : FVec Ideal S256x256 .bf16) (d : FVec Ideal S1024x1 .f32) (Z : ℕ → EReal) (b s : ℕ) (r : Fin 1024)
    (hU : ∀ k c : Fin 256, U (ix2 k c) = if c.val ≤ k.val then -1 else 0)
    (hz : ∀ c : Fin 256, z (ix2 r c) = Z (b + c.val))
    (hs : b + 256 ≤ s)
    (hd : d (ix2 r 0) = TS Z (b + 256) s) :
    addf d (CO1024 (TL1024 z U)) (ix2 r 0) = TS Z b s := by
  show d (ix2 r 0) + CO1024 (TL1024 z U) (ix2 r 0) = _
  rw [CO1024_at, TL1024_at z U Z b r 0 hU hz, hd, add_comm]
  exact TS_add Z b (b + 256) s (by omega) hs

/-! ## The masked block -/

def SPm (z : FVec Ideal S256x256 .f32) : FVec Ideal S256x256 .f32 :=
  select k0_pay3 (SP256 z) (broadcast S256x256 (Scalar.ofBits .f32 0x00000000#32))

def TLm (z : FVec Ideal S256x256 .f32) (U : FVec Ideal S256x256 .bf16) : FVec Ideal S256x256 .f32 :=
  matmul dot_S256x256_S256x256_S256x256_1_0_0_1_n_n none (truncf .bf16 (SPm z) bitsLt_bf16_f32) U (constant S256x256 .f32 0x00000000#32)

def EXm (z : FVec Ideal S256x256 .f32) (U : FVec Ideal S256x256 .bf16) : FVec Ideal S256x256 .f32 :=
  select k0_pay3 (addf z (TLm z U)) (broadcast S256x256 (Scalar.ofBits .f32 0xFF800000#32))

def C0 : FVec Ideal S256x1 .f32 := broadcast S256x1 (Scalar.ofBits .f32 0x00000000#32)

theorem C0_at (r : Fin 256) : C0 (ix2 r 0) = 0 := c_zero

theorem SPm_at (z : FVec Ideal S256x256 .f32) (r c : Fin 256) (x : EReal) (h : z (ix2 r c) = x) :
    SPm z (ix2 r c) = if c.val < r.val then sp x else 0 := by
  show Scalar.select (k0_pay3 (ix2 r c)) (SP256 z (ix2 r c)) (Ideal.ofBits FTy.f32 0#32) = _
  rw [older_at, SP256_at z r c x h, c_zero]
  by_cases hc : c.val < r.val
  · rw [if_pos hc, if_pos hc]; rfl
  · rw [if_neg hc, if_neg hc]; rfl

theorem TLm_at (z : FVec Ideal S256x256 .f32) (U : FVec Ideal S256x256 .bf16) (Z : ℕ → EReal) (b : ℕ) (r c : Fin 256)
    (hU : ∀ k c : Fin 256, U (ix2 k c) = if c.val ≤ k.val then -1 else 0)
    (hz : ∀ c : Fin 256, z (ix2 r c) = Z (b + c.val)) :
    TLm z U (ix2 r c) = TS Z (b + c.val) (b + r.val) := by
  refine Eq.trans ?_ (tail_sum_masked Z b r c)
  have h : ∀ k : Fin 256, SPm z (ix2 r k) = if k.val < r.val then sp (Z (b + k.val)) else 0 := fun k => SPm_at z r k _ (hz k)
  unfold TLm
  generalize SPm z = y at h ⊢
  pointwise []
  simp only [h, hU]

/-- The weights of the diagonal block. -/
theorem Wm_at (z : FVec Ideal S256x256 .f32) (U : FVec Ideal S256x256 .bf16) (Z : ℕ → EReal) (b : ℕ) (r c : Fin 256)
    (hU : ∀ k c : Fin 256, U (ix2 k c) = if c.val ≤ k.val then -1 else 0)
    (hz : ∀ c : Fin 256, z (ix2 r c) = Z (b + c.val)) :
    WT256 (EXm z U) C0 (ix2 r c) = wt Z (b + r.val) (b + c.val) := by
  rw [WT256_at, C0_at, add_zero]
  show Ideal.exp2 (Scalar.select (k0_pay3 (ix2 r c)) (z (ix2 r c) + TLm z U (ix2 r c)) (Ideal.ofBits FTy.f32 0xFF800000#32)) = _
  rw [older_at, hz, TLm_at z U Z b r c hU hz, c_bot]
  unfold wt
  by_cases hc : c.val < r.val
  · rw [if_pos hc, if_pos (by omega)]
    rfl
  · rw [if_neg hc, if_neg (by omega)]
    exact exp2_bot

/-- The sum of the terms after the block before the diagonal one. -/
theorem Cm_at (z : FVec Ideal S256x256 .f32) (U : FVec Ideal S256x256 .bf16) (Z : ℕ → EReal) (b : ℕ) (r : Fin 256)
    (hU : ∀ k c : Fin 256, U (ix2 k c) = if c.val ≤ k.val then -1 else 0)
    (hz : ∀ c : Fin 256, z (ix2 r c) = Z (b + c.val)) :
    addf C0 (CO256 (TLm z U)) (ix2 r 0) = TS Z b (b + r.val) := by
  show C0 (ix2 r 0) + CO256 (TLm z U) (ix2 r 0) = _
  rw [C0_at, CO256_at, zero_add, TLm_at z U Z b r 0 hU hz]
  rfl

end Cert.KernelIdeal.AttnV
-- ==== Proof.AttnV.Group.lean ====
/- The weights of a group of rows against all the blocks of keys up to its own, and their weighted sum of the values. -/
module

public import proofs.«01_k».proof.Proof.AttnV.Ops

@[expose] public section

set_option maxRecDepth 16384
set_option maxHeartbeats 400000

noncomputable section

namespace Cert.KernelIdeal.AttnV

open Cert.KernelIdeal Cert.KernelIdeal.Gen
open Idealize.ShloMosaic Idealize.ShloMosaic.TcCoe Idealize.SL.Sem

/-! ## Rows 0 to 255 -/

def W0_0 (z : FVec Ideal S256x256 .f32) (U : FVec Ideal S256x256 .bf16) : FVec Ideal S256x256 .f32 := WT256 (EXm z U) C0
def D0_0 (z : FVec Ideal S256x256 .f32) (U : FVec Ideal S256x256 .bf16) : FVec Ideal S256x1 .f32 := addf C0 (CO256 (TLm z U))
def PV0 (z : FVec Ideal S256x256 .f32) (U : FVec Ideal S256x256 .bf16) (V : FVec Ideal S256x128 .bf16) : FVec Ideal S256x128 .f32 :=
  matmul dot_S256x256_S256x128_S256x128_1_0_0_1_n_n none (truncf .bf16 (W0_0 z U) bitsLt_bf16_f32) V (constant S256x128 .f32 0x00000000#32)

theorem D0_0_at (z : FVec Ideal S256x256 .f32) (U : FVec Ideal S256x256 .bf16) (Z : ℕ → EReal) (b : ℕ) (r : Fin 256)
    (hU : ∀ k c : Fin 256, U (ix2 k c) = if c.val ≤ k.val then -1 else 0)
    (hz : ∀ c : Fin 256, z (ix2 r c) = Z (b + c.val)) : D0_0 z U (ix2 r 0) = TS Z b (b + 0 + r.val) :=
  Cm_at z U Z b r hU hz

theorem W0_0_at (z : FVec Ideal S256x256 .f32) (U : FVec Ideal S256x256 .bf16) (Z : ℕ → EReal) (b : ℕ) (r : Fin 256)
    (hU : ∀ k c : Fin 256, U (ix2 k c) = if c.val ≤ k.val then -1 else 0)
    (hz : ∀ c : Fin 256, z (ix2 r c) = Z (b + c.val)) (c : Fin 256) : W0_0 z U (ix2 r c) = wt Z (b + 0 + r.val) (b + 0 + c.val) :=
  Wm_at z U Z b r c hU hz

theorem mm0_at (w : FVec Ideal S256x256 .f32) (V : FVec Ideal S256x128 .bf16) (f g : ℕ → EReal) (r : Fin 256) (l : Fin 128)
    (hw : ∀ t : Fin 256, w (ix2 r t) = f t.val) (hV : ∀ t : Fin 256, V (ix2 t l) = g t.val) :
    matmul dot_S256x256_S256x128_S256x128_1_0_0_1_n_n none (truncf .bf16 w bitsLt_bf16_f32) V (constant S256x128 .f32 0x00000000#32) (ix2 r l)
      = ∑ t ∈ Finset.range 256, f t * g t := by
  rw [← Fin.sum_univ_eq_sum_range (fun t => f t * g t) 256]
  pointwise []
  simp only [hw, hV]

theorem PV0_at (z : FVec Ideal S256x256 .f32) (U : FVec Ideal S256x256 .bf16) (Z : ℕ → EReal) (b : ℕ) (r : Fin 256)
    (hU : ∀ k c : Fin 256, U (ix2 k c) = if c.val ≤ k.val then -1 else 0)
    (hz : ∀ c : Fin 256, z (ix2 r c) = Z (b + c.val)) (V : FVec Ideal S256x128 .bf16) (Vf : ℕ → EReal) (l : Fin 128)
    (hV : ∀ t : Fin 256, V (ix2 t l) = Vf (b + t.val)) :
    PV0 z U V (ix2 r l) = ∑ t ∈ Finset.range 256, wt Z (b + 0 + r.val) (b + t) * Vf (b + t) :=
  mm0_at _ V (fun t => wt Z (b + 0 + r.val) (b + t)) (fun t => Vf (b + t)) r l (W0_0_at z U Z b r hU hz) hV

/-! ## Rows 256 to 511 -/

def W1_1 (z : FVec Ideal S256x512 .f32) (U : FVec Ideal S256x256 .bf16) : FVec Ideal S256x256 .f32 := WT256 (EXm (extractStridedSlice S256x256 ![0, 256] z slices_S256x512_o0_256_S256x256) U) C0
def D1_1 (z : FVec Ideal S256x512 .f32) (U : FVec Ideal S256x256 .bf16) : FVec Ideal S256x1 .f32 := addf C0 (CO256 (TLm (extractStridedSlice S256x256 ![0, 256] z slices_S256x512_o0_256_S256x256) U))
def W1_0 (z : FVec Ideal S256x512 .f32) (U : FVec Ideal S256x256 .bf16) : FVec Ideal S256x256 .f32 := WT256 (EX256 (extractStridedSlice S256x256 ![0, 0] z slices_S256x512_o0_0_S256x256) U) (D1_1 z U)
def D1_0 (z : FVec Ideal S256x512 .f32) (U : FVec Ideal S256x256 .bf16) : FVec Ideal S256x1 .f32 := addf (D1_1 z U) (CO256 (TL256 (extractStridedSlice S256x256 ![0, 0] z slices_S256x512_o0_0_S256x256) U))
def PV1 (z : FVec Ideal S256x512 .f32) (U : FVec Ideal S256x256 .bf16) (V : FVec Ideal S512x128 .bf16) : FVec Ideal S256x128 .f32 :=
  matmul dot_S256x512_S512x128_S256x128_1_0_0_1_n_n none (truncf .bf16 (concatenate S256x512 1 [⟨S256x256, W1_0 z U⟩, ⟨S256x256, W1_1 z U⟩] concatenates_S256x256_S256x256_S256x512_d1) bitsLt_bf16_f32) V (constant S256x128 .f32 0x00000000#32)

theorem z1_0 (z : FVec Ideal S256x512 .f32) (Z : ℕ → EReal) (b : ℕ) (r : Fin 256) (hz : ∀ c : Fin 512, z (ix2 r c) = Z (b + c.val)) (c : Fin 256) :
    (extractStridedSlice S256x256 ![0, 0] z slices_S256x512_o0_0_S256x256) (ix2 r c) = Z (b + 0 + c.val) := by
  have h := hz ⟨0 + c.val, by omega⟩
  rw [Nat.add_assoc, ← h]
  pointwise []

theorem z1_1 (z : FVec Ideal S256x512 .f32) (Z : ℕ → EReal) (b : ℕ) (r : Fin 256) (hz : ∀ c : Fin 512, z (ix2 r c) = Z (b + c.val)) (c : Fin 256) :
    (extractStridedSlice S256x256 ![0, 256] z slices_S256x512_o0_256_S256x256) (ix2 r c) = Z (b + 256 + c.val) := by
  have h := hz ⟨256 + c.val, by omega⟩
  rw [Nat.add_assoc, ← h]
  pointwise []

theorem D1_1_at (z : FVec Ideal S256x512 .f32) (U : FVec Ideal S256x256 .bf16) (Z : ℕ → EReal) (b : ℕ) (r : Fin 256)
    (hU : ∀ k c : Fin 256, U (ix2 k c) = if c.val ≤ k.val then -1 else 0)
    (hz : ∀ c : Fin 512, z (ix2 r c) = Z (b + c.val)) : D1_1 z U (ix2 r 0) = TS Z (b + 256) (b + 256 + r.val) :=
  Cm_at _ U Z (b + 256) r hU (z1_1 z Z b r hz)

theorem W1_1_at (z : FVec Ideal S256x512 .f32) (U : FVec Ideal S256x256 .bf16) (Z : ℕ → EReal) (b : ℕ) (r : Fin 256)
    (hU : ∀ k c : Fin 256, U (ix2 k c) = if c.val ≤ k.val then -1 else 0)
    (hz : ∀ c : Fin 512, z (ix2 r c) = Z (b + c.val)) (c : Fin 256) : W1_1 z U (ix2 r c) = wt Z (b + 256 + r.val) (b + 256 + c.val) :=
  Wm_at _ U Z (b + 256) r c hU (z1_1 z Z b r hz)

theorem D1_0_at (z : FVec Ideal S256x512 .f32) (U : FVec Ideal S256x256 .bf16) (Z : ℕ → EReal) (b : ℕ) (r : Fin 256)
    (hU : ∀ k c : Fin 256, U (ix2 k c) = if c.val ≤ k.val then -1 else 0)
    (hz : ∀ c : Fin 512, z (ix2 r c) = Z (b + c.val)) : D1_0 z U (ix2 r 0) = TS Z (b + 0) (b + 256 + r.val) :=
  C256_at _ U (D1_1 z U) Z (b + 0) (b + 256 + r.val) r hU (z1_0 z Z b r hz) (by omega) (D1_1_at z U Z b r hU hz)

theorem W1_0_at (z : FVec Ideal S256x512 .f32) (U : FVec Ideal S256x256 .bf16) (Z : ℕ → EReal) (b : ℕ) (r : Fin 256)
    (hU : ∀ k c : Fin 256, U (ix2 k c) = if c.val ≤ k.val then -1 else 0)
    (hz : ∀ c : Fin 512, z (ix2 r c) = Z (b + c.val)) (c : Fin 256) : W1_0 z U (ix2 r c) = wt Z (b + 256 + r.val) (b + 0 + c.val) :=
  W256_at _ U (D1_1 z U) Z (b + 0) (b + 256 + r.val) r c hU (z1_0 z Z b r hz) (by omega) (D1_1_at z U Z b r hU hz)

theorem cat1_at (w0 w1 : FVec Ideal S256x256 .f32) (f : ℕ → EReal) (r : Fin 256) (t : Fin 512)
    (h0 : ∀ c : Fin 256, w0 (ix2 r c) = f (0 + c.val))
    (h1 : ∀ c : Fin 256, w1 (ix2 r c) = f (256 + c.val))
    : concatenate S256x512 1 [⟨S256x256, w0⟩, ⟨S256x256, w1⟩] concatenates_S256x256_S256x256_S256x512_d1 (ix2 r t) = f t.val := by
  pointwise []
  simp only [h0, h1]
  split_ifs <;> (refine congrArg f ?_; first | (simp; done) | (simp; omega) | omega)

theorem mm1_at (w : FVec Ideal S256x512 .f32) (V : FVec Ideal S512x128 .bf16) (f g : ℕ → EReal) (r : Fin 256) (l : Fin 128)
    (hw : ∀ t : Fin 512, w (ix2 r t) = f t.val) (hV : ∀ t : Fin 512, V (ix2 t l) = g t.val) :
    matmul dot_S256x512_S512x128_S256x128_1_0_0_1_n_n none (truncf .bf16 w bitsLt_bf16_f32) V (constant S256x128 .f32 0x00000000#32) (ix2 r l)
      = ∑ t ∈ Finset.range 512, f t * g t := by
  rw [← Fin.sum_univ_eq_sum_range (fun t => f t * g t) 512]
  pointwise []
  simp only [hw, hV]

theorem PV1_at (z : FVec Ideal S256x512 .f32) (U : FVec Ideal S256x256 .bf16) (Z : ℕ → EReal) (b : ℕ) (r : Fin 256)
    (hU : ∀ k c : Fin 256, U (ix2 k c) = if c.val ≤ k.val then -1 else 0)
    (hz : ∀ c : Fin 512, z (ix2 r c) = Z (b + c.val)) (V : FVec Ideal S512x128 .bf16) (Vf : ℕ → EReal) (l : Fin 128)
    (hV : ∀ t : Fin 512, V (ix2 t l) = Vf (b + t.val)) :
    PV1 z U V (ix2 r l) = ∑ t ∈ Finset.range 512, wt Z (b + 256 + r.val) (b + t) * Vf (b + t) :=
  mm1_at _ V (fun t => wt Z (b + 256 + r.val) (b + t)) (fun t => Vf (b + t)) r l
    (fun t => cat1_at _ _ (fun t => wt Z (b + 256 + r.val) (b + t)) r t
      (fun c => (W1_0_at z U Z b r hU hz c).trans (congrArg (wt Z _) (Nat.add_assoc b 0 c.val)))
      (fun c => (W1_1_at z U Z b r hU hz c).trans (congrArg (wt Z _) (Nat.add_assoc b 256 c.val))))
    hV

/-! ## Rows 512 to 767 -/

def W2_2 (z : FVec Ideal S256x768 .f32) (U : FVec Ideal S256x256 .bf16) : FVec Ideal S256x256 .f32 := WT256 (EXm (extractStridedSlice S256x256 ![0, 512] z slices_S256x768_o0_512_S256x256) U) C0
def D2_2 (z : FVec Ideal S256x768 .f32) (U : FVec Ideal S256x256 .bf16) : FVec Ideal S256x1 .f32 := addf C0 (CO256 (TLm (extractStridedSlice S256x256 ![0, 512] z slices_S256x768_o0_512_S256x256) U))
def W2_1 (z : FVec Ideal S256x768 .f32) (U : FVec Ideal S256x256 .bf16) : FVec Ideal S256x256 .f32 := WT256 (EX256 (extractStridedSlice S256x256 ![0, 256] z slices_S256x768_o0_256_S256x256) U) (D2_2 z U)
def D2_1 (z : FVec Ideal S256x768 .f32) (U : FVec Ideal S256x256 .bf16) : FVec Ideal S256x1 .f32 := addf (D2_2 z U) (CO256 (TL256 (extractStridedSlice S256x256 ![0, 256] z slices_S256x768_o0_256_S256x256) U))
def W2_0 (z : FVec Ideal S256x768 .f32) (U : FVec Ideal S256x256 .bf16) : FVec Ideal S256x256 .f32 := WT256 (EX256 (extractStridedSlice S256x256 ![0, 0] z slices_S256x768_o0_0_S256x256) U) (D2_1 z U)
def D2_0 (z : FVec Ideal S256x768 .f32) (U : FVec Ideal S256x256 .bf16) : FVec Ideal S256x1 .f32 := addf (D2_1 z U) (CO256 (TL256 (extractStridedSlice S256x256 ![0, 0] z slices_S256x768_o0_0_S256x256) U))
def PV2 (z : FVec Ideal S256x768 .f32) (U : FVec Ideal S256x256 .bf16) (V : FVec Ideal S768x128 .bf16) : FVec Ideal S256x128 .f32 :=
  matmul dot_S256x768_S768x128_S256x128_1_0_0_1_n_n none (truncf .bf16 (concatenate S256x768 1 [⟨S256x256, W2_0 z U⟩, ⟨S256x256, W2_1 z U⟩, ⟨S256x256, W2_2 z U⟩] concatenates_S256x256_S256x256_S256x256_S256x768_d1) bitsLt_bf16_f32) V (constant S256x128 .f32 0x00000000#32)

theorem z2_0 (z : FVec Ideal S256x768 .f32) (Z : ℕ → EReal) (b : ℕ) (r : Fin 256) (hz : ∀ c : Fin 768, z (ix2 r c) = Z (b + c.val)) (c : Fin 256) :
    (extractStridedSlice S256x256 ![0, 0] z slices_S256x768_o0_0_S256x256) (ix2 r c) = Z (b + 0 + c.val) := by
  have h := hz ⟨0 + c.val, by omega⟩
  rw [Nat.add_assoc, ← h]
  pointwise []

theorem z2_1 (z : FVec Ideal S256x768 .f32) (Z : ℕ → EReal) (b : ℕ) (r : Fin 256) (hz : ∀ c : Fin 768, z (ix2 r c) = Z (b + c.val)) (c : Fin 256) :
    (extractStridedSlice S256x256 ![0, 256] z slices_S256x768_o0_256_S256x256) (ix2 r c) = Z (b + 256 + c.val) := by
  have h := hz ⟨256 + c.val, by omega⟩
  rw [Nat.add_assoc, ← h]
  pointwise []

theorem z2_2 (z : FVec Ideal S256x768 .f32) (Z : ℕ → EReal) (b : ℕ) (r : Fin 256) (hz : ∀ c : Fin 768, z (ix2 r c) = Z (b + c.val)) (c : Fin 256) :
    (extractStridedSlice S256x256 ![0, 512] z slices_S256x768_o0_512_S256x256) (ix2 r c) = Z (b + 512 + c.val) := by
  have h := hz ⟨512 + c.val, by omega⟩
  rw [Nat.add_assoc, ← h]
  pointwise []

theorem D2_2_at (z : FVec Ideal S256x768 .f32) (U : FVec Ideal S256x256 .bf16) (Z : ℕ → EReal) (b : ℕ) (r : Fin 256)
    (hU : ∀ k c : Fin 256, U (ix2 k c) = if c.val ≤ k.val then -1 else 0)
    (hz : ∀ c : Fin 768, z (ix2 r c) = Z (b + c.val)) : D2_2 z U (ix2 r 0) = TS Z (b + 512) (b + 512 + r.val) :=
  Cm_at _ U Z (b + 512) r hU (z2_2 z Z b r hz)

theorem W2_2_at (z : FVec Ideal S256x768 .f32) (U : FVec Ideal S256x256 .bf16) (Z : ℕ → EReal) (b : ℕ) (r : Fin 256)
    (hU : ∀ k c : Fin 256, U (ix2 k c) = if c.val ≤ k.val then -1 else 0)
    (hz : ∀ c : Fin 768, z (ix2 r c) = Z (b + c.val)) (c : Fin 256) : W2_2 z U (ix2 r c) = wt Z (b + 512 + r.val) (b + 512 + c.val) :=
  Wm_at _ U Z (b + 512) r c hU (z2_2 z Z b r hz)

theorem D2_1_at (z : FVec Ideal S256x768 .f32) (U : FVec Ideal S256x256 .bf16) (Z : ℕ → EReal) (b : ℕ) (r : Fin 256)
    (hU : ∀ k c : Fin 256, U (ix2 k c) = if c.val ≤ k.val then -1 else 0)
    (hz : ∀ c : Fin 768, z (ix2 r c) = Z (b + c.val)) : D2_1 z U (ix2 r 0) = TS Z (b + 256) (b + 512 + r.val) :=
  C256_at _ U (D2_2 z U) Z (b + 256) (b + 512 + r.val) r hU (z2_1 z Z b r hz) (by omega) (D2_2_at z U Z b r hU hz)

theorem W2_1_at (z : FVec Ideal S256x768 .f32) (U : FVec Ideal S256x256 .bf16) (Z : ℕ → EReal) (b : ℕ) (r : Fin 256)
    (hU : ∀ k c : Fin 256, U (ix2 k c) = if c.val ≤ k.val then -1 else 0)
    (hz : ∀ c : Fin 768, z (ix2 r c) = Z (b + c.val)) (c : Fin 256) : W2_1 z U (ix2 r c) = wt Z (b + 512 + r.val) (b + 256 + c.val) :=
  W256_at _ U (D2_2 z U) Z (b + 256) (b + 512 + r.val) r c hU (z2_1 z Z b r hz) (by omega) (D2_2_at z U Z b r hU hz)

theorem D2_0_at (z : FVec Ideal S256x768 .f32) (U : FVec Ideal S256x256 .bf16) (Z : ℕ → EReal) (b : ℕ) (r : Fin 256)
    (hU : ∀ k c : Fin 256, U (ix2 k c) = if c.val ≤ k.val then -1 else 0)
    (hz : ∀ c : Fin 768, z (ix2 r c) = Z (b + c.val)) : D2_0 z U (ix2 r 0) = TS Z (b + 0) (b + 512 + r.val) :=
  C256_at _ U (D2_1 z U) Z (b + 0) (b + 512 + r.val) r hU (z2_0 z Z b r hz) (by omega) (D2_1_at z U Z b r hU hz)

theorem W2_0_at (z : FVec Ideal S256x768 .f32) (U : FVec Ideal S256x256 .bf16) (Z : ℕ → EReal) (b : ℕ) (r : Fin 256)
    (hU : ∀ k c : Fin 256, U (ix2 k c) = if c.val ≤ k.val then -1 else 0)
    (hz : ∀ c : Fin 768, z (ix2 r c) = Z (b + c.val)) (c : Fin 256) : W2_0 z U (ix2 r c) = wt Z (b + 512 + r.val) (b + 0 + c.val) :=
  W256_at _ U (D2_1 z U) Z (b + 0) (b + 512 + r.val) r c hU (z2_0 z Z b r hz) (by omega) (D2_1_at z U Z b r hU hz)

theorem cat2_at (w0 w1 w2 : FVec Ideal S256x256 .f32) (f : ℕ → EReal) (r : Fin 256) (t : Fin 768)
    (h0 : ∀ c : Fin 256, w0 (ix2 r c) = f (0 + c.val))
    (h1 : ∀ c : Fin 256, w1 (ix2 r c) = f (256 + c.val))
    (h2 : ∀ c : Fin 256, w2 (ix2 r c) = f (512 + c.val))
    : concatenate S256x768 1 [⟨S256x256, w0⟩, ⟨S256x256, w1⟩, ⟨S256x256, w2⟩] concatenates_S256x256_S256x256_S256x256_S256x768_d1 (ix2 r t) = f t.val := by
  pointwise []
  simp only [h0, h1, h2]
  split_ifs <;> (refine congrArg f ?_; first | (simp; done) | (simp; omega) | omega)

theorem mm2_at (w : FVec Ideal S256x768 .f32) (V : FVec Ideal S768x128 .bf16) (f g : ℕ → EReal) (r : Fin 256) (l : Fin 128)
    (hw : ∀ t : Fin 768, w (ix2 r t) = f t.val) (hV : ∀ t : Fin 768, V (ix2 t l) = g t.val) :
    matmul dot_S256x768_S768x128_S256x128_1_0_0_1_n_n none (truncf .bf16 w bitsLt_bf16_f32) V (constant S256x128 .f32 0x00000000#32) (ix2 r l)
      = ∑ t ∈ Finset.range 768, f t * g t := by
  rw [← Fin.sum_univ_eq_sum_range (fun t => f t * g t) 768]
  pointwise []
  simp only [hw, hV]

theorem PV2_at (z : FVec Ideal S256x768 .f32) (U : FVec Ideal S256x256 .bf16) (Z : ℕ → EReal) (b : ℕ) (r : Fin 256)
    (hU : ∀ k c : Fin 256, U (ix2 k c) = if c.val ≤ k.val then -1 else 0)
    (hz : ∀ c : Fin 768, z (ix2 r c) = Z (b + c.val)) (V : FVec Ideal S768x128 .bf16) (Vf : ℕ → EReal) (l : Fin 128)
    (hV : ∀ t : Fin 768, V (ix2 t l) = Vf (b + t.val)) :
    PV2 z U V (ix2 r l) = ∑ t ∈ Finset.range 768, wt Z (b + 512 + r.val) (b + t) * Vf (b + t) :=
  mm2_at _ V (fun t => wt Z (b + 512 + r.val) (b + t)) (fun t => Vf (b + t)) r l
    (fun t => cat2_at _ _ _ (fun t => wt Z (b + 512 + r.val) (b + t)) r t
      (fun c => (W2_0_at z U Z b r hU hz c).trans (congrArg (wt Z _) (Nat.add_assoc b 0 c.val)))
      (fun c => (W2_1_at z U Z b r hU hz c).trans (congrArg (wt Z _) (Nat.add_assoc b 256 c.val)))
      (fun c => (W2_2_at z U Z b r hU hz c).trans (congrArg (wt Z _) (Nat.add_assoc b 512 c.val))))
    hV

/-! ## Rows 768 to 1023 -/

def W3_3 (z : FVec Ideal S256x1024 .f32) (U : FVec Ideal S256x256 .bf16) : FVec Ideal S256x256 .f32 := WT256 (EXm (extractStridedSlice S256x256 ![0, 768] z slices_S256x1024_o0_768_S256x256) U) C0
def D3_3 (z : FVec Ideal S256x1024 .f32) (U : FVec Ideal S256x256 .bf16) : FVec Ideal S256x1 .f32 := addf C0 (CO256 (TLm (extractStridedSlice S256x256 ![0, 768] z slices_S256x1024_o0_768_S256x256) U))
def W3_2 (z : FVec Ideal S256x1024 .f32) (U : FVec Ideal S256x256 .bf16) : FVec Ideal S256x256 .f32 := WT256 (EX256 (extractStridedSlice S256x256 ![0, 512] z slices_S256x1024_o0_512_S256x256) U) (D3_3 z U)
def D3_2 (z : FVec Ideal S256x1024 .f32) (U : FVec Ideal S256x256 .bf16) : FVec Ideal S256x1 .f32 := addf (D3_3 z U) (CO256 (TL256 (extractStridedSlice S256x256 ![0, 512] z slices_S256x1024_o0_512_S256x256) U))
def W3_1 (z : FVec Ideal S256x1024 .f32) (U : FVec Ideal S256x256 .bf16) : FVec Ideal S256x256 .f32 := WT256 (EX256 (extractStridedSlice S256x256 ![0, 256] z slices_S256x1024_o0_256_S256x256) U) (D3_2 z U)
def D3_1 (z : FVec Ideal S256x1024 .f32) (U : FVec Ideal S256x256 .bf16) : FVec Ideal S256x1 .f32 := addf (D3_2 z U) (CO256 (TL256 (extractStridedSlice S256x256 ![0, 256] z slices_S256x1024_o0_256_S256x256) U))
def W3_0 (z : FVec Ideal S256x1024 .f32) (U : FVec Ideal S256x256 .bf16) : FVec Ideal S256x256 .f32 := WT256 (EX256 (extractStridedSlice S256x256 ![0, 0] z slices_S256x1024_o0_0_S256x256) U) (D3_1 z U)
def D3_0 (z : FVec Ideal S256x1024 .f32) (U : FVec Ideal S256x256 .bf16) : FVec Ideal S256x1 .f32 := addf (D3_1 z U) (CO256 (TL256 (extractStridedSlice S256x256 ![0, 0] z slices_S256x1024_o0_0_S256x256) U))
def PV3 (z : FVec Ideal S256x1024 .f32) (U : FVec Ideal S256x256 .bf16) (V : FVec Ideal S1024x128 .bf16) : FVec Ideal S256x128 .f32 :=
  matmul dot_S256x1024_S1024x128_S256x128_1_0_0_1_n_n none (truncf .bf16 (concatenate S256x1024 1 [⟨S256x256, W3_0 z U⟩, ⟨S256x256, W3_1 z U⟩, ⟨S256x256, W3_2 z U⟩, ⟨S256x256, W3_3 z U⟩] concatenates_S256x256_S256x256_S256x256_S256x256_S256x1024_d1) bitsLt_bf16_f32) V (constant S256x128 .f32 0x00000000#32)

theorem z3_0 (z : FVec Ideal S256x1024 .f32) (Z : ℕ → EReal) (b : ℕ) (r : Fin 256) (hz : ∀ c : Fin 1024, z (ix2 r c) = Z (b + c.val)) (c : Fin 256) :
    (extractStridedSlice S256x256 ![0, 0] z slices_S256x1024_o0_0_S256x256) (ix2 r c) = Z (b + 0 + c.val) := by
  have h := hz ⟨0 + c.val, by omega⟩
  rw [Nat.add_assoc, ← h]
  pointwise []

theorem z3_1 (z : FVec Ideal S256x1024 .f32) (Z : ℕ → EReal) (b : ℕ) (r : Fin 256) (hz : ∀ c : Fin 1024, z (ix2 r c) = Z (b + c.val)) (c : Fin 256) :
    (extractStridedSlice S256x256 ![0, 256] z slices_S256x1024_o0_256_S256x256) (ix2 r c) = Z (b + 256 + c.val) := by
  have h := hz ⟨256 + c.val, by omega⟩
  rw [Nat.add_assoc, ← h]
  pointwise []

theorem z3_2 (z : FVec Ideal S256x1024 .f32) (Z : ℕ → EReal) (b : ℕ) (r : Fin 256) (hz : ∀ c : Fin 1024, z (ix2 r c) = Z (b + c.val)) (c : Fin 256) :
    (extractStridedSlice S256x256 ![0, 512] z slices_S256x1024_o0_512_S256x256) (ix2 r c) = Z (b + 512 + c.val) := by
  have h := hz ⟨512 + c.val, by omega⟩
  rw [Nat.add_assoc, ← h]
  pointwise []

theorem z3_3 (z : FVec Ideal S256x1024 .f32) (Z : ℕ → EReal) (b : ℕ) (r : Fin 256) (hz : ∀ c : Fin 1024, z (ix2 r c) = Z (b + c.val)) (c : Fin 256) :
    (extractStridedSlice S256x256 ![0, 768] z slices_S256x1024_o0_768_S256x256) (ix2 r c) = Z (b + 768 + c.val) := by
  have h := hz ⟨768 + c.val, by omega⟩
  rw [Nat.add_assoc, ← h]
  pointwise []

theorem D3_3_at (z : FVec Ideal S256x1024 .f32) (U : FVec Ideal S256x256 .bf16) (Z : ℕ → EReal) (b : ℕ) (r : Fin 256)
    (hU : ∀ k c : Fin 256, U (ix2 k c) = if c.val ≤ k.val then -1 else 0)
    (hz : ∀ c : Fin 1024, z (ix2 r c) = Z (b + c.val)) : D3_3 z U (ix2 r 0) = TS Z (b + 768) (b + 768 + r.val) :=
  Cm_at _ U Z (b + 768) r hU (z3_3 z Z b r hz)

theorem W3_3_at (z : FVec Ideal S256x1024 .f32) (U : FVec Ideal S256x256 .bf16) (Z : ℕ → EReal) (b : ℕ) (r : Fin 256)
    (hU : ∀ k c : Fin 256, U (ix2 k c) = if c.val ≤ k.val then -1 else 0)
    (hz : ∀ c : Fin 1024, z (ix2 r c) = Z (b + c.val)) (c : Fin 256) : W3_3 z U (ix2 r c) = wt Z (b + 768 + r.val) (b + 768 + c.val) :=
  Wm_at _ U Z (b + 768) r c hU (z3_3 z Z b r hz)

theorem D3_2_at (z : FVec Ideal S256x1024 .f32) (U : FVec Ideal S256x256 .bf16) (Z : ℕ → EReal) (b : ℕ) (r : Fin 256)
    (hU : ∀ k c : Fin 256, U (ix2 k c) = if c.val ≤ k.val then -1 else 0)
    (hz : ∀ c : Fin 1024, z (ix2 r c) = Z (b + c.val)) : D3_2 z U (ix2 r 0) = TS Z (b + 512) (b + 768 + r.val) :=
  C256_at _ U (D3_3 z U) Z (b + 512) (b + 768 + r.val) r hU (z3_2 z Z b r hz) (by omega) (D3_3_at z U Z b r hU hz)

theorem W3_2_at (z : FVec Ideal S256x1024 .f32) (U : FVec Ideal S256x256 .bf16) (Z : ℕ → EReal) (b : ℕ) (r : Fin 256)
    (hU : ∀ k c : Fin 256, U (ix2 k c) = if c.val ≤ k.val then -1 else 0)
    (hz : ∀ c : Fin 1024, z (ix2 r c) = Z (b + c.val)) (c : Fin 256) : W3_2 z U (ix2 r c) = wt Z (b + 768 + r.val) (b + 512 + c.val) :=
  W256_at _ U (D3_3 z U) Z (b + 512) (b + 768 + r.val) r c hU (z3_2 z Z b r hz) (by omega) (D3_3_at z U Z b r hU hz)

theorem D3_1_at (z : FVec Ideal S256x1024 .f32) (U : FVec Ideal S256x256 .bf16) (Z : ℕ → EReal) (b : ℕ) (r : Fin 256)
    (hU : ∀ k c : Fin 256, U (ix2 k c) = if c.val ≤ k.val then -1 else 0)
    (hz : ∀ c : Fin 1024, z (ix2 r c) = Z (b + c.val)) : D3_1 z U (ix2 r 0) = TS Z (b + 256) (b + 768 + r.val) :=
  C256_at _ U (D3_2 z U) Z (b + 256) (b + 768 + r.val) r hU (z3_1 z Z b r hz) (by omega) (D3_2_at z U Z b r hU hz)

theorem W3_1_at (z : FVec Ideal S256x1024 .f32) (U : FVec Ideal S256x256 .bf16) (Z : ℕ → EReal) (b : ℕ) (r : Fin 256)
    (hU : ∀ k c : Fin 256, U (ix2 k c) = if c.val ≤ k.val then -1 else 0)
    (hz : ∀ c : Fin 1024, z (ix2 r c) = Z (b + c.val)) (c : Fin 256) : W3_1 z U (ix2 r c) = wt Z (b + 768 + r.val) (b + 256 + c.val) :=
  W256_at _ U (D3_2 z U) Z (b + 256) (b + 768 + r.val) r c hU (z3_1 z Z b r hz) (by omega) (D3_2_at z U Z b r hU hz)

theorem D3_0_at (z : FVec Ideal S256x1024 .f32) (U : FVec Ideal S256x256 .bf16) (Z : ℕ → EReal) (b : ℕ) (r : Fin 256)
    (hU : ∀ k c : Fin 256, U (ix2 k c) = if c.val ≤ k.val then -1 else 0)
    (hz : ∀ c : Fin 1024, z (ix2 r c) = Z (b + c.val)) : D3_0 z U (ix2 r 0) = TS Z (b + 0) (b + 768 + r.val) :=
  C256_at _ U (D3_1 z U) Z (b + 0) (b + 768 + r.val) r hU (z3_0 z Z b r hz) (by omega) (D3_1_at z U Z b r hU hz)

theorem W3_0_at (z : FVec Ideal S256x1024 .f32) (U : FVec Ideal S256x256 .bf16) (Z : ℕ → EReal) (b : ℕ) (r : Fin 256)
    (hU : ∀ k c : Fin 256, U (ix2 k c) = if c.val ≤ k.val then -1 else 0)
    (hz : ∀ c : Fin 1024, z (ix2 r c) = Z (b + c.val)) (c : Fin 256) : W3_0 z U (ix2 r c) = wt Z (b + 768 + r.val) (b + 0 + c.val) :=
  W256_at _ U (D3_1 z U) Z (b + 0) (b + 768 + r.val) r c hU (z3_0 z Z b r hz) (by omega) (D3_1_at z U Z b r hU hz)

theorem cat3_at (w0 w1 w2 w3 : FVec Ideal S256x256 .f32) (f : ℕ → EReal) (r : Fin 256) (t : Fin 1024)
    (h0 : ∀ c : Fin 256, w0 (ix2 r c) = f (0 + c.val))
    (h1 : ∀ c : Fin 256, w1 (ix2 r c) = f (256 + c.val))
    (h2 : ∀ c : Fin 256, w2 (ix2 r c) = f (512 + c.val))
    (h3 : ∀ c : Fin 256, w3 (ix2 r c) = f (768 + c.val))
    : concatenate S256x1024 1 [⟨S256x256, w0⟩, ⟨S256x256, w1⟩, ⟨S256x256, w2⟩, ⟨S256x256, w3⟩] concatenates_S256x256_S256x256_S256x256_S256x256_S256x1024_d1 (ix2 r t) = f t.val := by
  pointwise []
  simp only [h0, h1, h2, h3]
  split_ifs <;> (refine congrArg f ?_; first | (simp; done) | (simp; omega) | omega)

theorem mm3_at (w : FVec Ideal S256x1024 .f32) (V : FVec Ideal S1024x128 .bf16) (f g : ℕ → EReal) (r : Fin 256) (l : Fin 128)
    (hw : ∀ t : Fin 1024, w (ix2 r t) = f t.val) (hV : ∀ t : Fin 1024, V (ix2 t l) = g t.val) :
    matmul dot_S256x1024_S1024x128_S256x128_1_0_0_1_n_n none (truncf .bf16 w bitsLt_bf16_f32) V (constant S256x128 .f32 0x00000000#32) (ix2 r l)
      = ∑ t ∈ Finset.range 1024, f t * g t := by
  rw [← Fin.sum_univ_eq_sum_range (fun t => f t * g t) 1024]
  pointwise []
  simp only [hw, hV]

theorem PV3_at (z : FVec Ideal S256x1024 .f32) (U : FVec Ideal S256x256 .bf16) (Z : ℕ → EReal) (b : ℕ) (r : Fin 256)
    (hU : ∀ k c : Fin 256, U (ix2 k c) = if c.val ≤ k.val then -1 else 0)
    (hz : ∀ c : Fin 1024, z (ix2 r c) = Z (b + c.val)) (V : FVec Ideal S1024x128 .bf16) (Vf : ℕ → EReal) (l : Fin 128)
    (hV : ∀ t : Fin 1024, V (ix2 t l) = Vf (b + t.val)) :
    PV3 z U V (ix2 r l) = ∑ t ∈ Finset.range 1024, wt Z (b + 768 + r.val) (b + t) * Vf (b + t) :=
  mm3_at _ V (fun t => wt Z (b + 768 + r.val) (b + t)) (fun t => Vf (b + t)) r l
    (fun t => cat3_at _ _ _ _ (fun t => wt Z (b + 768 + r.val) (b + t)) r t
      (fun c => (W3_0_at z U Z b r hU hz c).trans (congrArg (wt Z _) (Nat.add_assoc b 0 c.val)))
      (fun c => (W3_1_at z U Z b r hU hz c).trans (congrArg (wt Z _) (Nat.add_assoc b 256 c.val)))
      (fun c => (W3_2_at z U Z b r hU hz c).trans (congrArg (wt Z _) (Nat.add_assoc b 512 c.val)))
      (fun c => (W3_3_at z U Z b r hU hz c).trans (congrArg (wt Z _) (Nat.add_assoc b 768 c.val))))
    hV

/-! ## A whole tile of older keys -/

def WT_3 (z : FVec Ideal S1024x1024 .f32) (U : FVec Ideal S256x256 .bf16) (d : FVec Ideal S1024x1 .f32) : FVec Ideal S1024x256 .f32 := WT1024 (EX1024 (extractStridedSlice S1024x256 ![0, 768] z slices_S1024x1024_o0_768_S1024x256) U) d
def DT_3 (z : FVec Ideal S1024x1024 .f32) (U : FVec Ideal S256x256 .bf16) (d : FVec Ideal S1024x1 .f32) : FVec Ideal S1024x1 .f32 := addf d (CO1024 (TL1024 (extractStridedSlice S1024x256 ![0, 768] z slices_S1024x1024_o0_768_S1024x256) U))

def WT_2 (z : FVec Ideal S1024x1024 .f32) (U : FVec Ideal S256x256 .bf16) (d : FVec Ideal S1024x1 .f32) : FVec Ideal S1024x256 .f32 := WT1024 (EX1024 (extractStridedSlice S1024x256 ![0, 512] z slices_S1024x1024_o0_512_S1024x256) U) (DT_3 z U d)
def DT_2 (z : FVec Ideal S1024x1024 .f32) (U : FVec Ideal S256x256 .bf16) (d : FVec Ideal S1024x1 .f32) : FVec Ideal S1024x1 .f32 := addf (DT_3 z U d) (CO1024 (TL1024 (extractStridedSlice S1024x256 ![0, 512] z slices_S1024x1024_o0_512_S1024x256) U))

def WT_1 (z : FVec Ideal S1024x1024 .f32) (U : FVec Ideal S256x256 .bf16) (d : FVec Ideal S1024x1 .f32) : FVec Ideal S1024x256 .f32 := WT1024 (EX1024 (extractStridedSlice S1024x256 ![0, 256] z slices_S1024x1024_o0_256_S1024x256) U) (DT_2 z U d)
def DT_1 (z : FVec Ideal S1024x1024 .f32) (U : FVec Ideal S256x256 .bf16) (d : FVec Ideal S1024x1 .f32) : FVec Ideal S1024x1 .f32 := addf (DT_2 z U d) (CO1024 (TL1024 (extractStridedSlice S1024x256 ![0, 256] z slices_S1024x1024_o0_256_S1024x256) U))

def WT_0 (z : FVec Ideal S1024x1024 .f32) (U : FVec Ideal S256x256 .bf16) (d : FVec Ideal S1024x1 .f32) : FVec Ideal S1024x256 .f32 := WT1024 (EX1024 (extractStridedSlice S1024x256 ![0, 0] z slices_S1024x1024_o0_0_S1024x256) U) (DT_1 z U d)
def DT_0 (z : FVec Ideal S1024x1024 .f32) (U : FVec Ideal S256x256 .bf16) (d : FVec Ideal S1024x1 .f32) : FVec Ideal S1024x1 .f32 := addf (DT_1 z U d) (CO1024 (TL1024 (extractStridedSlice S1024x256 ![0, 0] z slices_S1024x1024_o0_0_S1024x256) U))

def PVT (z : FVec Ideal S1024x1024 .f32) (U : FVec Ideal S256x256 .bf16) (d : FVec Ideal S1024x1 .f32) (V : FVec Ideal S1024x128 .bf16) : FVec Ideal S1024x128 .f32 :=
  matmul dot_S1024x1024_S1024x128_S1024x128_1_0_0_1_n_n none (concatenate S1024x1024 1 [⟨S1024x256, truncf .bf16 (WT_0 z U d) bitsLt_bf16_f32⟩, ⟨S1024x256, truncf .bf16 (WT_1 z U d) bitsLt_bf16_f32⟩, ⟨S1024x256, truncf .bf16 (WT_2 z U d) bitsLt_bf16_f32⟩, ⟨S1024x256, truncf .bf16 (WT_3 z U d) bitsLt_bf16_f32⟩] concatenates_S1024x256_S1024x256_S1024x256_S1024x256_S1024x1024_d1) V (constant S1024x128 .f32 0x00000000#32)

theorem zT_0 (z : FVec Ideal S1024x1024 .f32) (Z : ℕ → EReal) (b : ℕ) (r : Fin 1024) (hz : ∀ c : Fin 1024, z (ix2 r c) = Z (b + c.val)) (c : Fin 256) :
    (extractStridedSlice S1024x256 ![0, 0] z slices_S1024x1024_o0_0_S1024x256) (ix2 r c) = Z (b + 0 + c.val) := by
  have h := hz ⟨0 + c.val, by omega⟩
  rw [Nat.add_assoc, ← h]
  pointwise []

theorem zT_1 (z : FVec Ideal S1024x1024 .f32) (Z : ℕ → EReal) (b : ℕ) (r : Fin 1024) (hz : ∀ c : Fin 1024, z (ix2 r c) = Z (b + c.val)) (c : Fin 256) :
    (extractStridedSlice S1024x256 ![0, 256] z slices_S1024x1024_o0_256_S1024x256) (ix2 r c) = Z (b + 256 + c.val) := by
  have h := hz ⟨256 + c.val, by omega⟩
  rw [Nat.add_assoc, ← h]
  pointwise []

theorem zT_2 (z : FVec Ideal S1024x1024 .f32) (Z : ℕ → EReal) (b : ℕ) (r : Fin 1024) (hz : ∀ c : Fin 1024, z (ix2 r c) = Z (b + c.val)) (c : Fin 256) :
    (extractStridedSlice S1024x256 ![0, 512] z slices_S1024x1024_o0_512_S1024x256) (ix2 r c) = Z (b + 512 + c.val) := by
  have h := hz ⟨512 + c.val, by omega⟩
  rw [Nat.add_assoc, ← h]
  pointwise []

theorem zT_3 (z : FVec Ideal S1024x1024 .f32) (Z : ℕ → EReal) (b : ℕ) (r : Fin 1024) (hz : ∀ c : Fin 1024, z (ix2 r c) = Z (b + c.val)) (c : Fin 256) :
    (extractStridedSlice S1024x256 ![0, 768] z slices_S1024x1024_o0_768_S1024x256) (ix2 r c) = Z (b + 768 + c.val) := by
  have h := hz ⟨768 + c.val, by omega⟩
  rw [Nat.add_assoc, ← h]
  pointwise []

theorem DT_3_at (z : FVec Ideal S1024x1024 .f32) (U : FVec Ideal S256x256 .bf16) (d : FVec Ideal S1024x1 .f32) (Z : ℕ → EReal) (b s : ℕ) (r : Fin 1024)
    (hU : ∀ k c : Fin 256, U (ix2 k c) = if c.val ≤ k.val then -1 else 0)
    (hz : ∀ c : Fin 1024, z (ix2 r c) = Z (b + c.val)) (hs : b + 1024 ≤ s) (hd : d (ix2 r 0) = TS Z (b + 1024) s) : DT_3 z U d (ix2 r 0) = TS Z (b + 768) s :=
  C1024_at _ U d Z (b + 768) s r hU (zT_3 z Z b r hz) (by omega) hd

theorem WT_3_at (z : FVec Ideal S1024x1024 .f32) (U : FVec Ideal S256x256 .bf16) (d : FVec Ideal S1024x1 .f32) (Z : ℕ → EReal) (b s : ℕ) (r : Fin 1024)
    (hU : ∀ k c : Fin 256, U (ix2 k c) = if c.val ≤ k.val then -1 else 0)
    (hz : ∀ c : Fin 1024, z (ix2 r c) = Z (b + c.val)) (hs : b + 1024 ≤ s) (hd : d (ix2 r 0) = TS Z (b + 1024) s) (c : Fin 256) : WT_3 z U d (ix2 r c) = wt Z s (b + 768 + c.val) :=
  W1024_at _ U d Z (b + 768) s r c hU (zT_3 z Z b r hz) (by omega) hd

theorem DT_2_at (z : FVec Ideal S1024x1024 .f32) (U : FVec Ideal S256x256 .bf16) (d : FVec Ideal S1024x1 .f32) (Z : ℕ → EReal) (b s : ℕ) (r : Fin 1024)
    (hU : ∀ k c : Fin 256, U (ix2 k c) = if c.val ≤ k.val then -1 else 0)
    (hz : ∀ c : Fin 1024, z (ix2 r c) = Z (b + c.val)) (hs : b + 1024 ≤ s) (hd : d (ix2 r 0) = TS Z (b + 1024) s) : DT_2 z U d (ix2 r 0) = TS Z (b + 512) s :=
  C1024_at _ U (DT_3 z U d) Z (b + 512) s r hU (zT_2 z Z b r hz) (by omega) (DT_3_at z U d Z b s r hU hz hs hd)

theorem WT_2_at (z : FVec Ideal S1024x1024 .f32) (U : FVec Ideal S256x256 .bf16) (d : FVec Ideal S1024x1 .f32) (Z : ℕ → EReal) (b s : ℕ) (r : Fin 1024)
    (hU : ∀ k c : Fin 256, U (ix2 k c) = if c.val ≤ k.val then -1 else 0)
    (hz : ∀ c : Fin 1024, z (ix2 r c) = Z (b + c.val)) (hs : b + 1024 ≤ s) (hd : d (ix2 r 0) = TS Z (b + 1024) s) (c : Fin 256) : WT_2 z U d (ix2 r c) = wt Z s (b + 512 + c.val) :=
  W1024_at _ U (DT_3 z U d) Z (b + 512) s r c hU (zT_2 z Z b r hz) (by omega) (DT_3_at z U d Z b s r hU hz hs hd)

theorem DT_1_at (z : FVec Ideal S1024x1024 .f32) (U : FVec Ideal S256x256 .bf16) (d : FVec Ideal S1024x1 .f32) (Z : ℕ → EReal) (b s : ℕ) (r : Fin 1024)
    (hU : ∀ k c : Fin 256, U (ix2 k c) = if c.val ≤ k.val then -1 else 0)
    (hz : ∀ c : Fin 1024, z (ix2 r c) = Z (b + c.val)) (hs : b + 1024 ≤ s) (hd : d (ix2 r 0) = TS Z (b + 1024) s) : DT_1 z U d (ix2 r 0) = TS Z (b + 256) s :=
  C1024_at _ U (DT_2 z U d) Z (b + 256) s r hU (zT_1 z Z b r hz) (by omega) (DT_2_at z U d Z b s r hU hz hs hd)

theorem WT_1_at (z : FVec Ideal S1024x1024 .f32) (U : FVec Ideal S256x256 .bf16) (d : FVec Ideal S1024x1 .f32) (Z : ℕ → EReal) (b s : ℕ) (r : Fin 1024)
    (hU : ∀ k c : Fin 256, U (ix2 k c) = if c.val ≤ k.val then -1 else 0)
    (hz : ∀ c : Fin 1024, z (ix2 r c) = Z (b + c.val)) (hs : b + 1024 ≤ s) (hd : d (ix2 r 0) = TS Z (b + 1024) s) (c : Fin 256) : WT_1 z U d (ix2 r c) = wt Z s (b + 256 + c.val) :=
  W1024_at _ U (DT_2 z U d) Z (b + 256) s r c hU (zT_1 z Z b r hz) (by omega) (DT_2_at z U d Z b s r hU hz hs hd)

theorem DT_0_at (z : FVec Ideal S1024x1024 .f32) (U : FVec Ideal S256x256 .bf16) (d : FVec Ideal S1024x1 .f32) (Z : ℕ → EReal) (b s : ℕ) (r : Fin 1024)
    (hU : ∀ k c : Fin 256, U (ix2 k c) = if c.val ≤ k.val then -1 else 0)
    (hz : ∀ c : Fin 1024, z (ix2 r c) = Z (b + c.val)) (hs : b + 1024 ≤ s) (hd : d (ix2 r 0) = TS Z (b + 1024) s) : DT_0 z U d (ix2 r 0) = TS Z (b + 0) s :=
  C1024_at _ U (DT_1 z U d) Z (b + 0) s r hU (zT_0 z Z b r hz) (by omega) (DT_1_at z U d Z b s r hU hz hs hd)

theorem WT_0_at (z : FVec Ideal S1024x1024 .f32) (U : FVec Ideal S256x256 .bf16) (d : FVec Ideal S1024x1 .f32) (Z : ℕ → EReal) (b s : ℕ) (r : Fin 1024)
    (hU : ∀ k c : Fin 256, U (ix2 k c) = if c.val ≤ k.val then -1 else 0)
    (hz : ∀ c : Fin 1024, z (ix2 r c) = Z (b + c.val)) (hs : b + 1024 ≤ s) (hd : d (ix2 r 0) = TS Z (b + 1024) s) (c : Fin 256) : WT_0 z U d (ix2 r c) = wt Z s (b + 0 + c.val) :=
  W1024_at _ U (DT_1 z U d) Z (b + 0) s r c hU (zT_0 z Z b r hz) (by omega) (DT_1_at z U d Z b s r hU hz hs hd)

theorem catT_at (w0 w1 w2 w3 : FVec Ideal S1024x256 .f32) (f : ℕ → EReal) (r : Fin 1024) (t : Fin 1024)
    (h0 : ∀ c : Fin 256, w0 (ix2 r c) = f (0 + c.val))
    (h1 : ∀ c : Fin 256, w1 (ix2 r c) = f (256 + c.val))
    (h2 : ∀ c : Fin 256, w2 (ix2 r c) = f (512 + c.val))
    (h3 : ∀ c : Fin 256, w3 (ix2 r c) = f (768 + c.val))
    : concatenate S1024x1024 1 [⟨S1024x256, (truncf .bf16 w0 bitsLt_bf16_f32 : FVec Ideal S1024x256 .bf16)⟩, ⟨S1024x256, (truncf .bf16 w1 bitsLt_bf16_f32 : FVec Ideal S1024x256 .bf16)⟩, ⟨S1024x256, (truncf .bf16 w2 bitsLt_bf16_f32 : FVec Ideal S1024x256 .bf16)⟩, ⟨S1024x256, (truncf .bf16 w3 bitsLt_bf16_f32 : FVec Ideal S1024x256 .bf16)⟩] concatenates_S1024x256_S1024x256_S1024x256_S1024x256_S1024x1024_d1 (ix2 r t) = f t.val := by
  pointwise []
  simp only [h0, h1, h2, h3]
  split_ifs <;> (refine congrArg f ?_; first | (simp; done) | (simp; omega) | omega)

theorem mmT_at (w : FVec Ideal S1024x1024 .bf16) (V : FVec Ideal S1024x128 .bf16) (f g : ℕ → EReal) (r : Fin 1024) (l : Fin 128)
    (hw : ∀ t : Fin 1024, w (ix2 r t) = f t.val) (hV : ∀ t : Fin 1024, V (ix2 t l) = g t.val) :
    matmul dot_S1024x1024_S1024x128_S1024x128_1_0_0_1_n_n none w V (constant S1024x128 .f32 0x00000000#32) (ix2 r l)
      = ∑ t ∈ Finset.range 1024, f t * g t := by
  rw [← Fin.sum_univ_eq_sum_range (fun t => f t * g t) 1024]
  pointwise []
  simp only [hw, hV]

theorem PVT_at (z : FVec Ideal S1024x1024 .f32) (U : FVec Ideal S256x256 .bf16) (d : FVec Ideal S1024x1 .f32) (Z : ℕ → EReal) (b s : ℕ) (r : Fin 1024)
    (hU : ∀ k c : Fin 256, U (ix2 k c) = if c.val ≤ k.val then -1 else 0)
    (hz : ∀ c : Fin 1024, z (ix2 r c) = Z (b + c.val)) (hs : b + 1024 ≤ s) (hd : d (ix2 r 0) = TS Z (b + 1024) s) (V : FVec Ideal S1024x128 .bf16) (Vf : ℕ → EReal) (l : Fin 128)
    (hV : ∀ t : Fin 1024, V (ix2 t l) = Vf (b + t.val)) :
    PVT z U d V (ix2 r l) = ∑ t ∈ Finset.range 1024, wt Z s (b + t) * Vf (b + t) :=
  mmT_at _ V (fun t => wt Z s (b + t)) (fun t => Vf (b + t)) r l
    (fun t => catT_at _ _ _ _ (fun t => wt Z s (b + t)) r t
      (fun c => (WT_0_at z U d Z b s r hU hz hs hd c).trans (congrArg (wt Z _) (Nat.add_assoc b 0 c.val)))
      (fun c => (WT_1_at z U d Z b s r hU hz hs hd c).trans (congrArg (wt Z _) (Nat.add_assoc b 256 c.val)))
      (fun c => (WT_2_at z U d Z b s r hU hz hs hd c).trans (congrArg (wt Z _) (Nat.add_assoc b 512 c.val)))
      (fun c => (WT_3_at z U d Z b s r hU hz hs hd c).trans (congrArg (wt Z _) (Nat.add_assoc b 768 c.val))))
    hV

end Cert.KernelIdeal.AttnV
-- ==== Proof.AttnV.Own.lean ====
/- The arrays of one trip as the group's arithmetic: the weights, the carries and the weighted sums the run names are those of the own tile. -/
module

public import proofs.«01_k».proof.Proof.KernelIdeal.Trip
public import proofs.«01_k».proof.Proof.AttnV.Group

@[expose] public section

set_option maxRecDepth 16384
set_option maxHeartbeats 400000

noncomputable section

namespace Cert.KernelIdeal.AttnV

open Cert.KernelIdeal Cert.KernelIdeal.Gen Cert.KernelIdeal.Attn
open Idealize.ShloMosaic Idealize.ShloMosaic.TcCoe Idealize.SL.Sem

section
variable
  (arg3 : Memref sig .tc .vmem S2048x128 .bf16) (harg3 : arg3.IsWhole)
  (arg7 : Memref sig .tc .vmem S128x2048 .bf16) (harg7 : arg7.IsWhole)
  (arg8 : Memref sig .tc .vmem S2048x128 .bf16) (harg8 : arg8.IsWhole)
  (arg9 : Memref sig .tc .vmem S256x256 .bf16) (harg9 : arg9.IsWhole)
  (arg10 : Memref sig .tc .vmem S2x1024x128 .bf16) (harg10 : arg10.IsWhole)
  (arg11 : Memref sig .tc .vmem S1x1024x128 .f32) (harg11 : arg11.IsWhole)
  (arg12 : Memref sig .tc .vmem S2x1024x1 .f32) (harg12 : arg12.IsWhole)
  (v2 : IVec S1x128 1) (v9 : Ideal .f32) (v16 : Ideal .f32)
  (X3 : BufTy.Contents (Elt Ideal) arg3.view.ty) (X7 : BufTy.Contents (Elt Ideal) arg7.view.ty)
  (X8 : BufTy.Contents (Elt Ideal) arg8.view.ty) (X9 : BufTy.Contents (Elt Ideal) arg9.view.ty)
  (k : Fin k0_t1_loop.trips)

/-- The matrix of the tail sums as a trip reads it. -/
abbrev UU : FVec Ideal S256x256 .bf16 := trip.sl.r_4 (F := Ideal) arg9 X9

theorem e_r_1 : trip.sl.r_1 (F := Ideal) arg3 arg7 arg9 arg10 v2 v9 X3 X7 X9 k = EXm (trip.sl.v176 (F := Ideal) arg3 arg7 arg10 v2 v9 X3 X7 k) (UU arg9 X9) := rfl
theorem e_r_2 : trip.sl.r_2 (F := Ideal) arg3 arg7 arg9 arg10 v2 v9 X3 X7 X9 k = CO256 (TLm (trip.sl.v176 (F := Ideal) arg3 arg7 arg10 v2 v9 X3 X7 k) (UU arg9 X9)) := rfl
theorem e_r_7 : trip.sl.r_7 (F := Ideal) arg3 arg7 arg9 arg10 v2 v9 X3 X7 X9 k = EXm (extractStridedSlice S256x256 ![0, 256] (trip.sl.v183 (F := Ideal) arg3 arg7 arg10 v2 v9 X3 X7 k) slices_S256x512_o0_256_S256x256) (UU arg9 X9) := rfl
theorem e_r_8 : trip.sl.r_8 (F := Ideal) arg3 arg7 arg9 arg10 v2 v9 X3 X7 X9 k = CO256 (TLm (extractStridedSlice S256x256 ![0, 256] (trip.sl.v183 (F := Ideal) arg3 arg7 arg10 v2 v9 X3 X7 k) slices_S256x512_o0_256_S256x256) (UU arg9 X9)) := rfl
theorem e_r_9 : trip.sl.r_9 (F := Ideal) arg3 arg7 arg9 arg10 v2 v9 X3 X7 X9 k = EX256 (extractStridedSlice S256x256 ![0, 0] (trip.sl.v183 (F := Ideal) arg3 arg7 arg10 v2 v9 X3 X7 k) slices_S256x512_o0_0_S256x256) (UU arg9 X9) := rfl
theorem e_r_10 : trip.sl.r_10 (F := Ideal) arg3 arg7 arg9 arg10 v2 v9 X3 X7 X9 k = CO256 (TL256 (extractStridedSlice S256x256 ![0, 0] (trip.sl.v183 (F := Ideal) arg3 arg7 arg10 v2 v9 X3 X7 k) slices_S256x512_o0_0_S256x256) (UU arg9 X9)) := rfl
theorem e_v649 : trip.sl.v649 (F := Ideal) arg3 arg7 arg9 arg10 v2 v9 X3 X7 X9 k = W1_1 (trip.sl.v183 (F := Ideal) arg3 arg7 arg10 v2 v9 X3 X7 k) (UU arg9 X9) := by
  unfold W1_1
  rw [← e_r_7]
  rfl
theorem e_v650 : trip.sl.v650 (F := Ideal) arg3 arg7 arg9 arg10 v2 v9 X3 X7 X9 k = D1_1 (trip.sl.v183 (F := Ideal) arg3 arg7 arg10 v2 v9 X3 X7 k) (UU arg9 X9) := by
  unfold D1_1
  rw [← e_r_8]
  rfl
theorem e_v653 : trip.sl.v653 (F := Ideal) arg3 arg7 arg9 arg10 v2 v9 X3 X7 X9 k = W1_0 (trip.sl.v183 (F := Ideal) arg3 arg7 arg10 v2 v9 X3 X7 k) (UU arg9 X9) := by
  unfold W1_0
  rw [← e_r_9, ← e_v650]
  rfl
theorem e_v654 : trip.sl.v654 (F := Ideal) arg3 arg7 arg9 arg10 v2 v9 X3 X7 X9 k = D1_0 (trip.sl.v183 (F := Ideal) arg3 arg7 arg10 v2 v9 X3 X7 k) (UU arg9 X9) := by
  unfold D1_0
  rw [← e_r_10, ← e_v650]
  rfl
theorem e_r_13 : trip.sl.r_13 (F := Ideal) arg3 arg7 arg9 arg10 v2 v9 X3 X7 X9 k = EXm (extractStridedSlice S256x256 ![0, 512] (trip.sl.v190 (F := Ideal) arg3 arg7 arg10 v2 v9 X3 X7 k) slices_S256x768_o0_512_S256x256) (UU arg9 X9) := rfl
theorem e_r_14 : trip.sl.r_14 (F := Ideal) arg3 arg7 arg9 arg10 v2 v9 X3 X7 X9 k = CO256 (TLm (extractStridedSlice S256x256 ![0, 512] (trip.sl.v190 (F := Ideal) arg3 arg7 arg10 v2 v9 X3 X7 k) slices_S256x768_o0_512_S256x256) (UU arg9 X9)) := rfl
theorem e_r_15 : trip.sl.r_15 (F := Ideal) arg3 arg7 arg9 arg10 v2 v9 X3 X7 X9 k = EX256 (extractStridedSlice S256x256 ![0, 256] (trip.sl.v190 (F := Ideal) arg3 arg7 arg10 v2 v9 X3 X7 k) slices_S256x768_o0_256_S256x256) (UU arg9 X9) := rfl
theorem e_r_16 : trip.sl.r_16 (F := Ideal) arg3 arg7 arg9 arg10 v2 v9 X3 X7 X9 k = CO256 (TL256 (extractStridedSlice S256x256 ![0, 256] (trip.sl.v190 (F := Ideal) arg3 arg7 arg10 v2 v9 X3 X7 k) slices_S256x768_o0_256_S256x256) (UU arg9 X9)) := rfl
theorem e_r_17 : trip.sl.r_17 (F := Ideal) arg3 arg7 arg9 arg10 v2 v9 X3 X7 X9 k = EX256 (extractStridedSlice S256x256 ![0, 0] (trip.sl.v190 (F := Ideal) arg3 arg7 arg10 v2 v9 X3 X7 k) slices_S256x768_o0_0_S256x256) (UU arg9 X9) := rfl
theorem e_r_18 : trip.sl.r_18 (F := Ideal) arg3 arg7 arg9 arg10 v2 v9 X3 X7 X9 k = CO256 (TL256 (extractStridedSlice S256x256 ![0, 0] (trip.sl.v190 (F := Ideal) arg3 arg7 arg10 v2 v9 X3 X7 k) slices_S256x768_o0_0_S256x256) (UU arg9 X9)) := rfl
theorem e_v689 : trip.sl.v689 (F := Ideal) arg3 arg7 arg9 arg10 v2 v9 X3 X7 X9 k = W2_2 (trip.sl.v190 (F := Ideal) arg3 arg7 arg10 v2 v9 X3 X7 k) (UU arg9 X9) := by
  unfold W2_2
  rw [← e_r_13]
  rfl
theorem e_v690 : trip.sl.v690 (F := Ideal) arg3 arg7 arg9 arg10 v2 v9 X3 X7 X9 k = D2_2 (trip.sl.v190 (F := Ideal) arg3 arg7 arg10 v2 v9 X3 X7 k) (UU arg9 X9) := by
  unfold D2_2
  rw [← e_r_14]
  rfl
theorem e_v693 : trip.sl.v693 (F := Ideal) arg3 arg7 arg9 arg10 v2 v9 X3 X7 X9 k = W2_1 (trip.sl.v190 (F := Ideal) arg3 arg7 arg10 v2 v9 X3 X7 k) (UU arg9 X9) := by
  unfold W2_1
  rw [← e_r_15, ← e_v690]
  rfl
theorem e_v694 : trip.sl.v694 (F := Ideal) arg3 arg7 arg9 arg10 v2 v9 X3 X7 X9 k = D2_1 (trip.sl.v190 (F := Ideal) arg3 arg7 arg10 v2 v9 X3 X7 k) (UU arg9 X9) := by
  unfold D2_1
  rw [← e_r_16, ← e_v690]
  rfl
theorem e_v697 : trip.sl.v697 (F := Ideal) arg3 arg7 arg9 arg10 v2 v9 X3 X7 X9 k = W2_0 (trip.sl.v190 (F := Ideal) arg3 arg7 arg10 v2 v9 X3 X7 k) (UU arg9 X9) := by
  unfold W2_0
  rw [← e_r_17, ← e_v694]
  rfl
theorem e_v698 : trip.sl.v698 (F := Ideal) arg3 arg7 arg9 arg10 v2 v9 X3 X7 X9 k = D2_0 (trip.sl.v190 (F := Ideal) arg3 arg7 arg10 v2 v9 X3 X7 k) (UU arg9 X9) := by
  unfold D2_0
  rw [← e_r_18, ← e_v694]
  rfl
theorem e_r_20 : trip.sl.r_20 (F := Ideal) arg3 arg7 arg9 arg10 v2 v9 X3 X7 X9 k = EXm (extractStridedSlice S256x256 ![0, 768] (trip.sl.v197 (F := Ideal) arg3 arg7 arg10 v2 v9 X3 X7 k) slices_S256x1024_o0_768_S256x256) (UU arg9 X9) := rfl
theorem e_r_21 : trip.sl.r_21 (F := Ideal) arg3 arg7 arg9 arg10 v2 v9 X3 X7 X9 k = CO256 (TLm (extractStridedSlice S256x256 ![0, 768] (trip.sl.v197 (F := Ideal) arg3 arg7 arg10 v2 v9 X3 X7 k) slices_S256x1024_o0_768_S256x256) (UU arg9 X9)) := rfl
theorem e_r_22 : trip.sl.r_22 (F := Ideal) arg3 arg7 arg9 arg10 v2 v9 X3 X7 X9 k = EX256 (extractStridedSlice S256x256 ![0, 512] (trip.sl.v197 (F := Ideal) arg3 arg7 arg10 v2 v9 X3 X7 k) slices_S256x1024_o0_512_S256x256) (UU arg9 X9) := rfl
theorem e_r_23 : trip.sl.r_23 (F := Ideal) arg3 arg7 arg9 arg10 v2 v9 X3 X7 X9 k = CO256 (TL256 (extractStridedSlice S256x256 ![0, 512] (trip.sl.v197 (F := Ideal) arg3 arg7 arg10 v2 v9 X3 X7 k) slices_S256x1024_o0_512_S256x256) (UU arg9 X9)) := rfl
theorem e_r_26 : trip.sl.r_26 (F := Ideal) arg3 arg7 arg9 arg10 v2 v9 X3 X7 X9 k = EX256 (extractStridedSlice S256x256 ![0, 256] (trip.sl.v197 (F := Ideal) arg3 arg7 arg10 v2 v9 X3 X7 k) slices_S256x1024_o0_256_S256x256) (UU arg9 X9) := rfl
theorem e_r_27 : trip.sl.r_27 (F := Ideal) arg3 arg7 arg9 arg10 v2 v9 X3 X7 X9 k = CO256 (TL256 (extractStridedSlice S256x256 ![0, 256] (trip.sl.v197 (F := Ideal) arg3 arg7 arg10 v2 v9 X3 X7 k) slices_S256x1024_o0_256_S256x256) (UU arg9 X9)) := rfl
theorem e_r_28 : trip.sl.r_28 (F := Ideal) arg3 arg7 arg9 arg10 v2 v9 X3 X7 X9 k = EX256 (extractStridedSlice S256x256 ![0, 0] (trip.sl.v197 (F := Ideal) arg3 arg7 arg10 v2 v9 X3 X7 k) slices_S256x1024_o0_0_S256x256) (UU arg9 X9) := rfl
theorem e_r_29 : trip.sl.r_29 (F := Ideal) arg3 arg7 arg9 arg10 v2 v9 X3 X7 X9 k = CO256 (TL256 (extractStridedSlice S256x256 ![0, 0] (trip.sl.v197 (F := Ideal) arg3 arg7 arg10 v2 v9 X3 X7 k) slices_S256x1024_o0_0_S256x256) (UU arg9 X9)) := rfl
theorem e_v737 : trip.sl.v737 (F := Ideal) arg3 arg7 arg9 arg10 v2 v9 X3 X7 X9 k = W3_3 (trip.sl.v197 (F := Ideal) arg3 arg7 arg10 v2 v9 X3 X7 k) (UU arg9 X9) := by
  unfold W3_3
  rw [← e_r_20]
  rfl
theorem e_v738 : trip.sl.v738 (F := Ideal) arg3 arg7 arg9 arg10 v2 v9 X3 X7 X9 k = D3_3 (trip.sl.v197 (F := Ideal) arg3 arg7 arg10 v2 v9 X3 X7 k) (UU arg9 X9) := by
  unfold D3_3
  rw [← e_r_21]
  rfl
theorem e_v741 : trip.sl.v741 (F := Ideal) arg3 arg7 arg9 arg10 v2 v9 X3 X7 X9 k = W3_2 (trip.sl.v197 (F := Ideal) arg3 arg7 arg10 v2 v9 X3 X7 k) (UU arg9 X9) := by
  unfold W3_2
  rw [← e_r_22, ← e_v738]
  rfl
theorem e_v742 : trip.sl.v742 (F := Ideal) arg3 arg7 arg9 arg10 v2 v9 X3 X7 X9 k = D3_2 (trip.sl.v197 (F := Ideal) arg3 arg7 arg10 v2 v9 X3 X7 k) (UU arg9 X9) := by
  unfold D3_2
  rw [← e_r_23, ← e_v738]
  rfl
theorem e_v745 : trip.sl.v745 (F := Ideal) arg3 arg7 arg9 arg10 v2 v9 X3 X7 X9 k = W3_1 (trip.sl.v197 (F := Ideal) arg3 arg7 arg10 v2 v9 X3 X7 k) (UU arg9 X9) := by
  unfold W3_1
  rw [← e_r_26, ← e_v742]
  rfl
theorem e_v746 : trip.sl.v746 (F := Ideal) arg3 arg7 arg9 arg10 v2 v9 X3 X7 X9 k = D3_1 (trip.sl.v197 (F := Ideal) arg3 arg7 arg10 v2 v9 X3 X7 k) (UU arg9 X9) := by
  unfold D3_1
  rw [← e_r_27, ← e_v742]
  rfl
theorem e_v749 : trip.sl.v749 (F := Ideal) arg3 arg7 arg9 arg10 v2 v9 X3 X7 X9 k = W3_0 (trip.sl.v197 (F := Ideal) arg3 arg7 arg10 v2 v9 X3 X7 k) (UU arg9 X9) := by
  unfold W3_0
  rw [← e_r_28, ← e_v746]
  rfl
theorem e_v750 : trip.sl.v750 (F := Ideal) arg3 arg7 arg9 arg10 v2 v9 X3 X7 X9 k = D3_0 (trip.sl.v197 (F := Ideal) arg3 arg7 arg10 v2 v9 X3 X7 k) (UU arg9 X9) := by
  unfold D3_0
  rw [← e_r_29, ← e_v746]
  rfl
theorem e_r_32 : trip.sl.r_32 (F := Ideal) arg3 arg7 arg9 arg10 v2 v16 X3 X7 X9 k = EXm (trip.sl.v204 (F := Ideal) arg3 arg7 arg10 v2 v16 X3 X7 k) (UU arg9 X9) := rfl
theorem e_r_33 : trip.sl.r_33 (F := Ideal) arg3 arg7 arg9 arg10 v2 v16 X3 X7 X9 k = CO256 (TLm (trip.sl.v204 (F := Ideal) arg3 arg7 arg10 v2 v16 X3 X7 k) (UU arg9 X9)) := rfl
theorem e_r_34 : trip.sl.r_34 (F := Ideal) arg3 arg7 arg9 arg10 v2 v16 X3 X7 X9 k = EXm (extractStridedSlice S256x256 ![0, 256] (trip.sl.v211 (F := Ideal) arg3 arg7 arg10 v2 v16 X3 X7 k) slices_S256x512_o0_256_S256x256) (UU arg9 X9) := rfl
theorem e_r_35 : trip.sl.r_35 (F := Ideal) arg3 arg7 arg9 arg10 v2 v16 X3 X7 X9 k = CO256 (TLm (extractStridedSlice S256x256 ![0, 256] (trip.sl.v211 (F := Ideal) arg3 arg7 arg10 v2 v16 X3 X7 k) slices_S256x512_o0_256_S256x256) (UU arg9 X9)) := rfl
theorem e_r_39 : trip.sl.r_39 (F := Ideal) arg3 arg7 arg9 arg10 v2 v16 X3 X7 X9 k = EX256 (extractStridedSlice S256x256 ![0, 0] (trip.sl.v211 (F := Ideal) arg3 arg7 arg10 v2 v16 X3 X7 k) slices_S256x512_o0_0_S256x256) (UU arg9 X9) := rfl
theorem e_r_40 : trip.sl.r_40 (F := Ideal) arg3 arg7 arg9 arg10 v2 v16 X3 X7 X9 k = CO256 (TL256 (extractStridedSlice S256x256 ![0, 0] (trip.sl.v211 (F := Ideal) arg3 arg7 arg10 v2 v16 X3 X7 k) slices_S256x512_o0_0_S256x256) (UU arg9 X9)) := rfl
theorem e_v666 : trip.sl.v666 (F := Ideal) arg3 arg7 arg9 arg10 v2 v16 X3 X7 X9 k = W1_1 (trip.sl.v211 (F := Ideal) arg3 arg7 arg10 v2 v16 X3 X7 k) (UU arg9 X9) := by
  unfold W1_1
  rw [← e_r_34]
  rfl
theorem e_v667 : trip.sl.v667 (F := Ideal) arg3 arg7 arg9 arg10 v2 v16 X3 X7 X9 k = D1_1 (trip.sl.v211 (F := Ideal) arg3 arg7 arg10 v2 v16 X3 X7 k) (UU arg9 X9) := by
  unfold D1_1
  rw [← e_r_35]
  rfl
theorem e_v670 : trip.sl.v670 (F := Ideal) arg3 arg7 arg9 arg10 v2 v16 X3 X7 X9 k = W1_0 (trip.sl.v211 (F := Ideal) arg3 arg7 arg10 v2 v16 X3 X7 k) (UU arg9 X9) := by
  unfold W1_0
  rw [← e_r_39, ← e_v667]
  rfl
theorem e_v671 : trip.sl.v671 (F := Ideal) arg3 arg7 arg9 arg10 v2 v16 X3 X7 X9 k = D1_0 (trip.sl.v211 (F := Ideal) arg3 arg7 arg10 v2 v16 X3 X7 k) (UU arg9 X9) := by
  unfold D1_0
  rw [← e_r_40, ← e_v667]
  rfl
theorem e_r_41 : trip.sl.r_41 (F := Ideal) arg3 arg7 arg9 arg10 v2 v16 X3 X7 X9 k = EXm (extractStridedSlice S256x256 ![0, 512] (trip.sl.v218 (F := Ideal) arg3 arg7 arg10 v2 v16 X3 X7 k) slices_S256x768_o0_512_S256x256) (UU arg9 X9) := rfl
theorem e_r_42 : trip.sl.r_42 (F := Ideal) arg3 arg7 arg9 arg10 v2 v16 X3 X7 X9 k = CO256 (TLm (extractStridedSlice S256x256 ![0, 512] (trip.sl.v218 (F := Ideal) arg3 arg7 arg10 v2 v16 X3 X7 k) slices_S256x768_o0_512_S256x256) (UU arg9 X9)) := rfl
theorem e_r_46 : trip.sl.r_46 (F := Ideal) arg3 arg7 arg9 arg10 v2 v16 X3 X7 X9 k = EX256 (extractStridedSlice S256x256 ![0, 256] (trip.sl.v218 (F := Ideal) arg3 arg7 arg10 v2 v16 X3 X7 k) slices_S256x768_o0_256_S256x256) (UU arg9 X9) := rfl
theorem e_r_47 : trip.sl.r_47 (F := Ideal) arg3 arg7 arg9 arg10 v2 v16 X3 X7 X9 k = CO256 (TL256 (extractStridedSlice S256x256 ![0, 256] (trip.sl.v218 (F := Ideal) arg3 arg7 arg10 v2 v16 X3 X7 k) slices_S256x768_o0_256_S256x256) (UU arg9 X9)) := rfl
theorem e_r_48 : trip.sl.r_48 (F := Ideal) arg3 arg7 arg9 arg10 v2 v16 X3 X7 X9 k = EX256 (extractStridedSlice S256x256 ![0, 0] (trip.sl.v218 (F := Ideal) arg3 arg7 arg10 v2 v16 X3 X7 k) slices_S256x768_o0_0_S256x256) (UU arg9 X9) := rfl
theorem e_r_49 : trip.sl.r_49 (F := Ideal) arg3 arg7 arg9 arg10 v2 v16 X3 X7 X9 k = CO256 (TL256 (extractStridedSlice S256x256 ![0, 0] (trip.sl.v218 (F := Ideal) arg3 arg7 arg10 v2 v16 X3 X7 k) slices_S256x768_o0_0_S256x256) (UU arg9 X9)) := rfl
theorem e_v710 : trip.sl.v710 (F := Ideal) arg3 arg7 arg9 arg10 v2 v16 X3 X7 X9 k = W2_2 (trip.sl.v218 (F := Ideal) arg3 arg7 arg10 v2 v16 X3 X7 k) (UU arg9 X9) := by
  unfold W2_2
  rw [← e_r_41]
  rfl
theorem e_v711 : trip.sl.v711 (F := Ideal) arg3 arg7 arg9 arg10 v2 v16 X3 X7 X9 k = D2_2 (trip.sl.v218 (F := Ideal) arg3 arg7 arg10 v2 v16 X3 X7 k) (UU arg9 X9) := by
  unfold D2_2
  rw [← e_r_42]
  rfl
theorem e_v714 : trip.sl.v714 (F := Ideal) arg3 arg7 arg9 arg10 v2 v16 X3 X7 X9 k = W2_1 (trip.sl.v218 (F := Ideal) arg3 arg7 arg10 v2 v16 X3 X7 k) (UU arg9 X9) := by
  unfold W2_1
  rw [← e_r_46, ← e_v711]
  rfl
theorem e_v715 : trip.sl.v715 (F := Ideal) arg3 arg7 arg9 arg10 v2 v16 X3 X7 X9 k = D2_1 (trip.sl.v218 (F := Ideal) arg3 arg7 arg10 v2 v16 X3 X7 k) (UU arg9 X9) := by
  unfold D2_1
  rw [← e_r_47, ← e_v711]
  rfl
theorem e_v718 : trip.sl.v718 (F := Ideal) arg3 arg7 arg9 arg10 v2 v16 X3 X7 X9 k = W2_0 (trip.sl.v218 (F := Ideal) arg3 arg7 arg10 v2 v16 X3 X7 k) (UU arg9 X9) := by
  unfold W2_0
  rw [← e_r_48, ← e_v715]
  rfl
theorem e_v719 : trip.sl.v719 (F := Ideal) arg3 arg7 arg9 arg10 v2 v16 X3 X7 X9 k = D2_0 (trip.sl.v218 (F := Ideal) arg3 arg7 arg10 v2 v16 X3 X7 k) (UU arg9 X9) := by
  unfold D2_0
  rw [← e_r_49, ← e_v715]
  rfl
theorem e_r_52 : trip.sl.r_52 (F := Ideal) arg3 arg7 arg9 arg10 v2 v16 X3 X7 X9 k = EXm (extractStridedSlice S256x256 ![0, 768] (trip.sl.r (F := Ideal) arg3 arg7 arg10 v2 v16 X3 X7 k) slices_S256x1024_o0_768_S256x256) (UU arg9 X9) := rfl
theorem e_r_53 : trip.sl.r_53 (F := Ideal) arg3 arg7 arg9 arg10 v2 v16 X3 X7 X9 k = CO256 (TLm (extractStridedSlice S256x256 ![0, 768] (trip.sl.r (F := Ideal) arg3 arg7 arg10 v2 v16 X3 X7 k) slices_S256x1024_o0_768_S256x256) (UU arg9 X9)) := rfl
theorem e_r_54 : trip.sl.r_54 (F := Ideal) arg3 arg7 arg9 arg10 v2 v16 X3 X7 X9 k = EX256 (extractStridedSlice S256x256 ![0, 512] (trip.sl.r (F := Ideal) arg3 arg7 arg10 v2 v16 X3 X7 k) slices_S256x1024_o0_512_S256x256) (UU arg9 X9) := rfl
theorem e_r_55 : trip.sl.r_55 (F := Ideal) arg3 arg7 arg9 arg10 v2 v16 X3 X7 X9 k = CO256 (TL256 (extractStridedSlice S256x256 ![0, 512] (trip.sl.r (F := Ideal) arg3 arg7 arg10 v2 v16 X3 X7 k) slices_S256x1024_o0_512_S256x256) (UU arg9 X9)) := rfl
theorem e_r_56 : trip.sl.r_56 (F := Ideal) arg3 arg7 arg9 arg10 v2 v16 X3 X7 X9 k = EX256 (extractStridedSlice S256x256 ![0, 256] (trip.sl.r (F := Ideal) arg3 arg7 arg10 v2 v16 X3 X7 k) slices_S256x1024_o0_256_S256x256) (UU arg9 X9) := rfl
theorem e_r_57 : trip.sl.r_57 (F := Ideal) arg3 arg7 arg9 arg10 v2 v16 X3 X7 X9 k = CO256 (TL256 (extractStridedSlice S256x256 ![0, 256] (trip.sl.r (F := Ideal) arg3 arg7 arg10 v2 v16 X3 X7 k) slices_S256x1024_o0_256_S256x256) (UU arg9 X9)) := rfl
theorem e_r_60 : trip.sl.r_60 (F := Ideal) arg3 arg7 arg9 arg10 v2 v16 X3 X7 X9 k = EX256 (extractStridedSlice S256x256 ![0, 0] (trip.sl.r (F := Ideal) arg3 arg7 arg10 v2 v16 X3 X7 k) slices_S256x1024_o0_0_S256x256) (UU arg9 X9) := rfl
theorem e_r_61 : trip.sl.r_61 (F := Ideal) arg3 arg7 arg9 arg10 v2 v16 X3 X7 X9 k = CO256 (TL256 (extractStridedSlice S256x256 ![0, 0] (trip.sl.r (F := Ideal) arg3 arg7 arg10 v2 v16 X3 X7 k) slices_S256x1024_o0_0_S256x256) (UU arg9 X9)) := rfl
theorem e_v762 : trip.sl.v762 (F := Ideal) arg3 arg7 arg9 arg10 v2 v16 X3 X7 X9 k = W3_3 (trip.sl.r (F := Ideal) arg3 arg7 arg10 v2 v16 X3 X7 k) (UU arg9 X9) := by
  unfold W3_3
  rw [← e_r_52]
  rfl
theorem e_v763 : trip.sl.v763 (F := Ideal) arg3 arg7 arg9 arg10 v2 v16 X3 X7 X9 k = D3_3 (trip.sl.r (F := Ideal) arg3 arg7 arg10 v2 v16 X3 X7 k) (UU arg9 X9) := by
  unfold D3_3
  rw [← e_r_53]
  rfl
theorem e_v766 : trip.sl.v766 (F := Ideal) arg3 arg7 arg9 arg10 v2 v16 X3 X7 X9 k = W3_2 (trip.sl.r (F := Ideal) arg3 arg7 arg10 v2 v16 X3 X7 k) (UU arg9 X9) := by
  unfold W3_2
  rw [← e_r_54, ← e_v763]
  rfl
theorem e_v767 : trip.sl.v767 (F := Ideal) arg3 arg7 arg9 arg10 v2 v16 X3 X7 X9 k = D3_2 (trip.sl.r (F := Ideal) arg3 arg7 arg10 v2 v16 X3 X7 k) (UU arg9 X9) := by
  unfold D3_2
  rw [← e_r_55, ← e_v763]
  rfl
theorem e_v770 : trip.sl.v770 (F := Ideal) arg3 arg7 arg9 arg10 v2 v16 X3 X7 X9 k = W3_1 (trip.sl.r (F := Ideal) arg3 arg7 arg10 v2 v16 X3 X7 k) (UU arg9 X9) := by
  unfold W3_1
  rw [← e_r_56, ← e_v767]
  rfl
theorem e_v771 : trip.sl.v771 (F := Ideal) arg3 arg7 arg9 arg10 v2 v16 X3 X7 X9 k = D3_1 (trip.sl.r (F := Ideal) arg3 arg7 arg10 v2 v16 X3 X7 k) (UU arg9 X9) := by
  unfold D3_1
  rw [← e_r_57, ← e_v767]
  rfl
theorem e_v774 : trip.sl.v774 (F := Ideal) arg3 arg7 arg9 arg10 v2 v16 X3 X7 X9 k = W3_0 (trip.sl.r (F := Ideal) arg3 arg7 arg10 v2 v16 X3 X7 k) (UU arg9 X9) := by
  unfold W3_0
  rw [← e_r_60, ← e_v771]
  rfl
theorem e_v775 : trip.sl.v775 (F := Ideal) arg3 arg7 arg9 arg10 v2 v16 X3 X7 X9 k = D3_0 (trip.sl.r (F := Ideal) arg3 arg7 arg10 v2 v16 X3 X7 k) (UU arg9 X9) := by
  unfold D3_0
  rw [← e_r_61, ← e_v771]
  rfl

end
end Cert.KernelIdeal.AttnV
-- ==== Proof.AttnV.Row.lean ====
/- The own tile of a trip, read row by row: the accumulator and the carries it leaves, from the queries, the keys and the values. -/
module

public import proofs.«01_k».proof.Proof.AttnV.Own
public import Idealize.ShloMosaic.Lib.WritesUnit

@[expose] public section

set_option maxRecDepth 16384
set_option maxHeartbeats 400000

noncomputable section

namespace Cert.KernelIdeal.AttnV

open Cert.KernelIdeal Cert.KernelIdeal.Gen Cert.KernelIdeal.Attn
open Idealize.ShloMosaic Idealize.ShloMosaic.TcCoe Idealize.SL.Sem

theorem readAt_at {sig : RefSig} {κ : Kind} {sp : Space} {s : Shape} {e : EltTy} {Val : EltTy → Type} (v : View sig κ sp s e) (f : v.ty.Contents Val)
    {off off' size : Fin s.rank → ℕ} (inb : ∀ a, off a + size a ≤ s.size a) (ho : off = off') (x : (Rect.unit off size inb).shape.Idx) (y : s.Idx)
    (h : ∀ a, (y a).val = off' a + (x a).val) : v.readAt Val (Rect.unit off size inb).toLoadRect f x = v.read Val f y := by
  subst ho
  exact congrArg (v.read Val f) (funext fun a => Fin.ext (by
    show off a + 1 * (x a).val = (y a).val
    rw [h a, Nat.one_mul]))

theorem cast_self (x : FVec Ideal S1024x128 .bf16) (h) (r : Fin 1024) (l : Fin 128) : shapeCast S1024x128 x h (ix2 r l) = x (ix2 r l) := by
  pointwise []

theorem k_lt (k : Fin k0_t1_loop.trips) : k.val < 2 := k.isLt

theorem off2 : ∀ k : Fin k0_t1_loop.trips, k0_off2 k = ![1024 * k.val, 0] := by decide +kernel
theorem off3 : ∀ k : Fin k0_t1_loop.trips, k0_off3 k = ![0, 1024 * k.val] := by decide +kernel
theorem off4 : ∀ k : Fin k0_t1_loop.trips, k0_off4 k = ![0, 1024 * k.val] := by decide +kernel
theorem off5 : ∀ k : Fin k0_t1_loop.trips, k0_off5 k = ![0, 1024 * k.val] := by decide +kernel
theorem off6 : ∀ k : Fin k0_t1_loop.trips, k0_off6 k = ![0, 1024 * k.val] := by decide +kernel
theorem off7 : ∀ k : Fin k0_t1_loop.trips, k0_off7 k = ![1024 * k.val, 0] := by decide +kernel
theorem off8 : ∀ k : Fin k0_t1_loop.trips, k0_off8 k = ![1024 * k.val, 0] := by decide +kernel
theorem off9 : ∀ k : Fin k0_t1_loop.trips, k0_off9 k = ![1024 * k.val, 0] := by decide +kernel

/-- A row of the trip's tile among all the rows. -/
def grow (k : Fin k0_t1_loop.trips) (r : Fin 1024) : Fin 2048 := ⟨1024 * k.val + r.val, by have := k_lt k; omega⟩

/-- The masks of the two heads of a pair. -/
def left (l : Fin 128) (x : EReal) : EReal := if l.val < 64 then x else 0
def right (l : Fin 128) (x : EReal) : EReal := if l.val < 64 then 0 else x

/-- A two-head row of the result. -/
def OUT (v2 : IVec S1x128 1) (p q : FVec Ideal S256x128 .f32) : FVec Ideal S1x256x128 .f32 :=
  shapeCast S1x256x128 (select (broadcastTo S256x128 (shapeCast S1x128 v2 shapeCasts_S1x128_S1x128) broadcasts_S1x128_S256x128) p q) shapeCasts_S256x128_S1x256x128

theorem OUT_at (v2 : IVec S1x128 1) (p q : FVec Ideal S256x128 .f32) (r : Fin 256) (l : Fin 128) (hm : ∀ l : Fin 128, v2 (ix2 0 l) = if l.val < 64 then 1#1 else 0#1) :
    OUT v2 p q (ix3 0 r l) = if l.val < 64 then p (ix2 r l) else q (ix2 r l) := by
  pointwise [OUT]
  rw [hm]
  by_cases h : l.val < 64
  · rw [if_pos h, if_pos h]; rfl
  · rw [if_neg h, if_neg h]; rfl

theorem col_at (d : FVec Ideal S256x1 .f32) (r : Fin 256) : shapeCast S1x256x1 d shapeCasts_S256x1_S1x256x1 (ix3 0 r 0) = d (ix2 r 0) := by
  pointwise []

theorem wt_zero (Z : ℕ → EReal) (s t : ℕ) (h : s ≤ t) : wt Z s t = 0 := if_neg (by omega)

/-- The keys after the query weigh nothing. -/
theorem sum_ext (Z : ℕ → EReal) (Vf : ℕ → EReal) (b s n m : ℕ) (h : s ≤ b + n) (hn : n ≤ m) :
    ∑ t ∈ Finset.range n, wt Z s (b + t) * Vf (b + t) = ∑ t ∈ Finset.range m, wt Z s (b + t) * Vf (b + t) := by
  refine Finset.sum_subset (Finset.range_mono hn) fun t _ ht => ?_
  rw [wt_zero _ _ _ (by rw [Finset.mem_range] at ht; omega), zero_mul]

theorem zz0 (q : FVec Ideal S1x256x128 .bf16) (kt : FVec Ideal S128x256 .bf16) (v : Ideal .f32) (r : Fin 256) (c : Fin 256) :
    addf (matmul dot_S256x128_S128x256_S256x256_1_0_0_1_n_n none (shapeCast S256x128 q shapeCasts_S1x256x128_S256x128) kt (constant S256x256 .f32 0x00000000#32)) (broadcast S256x256 v) (ix2 r c)
      = ∑ l : Fin 128, q (ix3 0 r l) * kt (ix2 l c) + v := by
  pointwise []

theorem zz1 (q : FVec Ideal S1x256x128 .bf16) (kt : FVec Ideal S128x512 .bf16) (v : Ideal .f32) (r : Fin 256) (c : Fin 512) :
    addf (matmul dot_S256x128_S128x512_S256x512_1_0_0_1_n_n none (shapeCast S256x128 q shapeCasts_S1x256x128_S256x128) kt (constant S256x512 .f32 0x00000000#32)) (broadcast S256x512 v) (ix2 r c)
      = ∑ l : Fin 128, q (ix3 0 r l) * kt (ix2 l c) + v := by
  pointwise []

theorem zz2 (q : FVec Ideal S1x256x128 .bf16) (kt : FVec Ideal S128x768 .bf16) (v : Ideal .f32) (r : Fin 256) (c : Fin 768) :
    addf (matmul dot_S256x128_S128x768_S256x768_1_0_0_1_n_n none (shapeCast S256x128 q shapeCasts_S1x256x128_S256x128) kt (constant S256x768 .f32 0x00000000#32)) (broadcast S256x768 v) (ix2 r c)
      = ∑ l : Fin 128, q (ix3 0 r l) * kt (ix2 l c) + v := by
  pointwise []

theorem zz3 (q : FVec Ideal S1x256x128 .bf16) (kt : FVec Ideal S128x1024 .bf16) (v : Ideal .f32) (r : Fin 256) (c : Fin 1024) :
    addf (matmul dot_S256x128_S128x1024_S256x1024_1_0_0_1_n_n none (shapeCast S256x128 q shapeCasts_S1x256x128_S256x128) kt (constant S256x1024 .f32 0x00000000#32)) (broadcast S256x1024 v) (ix2 r c)
      = ∑ l : Fin 128, q (ix3 0 r l) * kt (ix2 l c) + v := by
  pointwise []

section
variable
  (arg3 : Memref sig .tc .vmem S2048x128 .bf16) (harg3 : arg3.IsWhole)
  (arg7 : Memref sig .tc .vmem S128x2048 .bf16) (harg7 : arg7.IsWhole)
  (arg8 : Memref sig .tc .vmem S2048x128 .bf16) (harg8 : arg8.IsWhole)
  (arg9 : Memref sig .tc .vmem S256x256 .bf16) (harg9 : arg9.IsWhole)
  (arg10 : Memref sig .tc .vmem S2x1024x128 .bf16) (harg10 : arg10.IsWhole)
  (arg11 : Memref sig .tc .vmem S1x1024x128 .f32) (harg11 : arg11.IsWhole)
  (arg12 : Memref sig .tc .vmem S2x1024x1 .f32) (harg12 : arg12.IsWhole)
  (v2 : IVec S1x128 1) (v9 : Ideal .f32) (v16 : Ideal .f32)
  (X3 : BufTy.Contents (Elt Ideal) arg3.view.ty) (X7 : BufTy.Contents (Elt Ideal) arg7.view.ty)
  (X8 : BufTy.Contents (Elt Ideal) arg8.view.ty) (X9 : BufTy.Contents (Elt Ideal) arg9.view.ty)
  (k : Fin k0_t1_loop.trips)

/-- The exponent's first part for query `s` and key `t`, of the two heads. -/
def zrow0 (s t : Fin 2048) : EReal := ∑ l : Fin 128, left l (arg3.view.read (Elt Ideal) X3 (ix2 s l)) * arg7.view.read (Elt Ideal) X7 (ix2 l t) + v9
def zrow1 (s t : Fin 2048) : EReal := ∑ l : Fin 128, right l (arg3.view.read (Elt Ideal) X3 (ix2 s l)) * arg7.view.read (Elt Ideal) X7 (ix2 l t) + v16

/-- The value of key `t` at a lane. -/
def VV (l : Fin 128) (t : ℕ) : EReal := if h : t < 2048 then arg8.view.read (Elt Ideal) X8 (ix2 ⟨t, h⟩ l) else 0

theorem VV_grow (l : Fin 128) (t : Fin 2048) (n : ℕ) (h : t.val = n) : arg8.view.read (Elt Ideal) X8 (ix2 t l) = VV arg8 X8 l n := by
  subst h
  unfold VV
  rw [dif_pos t.isLt]

theorem v153_at (row : Fin 1024) (l : Fin 128) : trip.sl.v153 (F := Ideal) arg3 X3 k (ix2 row l) = arg3.view.read (Elt Ideal) X3 (ix2 (grow k row) l) := by
  unfold trip.sl.v153
  refine (cast_self _ _ row l).trans (readAt_at arg3.view X3 _ (off2 k) (ix2 row l) (ix2 (grow k row) l) ?_)
  intro a
  fin_cases a
  · rfl
  · exact (Nat.zero_add _).symm

theorem v160_at (hm : ∀ l : Fin 128, v2 (ix2 0 l) = if l.val < 64 then 1#1 else 0#1) (row : Fin 1024) (l : Fin 128) :
    trip.sl.v160 (F := Ideal) arg3 v2 X3 k (ix3 0 row l) = left l (arg3.view.read (Elt Ideal) X3 (ix2 (grow k row) l)) := by
  rw [← v153_at]
  unfold trip.sl.v160 trip.sl.v157 trip.sl.v156 trip.sl.v155 trip.sl.v154 trip.sl.cst_84
  generalize trip.sl.v153 (F := Ideal) arg3 X3 k = y
  pointwise []
  rw [hm]
  unfold left
  by_cases h : l.val < 64
  · rw [if_pos h, if_pos h]; rfl
  · rw [if_neg h, if_neg h]; rfl

theorem v167_at (hm : ∀ l : Fin 128, v2 (ix2 0 l) = if l.val < 64 then 1#1 else 0#1) (row : Fin 1024) (l : Fin 128) :
    trip.sl.v167 (F := Ideal) arg3 v2 X3 k (ix3 0 row l) = right l (arg3.view.read (Elt Ideal) X3 (ix2 (grow k row) l)) := by
  rw [← v153_at]
  unfold trip.sl.v167 trip.sl.v164 trip.sl.v156 trip.sl.v155 trip.sl.v154 trip.sl.cst_84
  generalize trip.sl.v153 (F := Ideal) arg3 X3 k = y
  pointwise []
  rw [hm]
  unfold right
  by_cases h : l.val < 64
  · rw [if_pos h, if_pos h]; rfl
  · rw [if_neg h, if_neg h]; rfl

/-- The masked queries as they are read back. -/
theorem q0_at (hm : ∀ l : Fin 128, v2 (ix2 0 l) = if l.val < 64 then 1#1 else 0#1) (f : BufTy.Contents (Elt Ideal) arg10.view.ty) (row : Fin 1024) (l : Fin 128) :
    arg10.view.read (Elt Ideal) (arg10.view.writes (Elt Ideal) f (trip.sl.H10_2 (F := Ideal) arg3 v2 X3 k)) (ix3 0 row l)
      = left l (arg3.view.read (Elt Ideal) X3 (ix2 (grow k row) l)) := by
  rw [← v160_at arg3 v2 X3 k hm]
  unfold trip.sl.H10_2
  refine (View.read_writes_cons_unit_of_not_mem arg10.view f _ _ _ (ix3 0 row l) rfl 0 (Or.inl Nat.zero_lt_one)).trans ?_
  refine View.read_writes_cons_unit_of_mem arg10.view f _ _ _ (ix3 0 row l) (ix3 0 row l) rfl ?_
  intro a
  fin_cases a <;> exact (Nat.zero_add _).symm

theorem q1_at (hm : ∀ l : Fin 128, v2 (ix2 0 l) = if l.val < 64 then 1#1 else 0#1) (f : BufTy.Contents (Elt Ideal) arg10.view.ty) (row : Fin 1024) (l : Fin 128) :
    arg10.view.read (Elt Ideal) (arg10.view.writes (Elt Ideal) f (trip.sl.H10_2 (F := Ideal) arg3 v2 X3 k)) (ix3 1 row l)
      = right l (arg3.view.read (Elt Ideal) X3 (ix2 (grow k row) l)) := by
  rw [← v167_at arg3 v2 X3 k hm]
  unfold trip.sl.H10_2
  refine View.read_writes_cons_unit_of_mem arg10.view f _ _ _ (ix3 1 row l) (ix3 0 row l) rfl ?_
  intro a
  fin_cases a
  · rfl
  · exact (Nat.zero_add _).symm
  · exact (Nat.zero_add _).symm

theorem v170_at (hm : ∀ l : Fin 128, v2 (ix2 0 l) = if l.val < 64 then 1#1 else 0#1) (r : Fin 256) (l : Fin 128) :
    trip.sl.v170 (F := Ideal) arg3 arg10 v2 X3 k (ix3 0 r l) = left l (arg3.view.read (Elt Ideal) X3 (ix2 (grow k ⟨0 + r.val, by omega⟩) l)) := by
  rw [← q0_at arg3 arg10 v2 X3 k hm arg10.view.junk]
  unfold trip.sl.v170
  refine readAt_at arg10.view _ _ rfl (ix3 0 r l) (ix3 0 ⟨0 + r.val, by omega⟩ l) ?_
  intro a
  fin_cases a
  · rfl
  · rfl
  · exact (Nat.zero_add _).symm

theorem z00_at (hm : ∀ l : Fin 128, v2 (ix2 0 l) = if l.val < 64 then 1#1 else 0#1) (r : Fin 256) (c : Fin 256) :
    trip.sl.v176 (F := Ideal) arg3 arg7 arg10 v2 v9 X3 X7 k (ix2 r c) = zrow0 arg3 arg7 v9 X3 X7 (grow k ⟨0 + r.val, by omega⟩) (grow k ⟨c.val, by omega⟩) := by
  refine (zz0 (trip.sl.v170 (F := Ideal) arg3 arg10 v2 X3 k) (View.readAt (Elt Ideal) arg7.view (Rect.unit (s := S128x2048) (k0_off3 k) S128x256.size (k0_off3_inb k)).toLoadRect X7) v9 r c).trans ?_
  unfold zrow0
  refine congrArg (fun x => x + v9) (Finset.sum_congr rfl fun l _ => ?_)
  rw [v170_at arg3 arg10 v2 X3 k hm]
  refine congrArg (fun x => left l (arg3.view.read (Elt Ideal) X3 (ix2 (grow k ⟨0 + r.val, by omega⟩) l)) * x) ?_
  refine readAt_at arg7.view X7 _ (off3 k) (ix2 l c) (ix2 l (grow k ⟨c.val, by omega⟩)) ?_
  intro a
  fin_cases a
  · exact (Nat.zero_add _).symm
  · rfl

theorem v177_at (hm : ∀ l : Fin 128, v2 (ix2 0 l) = if l.val < 64 then 1#1 else 0#1) (r : Fin 256) (l : Fin 128) :
    trip.sl.v177 (F := Ideal) arg3 arg10 v2 X3 k (ix3 0 r l) = left l (arg3.view.read (Elt Ideal) X3 (ix2 (grow k ⟨256 + r.val, by omega⟩) l)) := by
  rw [← q0_at arg3 arg10 v2 X3 k hm arg10.view.junk]
  unfold trip.sl.v177
  refine readAt_at arg10.view _ _ rfl (ix3 0 r l) (ix3 0 ⟨256 + r.val, by omega⟩ l) ?_
  intro a
  fin_cases a
  · rfl
  · rfl
  · exact (Nat.zero_add _).symm

theorem z01_at (hm : ∀ l : Fin 128, v2 (ix2 0 l) = if l.val < 64 then 1#1 else 0#1) (r : Fin 256) (c : Fin 512) :
    trip.sl.v183 (F := Ideal) arg3 arg7 arg10 v2 v9 X3 X7 k (ix2 r c) = zrow0 arg3 arg7 v9 X3 X7 (grow k ⟨256 + r.val, by omega⟩) (grow k ⟨c.val, by omega⟩) := by
  refine (zz1 (trip.sl.v177 (F := Ideal) arg3 arg10 v2 X3 k) (View.readAt (Elt Ideal) arg7.view (Rect.unit (s := S128x2048) (k0_off4 k) S128x512.size (k0_off4_inb k)).toLoadRect X7) v9 r c).trans ?_
  unfold zrow0
  refine congrArg (fun x => x + v9) (Finset.sum_congr rfl fun l _ => ?_)
  rw [v177_at arg3 arg10 v2 X3 k hm]
  refine congrArg (fun x => left l (arg3.view.read (Elt Ideal) X3 (ix2 (grow k ⟨256 + r.val, by omega⟩) l)) * x) ?_
  refine readAt_at arg7.view X7 _ (off4 k) (ix2 l c) (ix2 l (grow k ⟨c.val, by omega⟩)) ?_
  intro a
  fin_cases a
  · exact (Nat.zero_add _).symm
  · rfl

theorem v184_at (hm : ∀ l : Fin 128, v2 (ix2 0 l) = if l.val < 64 then 1#1 else 0#1) (r : Fin 256) (l : Fin 128) :
    trip.sl.v184 (F := Ideal) arg3 arg10 v2 X3 k (ix3 0 r l) = left l (arg3.view.read (Elt Ideal) X3 (ix2 (grow k ⟨512 + r.val, by omega⟩) l)) := by
  rw [← q0_at arg3 arg10 v2 X3 k hm arg10.view.junk]
  unfold trip.sl.v184
  refine readAt_at arg10.view _ _ rfl (ix3 0 r l) (ix3 0 ⟨512 + r.val, by omega⟩ l) ?_
  intro a
  fin_cases a
  · rfl
  · rfl
  · exact (Nat.zero_add _).symm

theorem z02_at (hm : ∀ l : Fin 128, v2 (ix2 0 l) = if l.val < 64 then 1#1 else 0#1) (r : Fin 256) (c : Fin 768) :
    trip.sl.v190 (F := Ideal) arg3 arg7 arg10 v2 v9 X3 X7 k (ix2 r c) = zrow0 arg3 arg7 v9 X3 X7 (grow k ⟨512 + r.val, by omega⟩) (grow k ⟨c.val, by omega⟩) := by
  refine (zz2 (trip.sl.v184 (F := Ideal) arg3 arg10 v2 X3 k) (View.readAt (Elt Ideal) arg7.view (Rect.unit (s := S128x2048) (k0_off5 k) S128x768.size (k0_off5_inb k)).toLoadRect X7) v9 r c).trans ?_
  unfold zrow0
  refine congrArg (fun x => x + v9) (Finset.sum_congr rfl fun l _ => ?_)
  rw [v184_at arg3 arg10 v2 X3 k hm]
  refine congrArg (fun x => left l (arg3.view.read (Elt Ideal) X3 (ix2 (grow k ⟨512 + r.val, by omega⟩) l)) * x) ?_
  refine readAt_at arg7.view X7 _ (off5 k) (ix2 l c) (ix2 l (grow k ⟨c.val, by omega⟩)) ?_
  intro a
  fin_cases a
  · exact (Nat.zero_add _).symm
  · rfl

theorem v191_at (hm : ∀ l : Fin 128, v2 (ix2 0 l) = if l.val < 64 then 1#1 else 0#1) (r : Fin 256) (l : Fin 128) :
    trip.sl.v191 (F := Ideal) arg3 arg10 v2 X3 k (ix3 0 r l) = left l (arg3.view.read (Elt Ideal) X3 (ix2 (grow k ⟨768 + r.val, by omega⟩) l)) := by
  rw [← q0_at arg3 arg10 v2 X3 k hm arg10.view.junk]
  unfold trip.sl.v191
  refine readAt_at arg10.view _ _ rfl (ix3 0 r l) (ix3 0 ⟨768 + r.val, by omega⟩ l) ?_
  intro a
  fin_cases a
  · rfl
  · rfl
  · exact (Nat.zero_add _).symm

theorem z03_at (hm : ∀ l : Fin 128, v2 (ix2 0 l) = if l.val < 64 then 1#1 else 0#1) (r : Fin 256) (c : Fin 1024) :
    trip.sl.v197 (F := Ideal) arg3 arg7 arg10 v2 v9 X3 X7 k (ix2 r c) = zrow0 arg3 arg7 v9 X3 X7 (grow k ⟨768 + r.val, by omega⟩) (grow k ⟨c.val, by omega⟩) := by
  refine (zz3 (trip.sl.v191 (F := Ideal) arg3 arg10 v2 X3 k) (View.readAt (Elt Ideal) arg7.view (Rect.unit (s := S128x2048) (k0_off6 k) S128x1024.size (k0_off6_inb k)).toLoadRect X7) v9 r c).trans ?_
  unfold zrow0
  refine congrArg (fun x => x + v9) (Finset.sum_congr rfl fun l _ => ?_)
  rw [v191_at arg3 arg10 v2 X3 k hm]
  refine congrArg (fun x => left l (arg3.view.read (Elt Ideal) X3 (ix2 (grow k ⟨768 + r.val, by omega⟩) l)) * x) ?_
  refine readAt_at arg7.view X7 _ (off6 k) (ix2 l c) (ix2 l (grow k ⟨c.val, by omega⟩)) ?_
  intro a
  fin_cases a
  · exact (Nat.zero_add _).symm
  · rfl

theorem v198_at (hm : ∀ l : Fin 128, v2 (ix2 0 l) = if l.val < 64 then 1#1 else 0#1) (r : Fin 256) (l : Fin 128) :
    trip.sl.v198 (F := Ideal) arg3 arg10 v2 X3 k (ix3 0 r l) = right l (arg3.view.read (Elt Ideal) X3 (ix2 (grow k ⟨0 + r.val, by omega⟩) l)) := by
  rw [← q1_at arg3 arg10 v2 X3 k hm arg10.view.junk]
  unfold trip.sl.v198
  refine readAt_at arg10.view _ _ rfl (ix3 0 r l) (ix3 1 ⟨0 + r.val, by omega⟩ l) ?_
  intro a
  fin_cases a
  · rfl
  · rfl
  · exact (Nat.zero_add _).symm

theorem z10_at (hm : ∀ l : Fin 128, v2 (ix2 0 l) = if l.val < 64 then 1#1 else 0#1) (r : Fin 256) (c : Fin 256) :
    trip.sl.v204 (F := Ideal) arg3 arg7 arg10 v2 v16 X3 X7 k (ix2 r c) = zrow1 arg3 arg7 v16 X3 X7 (grow k ⟨0 + r.val, by omega⟩) (grow k ⟨c.val, by omega⟩) := by
  refine (zz0 (trip.sl.v198 (F := Ideal) arg3 arg10 v2 X3 k) (View.readAt (Elt Ideal) arg7.view (Rect.unit (s := S128x2048) (k0_off3 k) S128x256.size (k0_off3_inb k)).toLoadRect X7) v16 r c).trans ?_
  unfold zrow1
  refine congrArg (fun x => x + v16) (Finset.sum_congr rfl fun l _ => ?_)
  rw [v198_at arg3 arg10 v2 X3 k hm]
  refine congrArg (fun x => right l (arg3.view.read (Elt Ideal) X3 (ix2 (grow k ⟨0 + r.val, by omega⟩) l)) * x) ?_
  refine readAt_at arg7.view X7 _ (off3 k) (ix2 l c) (ix2 l (grow k ⟨c.val, by omega⟩)) ?_
  intro a
  fin_cases a
  · exact (Nat.zero_add _).symm
  · rfl

theorem v205_at (hm : ∀ l : Fin 128, v2 (ix2 0 l) = if l.val < 64 then 1#1 else 0#1) (r : Fin 256) (l : Fin 128) :
    trip.sl.v205 (F := Ideal) arg3 arg10 v2 X3 k (ix3 0 r l) = right l (arg3.view.read (Elt Ideal) X3 (ix2 (grow k ⟨256 + r.val, by omega⟩) l)) := by
  rw [← q1_at arg3 arg10 v2 X3 k hm arg10.view.junk]
  unfold trip.sl.v205
  refine readAt_at arg10.view _ _ rfl (ix3 0 r l) (ix3 1 ⟨256 + r.val, by omega⟩ l) ?_
  intro a
  fin_cases a
  · rfl
  · rfl
  · exact (Nat.zero_add _).symm

theorem z11_at (hm : ∀ l : Fin 128, v2 (ix2 0 l) = if l.val < 64 then 1#1 else 0#1) (r : Fin 256) (c : Fin 512) :
    trip.sl.v211 (F := Ideal) arg3 arg7 arg10 v2 v16 X3 X7 k (ix2 r c) = zrow1 arg3 arg7 v16 X3 X7 (grow k ⟨256 + r.val, by omega⟩) (grow k ⟨c.val, by omega⟩) := by
  refine (zz1 (trip.sl.v205 (F := Ideal) arg3 arg10 v2 X3 k) (View.readAt (Elt Ideal) arg7.view (Rect.unit (s := S128x2048) (k0_off4 k) S128x512.size (k0_off4_inb k)).toLoadRect X7) v16 r c).trans ?_
  unfold zrow1
  refine congrArg (fun x => x + v16) (Finset.sum_congr rfl fun l _ => ?_)
  rw [v205_at arg3 arg10 v2 X3 k hm]
  refine congrArg (fun x => right l (arg3.view.read (Elt Ideal) X3 (ix2 (grow k ⟨256 + r.val, by omega⟩) l)) * x) ?_
  refine readAt_at arg7.view X7 _ (off4 k) (ix2 l c) (ix2 l (grow k ⟨c.val, by omega⟩)) ?_
  intro a
  fin_cases a
  · exact (Nat.zero_add _).symm
  · rfl

theorem v212_at (hm : ∀ l : Fin 128, v2 (ix2 0 l) = if l.val < 64 then 1#1 else 0#1) (r : Fin 256) (l : Fin 128) :
    trip.sl.v212 (F := Ideal) arg3 arg10 v2 X3 k (ix3 0 r l) = right l (arg3.view.read (Elt Ideal) X3 (ix2 (grow k ⟨512 + r.val, by omega⟩) l)) := by
  rw [← q1_at arg3 arg10 v2 X3 k hm arg10.view.junk]
  unfold trip.sl.v212
  refine readAt_at arg10.view _ _ rfl (ix3 0 r l) (ix3 1 ⟨512 + r.val, by omega⟩ l) ?_
  intro a
  fin_cases a
  · rfl
  · rfl
  · exact (Nat.zero_add _).symm

theorem z12_at (hm : ∀ l : Fin 128, v2 (ix2 0 l) = if l.val < 64 then 1#1 else 0#1) (r : Fin 256) (c : Fin 768) :
    trip.sl.v218 (F := Ideal) arg3 arg7 arg10 v2 v16 X3 X7 k (ix2 r c) = zrow1 arg3 arg7 v16 X3 X7 (grow k ⟨512 + r.val, by omega⟩) (grow k ⟨c.val, by omega⟩) := by
  refine (zz2 (trip.sl.v212 (F := Ideal) arg3 arg10 v2 X3 k) (View.readAt (Elt Ideal) arg7.view (Rect.unit (s := S128x2048) (k0_off5 k) S128x768.size (k0_off5_inb k)).toLoadRect X7) v16 r c).trans ?_
  unfold zrow1
  refine congrArg (fun x => x + v16) (Finset.sum_congr rfl fun l _ => ?_)
  rw [v212_at arg3 arg10 v2 X3 k hm]
  refine congrArg (fun x => right l (arg3.view.read (Elt Ideal) X3 (ix2 (grow k ⟨512 + r.val, by omega⟩) l)) * x) ?_
  refine readAt_at arg7.view X7 _ (off5 k) (ix2 l c) (ix2 l (grow k ⟨c.val, by omega⟩)) ?_
  intro a
  fin_cases a
  · exact (Nat.zero_add _).symm
  · rfl

theorem v219_at (hm : ∀ l : Fin 128, v2 (ix2 0 l) = if l.val < 64 then 1#1 else 0#1) (r : Fin 256) (l : Fin 128) :
    trip.sl.v219 (F := Ideal) arg3 arg10 v2 X3 k (ix3 0 r l) = right l (arg3.view.read (Elt Ideal) X3 (ix2 (grow k ⟨768 + r.val, by omega⟩) l)) := by
  rw [← q1_at arg3 arg10 v2 X3 k hm arg10.view.junk]
  unfold trip.sl.v219
  refine readAt_at arg10.view _ _ rfl (ix3 0 r l) (ix3 1 ⟨768 + r.val, by omega⟩ l) ?_
  intro a
  fin_cases a
  · rfl
  · rfl
  · exact (Nat.zero_add _).symm

theorem z13_at (hm : ∀ l : Fin 128, v2 (ix2 0 l) = if l.val < 64 then 1#1 else 0#1) (r : Fin 256) (c : Fin 1024) :
    trip.sl.r (F := Ideal) arg3 arg7 arg10 v2 v16 X3 X7 k (ix2 r c) = zrow1 arg3 arg7 v16 X3 X7 (grow k ⟨768 + r.val, by omega⟩) (grow k ⟨c.val, by omega⟩) := by
  refine (zz3 (trip.sl.v219 (F := Ideal) arg3 arg10 v2 X3 k) (View.readAt (Elt Ideal) arg7.view (Rect.unit (s := S128x2048) (k0_off6 k) S128x1024.size (k0_off6_inb k)).toLoadRect X7) v16 r c).trans ?_
  unfold zrow1
  refine congrArg (fun x => x + v16) (Finset.sum_congr rfl fun l _ => ?_)
  rw [v219_at arg3 arg10 v2 X3 k hm]
  refine congrArg (fun x => right l (arg3.view.read (Elt Ideal) X3 (ix2 (grow k ⟨768 + r.val, by omega⟩) l)) * x) ?_
  refine readAt_at arg7.view X7 _ (off6 k) (ix2 l c) (ix2 l (grow k ⟨c.val, by omega⟩)) ?_
  intro a
  fin_cases a
  · exact (Nat.zero_add _).symm
  · rfl

theorem u_at (hU : ∀ k c : Fin 256, arg9.view.read (Elt Ideal) X9 (ix2 k c) = if c.val ≤ k.val then -1 else 0) (a c : Fin 256) : UU arg9 X9 (ix2 a c) = if c.val ≤ a.val then -1 else 0 := by
  rw [← hU a c]
  refine readAt_at arg9.view X9 _ rfl (ix2 a c) (ix2 a c) ?_
  intro x
  fin_cases x <;> exact (Nat.zero_add _).symm

theorem vals0_at (t : Fin 256) (l : Fin 128) :
    View.readAt (Elt Ideal) arg8.view (Rect.unit (s := S2048x128) (k0_off7 k) S256x128.size (k0_off7_inb k)).toLoadRect X8 (ix2 t l) = VV arg8 X8 l (1024 * k.val + t.val) := by
  refine Eq.trans ?_ (VV_grow arg8 X8 l (grow k ⟨t.val, by omega⟩) (1024 * k.val + t.val) rfl)
  refine readAt_at arg8.view X8 _ (off7 k) (ix2 t l) (ix2 (grow k ⟨t.val, by omega⟩) l) ?_
  intro a
  fin_cases a
  · rfl
  · exact (Nat.zero_add _).symm

theorem pv00_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256) (l : Fin 128)
    (hz : ∀ t : Fin 2048, zrow0 arg3 arg7 v9 X3 X7 (grow k ⟨0 + r.val, by omega⟩) t = Z t.val) :
    PV0 (trip.sl.v176 (F := Ideal) arg3 arg7 arg10 v2 v9 X3 X7 k) (UU arg9 X9) (View.readAt (Elt Ideal) arg8.view (Rect.unit (s := S2048x128) (k0_off7 k) S256x128.size (k0_off7_inb k)).toLoadRect X8) (ix2 r l)
      = ∑ t ∈ Finset.range 1024, wt Z (1024 * k.val + (0 + r.val)) (1024 * k.val + t) * VV arg8 X8 l (1024 * k.val + t) := by
  refine (PV0_at _ _ Z (1024 * k.val) r (u_at arg9 X9 hU) (fun c => ?_) _ (VV arg8 X8 l) l (fun t => vals0_at arg8 X8 k t l)).trans ?_
  · rw [z00_at arg3 arg7 arg10 v2 v9 X3 X7 k hm, hz]
    rfl
  · rw [sum_ext Z _ _ _ 256 1024 (by omega) (by omega), Nat.add_assoc]

theorem d00_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow0 arg3 arg7 v9 X3 X7 (grow k ⟨0 + r.val, by omega⟩) t = Z t.val) :
    D0_0 (trip.sl.v176 (F := Ideal) arg3 arg7 arg10 v2 v9 X3 X7 k) (UU arg9 X9) (ix2 r 0) = TS Z (1024 * k.val) (1024 * k.val + (0 + r.val)) := by
  refine (D0_0_at _ _ Z (1024 * k.val) r (u_at arg9 X9 hU) (fun c => ?_)).trans ?_
  · rw [z00_at arg3 arg7 arg10 v2 v9 X3 X7 k hm, hz]
    rfl
  · rw [Nat.add_assoc]

theorem pv10_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256) (l : Fin 128)
    (hz : ∀ t : Fin 2048, zrow1 arg3 arg7 v16 X3 X7 (grow k ⟨0 + r.val, by omega⟩) t = Z t.val) :
    PV0 (trip.sl.v204 (F := Ideal) arg3 arg7 arg10 v2 v16 X3 X7 k) (UU arg9 X9) (View.readAt (Elt Ideal) arg8.view (Rect.unit (s := S2048x128) (k0_off7 k) S256x128.size (k0_off7_inb k)).toLoadRect X8) (ix2 r l)
      = ∑ t ∈ Finset.range 1024, wt Z (1024 * k.val + (0 + r.val)) (1024 * k.val + t) * VV arg8 X8 l (1024 * k.val + t) := by
  refine (PV0_at _ _ Z (1024 * k.val) r (u_at arg9 X9 hU) (fun c => ?_) _ (VV arg8 X8 l) l (fun t => vals0_at arg8 X8 k t l)).trans ?_
  · rw [z10_at arg3 arg7 arg10 v2 v16 X3 X7 k hm, hz]
    rfl
  · rw [sum_ext Z _ _ _ 256 1024 (by omega) (by omega), Nat.add_assoc]

theorem d10_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow1 arg3 arg7 v16 X3 X7 (grow k ⟨0 + r.val, by omega⟩) t = Z t.val) :
    D0_0 (trip.sl.v204 (F := Ideal) arg3 arg7 arg10 v2 v16 X3 X7 k) (UU arg9 X9) (ix2 r 0) = TS Z (1024 * k.val) (1024 * k.val + (0 + r.val)) := by
  refine (D0_0_at _ _ Z (1024 * k.val) r (u_at arg9 X9 hU) (fun c => ?_)).trans ?_
  · rw [z10_at arg3 arg7 arg10 v2 v16 X3 X7 k hm, hz]
    rfl
  · rw [Nat.add_assoc]

theorem vals1_at (t : Fin 512) (l : Fin 128) :
    View.readAt (Elt Ideal) arg8.view (Rect.unit (s := S2048x128) (k0_off8 k) S512x128.size (k0_off8_inb k)).toLoadRect X8 (ix2 t l) = VV arg8 X8 l (1024 * k.val + t.val) := by
  refine Eq.trans ?_ (VV_grow arg8 X8 l (grow k ⟨t.val, by omega⟩) (1024 * k.val + t.val) rfl)
  refine readAt_at arg8.view X8 _ (off8 k) (ix2 t l) (ix2 (grow k ⟨t.val, by omega⟩) l) ?_
  intro a
  fin_cases a
  · rfl
  · exact (Nat.zero_add _).symm

theorem pv01_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256) (l : Fin 128)
    (hz : ∀ t : Fin 2048, zrow0 arg3 arg7 v9 X3 X7 (grow k ⟨256 + r.val, by omega⟩) t = Z t.val) :
    PV1 (trip.sl.v183 (F := Ideal) arg3 arg7 arg10 v2 v9 X3 X7 k) (UU arg9 X9) (View.readAt (Elt Ideal) arg8.view (Rect.unit (s := S2048x128) (k0_off8 k) S512x128.size (k0_off8_inb k)).toLoadRect X8) (ix2 r l)
      = ∑ t ∈ Finset.range 1024, wt Z (1024 * k.val + (256 + r.val)) (1024 * k.val + t) * VV arg8 X8 l (1024 * k.val + t) := by
  refine (PV1_at _ _ Z (1024 * k.val) r (u_at arg9 X9 hU) (fun c => ?_) _ (VV arg8 X8 l) l (fun t => vals1_at arg8 X8 k t l)).trans ?_
  · rw [z01_at arg3 arg7 arg10 v2 v9 X3 X7 k hm, hz]
    rfl
  · rw [sum_ext Z _ _ _ 512 1024 (by omega) (by omega), Nat.add_assoc]

theorem d01_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow0 arg3 arg7 v9 X3 X7 (grow k ⟨256 + r.val, by omega⟩) t = Z t.val) :
    D1_0 (trip.sl.v183 (F := Ideal) arg3 arg7 arg10 v2 v9 X3 X7 k) (UU arg9 X9) (ix2 r 0) = TS Z (1024 * k.val) (1024 * k.val + (256 + r.val)) := by
  refine (D1_0_at _ _ Z (1024 * k.val) r (u_at arg9 X9 hU) (fun c => ?_)).trans ?_
  · rw [z01_at arg3 arg7 arg10 v2 v9 X3 X7 k hm, hz]
    rfl
  · rw [Nat.add_assoc]
    rfl

theorem pv11_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256) (l : Fin 128)
    (hz : ∀ t : Fin 2048, zrow1 arg3 arg7 v16 X3 X7 (grow k ⟨256 + r.val, by omega⟩) t = Z t.val) :
    PV1 (trip.sl.v211 (F := Ideal) arg3 arg7 arg10 v2 v16 X3 X7 k) (UU arg9 X9) (View.readAt (Elt Ideal) arg8.view (Rect.unit (s := S2048x128) (k0_off8 k) S512x128.size (k0_off8_inb k)).toLoadRect X8) (ix2 r l)
      = ∑ t ∈ Finset.range 1024, wt Z (1024 * k.val + (256 + r.val)) (1024 * k.val + t) * VV arg8 X8 l (1024 * k.val + t) := by
  refine (PV1_at _ _ Z (1024 * k.val) r (u_at arg9 X9 hU) (fun c => ?_) _ (VV arg8 X8 l) l (fun t => vals1_at arg8 X8 k t l)).trans ?_
  · rw [z11_at arg3 arg7 arg10 v2 v16 X3 X7 k hm, hz]
    rfl
  · rw [sum_ext Z _ _ _ 512 1024 (by omega) (by omega), Nat.add_assoc]

theorem d11_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow1 arg3 arg7 v16 X3 X7 (grow k ⟨256 + r.val, by omega⟩) t = Z t.val) :
    D1_0 (trip.sl.v211 (F := Ideal) arg3 arg7 arg10 v2 v16 X3 X7 k) (UU arg9 X9) (ix2 r 0) = TS Z (1024 * k.val) (1024 * k.val + (256 + r.val)) := by
  refine (D1_0_at _ _ Z (1024 * k.val) r (u_at arg9 X9 hU) (fun c => ?_)).trans ?_
  · rw [z11_at arg3 arg7 arg10 v2 v16 X3 X7 k hm, hz]
    rfl
  · rw [Nat.add_assoc]
    rfl

theorem vals2_at (t : Fin 768) (l : Fin 128) :
    View.readAt (Elt Ideal) arg8.view (Rect.unit (s := S2048x128) (k0_off9 k) S768x128.size (k0_off9_inb k)).toLoadRect X8 (ix2 t l) = VV arg8 X8 l (1024 * k.val + t.val) := by
  refine Eq.trans ?_ (VV_grow arg8 X8 l (grow k ⟨t.val, by omega⟩) (1024 * k.val + t.val) rfl)
  refine readAt_at arg8.view X8 _ (off9 k) (ix2 t l) (ix2 (grow k ⟨t.val, by omega⟩) l) ?_
  intro a
  fin_cases a
  · rfl
  · exact (Nat.zero_add _).symm

theorem pv02_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256) (l : Fin 128)
    (hz : ∀ t : Fin 2048, zrow0 arg3 arg7 v9 X3 X7 (grow k ⟨512 + r.val, by omega⟩) t = Z t.val) :
    PV2 (trip.sl.v190 (F := Ideal) arg3 arg7 arg10 v2 v9 X3 X7 k) (UU arg9 X9) (View.readAt (Elt Ideal) arg8.view (Rect.unit (s := S2048x128) (k0_off9 k) S768x128.size (k0_off9_inb k)).toLoadRect X8) (ix2 r l)
      = ∑ t ∈ Finset.range 1024, wt Z (1024 * k.val + (512 + r.val)) (1024 * k.val + t) * VV arg8 X8 l (1024 * k.val + t) := by
  refine (PV2_at _ _ Z (1024 * k.val) r (u_at arg9 X9 hU) (fun c => ?_) _ (VV arg8 X8 l) l (fun t => vals2_at arg8 X8 k t l)).trans ?_
  · rw [z02_at arg3 arg7 arg10 v2 v9 X3 X7 k hm, hz]
    rfl
  · rw [sum_ext Z _ _ _ 768 1024 (by omega) (by omega), Nat.add_assoc]

theorem d02_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow0 arg3 arg7 v9 X3 X7 (grow k ⟨512 + r.val, by omega⟩) t = Z t.val) :
    D2_0 (trip.sl.v190 (F := Ideal) arg3 arg7 arg10 v2 v9 X3 X7 k) (UU arg9 X9) (ix2 r 0) = TS Z (1024 * k.val) (1024 * k.val + (512 + r.val)) := by
  refine (D2_0_at _ _ Z (1024 * k.val) r (u_at arg9 X9 hU) (fun c => ?_)).trans ?_
  · rw [z02_at arg3 arg7 arg10 v2 v9 X3 X7 k hm, hz]
    rfl
  · rw [Nat.add_assoc]
    rfl

theorem pv12_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256) (l : Fin 128)
    (hz : ∀ t : Fin 2048, zrow1 arg3 arg7 v16 X3 X7 (grow k ⟨512 + r.val, by omega⟩) t = Z t.val) :
    PV2 (trip.sl.v218 (F := Ideal) arg3 arg7 arg10 v2 v16 X3 X7 k) (UU arg9 X9) (View.readAt (Elt Ideal) arg8.view (Rect.unit (s := S2048x128) (k0_off9 k) S768x128.size (k0_off9_inb k)).toLoadRect X8) (ix2 r l)
      = ∑ t ∈ Finset.range 1024, wt Z (1024 * k.val + (512 + r.val)) (1024 * k.val + t) * VV arg8 X8 l (1024 * k.val + t) := by
  refine (PV2_at _ _ Z (1024 * k.val) r (u_at arg9 X9 hU) (fun c => ?_) _ (VV arg8 X8 l) l (fun t => vals2_at arg8 X8 k t l)).trans ?_
  · rw [z12_at arg3 arg7 arg10 v2 v16 X3 X7 k hm, hz]
    rfl
  · rw [sum_ext Z _ _ _ 768 1024 (by omega) (by omega), Nat.add_assoc]

theorem d12_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow1 arg3 arg7 v16 X3 X7 (grow k ⟨512 + r.val, by omega⟩) t = Z t.val) :
    D2_0 (trip.sl.v218 (F := Ideal) arg3 arg7 arg10 v2 v16 X3 X7 k) (UU arg9 X9) (ix2 r 0) = TS Z (1024 * k.val) (1024 * k.val + (512 + r.val)) := by
  refine (D2_0_at _ _ Z (1024 * k.val) r (u_at arg9 X9 hU) (fun c => ?_)).trans ?_
  · rw [z12_at arg3 arg7 arg10 v2 v16 X3 X7 k hm, hz]
    rfl
  · rw [Nat.add_assoc]
    rfl

theorem vals3_at (t : Fin 1024) (l : Fin 128) :
    View.readAt (Elt Ideal) arg8.view (Rect.unit (s := S2048x128) (k0_off2 k) S1024x128.size (k0_off2_inb k)).toLoadRect X8 (ix2 t l) = VV arg8 X8 l (1024 * k.val + t.val) := by
  refine Eq.trans ?_ (VV_grow arg8 X8 l (grow k ⟨t.val, by omega⟩) (1024 * k.val + t.val) rfl)
  refine readAt_at arg8.view X8 _ (off2 k) (ix2 t l) (ix2 (grow k ⟨t.val, by omega⟩) l) ?_
  intro a
  fin_cases a
  · rfl
  · exact (Nat.zero_add _).symm

theorem pv03_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256) (l : Fin 128)
    (hz : ∀ t : Fin 2048, zrow0 arg3 arg7 v9 X3 X7 (grow k ⟨768 + r.val, by omega⟩) t = Z t.val) :
    PV3 (trip.sl.v197 (F := Ideal) arg3 arg7 arg10 v2 v9 X3 X7 k) (UU arg9 X9) (View.readAt (Elt Ideal) arg8.view (Rect.unit (s := S2048x128) (k0_off2 k) S1024x128.size (k0_off2_inb k)).toLoadRect X8) (ix2 r l)
      = ∑ t ∈ Finset.range 1024, wt Z (1024 * k.val + (768 + r.val)) (1024 * k.val + t) * VV arg8 X8 l (1024 * k.val + t) := by
  refine (PV3_at _ _ Z (1024 * k.val) r (u_at arg9 X9 hU) (fun c => ?_) _ (VV arg8 X8 l) l (fun t => vals3_at arg8 X8 k t l)).trans ?_
  · rw [z03_at arg3 arg7 arg10 v2 v9 X3 X7 k hm, hz]
    rfl
  · rw [sum_ext Z _ _ _ 1024 1024 (by omega) (by omega), Nat.add_assoc]

theorem d03_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow0 arg3 arg7 v9 X3 X7 (grow k ⟨768 + r.val, by omega⟩) t = Z t.val) :
    D3_0 (trip.sl.v197 (F := Ideal) arg3 arg7 arg10 v2 v9 X3 X7 k) (UU arg9 X9) (ix2 r 0) = TS Z (1024 * k.val) (1024 * k.val + (768 + r.val)) := by
  refine (D3_0_at _ _ Z (1024 * k.val) r (u_at arg9 X9 hU) (fun c => ?_)).trans ?_
  · rw [z03_at arg3 arg7 arg10 v2 v9 X3 X7 k hm, hz]
    rfl
  · rw [Nat.add_assoc]
    rfl

theorem pv13_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256) (l : Fin 128)
    (hz : ∀ t : Fin 2048, zrow1 arg3 arg7 v16 X3 X7 (grow k ⟨768 + r.val, by omega⟩) t = Z t.val) :
    PV3 (trip.sl.r (F := Ideal) arg3 arg7 arg10 v2 v16 X3 X7 k) (UU arg9 X9) (View.readAt (Elt Ideal) arg8.view (Rect.unit (s := S2048x128) (k0_off2 k) S1024x128.size (k0_off2_inb k)).toLoadRect X8) (ix2 r l)
      = ∑ t ∈ Finset.range 1024, wt Z (1024 * k.val + (768 + r.val)) (1024 * k.val + t) * VV arg8 X8 l (1024 * k.val + t) := by
  refine (PV3_at _ _ Z (1024 * k.val) r (u_at arg9 X9 hU) (fun c => ?_) _ (VV arg8 X8 l) l (fun t => vals3_at arg8 X8 k t l)).trans ?_
  · rw [z13_at arg3 arg7 arg10 v2 v16 X3 X7 k hm, hz]
    rfl
  · rw [sum_ext Z _ _ _ 1024 1024 (by omega) (by omega), Nat.add_assoc]

theorem d13_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow1 arg3 arg7 v16 X3 X7 (grow k ⟨768 + r.val, by omega⟩) t = Z t.val) :
    D3_0 (trip.sl.r (F := Ideal) arg3 arg7 arg10 v2 v16 X3 X7 k) (UU arg9 X9) (ix2 r 0) = TS Z (1024 * k.val) (1024 * k.val + (768 + r.val)) := by
  refine (D3_0_at _ _ Z (1024 * k.val) r (u_at arg9 X9 hU) (fun c => ?_)).trans ?_
  · rw [z13_at arg3 arg7 arg10 v2 v16 X3 X7 k hm, hz]
    rfl
  · rw [Nat.add_assoc]
    rfl

end
end Cert.KernelIdeal.AttnV
-- ==== Proof.AttnV.Acc.lean ====
/- The accumulator and the carries after the own tile of a trip, at every row. -/
module

public import proofs.«01_k».proof.Proof.AttnV.Row
public import Idealize.ShloMosaic.Lib.WritesUnit

@[expose] public section

set_option maxRecDepth 16384
set_option maxHeartbeats 400000

noncomputable section

namespace Cert.KernelIdeal.AttnV

open Cert.KernelIdeal Cert.KernelIdeal.Gen Cert.KernelIdeal.Attn
open Idealize.ShloMosaic Idealize.ShloMosaic.TcCoe Idealize.SL.Sem

section
variable
  (arg3 : Memref sig .tc .vmem S2048x128 .bf16) (harg3 : arg3.IsWhole)
  (arg7 : Memref sig .tc .vmem S128x2048 .bf16) (harg7 : arg7.IsWhole)
  (arg8 : Memref sig .tc .vmem S2048x128 .bf16) (harg8 : arg8.IsWhole)
  (arg9 : Memref sig .tc .vmem S256x256 .bf16) (harg9 : arg9.IsWhole)
  (arg10 : Memref sig .tc .vmem S2x1024x128 .bf16) (harg10 : arg10.IsWhole)
  (arg11 : Memref sig .tc .vmem S1x1024x128 .f32) (harg11 : arg11.IsWhole)
  (arg12 : Memref sig .tc .vmem S2x1024x1 .f32) (harg12 : arg12.IsWhole)
  (v2 : IVec S1x128 1) (v9 : Ideal .f32) (v16 : Ideal .f32)
  (X3 : BufTy.Contents (Elt Ideal) arg3.view.ty) (X7 : BufTy.Contents (Elt Ideal) arg7.view.ty)
  (X8 : BufTy.Contents (Elt Ideal) arg8.view.ty) (X9 : BufTy.Contents (Elt Ideal) arg9.view.ty)
  (k : Fin k0_t1_loop.trips)

theorem piece0 : trip.sl.v645 (F := Ideal) arg3 arg7 arg8 arg9 arg10 v2 v9 v16 X3 X7 X8 X9 k
    = OUT v2 (PV0 (trip.sl.v176 (F := Ideal) arg3 arg7 arg10 v2 v9 X3 X7 k) (UU arg9 X9) (View.readAt (Elt Ideal) arg8.view (Rect.unit (s := S2048x128) (k0_off7 k) S256x128.size (k0_off7_inb k)).toLoadRect X8)) (PV0 (trip.sl.v204 (F := Ideal) arg3 arg7 arg10 v2 v16 X3 X7 k) (UU arg9 X9) (View.readAt (Elt Ideal) arg8.view (Rect.unit (s := S2048x128) (k0_off7 k) S256x128.size (k0_off7_inb k)).toLoadRect X8)) := by
  unfold trip.sl.v645 trip.sl.r_62
  rw [e_r_1, e_r_32]
  rfl

theorem piece1 : trip.sl.v685 (F := Ideal) arg3 arg7 arg8 arg9 arg10 v2 v9 v16 X3 X7 X8 X9 k
    = OUT v2 (PV1 (trip.sl.v183 (F := Ideal) arg3 arg7 arg10 v2 v9 X3 X7 k) (UU arg9 X9) (View.readAt (Elt Ideal) arg8.view (Rect.unit (s := S2048x128) (k0_off8 k) S512x128.size (k0_off8_inb k)).toLoadRect X8)) (PV1 (trip.sl.v211 (F := Ideal) arg3 arg7 arg10 v2 v16 X3 X7 k) (UU arg9 X9) (View.readAt (Elt Ideal) arg8.view (Rect.unit (s := S2048x128) (k0_off8 k) S512x128.size (k0_off8_inb k)).toLoadRect X8)) := by
  unfold trip.sl.v685 trip.sl.v682 trip.sl.v681 trip.sl.v155 trip.sl.v662 trip.sl.v659 trip.sl.v658 trip.sl.v679 trip.sl.v676 trip.sl.v675
  rw [e_v649, e_v653, e_v666, e_v670]
  rfl

theorem piece2 : trip.sl.v733 (F := Ideal) arg3 arg7 arg8 arg9 arg10 v2 v9 v16 X3 X7 X8 X9 k
    = OUT v2 (PV2 (trip.sl.v190 (F := Ideal) arg3 arg7 arg10 v2 v9 X3 X7 k) (UU arg9 X9) (View.readAt (Elt Ideal) arg8.view (Rect.unit (s := S2048x128) (k0_off9 k) S768x128.size (k0_off9_inb k)).toLoadRect X8)) (PV2 (trip.sl.v218 (F := Ideal) arg3 arg7 arg10 v2 v16 X3 X7 k) (UU arg9 X9) (View.readAt (Elt Ideal) arg8.view (Rect.unit (s := S2048x128) (k0_off9 k) S768x128.size (k0_off9_inb k)).toLoadRect X8)) := by
  unfold trip.sl.v733 trip.sl.v730 trip.sl.v681 trip.sl.v155 trip.sl.v706 trip.sl.v703 trip.sl.v702 trip.sl.v727 trip.sl.v724 trip.sl.v723
  rw [e_v689, e_v693, e_v697, e_v710, e_v714, e_v718]
  rfl

theorem piece3 : k0_pay254 (F := Ideal) v2 (trip.sl.v758 arg3 arg7 arg8 arg9 arg10 v2 v9 X3 X7 X8 X9 k) (trip.sl.v762 arg3 arg7 arg9 arg10 v2 v16 X3 X7 X9 k) (trip.sl.v766 arg3 arg7 arg9 arg10 v2 v16 X3 X7 X9 k) (trip.sl.v770 arg3 arg7 arg9 arg10 v2 v16 X3 X7 X9 k) (trip.sl.v774 arg3 arg7 arg9 arg10 v2 v16 X3 X7 X9 k) (View.readAt (Elt Ideal) arg8.view (Rect.unit (s := S2048x128) (k0_off2 k) S1024x128.size (k0_off2_inb k)).toLoadRect X8)
    = OUT v2 (PV3 (trip.sl.v197 (F := Ideal) arg3 arg7 arg10 v2 v9 X3 X7 k) (UU arg9 X9) (View.readAt (Elt Ideal) arg8.view (Rect.unit (s := S2048x128) (k0_off2 k) S1024x128.size (k0_off2_inb k)).toLoadRect X8)) (PV3 (trip.sl.r (F := Ideal) arg3 arg7 arg10 v2 v16 X3 X7 k) (UU arg9 X9) (View.readAt (Elt Ideal) arg8.view (Rect.unit (s := S2048x128) (k0_off2 k) S1024x128.size (k0_off2_inb k)).toLoadRect X8)) := by
  unfold trip.sl.v758 trip.sl.v755 trip.sl.v754
  rw [e_v737, e_v741, e_v745, e_v749, e_v762, e_v766, e_v770, e_v774]
  rfl

theorem carry00 : k0_pay213 (F := Ideal) (trip.sl.r_2 arg3 arg7 arg9 arg10 v2 v9 X3 X7 X9 k)
    = shapeCast S1x256x1 (D0_0 (trip.sl.v176 (F := Ideal) arg3 arg7 arg10 v2 v9 X3 X7 k) (UU arg9 X9)) shapeCasts_S256x1_S1x256x1 := by
  rw [e_r_2]
  rfl

theorem carry10 : k0_pay215 (F := Ideal) (trip.sl.r_33 arg3 arg7 arg9 arg10 v2 v16 X3 X7 X9 k)
    = shapeCast S1x256x1 (D0_0 (trip.sl.v204 (F := Ideal) arg3 arg7 arg10 v2 v16 X3 X7 k) (UU arg9 X9)) shapeCasts_S256x1_S1x256x1 := by
  rw [e_r_33]
  rfl

theorem carry01 : trip.sl.v657 (F := Ideal) arg3 arg7 arg9 arg10 v2 v9 X3 X7 X9 k
    = shapeCast S1x256x1 (D1_0 (trip.sl.v183 (F := Ideal) arg3 arg7 arg10 v2 v9 X3 X7 k) (UU arg9 X9)) shapeCasts_S256x1_S1x256x1 := by
  unfold trip.sl.v657
  rw [e_v654]

theorem carry11 : trip.sl.v674 (F := Ideal) arg3 arg7 arg9 arg10 v2 v16 X3 X7 X9 k
    = shapeCast S1x256x1 (D1_0 (trip.sl.v211 (F := Ideal) arg3 arg7 arg10 v2 v16 X3 X7 k) (UU arg9 X9)) shapeCasts_S256x1_S1x256x1 := by
  unfold trip.sl.v674
  rw [e_v671]

theorem carry02 : trip.sl.v701 (F := Ideal) arg3 arg7 arg9 arg10 v2 v9 X3 X7 X9 k
    = shapeCast S1x256x1 (D2_0 (trip.sl.v190 (F := Ideal) arg3 arg7 arg10 v2 v9 X3 X7 k) (UU arg9 X9)) shapeCasts_S256x1_S1x256x1 := by
  unfold trip.sl.v701
  rw [e_v698]

theorem carry12 : trip.sl.v722 (F := Ideal) arg3 arg7 arg9 arg10 v2 v16 X3 X7 X9 k
    = shapeCast S1x256x1 (D2_0 (trip.sl.v218 (F := Ideal) arg3 arg7 arg10 v2 v16 X3 X7 k) (UU arg9 X9)) shapeCasts_S256x1_S1x256x1 := by
  unfold trip.sl.v722
  rw [e_v719]

theorem carry03 : trip.sl.v753 (F := Ideal) arg3 arg7 arg9 arg10 v2 v9 X3 X7 X9 k
    = shapeCast S1x256x1 (D3_0 (trip.sl.v197 (F := Ideal) arg3 arg7 arg10 v2 v9 X3 X7 k) (UU arg9 X9)) shapeCasts_S256x1_S1x256x1 := by
  unfold trip.sl.v753
  rw [e_v750]

theorem carry13 : k0_pay253 (F := Ideal) (trip.sl.v775 arg3 arg7 arg9 arg10 v2 v16 X3 X7 X9 k)
    = shapeCast S1x256x1 (D3_0 (trip.sl.r (F := Ideal) arg3 arg7 arg10 v2 v16 X3 X7 k) (UU arg9 X9)) shapeCasts_S256x1_S1x256x1 := by
  rw [e_v775]
  rfl

/-- The log-weights of the head a lane belongs to. -/
def pick (Z0 Z1 : ℕ → EReal) (l : Fin 128) : ℕ → EReal := if l.val < 64 then Z0 else Z1

theorem acc0 (hm : ∀ l : Fin 128, v2 (ix2 0 l) = if l.val < 64 then 1#1 else 0#1) (hU : ∀ k c : Fin 256, arg9.view.read (Elt Ideal) X9 (ix2 k c) = if c.val ≤ k.val then -1 else 0) (Z0 Z1 : ℕ → EReal) (r : Fin 256)
    (hz0 : ∀ t : Fin 2048, zrow0 arg3 arg7 v9 X3 X7 (grow k ⟨0 + r.val, by omega⟩) t = Z0 t.val)
    (hz1 : ∀ t : Fin 2048, zrow1 arg3 arg7 v16 X3 X7 (grow k ⟨0 + r.val, by omega⟩) t = Z1 t.val)
    (f : BufTy.Contents (Elt Ideal) arg11.view.ty) (l : Fin 128) :
    arg11.view.read (Elt Ideal) (arg11.view.writes (Elt Ideal) f (trip.sl.H11_4 (F := Ideal) arg3 arg7 arg8 arg9 arg10 v2 v9 v16 X3 X7 X8 X9 k)) (ix3 0 (⟨0 + r.val, by omega⟩ : Fin 1024) l)
      = ∑ t ∈ Finset.range 1024, wt (pick Z0 Z1 l) (1024 * k.val + (0 + r.val)) (1024 * k.val + t) * VV arg8 X8 l (1024 * k.val + t) := by
  unfold trip.sl.H11_4
  refine (View.read_writes_cons_unit_of_not_mem arg11.view f _ _ _ (ix3 0 (⟨0 + r.val, by omega⟩ : Fin 1024) l) rfl 1 (Or.inl (by show 0 + r.val < 768; omega))).trans ?_
  refine (View.read_writes_cons_unit_of_not_mem arg11.view f _ _ _ (ix3 0 (⟨0 + r.val, by omega⟩ : Fin 1024) l) rfl 1 (Or.inl (by show 0 + r.val < 512; omega))).trans ?_
  refine (View.read_writes_cons_unit_of_not_mem arg11.view f _ _ _ (ix3 0 (⟨0 + r.val, by omega⟩ : Fin 1024) l) rfl 1 (Or.inl (by show 0 + r.val < 256; omega))).trans ?_
  refine (View.read_writes_cons_unit_of_mem arg11.view f _ _ _ (ix3 0 (⟨0 + r.val, by omega⟩ : Fin 1024) l) (ix3 0 r l) rfl ?_).trans ?_
  · intro a
    fin_cases a
    · rfl
    · rfl
    · exact (Nat.zero_add _).symm
  refine (congrFun (piece0 arg3 arg7 arg8 arg9 arg10 v2 v9 v16 X3 X7 X8 X9 k) (ix3 0 r l)).trans ?_
  refine (OUT_at v2 _ _ r l hm).trans ?_
  unfold pick
  by_cases h : l.val < 64
  · rw [if_pos h, if_pos h]
    exact pv00_at arg3 arg7 arg8 arg9 arg10 v2 v9 X3 X7 X8 X9 k hm hU Z0 r l hz0
  · rw [if_neg h, if_neg h]
    exact pv10_at arg3 arg7 arg8 arg9 arg10 v2 v16 X3 X7 X8 X9 k hm hU Z1 r l hz1

theorem car00 (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow0 arg3 arg7 v9 X3 X7 (grow k ⟨0 + r.val, by omega⟩) t = Z t.val)
    (f : BufTy.Contents (Elt Ideal) arg12.view.ty) :
    arg12.view.read (Elt Ideal) (arg12.view.writes (Elt Ideal) f (trip.sl.H12_8 (F := Ideal) arg3 arg7 arg9 arg10 v2 v9 v16 X3 X7 X9 k)) (ix3 0 (⟨0 + r.val, by omega⟩ : Fin 1024) 0)
      = TS Z (1024 * k.val) (1024 * k.val + (0 + r.val)) := by
  unfold trip.sl.H12_8
  refine (View.read_writes_cons_unit_of_not_mem arg12.view f _ _ _ (ix3 0 (⟨0 + r.val, by omega⟩ : Fin 1024) 0) rfl 1 (Or.inl (by show 0 + r.val < 768; omega))).trans ?_
  refine (View.read_writes_cons_unit_of_not_mem arg12.view f _ _ _ (ix3 0 (⟨0 + r.val, by omega⟩ : Fin 1024) 0) rfl 1 (Or.inl (by show 0 + r.val < 768; omega))).trans ?_
  refine (View.read_writes_cons_unit_of_not_mem arg12.view f _ _ _ (ix3 0 (⟨0 + r.val, by omega⟩ : Fin 1024) 0) rfl 1 (Or.inl (by show 0 + r.val < 512; omega))).trans ?_
  refine (View.read_writes_cons_unit_of_not_mem arg12.view f _ _ _ (ix3 0 (⟨0 + r.val, by omega⟩ : Fin 1024) 0) rfl 1 (Or.inl (by show 0 + r.val < 512; omega))).trans ?_
  refine (View.read_writes_cons_unit_of_not_mem arg12.view f _ _ _ (ix3 0 (⟨0 + r.val, by omega⟩ : Fin 1024) 0) rfl 1 (Or.inl (by show 0 + r.val < 256; omega))).trans ?_
  refine (View.read_writes_cons_unit_of_not_mem arg12.view f _ _ _ (ix3 0 (⟨0 + r.val, by omega⟩ : Fin 1024) 0) rfl 1 (Or.inl (by show 0 + r.val < 256; omega))).trans ?_
  refine (View.read_writes_cons_unit_of_not_mem arg12.view f _ _ _ (ix3 0 (⟨0 + r.val, by omega⟩ : Fin 1024) 0) rfl 0 (Or.inl (by show 0 < 1; omega))).trans ?_
  refine (View.read_writes_cons_unit_of_mem arg12.view f _ _ _ (ix3 0 (⟨0 + r.val, by omega⟩ : Fin 1024) 0) (ix3 0 r 0) rfl ?_).trans ?_
  · intro a
    fin_cases a <;> rfl
  refine (congrFun (carry00 arg3 arg7 arg9 arg10 v2 v9 X3 X7 X9 k) (ix3 0 r 0)).trans ?_
  refine (col_at _ r).trans ?_
  exact d00_at arg3 arg7 arg9 arg10 v2 v9 X3 X7 X9 k hm hU Z r hz

theorem car10 (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow1 arg3 arg7 v16 X3 X7 (grow k ⟨0 + r.val, by omega⟩) t = Z t.val)
    (f : BufTy.Contents (Elt Ideal) arg12.view.ty) :
    arg12.view.read (Elt Ideal) (arg12.view.writes (Elt Ideal) f (trip.sl.H12_8 (F := Ideal) arg3 arg7 arg9 arg10 v2 v9 v16 X3 X7 X9 k)) (ix3 1 (⟨0 + r.val, by omega⟩ : Fin 1024) 0)
      = TS Z (1024 * k.val) (1024 * k.val + (0 + r.val)) := by
  unfold trip.sl.H12_8
  refine (View.read_writes_cons_unit_of_not_mem arg12.view f _ _ _ (ix3 1 (⟨0 + r.val, by omega⟩ : Fin 1024) 0) rfl 1 (Or.inl (by show 0 + r.val < 768; omega))).trans ?_
  refine (View.read_writes_cons_unit_of_not_mem arg12.view f _ _ _ (ix3 1 (⟨0 + r.val, by omega⟩ : Fin 1024) 0) rfl 1 (Or.inl (by show 0 + r.val < 768; omega))).trans ?_
  refine (View.read_writes_cons_unit_of_not_mem arg12.view f _ _ _ (ix3 1 (⟨0 + r.val, by omega⟩ : Fin 1024) 0) rfl 1 (Or.inl (by show 0 + r.val < 512; omega))).trans ?_
  refine (View.read_writes_cons_unit_of_not_mem arg12.view f _ _ _ (ix3 1 (⟨0 + r.val, by omega⟩ : Fin 1024) 0) rfl 1 (Or.inl (by show 0 + r.val < 512; omega))).trans ?_
  refine (View.read_writes_cons_unit_of_not_mem arg12.view f _ _ _ (ix3 1 (⟨0 + r.val, by omega⟩ : Fin 1024) 0) rfl 1 (Or.inl (by show 0 + r.val < 256; omega))).trans ?_
  refine (View.read_writes_cons_unit_of_not_mem arg12.view f _ _ _ (ix3 1 (⟨0 + r.val, by omega⟩ : Fin 1024) 0) rfl 1 (Or.inl (by show 0 + r.val < 256; omega))).trans ?_
  refine (View.read_writes_cons_unit_of_mem arg12.view f _ _ _ (ix3 1 (⟨0 + r.val, by omega⟩ : Fin 1024) 0) (ix3 0 r 0) rfl ?_).trans ?_
  · intro a
    fin_cases a <;> rfl
  refine (congrFun (carry10 arg3 arg7 arg9 arg10 v2 v16 X3 X7 X9 k) (ix3 0 r 0)).trans ?_
  refine (col_at _ r).trans ?_
  exact d10_at arg3 arg7 arg9 arg10 v2 v16 X3 X7 X9 k hm hU Z r hz

theorem acc1 (hm : ∀ l : Fin 128, v2 (ix2 0 l) = if l.val < 64 then 1#1 else 0#1) (hU : ∀ k c : Fin 256, arg9.view.read (Elt Ideal) X9 (ix2 k c) = if c.val ≤ k.val then -1 else 0) (Z0 Z1 : ℕ → EReal) (r : Fin 256)
    (hz0 : ∀ t : Fin 2048, zrow0 arg3 arg7 v9 X3 X7 (grow k ⟨256 + r.val, by omega⟩) t = Z0 t.val)
    (hz1 : ∀ t : Fin 2048, zrow1 arg3 arg7 v16 X3 X7 (grow k ⟨256 + r.val, by omega⟩) t = Z1 t.val)
    (f : BufTy.Contents (Elt Ideal) arg11.view.ty) (l : Fin 128) :
    arg11.view.read (Elt Ideal) (arg11.view.writes (Elt Ideal) f (trip.sl.H11_4 (F := Ideal) arg3 arg7 arg8 arg9 arg10 v2 v9 v16 X3 X7 X8 X9 k)) (ix3 0 (⟨256 + r.val, by omega⟩ : Fin 1024) l)
      = ∑ t ∈ Finset.range 1024, wt (pick Z0 Z1 l) (1024 * k.val + (256 + r.val)) (1024 * k.val + t) * VV arg8 X8 l (1024 * k.val + t) := by
  unfold trip.sl.H11_4
  refine (View.read_writes_cons_unit_of_not_mem arg11.view f _ _ _ (ix3 0 (⟨256 + r.val, by omega⟩ : Fin 1024) l) rfl 1 (Or.inl (by show 256 + r.val < 768; omega))).trans ?_
  refine (View.read_writes_cons_unit_of_not_mem arg11.view f _ _ _ (ix3 0 (⟨256 + r.val, by omega⟩ : Fin 1024) l) rfl 1 (Or.inl (by show 256 + r.val < 512; omega))).trans ?_
  refine (View.read_writes_cons_unit_of_mem arg11.view f _ _ _ (ix3 0 (⟨256 + r.val, by omega⟩ : Fin 1024) l) (ix3 0 r l) rfl ?_).trans ?_
  · intro a
    fin_cases a
    · rfl
    · rfl
    · exact (Nat.zero_add _).symm
  refine (congrFun (piece1 arg3 arg7 arg8 arg9 arg10 v2 v9 v16 X3 X7 X8 X9 k) (ix3 0 r l)).trans ?_
  refine (OUT_at v2 _ _ r l hm).trans ?_
  unfold pick
  by_cases h : l.val < 64
  · rw [if_pos h, if_pos h]
    exact pv01_at arg3 arg7 arg8 arg9 arg10 v2 v9 X3 X7 X8 X9 k hm hU Z0 r l hz0
  · rw [if_neg h, if_neg h]
    exact pv11_at arg3 arg7 arg8 arg9 arg10 v2 v16 X3 X7 X8 X9 k hm hU Z1 r l hz1

theorem car01 (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow0 arg3 arg7 v9 X3 X7 (grow k ⟨256 + r.val, by omega⟩) t = Z t.val)
    (f : BufTy.Contents (Elt Ideal) arg12.view.ty) :
    arg12.view.read (Elt Ideal) (arg12.view.writes (Elt Ideal) f (trip.sl.H12_8 (F := Ideal) arg3 arg7 arg9 arg10 v2 v9 v16 X3 X7 X9 k)) (ix3 0 (⟨256 + r.val, by omega⟩ : Fin 1024) 0)
      = TS Z (1024 * k.val) (1024 * k.val + (256 + r.val)) := by
  unfold trip.sl.H12_8
  refine (View.read_writes_cons_unit_of_not_mem arg12.view f _ _ _ (ix3 0 (⟨256 + r.val, by omega⟩ : Fin 1024) 0) rfl 1 (Or.inl (by show 256 + r.val < 768; omega))).trans ?_
  refine (View.read_writes_cons_unit_of_not_mem arg12.view f _ _ _ (ix3 0 (⟨256 + r.val, by omega⟩ : Fin 1024) 0) rfl 1 (Or.inl (by show 256 + r.val < 768; omega))).trans ?_
  refine (View.read_writes_cons_unit_of_not_mem arg12.view f _ _ _ (ix3 0 (⟨256 + r.val, by omega⟩ : Fin 1024) 0) rfl 1 (Or.inl (by show 256 + r.val < 512; omega))).trans ?_
  refine (View.read_writes_cons_unit_of_not_mem arg12.view f _ _ _ (ix3 0 (⟨256 + r.val, by omega⟩ : Fin 1024) 0) rfl 1 (Or.inl (by show 256 + r.val < 512; omega))).trans ?_
  refine (View.read_writes_cons_unit_of_not_mem arg12.view f _ _ _ (ix3 0 (⟨256 + r.val, by omega⟩ : Fin 1024) 0) rfl 0 (Or.inl (by show 0 < 1; omega))).trans ?_
  refine (View.read_writes_cons_unit_of_mem arg12.view f _ _ _ (ix3 0 (⟨256 + r.val, by omega⟩ : Fin 1024) 0) (ix3 0 r 0) rfl ?_).trans ?_
  · intro a
    fin_cases a <;> rfl
  refine (congrFun (carry01 arg3 arg7 arg9 arg10 v2 v9 X3 X7 X9 k) (ix3 0 r 0)).trans ?_
  refine (col_at _ r).trans ?_
  exact d01_at arg3 arg7 arg9 arg10 v2 v9 X3 X7 X9 k hm hU Z r hz

theorem car11 (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow1 arg3 arg7 v16 X3 X7 (grow k ⟨256 + r.val, by omega⟩) t = Z t.val)
    (f : BufTy.Contents (Elt Ideal) arg12.view.ty) :
    arg12.view.read (Elt Ideal) (arg12.view.writes (Elt Ideal) f (trip.sl.H12_8 (F := Ideal) arg3 arg7 arg9 arg10 v2 v9 v16 X3 X7 X9 k)) (ix3 1 (⟨256 + r.val, by omega⟩ : Fin 1024) 0)
      = TS Z (1024 * k.val) (1024 * k.val + (256 + r.val)) := by
  unfold trip.sl.H12_8
  refine (View.read_writes_cons_unit_of_not_mem arg12.view f _ _ _ (ix3 1 (⟨256 + r.val, by omega⟩ : Fin 1024) 0) rfl 1 (Or.inl (by show 256 + r.val < 768; omega))).trans ?_
  refine (View.read_writes_cons_unit_of_not_mem arg12.view f _ _ _ (ix3 1 (⟨256 + r.val, by omega⟩ : Fin 1024) 0) rfl 1 (Or.inl (by show 256 + r.val < 768; omega))).trans ?_
  refine (View.read_writes_cons_unit_of_not_mem arg12.view f _ _ _ (ix3 1 (⟨256 + r.val, by omega⟩ : Fin 1024) 0) rfl 1 (Or.inl (by show 256 + r.val < 512; omega))).trans ?_
  refine (View.read_writes_cons_unit_of_not_mem arg12.view f _ _ _ (ix3 1 (⟨256 + r.val, by omega⟩ : Fin 1024) 0) rfl 1 (Or.inl (by show 256 + r.val < 512; omega))).trans ?_
  refine (View.read_writes_cons_unit_of_mem arg12.view f _ _ _ (ix3 1 (⟨256 + r.val, by omega⟩ : Fin 1024) 0) (ix3 0 r 0) rfl ?_).trans ?_
  · intro a
    fin_cases a <;> rfl
  refine (congrFun (carry11 arg3 arg7 arg9 arg10 v2 v16 X3 X7 X9 k) (ix3 0 r 0)).trans ?_
  refine (col_at _ r).trans ?_
  exact d11_at arg3 arg7 arg9 arg10 v2 v16 X3 X7 X9 k hm hU Z r hz

theorem acc2 (hm : ∀ l : Fin 128, v2 (ix2 0 l) = if l.val < 64 then 1#1 else 0#1) (hU : ∀ k c : Fin 256, arg9.view.read (Elt Ideal) X9 (ix2 k c) = if c.val ≤ k.val then -1 else 0) (Z0 Z1 : ℕ → EReal) (r : Fin 256)
    (hz0 : ∀ t : Fin 2048, zrow0 arg3 arg7 v9 X3 X7 (grow k ⟨512 + r.val, by omega⟩) t = Z0 t.val)
    (hz1 : ∀ t : Fin 2048, zrow1 arg3 arg7 v16 X3 X7 (grow k ⟨512 + r.val, by omega⟩) t = Z1 t.val)
    (f : BufTy.Contents (Elt Ideal) arg11.view.ty) (l : Fin 128) :
    arg11.view.read (Elt Ideal) (arg11.view.writes (Elt Ideal) f (trip.sl.H11_4 (F := Ideal) arg3 arg7 arg8 arg9 arg10 v2 v9 v16 X3 X7 X8 X9 k)) (ix3 0 (⟨512 + r.val, by omega⟩ : Fin 1024) l)
      = ∑ t ∈ Finset.range 1024, wt (pick Z0 Z1 l) (1024 * k.val + (512 + r.val)) (1024 * k.val + t) * VV arg8 X8 l (1024 * k.val + t) := by
  unfold trip.sl.H11_4
  refine (View.read_writes_cons_unit_of_not_mem arg11.view f _ _ _ (ix3 0 (⟨512 + r.val, by omega⟩ : Fin 1024) l) rfl 1 (Or.inl (by show 512 + r.val < 768; omega))).trans ?_
  refine (View.read_writes_cons_unit_of_mem arg11.view f _ _ _ (ix3 0 (⟨512 + r.val, by omega⟩ : Fin 1024) l) (ix3 0 r l) rfl ?_).trans ?_
  · intro a
    fin_cases a
    · rfl
    · rfl
    · exact (Nat.zero_add _).symm
  refine (congrFun (piece2 arg3 arg7 arg8 arg9 arg10 v2 v9 v16 X3 X7 X8 X9 k) (ix3 0 r l)).trans ?_
  refine (OUT_at v2 _ _ r l hm).trans ?_
  unfold pick
  by_cases h : l.val < 64
  · rw [if_pos h, if_pos h]
    exact pv02_at arg3 arg7 arg8 arg9 arg10 v2 v9 X3 X7 X8 X9 k hm hU Z0 r l hz0
  · rw [if_neg h, if_neg h]
    exact pv12_at arg3 arg7 arg8 arg9 arg10 v2 v16 X3 X7 X8 X9 k hm hU Z1 r l hz1

theorem car02 (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow0 arg3 arg7 v9 X3 X7 (grow k ⟨512 + r.val, by omega⟩) t = Z t.val)
    (f : BufTy.Contents (Elt Ideal) arg12.view.ty) :
    arg12.view.read (Elt Ideal) (arg12.view.writes (Elt Ideal) f (trip.sl.H12_8 (F := Ideal) arg3 arg7 arg9 arg10 v2 v9 v16 X3 X7 X9 k)) (ix3 0 (⟨512 + r.val, by omega⟩ : Fin 1024) 0)
      = TS Z (1024 * k.val) (1024 * k.val + (512 + r.val)) := by
  unfold trip.sl.H12_8
  refine (View.read_writes_cons_unit_of_not_mem arg12.view f _ _ _ (ix3 0 (⟨512 + r.val, by omega⟩ : Fin 1024) 0) rfl 1 (Or.inl (by show 512 + r.val < 768; omega))).trans ?_
  refine (View.read_writes_cons_unit_of_not_mem arg12.view f _ _ _ (ix3 0 (⟨512 + r.val, by omega⟩ : Fin 1024) 0) rfl 1 (Or.inl (by show 512 + r.val < 768; omega))).trans ?_
  refine (View.read_writes_cons_unit_of_not_mem arg12.view f _ _ _ (ix3 0 (⟨512 + r.val, by omega⟩ : Fin 1024) 0) rfl 0 (Or.inl (by show 0 < 1; omega))).trans ?_
  refine (View.read_writes_cons_unit_of_mem arg12.view f _ _ _ (ix3 0 (⟨512 + r.val, by omega⟩ : Fin 1024) 0) (ix3 0 r 0) rfl ?_).trans ?_
  · intro a
    fin_cases a <;> rfl
  refine (congrFun (carry02 arg3 arg7 arg9 arg10 v2 v9 X3 X7 X9 k) (ix3 0 r 0)).trans ?_
  refine (col_at _ r).trans ?_
  exact d02_at arg3 arg7 arg9 arg10 v2 v9 X3 X7 X9 k hm hU Z r hz

theorem car12 (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow1 arg3 arg7 v16 X3 X7 (grow k ⟨512 + r.val, by omega⟩) t = Z t.val)
    (f : BufTy.Contents (Elt Ideal) arg12.view.ty) :
    arg12.view.read (Elt Ideal) (arg12.view.writes (Elt Ideal) f (trip.sl.H12_8 (F := Ideal) arg3 arg7 arg9 arg10 v2 v9 v16 X3 X7 X9 k)) (ix3 1 (⟨512 + r.val, by omega⟩ : Fin 1024) 0)
      = TS Z (1024 * k.val) (1024 * k.val + (512 + r.val)) := by
  unfold trip.sl.H12_8
  refine (View.read_writes_cons_unit_of_not_mem arg12.view f _ _ _ (ix3 1 (⟨512 + r.val, by omega⟩ : Fin 1024) 0) rfl 1 (Or.inl (by show 512 + r.val < 768; omega))).trans ?_
  refine (View.read_writes_cons_unit_of_not_mem arg12.view f _ _ _ (ix3 1 (⟨512 + r.val, by omega⟩ : Fin 1024) 0) rfl 1 (Or.inl (by show 512 + r.val < 768; omega))).trans ?_
  refine (View.read_writes_cons_unit_of_mem arg12.view f _ _ _ (ix3 1 (⟨512 + r.val, by omega⟩ : Fin 1024) 0) (ix3 0 r 0) rfl ?_).trans ?_
  · intro a
    fin_cases a <;> rfl
  refine (congrFun (carry12 arg3 arg7 arg9 arg10 v2 v16 X3 X7 X9 k) (ix3 0 r 0)).trans ?_
  refine (col_at _ r).trans ?_
  exact d12_at arg3 arg7 arg9 arg10 v2 v16 X3 X7 X9 k hm hU Z r hz

theorem acc3 (hm : ∀ l : Fin 128, v2 (ix2 0 l) = if l.val < 64 then 1#1 else 0#1) (hU : ∀ k c : Fin 256, arg9.view.read (Elt Ideal) X9 (ix2 k c) = if c.val ≤ k.val then -1 else 0) (Z0 Z1 : ℕ → EReal) (r : Fin 256)
    (hz0 : ∀ t : Fin 2048, zrow0 arg3 arg7 v9 X3 X7 (grow k ⟨768 + r.val, by omega⟩) t = Z0 t.val)
    (hz1 : ∀ t : Fin 2048, zrow1 arg3 arg7 v16 X3 X7 (grow k ⟨768 + r.val, by omega⟩) t = Z1 t.val)
    (f : BufTy.Contents (Elt Ideal) arg11.view.ty) (l : Fin 128) :
    arg11.view.read (Elt Ideal) (arg11.view.writes (Elt Ideal) f (trip.sl.H11_4 (F := Ideal) arg3 arg7 arg8 arg9 arg10 v2 v9 v16 X3 X7 X8 X9 k)) (ix3 0 (⟨768 + r.val, by omega⟩ : Fin 1024) l)
      = ∑ t ∈ Finset.range 1024, wt (pick Z0 Z1 l) (1024 * k.val + (768 + r.val)) (1024 * k.val + t) * VV arg8 X8 l (1024 * k.val + t) := by
  unfold trip.sl.H11_4
  refine (View.read_writes_cons_unit_of_mem arg11.view f _ _ _ (ix3 0 (⟨768 + r.val, by omega⟩ : Fin 1024) l) (ix3 0 r l) rfl ?_).trans ?_
  · intro a
    fin_cases a
    · rfl
    · rfl
    · exact (Nat.zero_add _).symm
  refine (congrFun (piece3 arg3 arg7 arg8 arg9 arg10 v2 v9 v16 X3 X7 X8 X9 k) (ix3 0 r l)).trans ?_
  refine (OUT_at v2 _ _ r l hm).trans ?_
  unfold pick
  by_cases h : l.val < 64
  · rw [if_pos h, if_pos h]
    exact pv03_at arg3 arg7 arg8 arg9 arg10 v2 v9 X3 X7 X8 X9 k hm hU Z0 r l hz0
  · rw [if_neg h, if_neg h]
    exact pv13_at arg3 arg7 arg8 arg9 arg10 v2 v16 X3 X7 X8 X9 k hm hU Z1 r l hz1

theorem car03 (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow0 arg3 arg7 v9 X3 X7 (grow k ⟨768 + r.val, by omega⟩) t = Z t.val)
    (f : BufTy.Contents (Elt Ideal) arg12.view.ty) :
    arg12.view.read (Elt Ideal) (arg12.view.writes (Elt Ideal) f (trip.sl.H12_8 (F := Ideal) arg3 arg7 arg9 arg10 v2 v9 v16 X3 X7 X9 k)) (ix3 0 (⟨768 + r.val, by omega⟩ : Fin 1024) 0)
      = TS Z (1024 * k.val) (1024 * k.val + (768 + r.val)) := by
  unfold trip.sl.H12_8
  refine (View.read_writes_cons_unit_of_not_mem arg12.view f _ _ _ (ix3 0 (⟨768 + r.val, by omega⟩ : Fin 1024) 0) rfl 0 (Or.inl (by show 0 < 1; omega))).trans ?_
  refine (View.read_writes_cons_unit_of_mem arg12.view f _ _ _ (ix3 0 (⟨768 + r.val, by omega⟩ : Fin 1024) 0) (ix3 0 r 0) rfl ?_).trans ?_
  · intro a
    fin_cases a <;> rfl
  refine (congrFun (carry03 arg3 arg7 arg9 arg10 v2 v9 X3 X7 X9 k) (ix3 0 r 0)).trans ?_
  refine (col_at _ r).trans ?_
  exact d03_at arg3 arg7 arg9 arg10 v2 v9 X3 X7 X9 k hm hU Z r hz

theorem car13 (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (r : Fin 256)
    (hz : ∀ t : Fin 2048, zrow1 arg3 arg7 v16 X3 X7 (grow k ⟨768 + r.val, by omega⟩) t = Z t.val)
    (f : BufTy.Contents (Elt Ideal) arg12.view.ty) :
    arg12.view.read (Elt Ideal) (arg12.view.writes (Elt Ideal) f (trip.sl.H12_8 (F := Ideal) arg3 arg7 arg9 arg10 v2 v9 v16 X3 X7 X9 k)) (ix3 1 (⟨768 + r.val, by omega⟩ : Fin 1024) 0)
      = TS Z (1024 * k.val) (1024 * k.val + (768 + r.val)) := by
  unfold trip.sl.H12_8
  refine (View.read_writes_cons_unit_of_mem arg12.view f _ _ _ (ix3 1 (⟨768 + r.val, by omega⟩ : Fin 1024) 0) (ix3 0 r 0) rfl ?_).trans ?_
  · intro a
    fin_cases a <;> rfl
  refine (congrFun (carry13 arg3 arg7 arg9 arg10 v2 v16 X3 X7 X9 k) (ix3 0 r 0)).trans ?_
  refine (col_at _ r).trans ?_
  exact d13_at arg3 arg7 arg9 arg10 v2 v16 X3 X7 X9 k hm hU Z r hz

theorem row_cases (row : Fin 1024) (P : Fin 1024 → Prop)
    (h0 : ∀ r : Fin 256, P ⟨0 + r.val, by omega⟩) (h1 : ∀ r : Fin 256, P ⟨256 + r.val, by omega⟩)
    (h2 : ∀ r : Fin 256, P ⟨512 + r.val, by omega⟩) (h3 : ∀ r : Fin 256, P ⟨768 + r.val, by omega⟩) : P row := by
  rcases lt_or_ge row.val 256 with h | h
  · have e := h0 ⟨row.val, h⟩
    rwa [show (⟨0 + row.val, by omega⟩ : Fin 1024) = row from Fin.ext (Nat.zero_add _)] at e
  rcases lt_or_ge row.val 512 with h' | h'
  · have e := h1 ⟨row.val - 256, by omega⟩
    rwa [show (⟨256 + (row.val - 256), by omega⟩ : Fin 1024) = row from Fin.ext (show 256 + (row.val - 256) = row.val by omega)] at e
  rcases lt_or_ge row.val 768 with h'' | h''
  · have e := h2 ⟨row.val - 512, by omega⟩
    rwa [show (⟨512 + (row.val - 512), by omega⟩ : Fin 1024) = row from Fin.ext (show 512 + (row.val - 512) = row.val by omega)] at e
  · have e := h3 ⟨row.val - 768, by omega⟩
    rwa [show (⟨768 + (row.val - 768), by omega⟩ : Fin 1024) = row from Fin.ext (show 768 + (row.val - 768) = row.val by omega)] at e

/-- The accumulator after the own tile. -/
theorem acc_at (hm : ∀ l : Fin 128, v2 (ix2 0 l) = if l.val < 64 then 1#1 else 0#1) (hU : ∀ k c : Fin 256, arg9.view.read (Elt Ideal) X9 (ix2 k c) = if c.val ≤ k.val then -1 else 0) (Z0 Z1 : ℕ → EReal) (row : Fin 1024)
    (hz0 : ∀ t : Fin 2048, zrow0 arg3 arg7 v9 X3 X7 (grow k row) t = Z0 t.val)
    (hz1 : ∀ t : Fin 2048, zrow1 arg3 arg7 v16 X3 X7 (grow k row) t = Z1 t.val)
    (f : BufTy.Contents (Elt Ideal) arg11.view.ty) (l : Fin 128) :
    arg11.view.read (Elt Ideal) (arg11.view.writes (Elt Ideal) f (trip.sl.H11_4 (F := Ideal) arg3 arg7 arg8 arg9 arg10 v2 v9 v16 X3 X7 X8 X9 k)) (ix3 0 row l)
      = ∑ t ∈ Finset.range 1024, wt (pick Z0 Z1 l) (1024 * k.val + row.val) (1024 * k.val + t) * VV arg8 X8 l (1024 * k.val + t) := by
  revert hz0 hz1
  refine row_cases row (fun row => (∀ t : Fin 2048, zrow0 arg3 arg7 v9 X3 X7 (grow k row) t = Z0 t.val) →
    (∀ t : Fin 2048, zrow1 arg3 arg7 v16 X3 X7 (grow k row) t = Z1 t.val) →
    arg11.view.read (Elt Ideal) (arg11.view.writes (Elt Ideal) f (trip.sl.H11_4 (F := Ideal) arg3 arg7 arg8 arg9 arg10 v2 v9 v16 X3 X7 X8 X9 k)) (ix3 0 row l)
      = ∑ t ∈ Finset.range 1024, wt (pick Z0 Z1 l) (1024 * k.val + row.val) (1024 * k.val + t) * VV arg8 X8 l (1024 * k.val + t)) ?_ ?_ ?_ ?_
  · exact fun r h0 h1 => acc0 arg3 arg7 arg8 arg9 arg10 arg11 v2 v9 v16 X3 X7 X8 X9 k hm hU Z0 Z1 r h0 h1 f l
  · exact fun r h0 h1 => acc1 arg3 arg7 arg8 arg9 arg10 arg11 v2 v9 v16 X3 X7 X8 X9 k hm hU Z0 Z1 r h0 h1 f l
  · exact fun r h0 h1 => acc2 arg3 arg7 arg8 arg9 arg10 arg11 v2 v9 v16 X3 X7 X8 X9 k hm hU Z0 Z1 r h0 h1 f l
  · exact fun r h0 h1 => acc3 arg3 arg7 arg8 arg9 arg10 arg11 v2 v9 v16 X3 X7 X8 X9 k hm hU Z0 Z1 r h0 h1 f l

/-- The carry after the own tile. -/
theorem car0_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (row : Fin 1024)
    (hz : ∀ t : Fin 2048, zrow0 arg3 arg7 v9 X3 X7 (grow k row) t = Z t.val)
    (f : BufTy.Contents (Elt Ideal) arg12.view.ty) :
    arg12.view.read (Elt Ideal) (arg12.view.writes (Elt Ideal) f (trip.sl.H12_8 (F := Ideal) arg3 arg7 arg9 arg10 v2 v9 v16 X3 X7 X9 k)) (ix3 0 row 0)
      = TS Z (1024 * k.val) (1024 * k.val + row.val) := by
  revert hz
  refine row_cases row (fun row => (∀ t : Fin 2048, zrow0 arg3 arg7 v9 X3 X7 (grow k row) t = Z t.val) →
    arg12.view.read (Elt Ideal) (arg12.view.writes (Elt Ideal) f (trip.sl.H12_8 (F := Ideal) arg3 arg7 arg9 arg10 v2 v9 v16 X3 X7 X9 k)) (ix3 0 row 0)
      = TS Z (1024 * k.val) (1024 * k.val + row.val)) ?_ ?_ ?_ ?_
  · exact fun r h => car00 arg3 arg7 arg9 arg10 arg12 v2 v9 v16 X3 X7 X9 k hm hU Z r h f
  · exact fun r h => car01 arg3 arg7 arg9 arg10 arg12 v2 v9 v16 X3 X7 X9 k hm hU Z r h f
  · exact fun r h => car02 arg3 arg7 arg9 arg10 arg12 v2 v9 v16 X3 X7 X9 k hm hU Z r h f
  · exact fun r h => car03 arg3 arg7 arg9 arg10 arg12 v2 v9 v16 X3 X7 X9 k hm hU Z r h f

/-- The carry after the own tile. -/
theorem car1_at (hm : ∀ l : Fin 128, v2 (ix2 0 l) = if l.val < 64 then 1#1 else 0#1) (hU : ∀ k c : Fin 256, arg9.view.read (Elt Ideal) X9 (ix2 k c) = if c.val ≤ k.val then -1 else 0) (Z : ℕ → EReal) (row : Fin 1024)
    (hz : ∀ t : Fin 2048, zrow1 arg3 arg7 v16 X3 X7 (grow k row) t = Z t.val)
    (f : BufTy.Contents (Elt Ideal) arg12.view.ty) :
    arg12.view.read (Elt Ideal) (arg12.view.writes (Elt Ideal) f (trip.sl.H12_8 (F := Ideal) arg3 arg7 arg9 arg10 v2 v9 v16 X3 X7 X9 k)) (ix3 1 row 0)
      = TS Z (1024 * k.val) (1024 * k.val + row.val) := by
  revert hz
  refine row_cases row (fun row => (∀ t : Fin 2048, zrow1 arg3 arg7 v16 X3 X7 (grow k row) t = Z t.val) →
    arg12.view.read (Elt Ideal) (arg12.view.writes (Elt Ideal) f (trip.sl.H12_8 (F := Ideal) arg3 arg7 arg9 arg10 v2 v9 v16 X3 X7 X9 k)) (ix3 1 row 0)
      = TS Z (1024 * k.val) (1024 * k.val + row.val)) ?_ ?_ ?_ ?_
  · exact fun r h => car10 arg3 arg7 arg9 arg10 arg12 v2 v9 v16 X3 X7 X9 k hm hU Z r h f
  · exact fun r h => car11 arg3 arg7 arg9 arg10 arg12 v2 v9 v16 X3 X7 X9 k hm hU Z r h f
  · exact fun r h => car12 arg3 arg7 arg9 arg10 arg12 v2 v9 v16 X3 X7 X9 k hm hU Z r h f
  · exact fun r h => car13 arg3 arg7 arg9 arg10 arg12 v2 v9 v16 X3 X7 X9 k hm hU Z r h f

end
end Cert.KernelIdeal.AttnV
-- ==== Proof.AttnV.Tile.lean ====
/- The tile before the own one: what it adds to the accumulator, read row by row. -/
module

public import proofs.«01_k».proof.Proof.AttnV.Acc

@[expose] public section

set_option maxRecDepth 16384
set_option maxHeartbeats 400000

noncomputable section

namespace Cert.KernelIdeal.AttnV

open Cert.KernelIdeal Cert.KernelIdeal.Gen Cert.KernelIdeal.Attn
open Idealize.ShloMosaic Idealize.ShloMosaic.TcCoe Idealize.SL.Sem

theorem off10 : ∀ (k : Fin k0_t1_loop.trips) (j : Fin (k0_t2_loop k).trips), k0_off10 k j = ![0, 0] := by decide +kernel
theorem off11 : ∀ (k : Fin k0_t1_loop.trips) (j : Fin (k0_t2_loop k).trips), k0_off11 k j = ![0, 0] := by decide +kernel
theorem one_of_tile : ∀ (k : Fin k0_t1_loop.trips) (_ : Fin (k0_t2_loop k).trips), k.val = 1 := by decide +kernel

theorem zzT0 (q : FVec Ideal S1x1024x128 .bf16) (kt : FVec Ideal S128x1024 .bf16) (v : Ideal .f32) (r c : Fin 1024) :
    k0_pay4 v q kt (ix2 r c) = ∑ l : Fin 128, q (ix3 0 r l) * kt (ix2 l c) + v := by
  pointwise [k0_pay4]
theorem zzT1 (q : FVec Ideal S1x1024x128 .bf16) (kt : FVec Ideal S128x1024 .bf16) (v : Ideal .f32) (r c : Fin 1024) :
    k0_pay5 v q kt (ix2 r c) = ∑ l : Fin 128, q (ix3 0 r l) * kt (ix2 l c) + v := by
  pointwise [k0_pay5]

/-- The accumulator's row with the two heads' sums added. -/
def ACC (v2 : IVec S1x128 1) (a : FVec Ideal S1x1024x128 .f32) (p q : FVec Ideal S1024x128 .f32) : FVec Ideal S1x1024x128 .f32 :=
  shapeCast S1x1024x128 (addf (shapeCast S1024x128 a shapeCasts_S1x1024x128_S1024x128) (select (broadcastTo S1024x128 (shapeCast S1x128 v2 shapeCasts_S1x128_S1x128) broadcasts_S1x128_S1024x128) p q)) shapeCasts_S1024x128_S1x1024x128

theorem ACC_at (v2 : IVec S1x128 1) (a : FVec Ideal S1x1024x128 .f32) (p q : FVec Ideal S1024x128 .f32) (r : Fin 1024) (l : Fin 128) (hm : ∀ l : Fin 128, v2 (ix2 0 l) = if l.val < 64 then 1#1 else 0#1) :
    ACC v2 a p q (ix3 0 r l) = a (ix3 0 r l) + if l.val < 64 then p (ix2 r l) else q (ix2 r l) := by
  pointwise [ACC]
  rw [hm]
  by_cases h : l.val < 64
  · rw [if_pos h, if_pos h]; rfl
  · rw [if_neg h, if_neg h]; rfl

theorem colT_at (d : FVec Ideal S1x1024x1 .f32) (r : Fin 1024) : shapeCast S1024x1 d shapeCasts_S1x1024x1_S1024x1 (ix2 r 0) = d (ix3 0 r 0) := by
  pointwise []

section
variable
  (arg3 : Memref sig .tc .vmem S2048x128 .bf16) (arg7 : Memref sig .tc .vmem S128x2048 .bf16)
  (arg8 : Memref sig .tc .vmem S2048x128 .bf16) (arg9 : Memref sig .tc .vmem S256x256 .bf16)
  (arg10 : Memref sig .tc .vmem S2x1024x128 .bf16) (arg11 : Memref sig .tc .vmem S1x1024x128 .f32)
  (arg12 : Memref sig .tc .vmem S2x1024x1 .f32)
  (v2 : IVec S1x128 1) (v9 : Ideal .f32) (v16 : Ideal .f32)
  (X3 : BufTy.Contents (Elt Ideal) arg3.view.ty) (X7 : BufTy.Contents (Elt Ideal) arg7.view.ty)
  (X8 : BufTy.Contents (Elt Ideal) arg8.view.ty) (X9 : BufTy.Contents (Elt Ideal) arg9.view.ty)
  (X10 : BufTy.Contents (Elt Ideal) arg10.view.ty)
  (k : Fin k0_t1_loop.trips) (j : Fin (k0_t2_loop k).trips)
  (f11 : BufTy.Contents (Elt Ideal) arg11.view.ty) (f12 : BufTy.Contents (Elt Ideal) arg12.view.ty)

abbrev UT : FVec Ideal S256x256 .bf16 := trip_k0_t2.sl.r_5 (F := Ideal) arg9 X9
abbrev ZT0 : FVec Ideal S1024x1024 .f32 := trip_k0_t2.sl.r (F := Ideal) arg7 arg10 v9 k X7 X10 j
abbrev ZT1 : FVec Ideal S1024x1024 .f32 := trip_k0_t2.sl.r_1 (F := Ideal) arg7 arg10 v16 k X7 X10 j
/-- The carries the tile starts from. -/
abbrev K0 : FVec Ideal S1024x1 .f32 := shapeCast S1024x1 (View.readAt (Elt Ideal) arg12.view (Rect.unit (s := S2x1024x1) ![0, 0, 0] S1x1024x1.size inb_S2x1024x1_S1x1024x1_0_0_0).toLoadRect f12) shapeCasts_S1x1024x1_S1024x1
abbrev K1 : FVec Ideal S1024x1 .f32 := shapeCast S1024x1 (View.readAt (Elt Ideal) arg12.view (Rect.unit (s := S2x1024x1) ![1, 0, 0] S1x1024x1.size inb_S2x1024x1_S1x1024x1_1_0_0).toLoadRect f12) shapeCasts_S1x1024x1_S1024x1

theorem t_r_2 : trip_k0_t2.sl.r_2 (F := Ideal) arg7 arg9 arg10 v9 k X7 X9 X10 j = EX1024 (extractStridedSlice S1024x256 ![0, 768] (ZT0 arg7 arg10 v9 X7 X10 k j) slices_S1024x1024_o0_768_S1024x256) (UT arg9 X9) := rfl
theorem t_r_3 : trip_k0_t2.sl.r_3 (F := Ideal) arg7 arg9 arg10 v9 k X7 X9 X10 j = CO1024 (TL1024 (extractStridedSlice S1024x256 ![0, 768] (ZT0 arg7 arg10 v9 X7 X10 k j) slices_S1024x1024_o0_768_S1024x256) (UT arg9 X9)) := rfl
theorem t_r_6 : trip_k0_t2.sl.r_6 (F := Ideal) arg7 arg9 arg10 v9 k X7 X9 X10 j = EX1024 (extractStridedSlice S1024x256 ![0, 512] (ZT0 arg7 arg10 v9 X7 X10 k j) slices_S1024x1024_o0_512_S1024x256) (UT arg9 X9) := rfl
theorem t_r_7 : trip_k0_t2.sl.r_7 (F := Ideal) arg7 arg9 arg10 v9 k X7 X9 X10 j = CO1024 (TL1024 (extractStridedSlice S1024x256 ![0, 512] (ZT0 arg7 arg10 v9 X7 X10 k j) slices_S1024x1024_o0_512_S1024x256) (UT arg9 X9)) := rfl
theorem t_r_8 : trip_k0_t2.sl.r_8 (F := Ideal) arg7 arg9 arg10 v9 k X7 X9 X10 j = EX1024 (extractStridedSlice S1024x256 ![0, 256] (ZT0 arg7 arg10 v9 X7 X10 k j) slices_S1024x1024_o0_256_S1024x256) (UT arg9 X9) := rfl
theorem t_r_9 : trip_k0_t2.sl.r_9 (F := Ideal) arg7 arg9 arg10 v9 k X7 X9 X10 j = CO1024 (TL1024 (extractStridedSlice S1024x256 ![0, 256] (ZT0 arg7 arg10 v9 X7 X10 k j) slices_S1024x1024_o0_256_S1024x256) (UT arg9 X9)) := rfl
theorem t_r_13 : trip_k0_t2.sl.r_13 (F := Ideal) arg7 arg9 arg10 v9 k X7 X9 X10 j = EX1024 (extractStridedSlice S1024x256 ![0, 0] (ZT0 arg7 arg10 v9 X7 X10 k j) slices_S1024x1024_o0_0_S1024x256) (UT arg9 X9) := rfl
theorem t_r_14 : trip_k0_t2.sl.r_14 (F := Ideal) arg7 arg9 arg10 v9 k X7 X9 X10 j = CO1024 (TL1024 (extractStridedSlice S1024x256 ![0, 0] (ZT0 arg7 arg10 v9 X7 X10 k j) slices_S1024x1024_o0_0_S1024x256) (UT arg9 X9)) := rfl
theorem t_r_24 : trip_k0_t2.sl.r_24 (F := Ideal) arg7 arg9 arg10 arg12 v9 k X7 X9 X10 j f12 = WT_3 (ZT0 arg7 arg10 v9 X7 X10 k j) (UT arg9 X9) (K0 arg12 f12) := by
  unfold WT_3
  rw [← t_r_2]
  rfl
theorem t_r_25 : trip_k0_t2.sl.r_25 (F := Ideal) arg7 arg9 arg10 arg12 v9 k X7 X9 X10 j f12 = DT_3 (ZT0 arg7 arg10 v9 X7 X10 k j) (UT arg9 X9) (K0 arg12 f12) := by
  unfold DT_3
  rw [← t_r_3]
  rfl
theorem t_v972 : trip_k0_t2.sl.v972 (F := Ideal) arg7 arg9 arg10 arg12 v9 k X7 X9 X10 j f12 = WT_2 (ZT0 arg7 arg10 v9 X7 X10 k j) (UT arg9 X9) (K0 arg12 f12) := by
  unfold WT_2
  rw [← t_r_6, ← t_r_25]
  rfl
theorem t_v973 : trip_k0_t2.sl.v973 (F := Ideal) arg7 arg9 arg10 arg12 v9 k X7 X9 X10 j f12 = DT_2 (ZT0 arg7 arg10 v9 X7 X10 k j) (UT arg9 X9) (K0 arg12 f12) := by
  unfold DT_2
  rw [← t_r_7, ← t_r_25]
  rfl
theorem t_v976 : trip_k0_t2.sl.v976 (F := Ideal) arg7 arg9 arg10 arg12 v9 k X7 X9 X10 j f12 = WT_1 (ZT0 arg7 arg10 v9 X7 X10 k j) (UT arg9 X9) (K0 arg12 f12) := by
  unfold WT_1
  rw [← t_r_8, ← t_v973]
  rfl
theorem t_v977 : trip_k0_t2.sl.v977 (F := Ideal) arg7 arg9 arg10 arg12 v9 k X7 X9 X10 j f12 = DT_1 (ZT0 arg7 arg10 v9 X7 X10 k j) (UT arg9 X9) (K0 arg12 f12) := by
  unfold DT_1
  rw [← t_r_9, ← t_v973]
  rfl
theorem t_v980 : trip_k0_t2.sl.v980 (F := Ideal) arg7 arg9 arg10 arg12 v9 k X7 X9 X10 j f12 = WT_0 (ZT0 arg7 arg10 v9 X7 X10 k j) (UT arg9 X9) (K0 arg12 f12) := by
  unfold WT_0
  rw [← t_r_13, ← t_v977]
  rfl
theorem t_v981 : trip_k0_t2.sl.v981 (F := Ideal) arg7 arg9 arg10 arg12 v9 k X7 X9 X10 j f12 = DT_0 (ZT0 arg7 arg10 v9 X7 X10 k j) (UT arg9 X9) (K0 arg12 f12) := by
  unfold DT_0
  rw [← t_r_14, ← t_v977]
  rfl
theorem t_r_15 : trip_k0_t2.sl.r_15 (F := Ideal) arg7 arg9 arg10 v16 k X7 X9 X10 j = EX1024 (extractStridedSlice S1024x256 ![0, 768] (ZT1 arg7 arg10 v16 X7 X10 k j) slices_S1024x1024_o0_768_S1024x256) (UT arg9 X9) := rfl
theorem t_r_16 : trip_k0_t2.sl.r_16 (F := Ideal) arg7 arg9 arg10 v16 k X7 X9 X10 j = CO1024 (TL1024 (extractStridedSlice S1024x256 ![0, 768] (ZT1 arg7 arg10 v16 X7 X10 k j) slices_S1024x1024_o0_768_S1024x256) (UT arg9 X9)) := rfl
theorem t_r_18 : trip_k0_t2.sl.r_18 (F := Ideal) arg7 arg9 arg10 v16 k X7 X9 X10 j = EX1024 (extractStridedSlice S1024x256 ![0, 512] (ZT1 arg7 arg10 v16 X7 X10 k j) slices_S1024x1024_o0_512_S1024x256) (UT arg9 X9) := rfl
theorem t_r_19 : trip_k0_t2.sl.r_19 (F := Ideal) arg7 arg9 arg10 v16 k X7 X9 X10 j = CO1024 (TL1024 (extractStridedSlice S1024x256 ![0, 512] (ZT1 arg7 arg10 v16 X7 X10 k j) slices_S1024x1024_o0_512_S1024x256) (UT arg9 X9)) := rfl
theorem t_r_20 : trip_k0_t2.sl.r_20 (F := Ideal) arg7 arg9 arg10 v16 k X7 X9 X10 j = EX1024 (extractStridedSlice S1024x256 ![0, 256] (ZT1 arg7 arg10 v16 X7 X10 k j) slices_S1024x1024_o0_256_S1024x256) (UT arg9 X9) := rfl
theorem t_r_21 : trip_k0_t2.sl.r_21 (F := Ideal) arg7 arg9 arg10 v16 k X7 X9 X10 j = CO1024 (TL1024 (extractStridedSlice S1024x256 ![0, 256] (ZT1 arg7 arg10 v16 X7 X10 k j) slices_S1024x1024_o0_256_S1024x256) (UT arg9 X9)) := rfl
theorem t_r_22 : trip_k0_t2.sl.r_22 (F := Ideal) arg7 arg9 arg10 v16 k X7 X9 X10 j = EX1024 (extractStridedSlice S1024x256 ![0, 0] (ZT1 arg7 arg10 v16 X7 X10 k j) slices_S1024x1024_o0_0_S1024x256) (UT arg9 X9) := rfl
theorem t_r_23 : trip_k0_t2.sl.r_23 (F := Ideal) arg7 arg9 arg10 v16 k X7 X9 X10 j = CO1024 (TL1024 (extractStridedSlice S1024x256 ![0, 0] (ZT1 arg7 arg10 v16 X7 X10 k j) slices_S1024x1024_o0_0_S1024x256) (UT arg9 X9)) := rfl
theorem t_v997 : trip_k0_t2.sl.v997 (F := Ideal) arg7 arg9 arg10 arg12 v16 k X7 X9 X10 j f12 = WT_3 (ZT1 arg7 arg10 v16 X7 X10 k j) (UT arg9 X9) (K1 arg12 f12) := by
  unfold WT_3
  rw [← t_r_15]
  rfl
theorem t_v998 : trip_k0_t2.sl.v998 (F := Ideal) arg7 arg9 arg10 arg12 v16 k X7 X9 X10 j f12 = DT_3 (ZT1 arg7 arg10 v16 X7 X10 k j) (UT arg9 X9) (K1 arg12 f12) := by
  unfold DT_3
  rw [← t_r_16]
  rfl
theorem t_v1001 : trip_k0_t2.sl.v1001 (F := Ideal) arg7 arg9 arg10 arg12 v16 k X7 X9 X10 j f12 = WT_2 (ZT1 arg7 arg10 v16 X7 X10 k j) (UT arg9 X9) (K1 arg12 f12) := by
  unfold WT_2
  rw [← t_r_18, ← t_v998]
  rfl
theorem t_v1002 : trip_k0_t2.sl.v1002 (F := Ideal) arg7 arg9 arg10 arg12 v16 k X7 X9 X10 j f12 = DT_2 (ZT1 arg7 arg10 v16 X7 X10 k j) (UT arg9 X9) (K1 arg12 f12) := by
  unfold DT_2
  rw [← t_r_19, ← t_v998]
  rfl
theorem t_v1005 : trip_k0_t2.sl.v1005 (F := Ideal) arg7 arg9 arg10 arg12 v16 k X7 X9 X10 j f12 = WT_1 (ZT1 arg7 arg10 v16 X7 X10 k j) (UT arg9 X9) (K1 arg12 f12) := by
  unfold WT_1
  rw [← t_r_20, ← t_v1002]
  rfl
theorem t_v1006 : trip_k0_t2.sl.v1006 (F := Ideal) arg7 arg9 arg10 arg12 v16 k X7 X9 X10 j f12 = DT_1 (ZT1 arg7 arg10 v16 X7 X10 k j) (UT arg9 X9) (K1 arg12 f12) := by
  unfold DT_1
  rw [← t_r_21, ← t_v1002]
  rfl
theorem t_v1009 : trip_k0_t2.sl.v1009 (F := Ideal) arg7 arg9 arg10 arg12 v16 k X7 X9 X10 j f12 = WT_0 (ZT1 arg7 arg10 v16 X7 X10 k j) (UT arg9 X9) (K1 arg12 f12) := by
  unfold WT_0
  rw [← t_r_22, ← t_v1006]
  rfl
theorem t_v1010 : trip_k0_t2.sl.v1010 (F := Ideal) arg7 arg9 arg10 arg12 v16 k X7 X9 X10 j f12 = DT_0 (ZT1 arg7 arg10 v16 X7 X10 k j) (UT arg9 X9) (K1 arg12 f12) := by
  unfold DT_0
  rw [← t_r_23, ← t_v1006]
  rfl

/-- The values of the tile's keys. -/
abbrev VT : FVec Ideal S1024x128 .bf16 := View.readAt (Elt Ideal) arg8.view (Rect.unit (s := S2048x128) (k0_off11 k j) S1024x128.size (k0_off11_inb k j)).toLoadRect X8

theorem t_v992 : trip_k0_t2.sl.v992 (F := Ideal) arg7 arg8 arg9 arg10 arg12 v9 k X7 X8 X9 X10 j f12 = PVT (ZT0 arg7 arg10 v9 X7 X10 k j) (UT arg9 X9) (K0 arg12 f12) (VT arg8 X8 k j) := by
  unfold trip_k0_t2.sl.v992 trip_k0_t2.sl.v989 trip_k0_t2.sl.v985 trip_k0_t2.sl.v986 trip_k0_t2.sl.v987 trip_k0_t2.sl.v988
  rw [t_v980, t_v976, t_v972, t_r_24]
  rfl

/-- What the tile stores in the accumulator. -/
abbrev PT : FVec Ideal S1x1024x128 .f32 := k0_pay255 (F := Ideal) v2 (trip_k0_t2.sl.v992 arg7 arg8 arg9 arg10 arg12 v9 k X7 X8 X9 X10 j f12)
          (trip_k0_t2.sl.v997 arg7 arg9 arg10 arg12 v16 k X7 X9 X10 j f12)
          (trip_k0_t2.sl.v1014 arg7 arg9 arg10 arg12 v16 k X7 X9 X10 j f12)
          (trip_k0_t2.sl.v1015 arg7 arg9 arg10 arg12 v16 k X7 X9 X10 j f12)
          (trip_k0_t2.sl.v1016 arg7 arg9 arg10 arg12 v16 k X7 X9 X10 j f12)
          (VT arg8 X8 k j)
          (View.readAt (Elt Ideal) arg11.view (Rect.unit (s := S1x1024x128) ![0, 0, 0] ![1, 1024, 128] inb_S1x1024x128_S1x1024x128_0_0_0).toLoadRect f11)

theorem t_PT : PT arg7 arg8 arg9 arg10 arg11 arg12 v2 v9 v16 X7 X8 X9 X10 k j f11 f12
    = ACC v2 (View.readAt (Elt Ideal) arg11.view (Rect.unit (s := S1x1024x128) ![0, 0, 0] ![1, 1024, 128] inb_S1x1024x128_S1x1024x128_0_0_0).toLoadRect f11)
      (PVT (ZT0 arg7 arg10 v9 X7 X10 k j) (UT arg9 X9) (K0 arg12 f12) (VT arg8 X8 k j)) (PVT (ZT1 arg7 arg10 v16 X7 X10 k j) (UT arg9 X9) (K1 arg12 f12) (VT arg8 X8 k j)) := by
  unfold PT trip_k0_t2.sl.v1014 trip_k0_t2.sl.v1015 trip_k0_t2.sl.v1016
  rw [t_v992, t_v997, t_v1001, t_v1005, t_v1009]
  rfl

theorem ZT0_at (row : Fin 1024) (hq : ∀ l : Fin 128, arg10.view.read (Elt Ideal) X10 (ix3 0 row l) = left l (arg3.view.read (Elt Ideal) X3 (ix2 (grow k row) l))) (c : Fin 1024) :
    ZT0 arg7 arg10 v9 X7 X10 k j (ix2 row c) = zrow0 arg3 arg7 v9 X3 X7 (grow k row) ⟨c.val, by omega⟩ := by
  refine (zzT0 (View.readAt (Elt Ideal) arg10.view (Rect.unit (s := S2x1024x128) ![0, 0, 0] S1x1024x128.size inb_S2x1024x128_S1x1024x128_0_0_0).toLoadRect X10) (View.readAt (Elt Ideal) arg7.view (Rect.unit (s := S128x2048) (k0_off10 k j) S128x1024.size (k0_off10_inb k j)).toLoadRect X7) v9 row c).trans ?_
  unfold zrow0
  refine congrArg (fun x => x + v9) (Finset.sum_congr rfl fun l _ => ?_)
  have e1 : View.readAt (Elt Ideal) arg10.view (Rect.unit (s := S2x1024x128) ![0, 0, 0] S1x1024x128.size inb_S2x1024x128_S1x1024x128_0_0_0).toLoadRect X10 (ix3 0 row l) = left l (arg3.view.read (Elt Ideal) X3 (ix2 (grow k row) l)) := by
    rw [← hq l]
    refine readAt_at arg10.view _ _ rfl (ix3 0 row l) (ix3 0 row l) ?_
    intro a
    fin_cases a
    · rfl
    · exact (Nat.zero_add _).symm
    · exact (Nat.zero_add _).symm
  have e2 : View.readAt (Elt Ideal) arg7.view (Rect.unit (s := S128x2048) (k0_off10 k j) S128x1024.size (k0_off10_inb k j)).toLoadRect X7 (ix2 l c) = arg7.view.read (Elt Ideal) X7 (ix2 l ⟨c.val, by omega⟩) := by
    refine readAt_at arg7.view X7 _ (off10 k j) (ix2 l c) (ix2 l ⟨c.val, by omega⟩) ?_
    intro a
    fin_cases a
    · exact (Nat.zero_add _).symm
    · exact (Nat.zero_add _).symm
  exact congr (congrArg (fun x y => x * y) e1) e2

theorem K0_at (row : Fin 1024) : K0 arg12 f12 (ix2 row 0) = arg12.view.read (Elt Ideal) f12 (ix3 0 row 0) := by
  refine (colT_at _ row).trans (readAt_at arg12.view f12 _ rfl (ix3 0 row 0) (ix3 0 row 0) ?_)
  intro a
  fin_cases a
  · rfl
  · exact (Nat.zero_add _).symm
  · exact (Nat.zero_add _).symm

theorem ZT1_at (row : Fin 1024) (hq : ∀ l : Fin 128, arg10.view.read (Elt Ideal) X10 (ix3 1 row l) = right l (arg3.view.read (Elt Ideal) X3 (ix2 (grow k row) l))) (c : Fin 1024) :
    ZT1 arg7 arg10 v16 X7 X10 k j (ix2 row c) = zrow1 arg3 arg7 v16 X3 X7 (grow k row) ⟨c.val, by omega⟩ := by
  refine (zzT1 (View.readAt (Elt Ideal) arg10.view (Rect.unit (s := S2x1024x128) ![1, 0, 0] S1x1024x128.size inb_S2x1024x128_S1x1024x128_1_0_0).toLoadRect X10) (View.readAt (Elt Ideal) arg7.view (Rect.unit (s := S128x2048) (k0_off10 k j) S128x1024.size (k0_off10_inb k j)).toLoadRect X7) v16 row c).trans ?_
  unfold zrow1
  refine congrArg (fun x => x + v16) (Finset.sum_congr rfl fun l _ => ?_)
  have e1 : View.readAt (Elt Ideal) arg10.view (Rect.unit (s := S2x1024x128) ![1, 0, 0] S1x1024x128.size inb_S2x1024x128_S1x1024x128_1_0_0).toLoadRect X10 (ix3 0 row l) = right l (arg3.view.read (Elt Ideal) X3 (ix2 (grow k row) l)) := by
    rw [← hq l]
    refine readAt_at arg10.view _ _ rfl (ix3 0 row l) (ix3 1 row l) ?_
    intro a
    fin_cases a
    · rfl
    · exact (Nat.zero_add _).symm
    · exact (Nat.zero_add _).symm
  have e2 : View.readAt (Elt Ideal) arg7.view (Rect.unit (s := S128x2048) (k0_off10 k j) S128x1024.size (k0_off10_inb k j)).toLoadRect X7 (ix2 l c) = arg7.view.read (Elt Ideal) X7 (ix2 l ⟨c.val, by omega⟩) := by
    refine readAt_at arg7.view X7 _ (off10 k j) (ix2 l c) (ix2 l ⟨c.val, by omega⟩) ?_
    intro a
    fin_cases a
    · exact (Nat.zero_add _).symm
    · exact (Nat.zero_add _).symm
  exact congr (congrArg (fun x y => x * y) e1) e2

theorem K1_at (row : Fin 1024) : K1 arg12 f12 (ix2 row 0) = arg12.view.read (Elt Ideal) f12 (ix3 1 row 0) := by
  refine (colT_at _ row).trans (readAt_at arg12.view f12 _ rfl (ix3 0 row 0) (ix3 1 row 0) ?_)
  intro a
  fin_cases a
  · rfl
  · exact (Nat.zero_add _).symm
  · exact (Nat.zero_add _).symm

theorem VT_at (l : Fin 128) (t : Fin 1024) : VT arg8 X8 k j (ix2 t l) = VV arg8 X8 l (0 + t.val) := by
  rw [← VV_grow arg8 X8 l ⟨t.val, by omega⟩ (0 + t.val) (Nat.zero_add _).symm]
  refine readAt_at arg8.view X8 _ (off11 k j) (ix2 t l) (ix2 ⟨t.val, by omega⟩ l) ?_
  intro a
  fin_cases a
  · exact (Nat.zero_add _).symm
  · exact (Nat.zero_add _).symm

theorem UT_at (hU : ∀ k c : Fin 256, arg9.view.read (Elt Ideal) X9 (ix2 k c) = if c.val ≤ k.val then -1 else 0) (p c : Fin 256) : UT arg9 X9 (ix2 p c) = if c.val ≤ p.val then -1 else 0 := by
  rw [← hU]
  refine readAt_at arg9.view X9 _ rfl (ix2 p c) (ix2 p c) ?_
  intro a
  fin_cases a
  · exact (Nat.zero_add _).symm
  · exact (Nat.zero_add _).symm

/-- The accumulator after the tile. -/
theorem PT_at (hm : ∀ l : Fin 128, v2 (ix2 0 l) = if l.val < 64 then 1#1 else 0#1) (hU : ∀ k c : Fin 256, arg9.view.read (Elt Ideal) X9 (ix2 k c) = if c.val ≤ k.val then -1 else 0) (Z0 Z1 : ℕ → EReal) (row : Fin 1024)
    (hz0 : ∀ t : Fin 2048, zrow0 arg3 arg7 v9 X3 X7 (grow k row) t = Z0 t.val)
    (hz1 : ∀ t : Fin 2048, zrow1 arg3 arg7 v16 X3 X7 (grow k row) t = Z1 t.val)
    (hq0 : ∀ l : Fin 128, arg10.view.read (Elt Ideal) X10 (ix3 0 row l) = left l (arg3.view.read (Elt Ideal) X3 (ix2 (grow k row) l)))
    (hq1 : ∀ l : Fin 128, arg10.view.read (Elt Ideal) X10 (ix3 1 row l) = right l (arg3.view.read (Elt Ideal) X3 (ix2 (grow k row) l)))
    (hc0 : arg12.view.read (Elt Ideal) f12 (ix3 0 row 0) = TS Z0 (0 + 1024) (1024 * k.val + row.val))
    (hc1 : arg12.view.read (Elt Ideal) f12 (ix3 1 row 0) = TS Z1 (0 + 1024) (1024 * k.val + row.val))
    (l : Fin 128) :
    PT arg7 arg8 arg9 arg10 arg11 arg12 v2 v9 v16 X7 X8 X9 X10 k j f11 f12 (ix3 0 row l)
      = arg11.view.read (Elt Ideal) f11 (ix3 0 row l) + ∑ t ∈ Finset.range 1024, wt (pick Z0 Z1 l) (1024 * k.val + row.val) (0 + t) * VV arg8 X8 l (0 + t) := by
  have hk := one_of_tile k j
  rw [t_PT]
  refine (ACC_at v2 _ _ _ row l hm).trans ?_
  have e1 : View.readAt (Elt Ideal) arg11.view (Rect.unit (s := S1x1024x128) ![0, 0, 0] ![1, 1024, 128] inb_S1x1024x128_S1x1024x128_0_0_0).toLoadRect f11 (ix3 0 row l) = arg11.view.read (Elt Ideal) f11 (ix3 0 row l) := by
    refine readAt_at arg11.view _ _ rfl (ix3 0 row l) (ix3 0 row l) ?_
    intro a
    fin_cases a <;> exact (Nat.zero_add _).symm
  refine congr (congrArg (fun x y => x + y) e1) ?_
  unfold pick
  by_cases h : l.val < 64
  · rw [if_pos h, if_pos h]
    exact PVT_at (ZT0 arg7 arg10 v9 X7 X10 k j) (UT arg9 X9) (K0 arg12 f12) Z0 0 _ row (UT_at arg9 X9 hU)
      (fun c => (ZT0_at arg3 arg7 arg10 v9 X3 X7 X10 k j row hq0 c).trans ((hz0 _).trans (by rw [Nat.zero_add])))
      (by omega) ((K0_at arg12 f12 row).trans hc0) (VT arg8 X8 k j) (VV arg8 X8 l) l (VT_at arg8 X8 k j l)
  · rw [if_neg h, if_neg h]
    exact PVT_at (ZT1 arg7 arg10 v16 X7 X10 k j) (UT arg9 X9) (K1 arg12 f12) Z1 0 _ row (UT_at arg9 X9 hU)
      (fun c => (ZT1_at arg3 arg7 arg10 v16 X3 X7 X10 k j row hq1 c).trans ((hz1 _).trans (by rw [Nat.zero_add])))
      (by omega) ((K1_at arg12 f12 row).trans hc1) (VT arg8 X8 k j) (VV arg8 X8 l) l (VT_at arg8 X8 k j l)

end
end Cert.KernelIdeal.AttnV
-- ==== Proof.AttnV.TripV.lean ====
/- The rows a trip leaves in the result: every query's weighted sum over all the keys. -/
module

public import proofs.«01_k».proof.Proof.AttnV.Tile

@[expose] public section

set_option maxRecDepth 16384
set_option maxHeartbeats 400000

noncomputable section

namespace Cert.KernelIdeal.AttnV

open Cert.KernelIdeal Cert.KernelIdeal.Gen Cert.KernelIdeal.Attn
open Idealize.ShloMosaic Idealize.ShloMosaic.TcCoe Idealize.SL.Sem

theorem trips2 : ∀ k : Fin k0_t1_loop.trips, (k0_t2_loop k).trips = k.val := by decide +kernel
theorem trips3 : ∀ k : Fin k0_t1_loop.trips, (k0_t3_loop k).trips = 0 := by decide +kernel

theorem last_at (v : FVec Ideal S1x1024x128 .f32) (r : Fin 1024) (l : Fin 128) : k0_pay257 (F := Ideal) v (ix2 r l) = v (ix3 0 r l) := by
  pointwise [k0_pay257]

theorem whole_read (v : View sig .tc .vmem S1x1024x128 .f32) (f : v.ty.Contents (Elt Ideal)) (inb : ∀ a, (![0, 0, 0] : Fin 3 → ℕ) a + (![1, 1024, 128] : Fin 3 → ℕ) a ≤ S1x1024x128.size a) (r : Fin 1024) (l : Fin 128) :
    View.readAt (Elt Ideal) v (Rect.unit (s := S1x1024x128) ![0, 0, 0] ![1, 1024, 128] inb).toLoadRect f (ix3 0 r l) = v.read (Elt Ideal) f (ix3 0 r l) := by
  refine readAt_at v _ _ rfl (ix3 0 r l) (ix3 0 r l) ?_
  intro a
  fin_cases a <;> exact (Nat.zero_add _).symm

section
variable
  (c : Dev nD) (i : grid0.Coords)
  (arg2 : Memref sig .tc .smem S16 .f32) (harg2 : arg2.IsWhole)
  (arg3 : Memref sig .tc .vmem S2048x128 .bf16) (harg3 : arg3.IsWhole)
  (arg4 : Memref sig .tc .vmem S1x128x2048 .f32) (harg4 : arg4.IsWhole)
  (arg5 : Memref sig .tc .vmem S1x128x2048 .f32) (harg5 : arg5.IsWhole)
  (arg6 : Memref sig .tc .vmem S2048x128 .bf16) (harg6 : arg6.IsWhole)
  (arg7 : Memref sig .tc .vmem S128x2048 .bf16) (harg7 : arg7.IsWhole)
  (arg8 : Memref sig .tc .vmem S2048x128 .bf16) (harg8 : arg8.IsWhole)
  (arg9 : Memref sig .tc .vmem S256x256 .bf16) (harg9 : arg9.IsWhole)
  (arg10 : Memref sig .tc .vmem S2x1024x128 .bf16) (harg10 : arg10.IsWhole)
  (arg11 : Memref sig .tc .vmem S1x1024x128 .f32) (harg11 : arg11.IsWhole)
  (arg12 : Memref sig .tc .vmem S2x1024x1 .f32) (harg12 : arg12.IsWhole)
  (v2 : IVec S1x128 1) (v9 : Ideal .f32) (v16 : Ideal .f32)
  (X3 : BufTy.Contents (Elt Ideal) arg3.view.ty) (X7 : BufTy.Contents (Elt Ideal) arg7.view.ty)
  (X8 : BufTy.Contents (Elt Ideal) arg8.view.ty) (X9 : BufTy.Contents (Elt Ideal) arg9.view.ty)
  (X10 : BufTy.Contents (Elt Ideal) arg10.view.ty)
  (k : Fin k0_t1_loop.trips)
  (g11 : BufTy.Contents (Elt Ideal) arg11.view.ty) (g12 : BufTy.Contents (Elt Ideal) arg12.view.ty)

/-- The pieces of the one tile before the own tile. -/
theorem pieces_one (v147 : IVec S256x256 1) (p q a : BitVec 32) (z : BitVec 32) (j : Fin (k0_t2_loop k).trips) (hj : j.val = 0) :
    (st_k0_t2 (F := Ideal) Variants.none c none i arg2 harg2 arg3 harg3 arg4 harg4 arg5 harg5 arg6 harg6 arg7 harg7 arg8 harg8 arg9 harg9 arg10 harg10 arg11 harg11 arg12 harg12 v2 v9 v16 v147 p q k a X7 X8 X9 X10 g11 g12 z (j.val + 1)).2.1
      = [⟨Rect.unit (s := S1x1024x128) ![0, 0, 0] ![1, 1024, 128] inb_S1x1024x128_S1x1024x128_0_0_0, PT arg7 arg8 arg9 arg10 arg11 arg12 v2 v9 v16 X7 X8 X9 X10 k j g11 g12⟩] := by
  refine (congrArg (fun x => x.2.1) (st_k0_t2_succ (F := Ideal) Variants.none c none i arg2 harg2 arg3 harg3 arg4 harg4 arg5 harg5 arg6 harg6 arg7 harg7 arg8 harg8 arg9 harg9 arg10 harg10 arg11 harg11 arg12 harg12 v2 v9 v16 v147 p q k a X7 X8 X9 X10 g11 g12 z j)).trans ?_
  dsimp only
  rw [hj]
  unfold trip_k0_t2
  rfl

theorem trip_at (hm : ∀ l : Fin 128, v2 (ix2 0 l) = if l.val < 64 then 1#1 else 0#1) (hU : ∀ k c : Fin 256, arg9.view.read (Elt Ideal) X9 (ix2 k c) = if c.val ≤ k.val then -1 else 0) (Z0 Z1 : ℕ → EReal) (row : Fin 1024)
    (hz0 : ∀ t : Fin 2048, zrow0 arg3 arg7 v9 X3 X7 (grow k row) t = Z0 t.val)
    (hz1 : ∀ t : Fin 2048, zrow1 arg3 arg7 v16 X3 X7 (grow k row) t = Z1 t.val) (l : Fin 128) :
    (trip (F := Ideal) c i arg2 harg2 arg3 harg3 arg4 harg4 arg5 harg5 arg6 harg6 arg7 harg7 arg8 harg8 arg9 harg9 arg10 harg10 arg11 harg11 arg12 harg12 v2 v9 v16 X3 X7 X8 X9 k).1 (ix2 row l)
      = ∑ t ∈ Finset.range 2048, wt (pick Z0 Z1 l) (1024 * k.val + row.val) t * VV arg8 X8 l t := by
  unfold trip
  dsimp only
  refine (last_at _ row l).trans ?_
  unfold trip.sl.v797
  refine (whole_read arg11.view _ _ row l).trans ?_
  have t3 : Scf.trips (k0_t3_loop k).lb (k0_t3_loop k).ub (k0_t3_loop k).st = 0 := trips3 k
  have t2 : Scf.trips (k0_t2_loop k).lb (k0_t2_loop k).ub (k0_t2_loop k).st = k.val := trips2 k
  rw [t3, t2]
  have own := acc_at arg3 arg7 arg8 arg9 arg10 arg11 v2 v9 v16 X3 X7 X8 X9 k hm hU Z0 Z1 row hz0 hz1 arg11.view.junk l
  have c0 := car0_at arg3 arg7 arg9 arg10 arg12 v2 v9 v16 X3 X7 X9 k hm hU Z0 row hz0 arg12.view.junk
  have c1 := car1_at arg3 arg7 arg9 arg10 arg12 v2 v9 v16 X3 X7 X9 k hm hU Z1 row hz1 arg12.view.junk
  have q0 := q0_at arg3 arg10 v2 X3 k hm arg10.view.junk row
  have q1 := q1_at arg3 arg10 v2 X3 k hm arg10.view.junk row
  change arg11.view.read (Elt Ideal) (arg11.view.writes (Elt Ideal) arg11.view.junk ((st_k0_t2 (F := Ideal) Variants.none c none i arg2 harg2 arg3 harg3 arg4 harg4 arg5 harg5 arg6 harg6 arg7 harg7 arg8 harg8 arg9 harg9 arg10 harg10 arg11 harg11 arg12 harg12 v2 v9 v16 k0_pay3 (0#32) (1#32) k (trip.sl.arg13 k) X7 X8 X9 (arg10.view.writes (Elt Ideal) arg10.view.junk (trip.sl.H10_2 arg3 v2 X3 k)) (arg11.view.writes (Elt Ideal) arg11.view.junk (trip.sl.H11_4 arg3 arg7 arg8 arg9 arg10 v2 v9 v16 X3 X7 X8 X9 k)) (arg12.view.writes (Elt Ideal) arg12.view.junk (trip.sl.H12_8 arg3 arg7 arg9 arg10 v2 v9 v16 X3 X7 X9 k)) (0#32) k.val).2.1 ++ trip.sl.H11_4 arg3 arg7 arg8 arg9 arg10 v2 v9 v16 X3 X7 X8 X9 k)) (ix3 0 row l) = _
  rw [View.writes_append]
  revert own c0 c1 q0 q1
  generalize arg10.view.writes (Elt Ideal) arg10.view.junk (trip.sl.H10_2 arg3 v2 X3 k) = W10
  generalize arg11.view.writes (Elt Ideal) arg11.view.junk (trip.sl.H11_4 arg3 arg7 arg8 arg9 arg10 v2 v9 v16 X3 X7 X8 X9 k) = W11
  generalize arg12.view.writes (Elt Ideal) arg12.view.junk (trip.sl.H12_8 arg3 arg7 arg9 arg10 v2 v9 v16 X3 X7 X9 k) = W12
  intro own c0 c1 q0 q1
  rcases Nat.lt_or_ge k.val 1 with hk | hk
  · have hk0 : k.val = 0 := by omega
    rw [hk0] at own ⊢
    refine Eq.trans own ?_
    refine (sum_ext (pick Z0 Z1 l) (VV arg8 X8 l) (1024 * 0) (1024 * 0 + row.val) 1024 2048 (by omega) (by omega)).trans ?_
    refine Finset.sum_congr rfl fun t _ => ?_
    rw [show 1024 * 0 + t = t by omega]
  · have hk1 : k.val = 1 := by have := k_lt k; omega
    have h0 : 0 < (k0_t2_loop k).trips := by rw [trips2 k, hk1]; exact Nat.zero_lt_one
    have e := pieces_one c i arg2 harg2 arg3 harg3 arg4 harg4 arg5 harg5 arg6 harg6 arg7 harg7 arg8 harg8 arg9 harg9 arg10 harg10 arg11 harg11 arg12 harg12 v2 v9 v16 X7 X8 X9 W10 k W11 W12 k0_pay3 (0#32) (1#32) (trip.sl.arg13 k) (0#32) ⟨0, h0⟩ rfl
    rw [show (⟨0, h0⟩ : Fin (k0_t2_loop k).trips).val + 1 = k.val from hk1.symm] at e
    rw [e]
    refine (View.read_writes_cons_unit_of_mem arg11.view W11 _ _ _ (ix3 0 row l) (ix3 0 row l) rfl ?_).trans ?_
    · intro a
      fin_cases a <;> exact (Nat.zero_add _).symm
    refine (PT_at arg3 arg7 arg8 arg9 arg10 arg11 arg12 v2 v9 v16 X3 X7 X8 X9 W10 k ⟨0, h0⟩ W11 W12 hm hU Z0 Z1 row hz0 hz1 q0 q1
      (by rw [c0, hk1]) (by rw [c1, hk1]) l).trans ?_
    rw [own, hk1, show (2048 : ℕ) = 1024 + 1024 from rfl, Finset.sum_range_add, add_comm]
    refine congrArg₂ (fun x y : EReal => x + y) ?_ ?_
    · refine Finset.sum_congr rfl fun t _ => ?_
      rw [Nat.zero_add]
    · refine Finset.sum_congr rfl fun t _ => ?_
      rw [Nat.mul_one]

end
end Cert.KernelIdeal.AttnV
-- ==== Proof.AttnV.BodyV.lean ====
/- The result's block at a grid point, from the blocks of the inputs. -/
module

public import proofs.«01_k».proof.Proof.AttnV.TripV
public import proofs.«01_k».proof.Proof.KernelIdeal.Run

@[expose] public section

set_option maxRecDepth 16384
set_option maxHeartbeats 400000

noncomputable section

namespace Cert.KernelIdeal.AttnV

open Cert.KernelIdeal Cert.KernelIdeal.Gen Cert.KernelIdeal.Attn
open Idealize.ShloMosaic Idealize.ShloMosaic.TcCoe Idealize.SL.Sem

theorem mask_at (l : Fin 128) : k0_pay258 (ix2 0 l) = if l.val < 64 then 1#1 else 0#1 := by
  pointwise [k0_pay258]
  have h : ∀ a : Fin 128, IntOp.cmpi CmpIPredicate.slt (BitVec.ofNat 32 a.val) 64#32 = if a.val < 64 then 1#1 else 0#1 := by decide +kernel
  exact h l

theorem kcast_at (x : FVec Ideal S1x128x2048 .f32) (r : Fin 128) (t : Fin 2048) : k0_pay261 (F := Ideal) x (ix2 r t) = x (ix3 0 r t) := by
  pointwise [k0_pay261]

theorem vturn_at (x : FVec Ideal S1x128x128 .f32) (r l : Fin 128) : k0_pay262 (F := Ideal) x (ix2 r l) = x (ix3 0 l r) := by
  pointwise [k0_pay262]

/-- One more block of 128 turned rows. -/
theorem vstep (v : View sig .tc .vmem S2048x128 .bf16) (f : v.ty.Contents (Elt Ideal)) (L : List (View.Piece (Elt Ideal) S2048x128 .bf16)) (o : ℕ)
    (ho : o + 128 ≤ 2048) (inb : ∀ a, (![o, 0] : Fin 2 → ℕ) a + (![128, 128] : Fin 2 → ℕ) a ≤ S2048x128.size a) (w : FVec Ideal S128x128 .bf16) (x : FVec Ideal S1x128x2048 .f32)
    (hw : ∀ r l : Fin 128, w (ix2 r l) = x (ix3 0 l ⟨o + r.val, by omega⟩))
    (hL : ∀ (t : Fin 2048) (l : Fin 128), t.val < o → v.read (Elt Ideal) (v.writes (Elt Ideal) f L) (ix2 t l) = x (ix3 0 l t)) :
    ∀ (t : Fin 2048) (l : Fin 128), t.val < o + 128 →
      v.read (Elt Ideal) (v.writes (Elt Ideal) f (⟨Rect.unit (s := S2048x128) ![o, 0] ![128, 128] inb, w⟩ :: L)) (ix2 t l) = x (ix3 0 l t) := by
  intro t l ht
  rcases Nat.lt_or_ge t.val o with h | h
  · exact (View.read_writes_cons_unit_of_not_mem v f inb w L (ix2 t l) rfl 0 (Or.inl h)).trans (hL t l h)
  · refine (View.read_writes_cons_unit_of_mem v f inb w L (ix2 t l) (ix2 ⟨t.val - o, by omega⟩ l) rfl ?_).trans ?_
    · intro a
      fin_cases a
      · show t.val = o + (t.val - o)
        omega
      · exact (Nat.zero_add _).symm
    · refine (hw ⟨t.val - o, by omega⟩ l).trans ?_
      exact congrArg (fun u => x (ix3 0 l u)) (Fin.ext (show o + (t.val - o) = t.val by omega))

section
variable
  (c : Dev nD) (i : grid0.Coords)
  (arg2 : Memref sig .tc .smem S16 .f32) (harg2 : arg2.IsWhole)
  (arg3 : Memref sig .tc .vmem S2048x128 .bf16) (harg3 : arg3.IsWhole)
  (arg4 : Memref sig .tc .vmem S1x128x2048 .f32) (harg4 : arg4.IsWhole)
  (arg5 : Memref sig .tc .vmem S1x128x2048 .f32) (harg5 : arg5.IsWhole)
  (arg6 : Memref sig .tc .vmem S2048x128 .bf16) (harg6 : arg6.IsWhole)
  (arg7 : Memref sig .tc .vmem S128x2048 .bf16) (harg7 : arg7.IsWhole)
  (arg8 : Memref sig .tc .vmem S2048x128 .bf16) (harg8 : arg8.IsWhole)
  (arg9 : Memref sig .tc .vmem S256x256 .bf16) (harg9 : arg9.IsWhole)
  (arg10 : Memref sig .tc .vmem S2x1024x128 .bf16) (harg10 : arg10.IsWhole)
  (arg11 : Memref sig .tc .vmem S1x1024x128 .f32) (harg11 : arg11.IsWhole)
  (arg12 : Memref sig .tc .vmem S2x1024x1 .f32) (harg12 : arg12.IsWhole)
  (v2 : IVec S1x128 1) (v9 : Ideal .f32) (v16 : Ideal .f32)
  (X3 : BufTy.Contents (Elt Ideal) arg3.view.ty) (X7 : BufTy.Contents (Elt Ideal) arg7.view.ty)
  (X8 : BufTy.Contents (Elt Ideal) arg8.view.ty) (X9 : BufTy.Contents (Elt Ideal) arg9.view.ty)
  (x0 : FVec Ideal S16 .f32) (x1 : FVec Ideal S2048x128 .bf16) (x2 : FVec Ideal S1x128x2048 .f32) (x3 : FVec Ideal S1x128x2048 .f32)

theorem bias0 (n : Fin 16) (h : k0_off1 i 0#32 = ![n.val]) : bodyRun.sl.r (F := Ideal) c i arg2 harg2 x0 = x0 (ix1 n) := by
  unfold bodyRun.sl.r
  refine (readAt_at arg2.view _ _ h (Shape.Idx.first _) (ix1 n) ?_).trans (congrFun (harg2.read_unread (Val := Elt Ideal) x0) _)
  intro a
  fin_cases a
  exact (Nat.add_zero _).symm

theorem bias1 (n : Fin 16) (h : k0_off1 i 1#32 = ![n.val]) : bodyRun.sl.r_1 (F := Ideal) c i arg2 harg2 x0 = x0 (ix1 n) := by
  unfold bodyRun.sl.r_1
  refine (readAt_at arg2.view _ _ h (Shape.Idx.first _) (ix1 n) ?_).trans (congrFun (harg2.read_unread (Val := Elt Ideal) x0) _)
  intro a
  fin_cases a
  exact (Nat.add_zero _).symm

theorem keys_at (f : BufTy.Contents (Elt Ideal) arg7.view.ty) (r : Fin 128) (t : Fin 2048) :
    arg7.view.read (Elt Ideal) (arg7.view.writes (Elt Ideal) f (bodyRun.sl.H7_1 (F := Ideal) c arg4 harg4 x2)) (ix2 r t) = x2 (ix3 0 r t) := by
  unfold bodyRun.sl.H7_1
  refine (View.read_writes_cons_unit_of_mem arg7.view f _ _ _ (ix2 r t) (ix2 r t) rfl ?_).trans ?_
  · intro a
    fin_cases a <;> exact (Nat.zero_add _).symm
  refine (kcast_at _ r t).trans ?_
  refine (readAt_at arg4.view _ _ rfl (ix3 0 r t) (ix3 0 r t) ?_).trans (congrFun (harg4.read_unread (Val := Elt Ideal) x2) _)
  intro a
  fin_cases a <;> exact (Nat.zero_add _).symm

theorem tails_at (f : BufTy.Contents (Elt Ideal) arg9.view.ty) (k r : Fin 256) :
    arg9.view.read (Elt Ideal) (arg9.view.writes (Elt Ideal) f (bodyRun.sl.H9_1 (F := Ideal))) (ix2 k r) = if r.val ≤ k.val then -1 else 0 := by
  rw [← up_at]
  unfold bodyRun.sl.H9_1
  refine View.read_writes_cons_unit_of_mem arg9.view f _ _ _ (ix2 k r) (ix2 k r) rfl ?_
  intro a
  fin_cases a <;> exact (Nat.zero_add _).symm

theorem vpiece (o : ℕ) (ho : o + 128 ≤ 2048) (inb : ∀ a, (![0, 0, o] : Fin 3 → ℕ) a + (![1, 128, 128] : Fin 3 → ℕ) a ≤ S1x128x2048.size a) (r l : Fin 128) :
    k0_pay262 (F := Ideal) (View.readAt (Elt Ideal) arg5.view (Rect.unit (s := S1x128x2048) ![0, 0, o] ![1, 128, 128] inb).toLoadRect (harg5.unread x3)) (ix2 r l)
      = x3 (ix3 0 l ⟨o + r.val, by omega⟩) := by
  refine (vturn_at _ r l).trans ?_
  refine (readAt_at arg5.view _ _ rfl (ix3 0 l r) (ix3 0 l ⟨o + r.val, by omega⟩) ?_).trans (congrFun (harg5.read_unread (Val := Elt Ideal) x3) _)
  intro a
  fin_cases a
  · rfl
  · exact (Nat.zero_add _).symm
  · rfl

theorem values_at (f : BufTy.Contents (Elt Ideal) arg8.view.ty) (t : Fin 2048) (l : Fin 128) :
    arg8.view.read (Elt Ideal) (arg8.view.writes (Elt Ideal) f (bodyRun.sl.H8_16 (F := Ideal) c arg5 harg5 x3)) (ix2 t l) = x3 (ix3 0 l t) := by
  unfold bodyRun.sl.H8_16
  refine vstep arg8.view f _ 1920 (by omega) _ _ x3 (fun r l => vpiece arg5 harg5 x3 1920 (by omega) _ r l) ?_ t l t.isLt
  intro t l ht
  refine vstep arg8.view f _ 1792 (by omega) _ _ x3 (fun r l => vpiece arg5 harg5 x3 1792 (by omega) _ r l) ?_ t l ht
  intro t l ht
  refine vstep arg8.view f _ 1664 (by omega) _ _ x3 (fun r l => vpiece arg5 harg5 x3 1664 (by omega) _ r l) ?_ t l ht
  intro t l ht
  refine vstep arg8.view f _ 1536 (by omega) _ _ x3 (fun r l => vpiece arg5 harg5 x3 1536 (by omega) _ r l) ?_ t l ht
  intro t l ht
  refine vstep arg8.view f _ 1408 (by omega) _ _ x3 (fun r l => vpiece arg5 harg5 x3 1408 (by omega) _ r l) ?_ t l ht
  intro t l ht
  refine vstep arg8.view f _ 1280 (by omega) _ _ x3 (fun r l => vpiece arg5 harg5 x3 1280 (by omega) _ r l) ?_ t l ht
  intro t l ht
  refine vstep arg8.view f _ 1152 (by omega) _ _ x3 (fun r l => vpiece arg5 harg5 x3 1152 (by omega) _ r l) ?_ t l ht
  intro t l ht
  refine vstep arg8.view f _ 1024 (by omega) _ _ x3 (fun r l => vpiece arg5 harg5 x3 1024 (by omega) _ r l) ?_ t l ht
  intro t l ht
  refine vstep arg8.view f _ 896 (by omega) _ _ x3 (fun r l => vpiece arg5 harg5 x3 896 (by omega) _ r l) ?_ t l ht
  intro t l ht
  refine vstep arg8.view f _ 768 (by omega) _ _ x3 (fun r l => vpiece arg5 harg5 x3 768 (by omega) _ r l) ?_ t l ht
  intro t l ht
  refine vstep arg8.view f _ 640 (by omega) _ _ x3 (fun r l => vpiece arg5 harg5 x3 640 (by omega) _ r l) ?_ t l ht
  intro t l ht
  refine vstep arg8.view f _ 512 (by omega) _ _ x3 (fun r l => vpiece arg5 harg5 x3 512 (by omega) _ r l) ?_ t l ht
  intro t l ht
  refine vstep arg8.view f _ 384 (by omega) _ _ x3 (fun r l => vpiece arg5 harg5 x3 384 (by omega) _ r l) ?_ t l ht
  intro t l ht
  refine vstep arg8.view f _ 256 (by omega) _ _ x3 (fun r l => vpiece arg5 harg5 x3 256 (by omega) _ r l) ?_ t l ht
  intro t l ht
  refine vstep arg8.view f _ 128 (by omega) _ _ x3 (fun r l => vpiece arg5 harg5 x3 128 (by omega) _ r l) ?_ t l ht
  intro t l ht
  refine vstep arg8.view f _ 0 (by omega) _ _ x3 (fun r l => vpiece arg5 harg5 x3 0 (by omega) _ r l) ?_ t l ht
  intro t l ht
  exact absurd ht (Nat.not_lt_zero _)

/-- The two trips' rows together. -/
theorem rows_at (hm : ∀ l : Fin 128, v2 (ix2 0 l) = if l.val < 64 then 1#1 else 0#1) (hU : ∀ k c : Fin 256, arg9.view.read (Elt Ideal) X9 (ix2 k c) = if c.val ≤ k.val then -1 else 0) (Z0 Z1 : ℕ → EReal) (s : Fin 2048)
    (hz0 : ∀ t : Fin 2048, zrow0 arg3 arg7 v9 X3 X7 s t = Z0 t.val)
    (hz1 : ∀ t : Fin 2048, zrow1 arg3 arg7 v16 X3 X7 s t = Z1 t.val) (l : Fin 128)
    (v : View sig .tc .vmem S2048x128 .bf16) (f : v.ty.Contents (Elt Ideal)) :
    v.read (Elt Ideal) (v.writes (Elt Ideal) f (rows (F := Ideal) c i arg2 harg2 arg3 harg3 arg4 harg4 arg5 harg5 arg6 harg6 arg7 harg7 arg8 harg8 arg9 harg9 arg10 harg10 arg11 harg11 arg12 harg12 v2 v9 v16 X3 X7 X8 X9 2)) (ix2 s l)
      = ∑ t ∈ Finset.range 2048, wt (pick Z0 Z1 l) s.val t * VV arg8 X8 l t := by
  have e1 := rows_succ (F := Ideal) c i arg2 harg2 arg3 harg3 arg4 harg4 arg5 harg5 arg6 harg6 arg7 harg7 arg8 harg8 arg9 harg9 arg10 harg10 arg11 harg11 arg12 harg12 v2 v9 v16 X3 X7 X8 X9 (⟨1, by decide +kernel⟩ : Fin k0_t1_loop.trips)
  have e0 := rows_succ (F := Ideal) c i arg2 harg2 arg3 harg3 arg4 harg4 arg5 harg5 arg6 harg6 arg7 harg7 arg8 harg8 arg9 harg9 arg10 harg10 arg11 harg11 arg12 harg12 v2 v9 v16 X3 X7 X8 X9 (⟨0, by decide +kernel⟩ : Fin k0_t1_loop.trips)
  refine (congrArg (fun L => v.read (Elt Ideal) (v.writes (Elt Ideal) f L) (ix2 s l)) e1).trans ?_
  rcases Nat.lt_or_ge s.val 1024 with h | h
  · have g : grow (⟨0, by decide +kernel⟩ : Fin k0_t1_loop.trips) ⟨s.val, h⟩ = s := Fin.ext (by show 1024 * 0 + s.val = s.val; omega)
    refine (View.read_writes_cons_unit_of_not_mem v f _ _ _ (ix2 s l) (off2 (⟨1, by decide +kernel⟩ : Fin k0_t1_loop.trips)) 0 (Or.inl h)).trans ?_
    refine (congrArg (fun L => v.read (Elt Ideal) (v.writes (Elt Ideal) f L) (ix2 s l)) e0).trans ?_
    refine (View.read_writes_cons_unit_of_mem v f _ _ _ (ix2 s l) (ix2 ⟨s.val, h⟩ l) (off2 _) ?_).trans ?_
    · intro a
      fin_cases a
      · show s.val = 1024 * 0 + s.val
        omega
      · exact (Nat.zero_add _).symm
    refine (trip_at c i arg2 harg2 arg3 harg3 arg4 harg4 arg5 harg5 arg6 harg6 arg7 harg7 arg8 harg8 arg9 harg9 arg10 harg10 arg11 harg11 arg12 harg12 v2 v9 v16 X3 X7 X8 X9 ⟨0, by decide +kernel⟩ hm hU Z0 Z1 ⟨s.val, h⟩ (fun t => by rw [g]; exact hz0 t) (fun t => by rw [g]; exact hz1 t) l).trans ?_
    exact Finset.sum_congr rfl fun t _ => congrArg (fun n => wt (pick Z0 Z1 l) n t * VV arg8 X8 l t) (by show 1024 * 0 + s.val = s.val; omega)
  · have h' : s.val - 1024 < 1024 := by omega
    have g : grow (⟨1, by decide +kernel⟩ : Fin k0_t1_loop.trips) ⟨s.val - 1024, h'⟩ = s := Fin.ext (by show 1024 * 1 + (s.val - 1024) = s.val; omega)
    refine (View.read_writes_cons_unit_of_mem v f _ _ _ (ix2 s l) (ix2 ⟨s.val - 1024, h'⟩ l) (off2 _) ?_).trans ?_
    · intro a
      fin_cases a
      · show s.val = 1024 * 1 + (s.val - 1024)
        omega
      · exact (Nat.zero_add _).symm
    refine (trip_at c i arg2 harg2 arg3 harg3 arg4 harg4 arg5 harg5 arg6 harg6 arg7 harg7 arg8 harg8 arg9 harg9 arg10 harg10 arg11 harg11 arg12 harg12 v2 v9 v16 X3 X7 X8 X9 ⟨1, by decide +kernel⟩ hm hU Z0 Z1 ⟨s.val - 1024, h'⟩ (fun t => by rw [g]; exact hz0 t) (fun t => by rw [g]; exact hz1 t) l).trans ?_
    exact Finset.sum_congr rfl fun t _ => congrArg (fun n => wt (pick Z0 Z1 l) n t * VV arg8 X8 l t) (by show 1024 * 1 + (s.val - 1024) = s.val; omega)

end

variable (m : (ℓ : Loc nD τ sig) → Buf (Elt Ideal) ℓ)

theorem bias_off : ∀ t : Fin grid0.N, k0_off1 (grid0.coords t) 0#32 = ![2 * (t.val % 8)] ∧ k0_off1 (grid0.coords t) 1#32 = ![2 * (t.val % 8) + 1] := by decide +kernel

/-- The heads of a block. -/
abbrev h0 (t : Fin cfg0.N) : Fin 16 := ⟨2 * (t.val % 8), by omega⟩
abbrev h1 (t : Fin cfg0.N) : Fin 16 := ⟨2 * (t.val % 8) + 1, by omega⟩

theorem out_at (c : Dev nD) (t : Fin cfg0.N) (Z0 Z1 : ℕ → EReal) (Vf : ℕ → EReal) (s : Fin 2048) (l : Fin 128)
    (x0 : FVec Ideal S16 .f32) (x1 : FVec Ideal S2048x128 .bf16) (x2 : FVec Ideal S1x128x2048 .f32) (x3 : FVec Ideal S1x128x2048 .f32)
    (e0 : iblk m c 0 t = x0) (e1 : iblk m c 1 t = x1) (e2 : iblk m c 2 t = x2) (e3 : iblk m c 3 t = x3)
    (hz0 : ∀ u : Fin 2048, ∑ l : Fin 128, left l (x1 (ix2 s l)) * x2 (ix3 0 l u) + x0 (ix1 (h0 t)) * (((Real.log 2)⁻¹ : ℝ) : EReal) = Z0 u.val)
    (hz1 : ∀ u : Fin 2048, ∑ l : Fin 128, right l (x1 (ix2 s l)) * x2 (ix3 0 l u) + x0 (ix1 (h1 t)) * (((Real.log 2)⁻¹ : ℝ) : EReal) = Z1 u.val)
    (hV : ∀ u : Fin 2048, x3 (ix3 0 l u) = Vf u.val) :
    outAt m c t (ix2 s l) = ∑ u ∈ Finset.range 2048, wt (pick Z0 Z1 l) s.val u * Vf u := by
  unfold outAt bodyRun
  dsimp only
  rw [e0, e1, e2, e3]
  refine (rows_at c (grid0.coords t) (ms_0 t) (hs_0 t) (ms_1 t) (hs_1 t) (ms_2 t) (hs_2 t) (ms_3 t) (hs_3 t) (ms_4 t) (hs_4 t) sc_0 (Memref.isWhole_whole _) sc_1 (Memref.isWhole_whole _) sc_2 (Memref.isWhole_whole _) sc_3 (Memref.isWhole_whole _) sc_4 (Memref.isWhole_whole _) sc_5 (Memref.isWhole_whole _)
    k0_pay258 _ _ _ _ _ _ mask_at (tails_at sc_2 _) Z0 Z1 s ?_ ?_ l VO VO.junk).trans ?_
  · intro u
    rw [← hz0 u]
    unfold zrow0
    refine congrArg₂ (fun x y : EReal => x + y) (Finset.sum_congr rfl fun l _ => ?_) ?_
    · exact congrArg₂ (fun x y : EReal => left l x * y) (congrFun ((hs_1 t).read_unread (Val := Elt Ideal) x1) _) (keys_at c (ms_2 t) (hs_2 t) sc_0 x2 _ l u)
    · exact congrArg₂ (fun x y : EReal => x * y) (bias0 c (grid0.coords t) (ms_0 t) (hs_0 t) x0 (h0 t) (bias_off t).1) κL_eq
  · intro u
    rw [← hz1 u]
    unfold zrow1
    refine congrArg₂ (fun x y : EReal => x + y) (Finset.sum_congr rfl fun l _ => ?_) ?_
    · exact congrArg₂ (fun x y : EReal => right l x * y) (congrFun ((hs_1 t).read_unread (Val := Elt Ideal) x1) _) (keys_at c (ms_2 t) (hs_2 t) sc_0 x2 _ l u)
    · exact congrArg₂ (fun x y : EReal => x * y) (bias1 c (grid0.coords t) (ms_0 t) (hs_0 t) x0 (h1 t) (bias_off t).2) κL_eq
  · refine Finset.sum_congr rfl fun u hu => ?_
    rw [Finset.mem_range] at hu
    refine congrArg (fun x : EReal => wt (pick Z0 Z1 l) s.val u * x) ?_
    rw [← VV_grow sc_1 _ l ⟨u, hu⟩ u rfl, ← hV ⟨u, hu⟩]
    exact values_at c (ms_3 t) (hs_3 t) sc_1 x3 _ ⟨u, hu⟩ l

end Cert.KernelIdeal.AttnV
-- ==== Proof.AttnV.Ref.lean ====
/- The reference of the attention read at an index, for all extended real logits. -/
module

public import proofs.«01_k».proof.Proof.AttnV.Ops
public import proofs.«01_k».proof.Proof.Gen.ReferenceIdeal.Run
public import Idealize.ShloMosaic.Lib.Pipeline.ValueKit

@[expose] public section

set_option maxRecDepth 16384
set_option maxHeartbeats 400000

noncomputable section

namespace Cert.ReferenceIdeal.AttnV

open Cert.ReferenceIdeal Cert.ReferenceIdeal.Gen
open Cert.KernelIdeal.AttnV (sp TS TS_add TS_self tail_Ico wt κL_eq coe_sum coe_max log_real exp2_real c_zero)
open Idealize.ShloMosaic Idealize.ShloMosaic.TcCoe Idealize.SL.Sem

abbrev Sq : Shape := S16x16x2048x2048

abbrev refZ (a0 a1 : FVec Ideal S16x2048x16x64 .f32) (a3 : FVec Ideal S16 .f32) : FVec Ideal Sq .f32 :=
  addf (mulf (Host.dotGeneral dot_S16x2048x16x64_S16x2048x16x64_S16x16x2048x2048_3_3_1_1_02_02 none a0 a1) (broadcastInDim S16x16x2048x2048 ![] bcast_S_S16x16x2048x2048 (constant S_ .f32 0x3E000000#32)))
    (broadcastInDim S16x16x2048x2048 ![0, 1, 2, 3] bcast_S1x16x1x1_S16x16x2048x2048_0_1_2_3 (broadcastInDim S1x16x1x1 ![1] bcast_S16_S1x16x1x1_1 a3))

abbrev zeros : FVec Ideal Sq .f32 := broadcastInDim S16x16x2048x2048 ![] bcast_S_S16x16x2048x2048 (constant S_ .f32 0x00000000#32)

/-- The logarithm of the sigmoid of `-n`. -/
abbrev refL (n : FVec Ideal Sq .f32) : FVec Ideal Sq .f32 :=
  Host.negf (select (cmpf .une (subf n zeros) (subf n zeros)) (addf n zeros)
    (addf (maximumf n zeros) (Host.log1p (Host.exp (Host.negf (Host.absf (subf n zeros)))))))

abbrev refM : IVec Sq 1 :=
  broadcastInDim S16x16x2048x2048 ![2, 3] bcast_S2048x2048_S16x16x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

abbrev refK (z : FVec Ideal Sq .f32) : FVec Ideal Sq .f32 := select refM (refL (Host.negf (Host.negf z))) (broadcastInDim S16x16x2048x2048 ![] bcast_S_S16x16x2048x2048 (id (constant S_ .f32 0x00000000#32)))

abbrev refC (k : FVec Ideal Sq .f32) : FVec Ideal Sq .f32 :=
  Host.reduceWindowAdd ![1, 1, 1, 2048] ![1, 1, 1, 1] ![0, 0, 0, 0] ![0, 0, 0, 2047] k (broadcastInDim S_ ![] bcast_S_S_ (constant S_ .f32 0x00000000#32)) reduceWindows_S16x16x2048x2048_S16x16x2048x2048_w1s1p0_0_w1s1p0_0_w1s1p0_0_w2048s1p0_2047 h_S_

abbrev refW (z : FVec Ideal Sq .f32) : FVec Ideal Sq .f32 :=
  select refM (Host.exp (addf (refL (Host.negf z)) (subf (refC (refK z)) (refK z)))) (broadcastInDim S16x16x2048x2048 ![] bcast_S_S16x16x2048x2048 (id (constant S_ .f32 0x00000000#32)))

abbrev refO (w : FVec Ideal Sq .f32) (a2 : FVec Ideal S16x2048x16x64 .f32) : FVec Ideal S32768x1024 .bf16 :=
  truncf .bf16 (shapeCast _ (transpose S16x2048x16x64 [0, 3, 1, 2] (Host.dotGeneral dot_S16x2048x16x64_S16x16x2048x2048_S16x16x64x2048_1_3_3_2_02_01 none a2 w) transposes_S16x16x64x2048_S16x2048x16x64_0_3_1_2) shapeCasts_S16x2048x16x64_S32768x1024) bitsLt_bf16_f32

theorem res_eq (m : (ℓ : Loc nD τ sig) → Buf (Elt Ideal) ℓ) (c : Dev nD) :
    Cert.ReferenceIdeal.Value.res_main_v24 m c = refO (refW (refZ (m ((c.tc : Thread nD τ).loc main_arg0)) (m ((c.tc : Thread nD τ).loc main_arg1)) (m ((c.tc : Thread nD τ).loc main_arg3)))) (m ((c.tc : Thread nD τ).loc main_arg2)) := rfl

theorem refZ_at (a0 a1 a3) (b h : Fin 16) (s t : Fin 2048) :
    refZ a0 a1 a3 (ix4 b h s t) = (∑ d : Fin 64, a0 (ix4 b s h d) * a1 (ix4 b t h d)) * Ideal.ofBits FTy.f32 0x3E000000#32 + a3 (ix1 h) := by
  pointwise [refZ]

theorem refO_at (w a2) (R : Fin 32768) (L : Fin 1024) :
    refO w a2 (ix2 R L) = ∑ t : Fin 2048, a2 (ix4 ⟨R.val / 2048, by omega⟩ t ⟨L.val / 64, by omega⟩ ⟨L.val % 64, by omega⟩)
      * w (ix4 ⟨R.val / 2048, by omega⟩ ⟨L.val / 64, by omega⟩ ⟨R.val % 2048, by omega⟩ t) := by
  pointwise [refO]

theorem word_int : ∀ a : Fin 2048, (BitVec.ofNat 32 a.val).toInt = a.val := by decide +kernel

theorem lt_word (a b : Fin 2048) : IntOp.cmpi CmpIPredicate.slt (BitVec.ofNat 32 a.val) (BitVec.ofNat 32 b.val) = if a.val < b.val then 1#1 else 0#1 := by
  simp only [IntOp.cmpi, BitVec.slt, word_int, Int.ofNat_lt]
  by_cases h : a.val < b.val
  · simp [h]
  · simp [h]

theorem refM_at (b h : Fin 16) (s t : Fin 2048) : refM (ix4 b h s t) = if t.val < s.val then 1#1 else 0#1 := by
  rw [← lt_word]
  pointwise [refM]

/-- The logarithm of the sigmoid of `-n`, at a number. -/
def Lg (n : EReal) : EReal := -(max n 0 + Ideal.log (1 + Ideal.exp (-(max n (-n)))))

theorem refL_at (n : FVec Ideal Sq .f32) (i : Sq.Idx) : refL n i = Lg (n i) := by
  obtain ⟨b, h, s, t, rfl⟩ : ∃ b h s t, i = ix4 b h s t := ⟨i 0, i 1, i 2, i 3, eq_ix4 i⟩
  unfold Lg
  pointwise [refL, zeros]
  rw [if_neg (by simp)]
  rfl

/-- The softplus of `x log 2`, over `log 2`, of a real number. -/
def spr (x : ℝ) : ℝ := max x 0 + Real.log (1 + (2 : ℝ) ^ (-|x|)) * (Real.log 2)⁻¹

theorem sp_real (x : ℝ) : sp (x : EReal) = ((spr x : ℝ) : EReal) := by
  unfold sp
  rw [κL_eq, ← EReal.coe_neg, coe_max, ← EReal.coe_zero, coe_max, ← EReal.coe_sub, exp2_real, ← EReal.coe_add,
    log_real _ (by positivity), ← EReal.coe_mul, ← EReal.coe_add]
  unfold spr
  rw [zero_sub]
  rfl

theorem log_one : Ideal.log (1 : EReal) = 0 := by
  rw [← EReal.coe_one, log_real 1 one_pos, Real.log_one, EReal.coe_zero]

theorem log_one' : Ideal.log (((1 : ℝ) : EReal) + 0) = 0 := by
  rw [add_zero, EReal.coe_one, log_one]

theorem sp_top : sp ⊤ = ⊤ := by
  unfold sp
  have e : Ideal.exp2 (0 - max (⊤ : EReal) (-⊤)) = 0 := by
    rw [max_eq_left le_top]
    rfl
  rw [e, log_one', zero_mul, add_zero, max_eq_left le_top]

theorem sp_bot : sp ⊥ = 0 := by
  unfold sp
  have e : Ideal.exp2 (0 - max (⊥ : EReal) (-⊥)) = 0 := by
    rw [EReal.neg_bot, max_eq_right bot_le]
    rfl
  rw [e, log_one', zero_mul, add_zero, max_eq_right bot_le]

theorem Lg_top : Lg ⊤ = ⊥ := by
  unfold Lg
  have e : Ideal.exp (-(max (⊤ : EReal) (-⊤))) = 0 := by
    rw [max_eq_left le_top]
    rfl
  rw [e, add_zero, log_one, add_zero, max_eq_left le_top, EReal.neg_top]

theorem Lg_bot : Lg ⊥ = 0 := by
  unfold Lg
  have e : Ideal.exp (-(max (⊥ : EReal) (-⊥))) = 0 := by
    rw [EReal.neg_bot, max_eq_right bot_le]
    rfl
  rw [e, add_zero, log_one, add_zero, max_eq_right bot_le, neg_zero]

theorem Lg_real (x : ℝ) : Lg ((-(x * Real.log 2) : ℝ) : EReal) = ((-(Real.log 2 * spr (-x)) : ℝ) : EReal) := by
  have hL : 0 < Real.log 2 := Real.log_pos (by norm_num)
  have h1 : ∀ r : ℝ, Ideal.exp (r : EReal) = ((Real.exp r : ℝ) : EReal) := fun r => rfl
  unfold Lg
  rw [← EReal.coe_neg, coe_max, ← EReal.coe_neg, h1, ← EReal.coe_one, ← EReal.coe_add, log_real _ (by positivity), ← EReal.coe_zero, coe_max, ← EReal.coe_add, ← EReal.coe_neg]
  refine congrArg _ ?_
  unfold spr
  have e2 : max (-(x * Real.log 2)) 0 = Real.log 2 * max (-x) 0 := by
    rw [mul_max_of_nonneg _ _ hL.le, mul_zero]
    congr 1
    ring
  have e3 : -max (-(x * Real.log 2)) (- -(x * Real.log 2)) = Real.log 2 * -|-x| := by
    rw [abs_neg, ← abs_neg, abs_eq_max_neg, neg_neg, mul_neg, mul_max_of_nonneg _ _ hL.le]
    congr 2 <;> ring
  rw [e2, e3, Real.rpow_def_of_pos (by norm_num : (0:ℝ) < 2)]
  have : Real.log 2 * (Real.log (1 + Real.exp (Real.log 2 * -|-x|)) * (Real.log 2)⁻¹) = Real.log (1 + Real.exp (Real.log 2 * -|-x|)) := by
    field_simp
  rw [mul_add, this]

/-- At `x log 2` for any `x`. -/
theorem Lg_scaled (x : EReal) : Lg (x * ((Real.log 2 : ℝ) : EReal)) = ((Real.log 2 : ℝ) : EReal) * -sp x := by
  have hL : 0 < Real.log 2 := Real.log_pos (by norm_num)
  induction x with
  | bot => rw [EReal.bot_mul_coe_of_pos hL, Lg_bot, sp_bot, neg_zero, mul_zero]
  | top => rw [EReal.top_mul_coe_of_pos hL, Lg_top, sp_top, EReal.neg_top, EReal.coe_mul_bot_of_pos hL]
  | coe x =>
    rw [← EReal.coe_mul, show x * Real.log 2 = -(-x * Real.log 2) by ring, Lg_real, neg_neg, sp_real, ← EReal.coe_neg, ← EReal.coe_mul, mul_neg]

theorem spr_neg (x : ℝ) : spr (-x) = spr x - x := by
  unfold spr
  rw [abs_neg]
  have : max (-x) 0 = max x 0 - x := by
    rcases le_total x 0 with h | h
    · rw [max_eq_left (by linarith), max_eq_right h]; ring
    · rw [max_eq_right (by linarith), max_eq_left h]; ring
  rw [this]
  ring

theorem exp_scaled (x : EReal) : Ideal.exp (((Real.log 2 : ℝ) : EReal) * x) = Ideal.exp2 x := by
  have hL : 0 < Real.log 2 := Real.log_pos (by norm_num)
  induction x with
  | bot => rw [EReal.coe_mul_bot_of_pos hL]; rfl
  | top => rw [EReal.coe_mul_top_of_pos hL]; rfl
  | coe x =>
    rw [← EReal.coe_mul, exp2_real, Real.rpow_def_of_pos (by norm_num : (0:ℝ) < 2)]
    rfl

theorem scaled_add (x y : EReal) : ((Real.log 2 : ℝ) : EReal) * (x + y) = ((Real.log 2 : ℝ) : EReal) * x + ((Real.log 2 : ℝ) : EReal) * y :=
  EReal.left_distrib_of_nonneg_of_ne_top (EReal.coe_nonneg.mpr (Real.log_pos (by norm_num)).le) (EReal.coe_ne_top _) _ _

theorem scaled_sum {ι : Type} (s : Finset ι) (f : ι → EReal) : ∑ i ∈ s, ((Real.log 2 : ℝ) : EReal) * f i = ((Real.log 2 : ℝ) : EReal) * ∑ i ∈ s, f i :=
  (map_sum (⟨⟨fun x => ((Real.log 2 : ℝ) : EReal) * x, mul_zero _⟩, scaled_add⟩ : EReal →+ EReal) f s).symm

/-- A key's weight at its logit `x log 2`, the later keys' terms summed to `y`. -/
theorem weight (x y : EReal) :
    Ideal.exp (Lg (-(x * ((Real.log 2 : ℝ) : EReal))) + (((Real.log 2 : ℝ) : EReal) * (-sp x + y) - ((Real.log 2 : ℝ) : EReal) * -sp x)) = Ideal.exp2 (x + (-sp x + y)) := by
  have hL : 0 < Real.log 2 := Real.log_pos (by norm_num)
  induction x with
  | bot => rw [EReal.bot_mul_coe_of_pos hL, EReal.neg_bot, Lg_top, EReal.bot_add, EReal.bot_add]; rfl
  | top =>
    rw [EReal.top_mul_coe_of_pos hL, EReal.neg_top, Lg_bot, sp_top, EReal.neg_top, EReal.bot_add, EReal.coe_mul_bot_of_pos hL, EReal.add_bot, EReal.bot_sub, EReal.add_bot]
    rfl
  | coe x =>
    have e : (((Real.log 2 : ℝ) : EReal) * (-sp (x : EReal) + y) - ((Real.log 2 : ℝ) : EReal) * -sp (x : EReal)) = ((Real.log 2 : ℝ) : EReal) * y := by
      rw [scaled_add, sp_real, ← EReal.coe_neg, ← EReal.coe_mul]
      exact EReal.add_sub_cancel_left
    have e2 : Lg (-((x : EReal) * ((Real.log 2 : ℝ) : EReal))) = ((Real.log 2 : ℝ) : EReal) * ((x : EReal) + -sp (x : EReal)) := by
      rw [← EReal.coe_mul, ← EReal.coe_neg, Lg_real, spr_neg, sp_real, ← EReal.coe_neg, ← EReal.coe_add, ← EReal.coe_mul]
      exact congrArg Real.toEReal (by ring)
    rw [e, e2, ← scaled_add, exp_scaled, add_assoc]

theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- A windowed sum from zero as a sum over the window's places. -/
theorem window_sum {s t : Shape} (window strides lo hi : Fin s.rank → Nat) (h : s.ReduceWindows window strides lo hi t) (x : s.Idx → EReal) (j : t.Idx) :
    Ideal.hostReduceWindowAdd window strides lo hi h x 0 j
      = ∑ w : (⟨s.rank, window⟩ : Shape).Idx, if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  unfold Ideal.hostReduceWindowAdd Host.reduceWindow
  dsimp only
  refine (foldl_add _ _ _).trans ?_
  rw [zero_add, ← Fin.sum_univ_def]
  refine Eq.trans (Finset.sum_congr rfl fun i _ => ?_) (Equiv.sum_comp (⟨s.rank, window⟩ : Shape).rowMajor.symm (fun w => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0))
  exact dite_congr rfl (fun _ => rfl) fun _ => rfl

theorem tails (k : FVec Ideal Sq .f32) (v : EReal) (hv : v = 0) (b h : Fin 16) (s t : Fin 2048) :
    Ideal.hostReduceWindowAdd ![1, 1, 1, 2048] ![1, 1, 1, 1] ![0, 0, 0, 0] ![0, 0, 0, 2047] reduceWindows_S16x16x2048x2048_S16x16x2048x2048_w1s1p0_0_w1s1p0_0_w1s1p0_0_w2048s1p0_2047 k v (ix4 b h s t) = ∑ n : Fin 2048, if hn : t.val + n.val < 2048 then k (ix4 b h s ⟨t.val + n.val, hn⟩) else 0 := by
  subst hv
  rw [window_sum]
  refine (Fintype.sum_bijective (fun n : Fin 2048 => (ix4 0 0 0 n : (⟨4, ![1, 1, 1, 2048]⟩ : Shape).Idx)) ⟨fun x y e => congrFun e 3, fun w => ⟨w 3, ?_⟩⟩ _ _ fun n => ?_).symm
  · funext a
    fin_cases a
    · exact Subsingleton.elim (α := Fin 1) _ _
    · exact Subsingleton.elim (α := Fin 1) _ _
    · exact Subsingleton.elim (α := Fin 1) _ _
    · rfl
  · by_cases hn : t.val + n.val < 2048
    · rw [dif_pos hn, dif_pos]
      · refine congrArg k ?_
        funext a
        refine Fin.ext ?_
        fin_cases a
        · show b.val = b.val * 1 + 0 - 0; omega
        · show h.val = h.val * 1 + 0 - 0; omega
        · show s.val = s.val * 1 + 0 - 0; omega
        · show t.val + n.val = t.val * 1 + n.val - 0; omega
      · intro a
        refine ⟨by fin_cases a <;> exact Nat.zero_le _, ?_⟩
        fin_cases a
        · show b.val * 1 + 0 - 0 < 16; omega
        · show h.val * 1 + 0 - 0 < 16; omega
        · show s.val * 1 + 0 - 0 < 2048; omega
        · show t.val * 1 + n.val - 0 < 2048; omega
    · rw [dif_neg hn, dif_neg]
      intro hin
      have h3 : t.val * 1 + n.val - 0 < 2048 := (hin 3).2
      omega

theorem refC_at (k : FVec Ideal Sq .f32) (b h : Fin 16) (s t : Fin 2048) :
    refC k (ix4 b h s t) = ∑ n : Fin 2048, if hn : t.val + n.val < 2048 then k (ix4 b h s ⟨t.val + n.val, hn⟩) else 0 := by
  have e0 : broadcastInDim S_ ![] bcast_S_S_ (constant (F := Ideal) S_ .f32 0x00000000#32) (Shape.Idx.first h_S_) = (0 : EReal) := c_zero
  refine Eq.trans ?_ (tails k _ e0 b h s t)
  simp only [refC, Host.reduceWindowAdd, Ideal.hostReduceWindowAdd_def]

theorem refK_at (z : FVec Ideal Sq .f32) (b h : Fin 16) (s t : Fin 2048) (x : EReal) (hz : z (ix4 b h s t) = x * ((Real.log 2 : ℝ) : EReal)) :
    refK z (ix4 b h s t) = if t.val < s.val then ((Real.log 2 : ℝ) : EReal) * -sp x else 0 := by
  have e : refK z (ix4 b h s t) = Scalar.select (refM (ix4 b h s t)) (refL (Host.negf (Host.negf z)) (ix4 b h s t)) (Ideal.ofBits FTy.f32 0#32) := rfl
  have hn : (Host.negf (Host.negf z) : FVec Ideal Sq .f32) (ix4 b h s t) = x * ((Real.log 2 : ℝ) : EReal) := by
    show - -(z (ix4 b h s t)) = _
    rw [neg_neg, hz]
  rw [e, refM_at, refL_at, hn, Lg_scaled, c_zero]
  by_cases hts : t.val < s.val
  · rw [if_pos hts, if_pos hts]; rfl
  · rw [if_neg hts, if_neg hts]; rfl

theorem refC_sum (z : FVec Ideal Sq .f32) (Z : ℕ → EReal) (b h : Fin 16) (s t : Fin 2048)
    (hz : ∀ t : Fin 2048, z (ix4 b h s t) = Z t.val * ((Real.log 2 : ℝ) : EReal)) (hts : t.val < s.val) :
    refC (refK z) (ix4 b h s t) = ((Real.log 2 : ℝ) : EReal) * TS Z t.val s.val := by
  rw [refC_at]
  have e : ∀ n : Fin 2048, (if hn : t.val + n.val < 2048 then refK z (ix4 b h s ⟨t.val + n.val, hn⟩) else 0)
      = (fun n : ℕ => if 0 ≤ n ∧ n < s.val - t.val then (fun u => ((Real.log 2 : ℝ) : EReal) * -sp (Z u)) (t.val + n) else 0) n.val := by
    intro n
    by_cases hn : t.val + n.val < 2048
    · rw [dif_pos hn, refK_at z b h s ⟨t.val + n.val, hn⟩ (Z (t.val + n.val)) (hz ⟨t.val + n.val, hn⟩)]
      show (if t.val + n.val < s.val then _ else _) = if 0 ≤ n.val ∧ n.val < s.val - t.val then _ else _
      by_cases h2 : t.val + n.val < s.val
      · rw [if_pos h2, if_pos (by omega)]
      · rw [if_neg h2, if_neg (by omega)]
    · rw [dif_neg hn]
      exact (if_neg (by omega)).symm
  refine (Finset.sum_congr rfl fun n _ => e n).trans ((Fin.sum_univ_eq_sum_range (fun n : ℕ => if 0 ≤ n ∧ n < s.val - t.val then (fun u => ((Real.log 2 : ℝ) : EReal) * -sp (Z u)) (t.val + n) else 0) 2048).trans ?_)
  refine (tail_Ico (fun u => ((Real.log 2 : ℝ) : EReal) * -sp (Z u)) t.val 0 (s.val - t.val) 2048 (by omega)).trans ?_
  rw [add_zero, Nat.add_sub_cancel' hts.le, scaled_sum]
  rfl

/-- The reference's weight is the kernel's. -/
theorem refW_at (z : FVec Ideal Sq .f32) (Z : ℕ → EReal) (b h : Fin 16) (s t : Fin 2048)
    (hz : ∀ t : Fin 2048, z (ix4 b h s t) = Z t.val * ((Real.log 2 : ℝ) : EReal)) : refW z (ix4 b h s t) = wt Z s.val t.val := by
  have e : refW z (ix4 b h s t) = Scalar.select (refM (ix4 b h s t)) (Ideal.exp (refL (Host.negf z) (ix4 b h s t) + (refC (refK z) (ix4 b h s t) - refK z (ix4 b h s t)))) (Ideal.ofBits FTy.f32 0#32) := rfl
  have hn : (Host.negf z : FVec Ideal Sq .f32) (ix4 b h s t) = -(Z t.val * ((Real.log 2 : ℝ) : EReal)) := by
    show -(z (ix4 b h s t)) = _
    rw [hz]
  rw [e, refM_at]
  unfold wt
  by_cases hts : t.val < s.val
  · have e2 : TS Z t.val s.val = -sp (Z t.val) + TS Z (t.val + 1) s.val := Finset.sum_eq_sum_Ico_succ_bot hts _
    rw [if_pos hts, if_pos hts, refL_at, hn, refC_sum z Z b h s t hz hts, refK_at z b h s t (Z t.val) (hz t), if_pos hts, e2]
    exact weight _ _
  · rw [if_neg hts, if_neg hts, c_zero]
    rfl

end Cert.ReferenceIdeal.AttnV
-- ==== Proof.AttnV.Value.lean ====
/- The attention's result array: what the run leaves is the reference's term of the arguments. -/
module

public import proofs.«01_k».proof.Proof.AttnV.BodyV
public import proofs.«01_k».proof.Proof.AttnV.Ref
public import Idealize.ShloMosaic.Lib.Pipeline.ValueKit

@[expose] public section

set_option maxRecDepth 16384
set_option maxHeartbeats 400000

noncomputable section

namespace Cert.KernelIdeal.AttnV

open Cert.KernelIdeal Cert.KernelIdeal.Gen Cert.KernelIdeal.Attn
open Idealize.ShloMosaic Idealize.ShloMosaic.TcCoe Idealize.SL.Sem

variable (m : (ℓ : Loc nD τ sig) → Buf (Elt Ideal) ℓ)

abbrev A0 (c : Dev nD) : FVec Ideal S16x2048x16x64 .f32 := m ((c : Thread nD τ).loc main_arg0)
abbrev A1 (c : Dev nD) : FVec Ideal S16x2048x16x64 .f32 := m ((c : Thread nD τ).loc main_arg1)
abbrev A2 (c : Dev nD) : FVec Ideal S16x2048x16x64 .f32 := m ((c : Thread nD τ).loc main_arg2)
abbrev A3 (c : Dev nD) : FVec Ideal S16 .f32 := m ((c : Thread nD τ).loc main_arg3)

theorem idx : ∀ t : Fin cfg0.N, win0_0.index t = ![0] ∧ win0_1.index t = ![t.val / 8, t.val % 8] ∧ win0_2.index t = ![t.val / 8, t.val % 8, 0]
    ∧ win0_3.index t = ![t.val / 8, t.val % 8, 0] ∧ win0_4.index t = ![t.val / 8, t.val % 8] :=
  (by decide +kernel : ∀ t : Fin grid0.N, _)

/-- The batch of a grid point. -/
abbrev gB (t : Fin cfg0.N) : Fin 16 := ⟨t.val / 8, by have h : t.val < 128 := t.isLt; omega⟩
/-- The head of a lane. -/
abbrev gH (t : Fin cfg0.N) (l : Fin 128) : Fin 16 := ⟨(128 * (t.val % 8) + l.val) / 64, by omega⟩

theorem blk0 (c : Dev nD) (t : Fin cfg0.N) (h : Fin 16) : iblk m c 0 t (ix1 h) = A3 m c (ix1 h) := by
  blk_point [iblk, V, idx t]
/-- The scaled queries the host hands over. -/
abbrev hostQ (q : FVec Ideal S16x2048x16x64 .f32) : FVec Ideal S32768x1024 .bf16 :=
  shapeCast _ (truncf .bf16 (mulf q (broadcastInDim S16x2048x16x64 ![] bcast_S_S16x2048x16x64 (Host.divf (constant S_ .f32 0x3E000000#32) (Host.log (constant S_ .f32 0x40000000#32))))) bitsLt_bf16_f32) shapeCasts_S16x2048x16x64_S32768x1024

theorem hostQ_at (q) (R : Fin 32768) (L : Fin 1024) : hostQ q (ix2 R L) = q (ix4 ⟨R.val / 2048, by omega⟩ ⟨R.val % 2048, by omega⟩ ⟨L.val / 64, by omega⟩ ⟨L.val % 64, by omega⟩)
    * Ideal.div (Ideal.ofBits FTy.f32 0x3E000000#32) (Ideal.log (Ideal.ofBits FTy.f32 0x40000000#32)) := by
  pointwise [hostQ]

theorem V5 (c : Dev nD) : V m c main_v5 = hostQ (A0 m c) := rfl

theorem blk1 (c : Dev nD) (t : Fin cfg0.N) (s : Fin 2048) (l : Fin 128) :
    iblk m c 1 t (ix2 s l) = A0 m c (ix4 (gB t) s (gH t l) ⟨l.val % 64, by omega⟩)
      * Ideal.div (Ideal.ofBits FTy.f32 0x3E000000#32) (Ideal.log (Ideal.ofBits FTy.f32 0x40000000#32)) := by
  have ht : t.val < 128 := t.isLt
  have e : iblk m c 1 t (ix2 s l) = V m c main_v5 (ix2 ⟨2048 * (t.val / 8) + s.val, by omega⟩ ⟨128 * (t.val % 8) + l.val, by omega⟩) := by
    unfold iblk
    show View.read (Elt Ideal) ((View.whole main_v5).slice ((win0 1).rect t)) (V m c main_v5) (ix2 s l) = _
    generalize V m c main_v5 = X
    blk_point [idx t]
  rw [e, V5]
  generalize A0 m c = q
  refine (hostQ_at q _ _).trans ?_
  refine congrArg (fun j => q j * Ideal.div (Ideal.ofBits FTy.f32 0x3E000000#32) (Ideal.log (Ideal.ofBits FTy.f32 0x40000000#32))) ?_
  funext a
  refine Fin.ext ?_
  fin_cases a
  · show (2048 * (t.val / 8) + s.val) / 2048 = t.val / 8; omega
  · show (2048 * (t.val / 8) + s.val) % 2048 = s.val; omega
  · rfl
  · show (128 * (t.val % 8) + l.val) % 64 = l.val % 64; omega

theorem blk2 (c : Dev nD) (t : Fin cfg0.N) (s : Fin 2048) (l : Fin 128) :
    iblk m c 2 t (ix3 0 l s) = A1 m c (ix4 (gB t) s (gH t l) ⟨l.val % 64, by omega⟩) := by
  blk_point [iblk, V, idx t]
theorem blk3 (c : Dev nD) (t : Fin cfg0.N) (s : Fin 2048) (l : Fin 128) :
    iblk m c 3 t (ix3 0 l s) = A2 m c (ix4 (gB t) s (gH t l) ⟨l.val % 64, by omega⟩) := by
  blk_point [iblk, V, idx t]

theorem c_scale : Ideal.div (Ideal.ofBits FTy.f32 0x3E000000#32) (Ideal.log (Ideal.ofBits FTy.f32 0x40000000#32)) = (((1 / 8) * (Real.log 2)⁻¹ : ℝ) : EReal) := by
  have e1 : Ideal.ofBits FTy.f32 0x3E000000#32 = ((1 / 8 : ℝ) : EReal) := by
    simp [Ideal.ofBits, Ideal.ieee, -EReal.coe_mul]; norm_num
  have e2 : Ideal.ofBits FTy.f32 0x40000000#32 = ((2 : ℝ) : EReal) := by
    simp [Ideal.ofBits, Ideal.ieee, -EReal.coe_mul]; norm_num
  have h : Real.log 2 ≠ 0 := (Real.log_pos (by norm_num)).ne'
  rw [e1, e2, log_real _ (by norm_num)]
  unfold Ideal.div
  rw [if_neg (by rw [EReal.coe_eq_zero]; exact h), ← EReal.coe_inv, ← EReal.coe_mul]

theorem c_eighth : Ideal.ofBits FTy.f32 0x3E000000#32 = ((1 / 8 : ℝ) : EReal) := by
  simp [Ideal.ofBits, Ideal.ieee, -EReal.coe_mul]; norm_num

theorem left_sum (X Y : Fin 128 → EReal) : ∑ l : Fin 128, left l (X l) * Y l = ∑ d : Fin 64, X ⟨d.val, by omega⟩ * Y ⟨d.val, by omega⟩ := by
  refine (Fin.sum_univ_add (a := 64) (b := 64) fun l : Fin 128 => left l (X l) * Y l).trans ?_
  refine (congrArg₂ (fun x y : EReal => x + y) (Finset.sum_congr rfl fun d _ => ?_) (Finset.sum_eq_zero fun d _ => ?_)).trans (add_zero _)
  · unfold left
    rw [if_pos (by exact d.isLt)]
    rfl
  · unfold left
    rw [if_neg (by show ¬ 64 + d.val < 64; omega), zero_mul]

theorem right_sum (X Y : Fin 128 → EReal) : ∑ l : Fin 128, right l (X l) * Y l = ∑ d : Fin 64, X ⟨64 + d.val, by omega⟩ * Y ⟨64 + d.val, by omega⟩ := by
  refine (Fin.sum_univ_add (a := 64) (b := 64) fun l : Fin 128 => right l (X l) * Y l).trans ?_
  refine (congrArg₂ (fun x y : EReal => x + y) (Finset.sum_eq_zero fun d _ => ?_) (Finset.sum_congr rfl fun d _ => ?_)).trans (zero_add _)
  · unfold right
    rw [if_pos (by exact d.isLt), zero_mul]
  · unfold right
    rw [if_neg (by show ¬ 64 + d.val < 64; omega)]
    rfl

theorem pos_add (r : ℝ) (hr : 0 ≤ r) (x y : EReal) : (x + y) * (r : EReal) = x * (r : EReal) + y * (r : EReal) :=
  EReal.right_distrib_of_nonneg_of_ne_top (EReal.coe_nonneg.mpr hr) (EReal.coe_ne_top _) _ _

theorem pos_sum (r : ℝ) (hr : 0 ≤ r) {ι : Type} (s : Finset ι) (f : ι → EReal) : (∑ i ∈ s, f i) * (r : EReal) = ∑ i ∈ s, f i * (r : EReal) :=
  map_sum (⟨⟨fun x => x * (r : EReal), zero_mul _⟩, pos_add r hr⟩ : EReal →+ EReal) f s

/-- The kernel's logit is the reference's over `log 2`. -/
theorem z_kernel (q k : Fin 64 → EReal) (b : EReal) :
    ∑ d : Fin 64, q d * (((1 / 8) * (Real.log 2)⁻¹ : ℝ) : EReal) * k d + b * (((Real.log 2)⁻¹ : ℝ) : EReal)
      = ((∑ d : Fin 64, q d * k d) * ((1 / 8 : ℝ) : EReal) + b) * (((Real.log 2)⁻¹ : ℝ) : EReal) := by
  have h : 0 ≤ (Real.log 2)⁻¹ := inv_nonneg.mpr (Real.log_pos (by norm_num)).le
  rw [pos_add _ h, mul_assoc, ← EReal.coe_mul, pos_sum _ (mul_nonneg (by norm_num) h)]
  refine congrArg (fun x => x + b * (((Real.log 2)⁻¹ : ℝ) : EReal)) (Finset.sum_congr rfl fun d _ => ?_)
  exact mul_right_comm _ _ _

theorem z_ref (y : EReal) : y = y * (((Real.log 2)⁻¹ : ℝ) : EReal) * ((Real.log 2 : ℝ) : EReal) := by
  have h : Real.log 2 ≠ 0 := (Real.log_pos (by norm_num)).ne'
  rw [mul_assoc, ← EReal.coe_mul, inv_mul_cancel₀ h, EReal.coe_one, mul_one]

/-- The logit over `log 2`. -/
def Zf (Q K : S16x2048x16x64.Idx → EReal) (B : S16.Idx → EReal) (b h : Fin 16) (s : Fin 2048) (u : ℕ) : EReal :=
  if hu : u < 2048 then ((∑ d : Fin 64, Q (ix4 b s h d) * K (ix4 b ⟨u, hu⟩ h d)) * ((1 / 8 : ℝ) : EReal) + B (ix1 h)) * (((Real.log 2)⁻¹ : ℝ) : EReal) else 0

theorem Zf_at (Q K B) (b h : Fin 16) (s u : Fin 2048) :
    Zf Q K B b h s u.val = ((∑ d : Fin 64, Q (ix4 b s h d) * K (ix4 b u h d)) * ((1 / 8 : ℝ) : EReal) + B (ix1 h)) * (((Real.log 2)⁻¹ : ℝ) : EReal) := dif_pos u.isLt

theorem lane_left (t : Fin cfg0.N) (d : Fin 64) : gH t ⟨d.val, by omega⟩ = h0 t := Fin.ext (by show (128 * (t.val % 8) + d.val) / 64 = 2 * (t.val % 8); omega)
theorem lane_right (t : Fin cfg0.N) (d : Fin 64) : gH t ⟨64 + d.val, by omega⟩ = h1 t := Fin.ext (by show (128 * (t.val % 8) + (64 + d.val)) / 64 = 2 * (t.val % 8) + 1; omega)
theorem mod_left (d : Fin 64) (h : d.val % 64 < 64) : (⟨d.val % 64, h⟩ : Fin 64) = d := Fin.ext (by show d.val % 64 = d.val; omega)
theorem mod_right (d : Fin 64) (h : (64 + d.val) % 64 < 64) : (⟨(64 + d.val) % 64, h⟩ : Fin 64) = d := Fin.ext (by show (64 + d.val) % 64 = d.val; omega)

/-- A block of the result. -/
theorem out_sum (c : Dev nD) (t : Fin cfg0.N) (s : Fin 2048) (l : Fin 128) :
    outAt m c t (ix2 s l) = ∑ u : Fin 2048, A2 m c (ix4 (gB t) u (gH t l) ⟨l.val % 64, by omega⟩) * wt (Zf (A0 m c) (A1 m c) (A3 m c) (gB t) (gH t l) s) s.val u.val := by
  refine (out_at m c t (Zf (A0 m c) (A1 m c) (A3 m c) (gB t) (h0 t) s) (Zf (A0 m c) (A1 m c) (A3 m c) (gB t) (h1 t) s)
    (fun u => if hu : u < 2048 then A2 m c (ix4 (gB t) ⟨u, hu⟩ (gH t l) ⟨l.val % 64, by omega⟩) else 0) s l _ _ _ _ rfl rfl rfl rfl ?_ ?_ ?_).trans ?_
  · intro u
    rw [Zf_at, ← z_kernel]
    refine congrArg₂ (fun x y : EReal => x + y) ?_ ?_
    · refine (left_sum (fun l => iblk m c 1 t (ix2 s l)) fun l => iblk m c 2 t (ix3 0 l u)).trans (Finset.sum_congr rfl fun d _ => ?_)
      refine congrArg₂ (fun x y : EReal => x * y) ((blk1 m c t s _).trans ?_) ((blk2 m c t u _).trans ?_)
      · rw [c_scale, lane_left, mod_left]
      · rw [lane_left, mod_left]
    · exact congrArg (fun x : EReal => x * (((Real.log 2)⁻¹ : ℝ) : EReal)) (blk0 m c t _)
  · intro u
    rw [Zf_at, ← z_kernel]
    refine congrArg₂ (fun x y : EReal => x + y) ?_ ?_
    · refine (right_sum (fun l => iblk m c 1 t (ix2 s l)) fun l => iblk m c 2 t (ix3 0 l u)).trans (Finset.sum_congr rfl fun d _ => ?_)
      refine congrArg₂ (fun x y : EReal => x * y) ((blk1 m c t s _).trans ?_) ((blk2 m c t u _).trans ?_)
      · rw [c_scale, lane_right, mod_right]
      · rw [lane_right, mod_right]
    · exact congrArg (fun x : EReal => x * (((Real.log 2)⁻¹ : ℝ) : EReal)) (blk0 m c t _)
  · intro u
    rw [dif_pos u.isLt]
    exact blk3 m c t u l
  · have e : pick (Zf (A0 m c) (A1 m c) (A3 m c) (gB t) (h0 t) s) (Zf (A0 m c) (A1 m c) (A3 m c) (gB t) (h1 t) s) l = Zf (A0 m c) (A1 m c) (A3 m c) (gB t) (gH t l) s := by
      unfold pick
      by_cases hl : l.val < 64
      · rw [if_pos hl, ← lane_left t ⟨l.val, hl⟩]
      · rw [if_neg hl, ← lane_right t ⟨l.val - 64, by omega⟩]
        exact congrArg (fun h => Zf (A0 m c) (A1 m c) (A3 m c) (gB t) (gH t h) s) (Fin.ext (by show 64 + (l.val - 64) = l.val; omega))
    rw [e]
    refine (Fin.sum_univ_eq_sum_range (fun u => wt (Zf (A0 m c) (A1 m c) (A3 m c) (gB t) (gH t l) s) s.val u * (if hu : u < 2048 then A2 m c (ix4 (gB t) ⟨u, hu⟩ (gH t l) ⟨l.val % 64, by omega⟩) else 0)) 2048).symm.trans ?_
    refine Finset.sum_congr rfl fun u _ => ?_
    rw [dif_pos u.isLt, mul_comm]

theorem ref_weight (a0 a1 a2 : FVec Ideal S16x2048x16x64 .f32) (a3 : FVec Ideal S16 .f32)
    (b h : Fin 16) (s u : Fin 2048) :
    Cert.ReferenceIdeal.AttnV.refW (Cert.ReferenceIdeal.AttnV.refZ a0 a1 a3) (ix4 b h s u) = wt (Zf a0 a1 a3 b h s) s.val u.val := by
  refine Cert.ReferenceIdeal.AttnV.refW_at _ (Zf a0 a1 a3 b h s) b h s u fun t => ?_
  rw [Zf_at]
  refine (Cert.ReferenceIdeal.AttnV.refZ_at a0 a1 a3 b h s t).trans ?_
  rw [c_eighth]
  exact z_ref _

/-- The result array. -/
theorem final (c : Dev nD) :
    (dats m 0 c).arrAt 4 (cfgs 0).N = Cert.ReferenceIdeal.AttnV.refO (Cert.ReferenceIdeal.AttnV.refW (Cert.ReferenceIdeal.AttnV.refZ (A0 m c) (A1 m c) (A3 m c))) (A2 m c) := by
  have hW : ∀ (b h : Fin 16) (s u : Fin 2048), Cert.ReferenceIdeal.AttnV.refW (Cert.ReferenceIdeal.AttnV.refZ (A0 m c) (A1 m c) (A3 m c)) (ix4 b h s u) = wt (Zf (A0 m c) (A1 m c) (A3 m c) b h s) s.val u.val :=
    ref_weight (A0 m c) (A1 m c) (A2 m c) (A3 m c)
  generalize Cert.ReferenceIdeal.AttnV.refW (Cert.ReferenceIdeal.AttnV.refZ (A0 m c) (A1 m c) (A3 m c)) = W at hW ⊢
  have hO : ∀ (t : Fin cfg0.N) (s : Fin 2048) (l : Fin 128) (hR : 2048 * (t.val / 8) + s.val < 32768) (hL : 128 * (t.val % 8) + l.val < 1024),
      outAt m c t (ix2 s l) = Cert.ReferenceIdeal.AttnV.refO W (A2 m c) (ix2 ⟨2048 * (t.val / 8) + s.val, hR⟩ ⟨128 * (t.val % 8) + l.val, hL⟩) := by
    intro t s l hR hL
    rw [Cert.ReferenceIdeal.AttnV.refO_at]
    refine (out_sum m c t s l).trans (Finset.sum_congr rfl fun u _ => ?_)
    rw [hW]
    have e1 : (⟨(2048 * (t.val / 8) + s.val) / 2048, by omega⟩ : Fin 16) = gB t := Fin.ext (by show (2048 * (t.val / 8) + s.val) / 2048 = t.val / 8; omega)
    have e2 : (⟨(2048 * (t.val / 8) + s.val) % 2048, by omega⟩ : Fin 2048) = s := Fin.ext (by show (2048 * (t.val / 8) + s.val) % 2048 = s.val; omega)
    have e3 : (⟨(128 * (t.val % 8) + l.val) % 64, by omega⟩ : Fin 64) = ⟨l.val % 64, by omega⟩ := Fin.ext (by show (128 * (t.val % 8) + l.val) % 64 = l.val % 64; omega)
    have e4 : (2048 * (t.val / 8) + s.val) % 2048 = s.val := by omega
    simp only [e1, e2, e3, e4]
  generalize Cert.ReferenceIdeal.AttnV.refO W (A2 m c) = RR at hO ⊢
  refine (dats m 0 c).arrAt_eq_of_covers 4 _ (by decide +kernel) fun t _ y => ?_
  blk_simp
  rw [after_4]
  idx_vars y
  have ht : t.val < 128 := t.isLt
  rw [hO t y0 y1 (by omega) (by omega)]
  blk_ext [idx t]

end Cert.KernelIdeal.AttnV
-- ==== Proof.Ffn.Value.lean ====
/- The feed-forward block: what the run leaves in its result array is the reference's term of the arguments. -/
module

public import proofs.«01_k».proof.Proof.Gen.KernelIdeal2.Value
public import proofs.«01_k».proof.Proof.Gen.ReferenceIdeal2.Run
public import Idealize.ShloMosaic.Lib.Pipeline.ValueKit

@[expose] public section

set_option maxRecDepth 16384
set_option maxHeartbeats 400000

noncomputable section

namespace Cert.KernelIdeal2.Ffn

open Cert.KernelIdeal2 Cert.KernelIdeal2.Gen
open Idealize.ShloMosaic Idealize.ShloMosaic.TcCoe Idealize.SL.Sem
open Idealize.ShloMosaic.Pipeline (Dat)

variable (m : (ℓ : Loc nD τ sig) → Buf (Elt Ideal) ℓ)

theorem sum_eleven (g : Fin 11 → EReal) : ∑ a, g a = g 0 + g 1 + g 2 + g 3 + g 4 + g 5 + g 6 + g 7 + g 8 + g 9 + g 10 := by
  rw [Fin.sum_univ_castSucc, Fin.sum_univ_castSucc, Fin.sum_univ_castSucc, Fin.sum_univ_eight]
  rfl

/-- A sum over the hidden units is the sum over the eleven chunks of 256. -/
theorem sum_chunks (f : Fin 2816 → EReal) :
    ∑ j : Fin 2816, f j = (∑ j : Fin 256, f ⟨j.val, by omega⟩) + (∑ j : Fin 256, f ⟨256 + j.val, by omega⟩) + (∑ j : Fin 256, f ⟨512 + j.val, by omega⟩) + (∑ j : Fin 256, f ⟨768 + j.val, by omega⟩) + (∑ j : Fin 256, f ⟨1024 + j.val, by omega⟩) + (∑ j : Fin 256, f ⟨1280 + j.val, by omega⟩) + (∑ j : Fin 256, f ⟨1536 + j.val, by omega⟩) + (∑ j : Fin 256, f ⟨1792 + j.val, by omega⟩) + (∑ j : Fin 256, f ⟨2048 + j.val, by omega⟩) + (∑ j : Fin 256, f ⟨2304 + j.val, by omega⟩) + (∑ j : Fin 256, f ⟨2560 + j.val, by omega⟩) := by
  have h : ∑ j : Fin 2816, f j = ∑ a : Fin 11, ∑ s : Fin 256, f ⟨256 * a.val + s.val, by omega⟩ := by
    rw [← (finProdFinEquiv (m := 11) (n := 256)).sum_comp f, Fintype.sum_prod_type]
    refine Finset.sum_congr rfl fun a _ => Finset.sum_congr rfl fun s _ => congrArg f (Fin.ext ?_)
    show s.val + 256 * a.val = 256 * a.val + s.val
    omega
  rw [h, sum_eleven]
  simp only [Fin.isValue, Fin.val_zero, Nat.mul_zero, Nat.zero_add]
  rfl

/-- One hidden unit's share of an element of the result: the gate, its sigmoid and the up projection times the row of the
down projection. -/
def unit (h : FVec Ideal S512x1024 .bf16) (w : FVec Ideal S1024x5632 .bf16) (d : FVec Ideal S2816x1024 .bf16)
    (r : Fin 512) (l : Fin 1024) (j : Fin 2816) : EReal :=
  ((∑ k : Fin 1024, h (ix2 r k) * w (ix2 k ⟨j.val, by omega⟩)) * Ideal.logistic (∑ k : Fin 1024, h (ix2 r k) * w (ix2 k ⟨j.val, by omega⟩))
    * (∑ k : Fin 1024, h (ix2 r k) * w (ix2 k ⟨2816 + j.val, by omega⟩))) * d (ix2 j l)

theorem outs (c : Dev nD) (t : Fin cfg0.N) (r : Fin 512) (l : Fin 1024) :
    outsAt0 m c t (ix2 r l) = k0_pay2 (iblk m c 2 t) (iblk m c 0 t) (iblk m c 1 t) (ix2 r l)
      + ∑ j : Fin 2816, unit (k0_pay3 (iblk m c 2 t) (iblk m c 0 t) (iblk m c 1 t) (iblk m c 3 t)) (iblk m c 4 t) (iblk m c 5 t) r l j := by
  unfold outsAt0
  frame_out
  generalize k0_pay3 (F := Ideal) _ _ _ _ = H
  generalize k0_pay2 (F := Ideal) _ _ _ = A
  rw [sum_chunks]
  pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [← add_assoc, unit, Nat.reduceAdd]

abbrev refX (a : FVec Ideal S16x2048x1024 .bf16) (wo : FVec Ideal S1024x1024 .f32) (x : FVec Ideal S16x2048x1024 .f32) : FVec Ideal S16x2048x1024 .f32 :=
  addf x (Host.dotGeneral Cert.ReferenceIdeal2.dot_S16x2048x1024_S1024x1024_S16x2048x1024_2_0_01_1_n_n none a wo)

abbrev refH (x : FVec Ideal S16x2048x1024 .f32) (g : FVec Ideal S1024 .f32) : FVec Ideal S16x2048x1024 .f32 :=
  mulf (mulf x (broadcastInDim Cert.ReferenceIdeal2.S16x2048x1024 ![0, 1, 2] Cert.ReferenceIdeal2.Gen.bcast_S16x2048x1_S16x2048x1024_0_1_2 (Host.rsqrt (addf (Host.divf (broadcastInDim Cert.ReferenceIdeal2.S16x2048x1 ![0, 1] Cert.ReferenceIdeal2.Gen.bcast_S16x2048_S16x2048x1_0_1 (Host.reduceAdd (mulf x x) (constant Cert.ReferenceIdeal2.S_ .f32 0x00000000#32) Cert.ReferenceIdeal2.Gen.reducesTo_S16x2048x1024_S16x2048_d2 Cert.ReferenceIdeal2.Gen.h_S_)) (broadcastInDim Cert.ReferenceIdeal2.S16x2048x1 ![] Cert.ReferenceIdeal2.Gen.bcast_S_S16x2048x1 (constant Cert.ReferenceIdeal2.S_ .f32 0x44800000#32))) (broadcastInDim Cert.ReferenceIdeal2.S16x2048x1 ![] Cert.ReferenceIdeal2.Gen.bcast_S_S16x2048x1 (constant Cert.ReferenceIdeal2.S_ .f32 0x358637BD#32)))))) (broadcastInDim Cert.ReferenceIdeal2.S16x2048x1024 ![0, 1, 2] Cert.ReferenceIdeal2.Gen.bcast_S1x1x1024_S16x2048x1024_0_1_2 (broadcastInDim Cert.ReferenceIdeal2.S1x1x1024 ![2] Cert.ReferenceIdeal2.Gen.bcast_S1024_S1x1x1024_2 g))

abbrev refF (h : FVec Ideal S16x2048x1024 .f32) (w : FVec Ideal S1024x5632 .f32) (d : FVec Ideal S2816x1024 .f32) : FVec Ideal S16x2048x1024 .f32 :=
  Host.dotGeneral Cert.ReferenceIdeal2.dot_S16x2048x2816_S2816x1024_S16x2048x1024_2_0_01_1_n_n none (mulf (mulf (extractStridedSlice Cert.ReferenceIdeal2.S16x2048x2816 ![0, 0, 0] (Host.dotGeneral Cert.ReferenceIdeal2.dot_S16x2048x1024_S1024x5632_S16x2048x5632_2_0_01_1_n_n none h w) Cert.ReferenceIdeal2.Gen.slices_S16x2048x5632_S16x2048x2816_0_0_0) (Host.divf (broadcastInDim Cert.ReferenceIdeal2.S16x2048x2816 ![] Cert.ReferenceIdeal2.Gen.bcast_S_S16x2048x2816 (constant Cert.ReferenceIdeal2.S_ .f32 0x3F800000#32)) (addf (broadcastInDim Cert.ReferenceIdeal2.S16x2048x2816 ![] Cert.ReferenceIdeal2.Gen.bcast_S_S16x2048x2816 (constant Cert.ReferenceIdeal2.S_ .f32 0x3F800000#32)) (Host.exp (Host.negf (extractStridedSlice Cert.ReferenceIdeal2.S16x2048x2816 ![0, 0, 0] (Host.dotGeneral Cert.ReferenceIdeal2.dot_S16x2048x1024_S1024x5632_S16x2048x5632_2_0_01_1_n_n none h w) Cert.ReferenceIdeal2.Gen.slices_S16x2048x5632_S16x2048x2816_0_0_0)))))) (extractStridedSlice Cert.ReferenceIdeal2.S16x2048x2816 ![0, 0, 2816] (Host.dotGeneral Cert.ReferenceIdeal2.dot_S16x2048x1024_S1024x5632_S16x2048x5632_2_0_01_1_n_n none h w) Cert.ReferenceIdeal2.Gen.slices_S16x2048x5632_S16x2048x2816_0_0_2816)) d

/-- The reference's result over the argument arrays. -/
abbrev REF (a : FVec Ideal S16x2048x1024 .bf16) (wo : FVec Ideal S1024x1024 .f32) (x : FVec Ideal S16x2048x1024 .f32)
    (g : FVec Ideal S1024 .f32) (w : FVec Ideal S1024x5632 .f32) (d : FVec Ideal S2816x1024 .f32) : FVec Ideal S32768x1024 .f32 :=
  shapeCast Cert.ReferenceIdeal2.S32768x1024 (addf (refX a wo x) (refF (refH (refX a wo x) g) w d)) Cert.ReferenceIdeal2.Gen.shapeCasts_S16x2048x1024_S32768x1024

theorem res_eq (m' : (ℓ : Loc Cert.ReferenceIdeal2.nD Cert.ReferenceIdeal2.τ Cert.ReferenceIdeal2.sig) → Buf (Elt Ideal) ℓ) (c : Dev Cert.ReferenceIdeal2.nD) :
    Cert.ReferenceIdeal2.Value.res_main_v22 m' c = REF (m' ((c.tc : Thread Cert.ReferenceIdeal2.nD Cert.ReferenceIdeal2.τ).loc Cert.ReferenceIdeal2.main_arg0)) (m' ((c.tc : Thread Cert.ReferenceIdeal2.nD Cert.ReferenceIdeal2.τ).loc Cert.ReferenceIdeal2.main_arg1))
      (m' ((c.tc : Thread Cert.ReferenceIdeal2.nD Cert.ReferenceIdeal2.τ).loc Cert.ReferenceIdeal2.main_arg2)) (m' ((c.tc : Thread Cert.ReferenceIdeal2.nD Cert.ReferenceIdeal2.τ).loc Cert.ReferenceIdeal2.main_arg3))
      (m' ((c.tc : Thread Cert.ReferenceIdeal2.nD Cert.ReferenceIdeal2.τ).loc Cert.ReferenceIdeal2.main_arg4)) (m' ((c.tc : Thread Cert.ReferenceIdeal2.nD Cert.ReferenceIdeal2.τ).loc Cert.ReferenceIdeal2.main_arg5)) := rfl

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![t.val, 0] :=
  (by decide +kernel : ∀ t : Fin grid0.N, _)

/-- The row of the first two axes that row `r` of block `t` is. -/
abbrev rB (t : Fin cfg0.N) (r : Fin 512) : Fin 16 := ⟨(t.val * 512 + r.val) / 2048, by have h : t.val < 64 := t.isLt; omega⟩
abbrev rS (t : Fin cfg0.N) (r : Fin 512) : Fin 2048 := ⟨(t.val * 512 + r.val) % 2048, by omega⟩

theorem blk0 (c : Dev nD) (t : Fin cfg0.N) (r : Fin 512) (k : Fin 1024) :
    iblk m c 0 t (ix2 r k) = m ((c : Thread nD τ).loc main_arg0) (ix3 (rB t r) (rS t r) k) := by
  blk_point [iblk, V, idx t]
theorem blk1 (c : Dev nD) (t : Fin cfg0.N) (r : Fin 1024) (k : Fin 1024) :
    iblk m c 1 t (ix2 r k) = m ((c : Thread nD τ).loc main_arg1) (ix2 r k) := by
  blk_point [iblk, V, idx t]
theorem blk2 (c : Dev nD) (t : Fin cfg0.N) (r : Fin 512) (k : Fin 1024) :
    iblk m c 2 t (ix2 r k) = m ((c : Thread nD τ).loc main_arg2) (ix3 (rB t r) (rS t r) k) := by
  blk_point [iblk, V, idx t]
theorem blk3 (c : Dev nD) (t : Fin cfg0.N) (k : Fin 1024) :
    iblk m c 3 t (ix2 0 k) = m ((c : Thread nD τ).loc main_arg3) (ix1 k) := by
  blk_point [iblk, V, idx t]
theorem blk4 (c : Dev nD) (t : Fin cfg0.N) (r : Fin 1024) (k : Fin 5632) :
    iblk m c 4 t (ix2 r k) = m ((c : Thread nD τ).loc main_arg4) (ix2 r k) := by
  blk_point [iblk, V, idx t]
theorem blk5 (c : Dev nD) (t : Fin cfg0.N) (r : Fin 2816) (k : Fin 1024) :
    iblk m c 5 t (ix2 r k) = m ((c : Thread nD τ).loc main_arg5) (ix2 r k) := by
  blk_point [iblk, V, idx t]

theorem pay2 (c : Dev nD) (t : Fin cfg0.N) (r : Fin 512) (k : Fin 1024) :
    k0_pay2 (iblk m c 2 t) (iblk m c 0 t) (iblk m c 1 t) (ix2 r k) = refX (m ((c : Thread nD τ).loc main_arg0)) (m ((c : Thread nD τ).loc main_arg1)) (m ((c : Thread nD τ).loc main_arg2)) (ix3 (rB t r) (rS t r) k) := by
  pointwise [k0_pay2, refX]
  simp only [blk0, blk1, blk2]

theorem pay3 (c : Dev nD) (t : Fin cfg0.N) (r : Fin 512) (k : Fin 1024) :
    k0_pay3 (iblk m c 2 t) (iblk m c 0 t) (iblk m c 1 t) (iblk m c 3 t) (ix2 r k)
      = refH (refX (m ((c : Thread nD τ).loc main_arg0)) (m ((c : Thread nD τ).loc main_arg1)) (m ((c : Thread nD τ).loc main_arg2))) (m ((c : Thread nD τ).loc main_arg3)) (ix3 (rB t r) (rS t r) k) := by
  generalize hX : refX (m ((c : Thread nD τ).loc main_arg0)) (m ((c : Thread nD τ).loc main_arg1)) (m ((c : Thread nD τ).loc main_arg2)) = X
  have h2 : ∀ k, k0_pay2 (iblk m c 2 t) (iblk m c 0 t) (iblk m c 1 t) (ix2 r k) = X (ix3 (rB t r) (rS t r) k) := fun k => by
    rw [pay2, hX]
  pointwise [k0_pay3, refH]
  simp only [h2, blk3]

theorem ref_apply (X H : FVec Ideal S16x2048x1024 .f32) (w : FVec Ideal S1024x5632 .f32) (d : FVec Ideal S2816x1024 .f32)
    (t : Fin cfg0.N) (r : Fin 512) (l : Fin 1024) (h : t.val * 512 + r.val < 32768) :
    (shapeCast Cert.ReferenceIdeal2.S32768x1024 (addf X (refF H w d)) Cert.ReferenceIdeal2.Gen.shapeCasts_S16x2048x1024_S32768x1024 : FVec Ideal S32768x1024 .f32) (ix2 ⟨t.val * 512 + r.val, h⟩ l)
      = X (ix3 (rB t r) (rS t r) l)
      + ∑ j : Fin 2816, ((∑ k : Fin 1024, H (ix3 (rB t r) (rS t r) k) * w (ix2 k ⟨j.val, by omega⟩))
          * Ideal.logistic (∑ k : Fin 1024, H (ix3 (rB t r) (rS t r) k) * w (ix2 k ⟨j.val, by omega⟩))
        * (∑ k : Fin 1024, H (ix3 (rB t r) (rS t r) k) * w (ix2 k ⟨2816 + j.val, by omega⟩))) * d (ix2 j l) := by
  pointwise [refF]
  simp only [Ideal.logistic]

theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  rw [outs, pay2]
  simp only [unit, pay3, blk4, blk5]
  have hb : t.val * 512 + y0.val < 32768 := by have h : t.val < 64 := t.isLt; omega
  have e : ((View.whole main_v6).slice (win0_6.rect t)).emb (ix2 y0 y1) = (ix2 ⟨t.val * 512 + y0.val, hb⟩ y1 : S32768x1024.Idx) := by
    blk_ext [idx t]
  rw [e]
  exact (ref_apply _ _ _ _ t y0 y1 hb).symm

end Cert.KernelIdeal2.Ffn
-- ==== Proof.Qkv.Value.lean ====
/- The projections to queries, keys and values: what the run leaves in the three result arrays is the reference's terms of the arguments. -/
module

public import proofs.«01_k».proof.Proof.Gen.KernelIdeal3.Value
public import proofs.«01_k».proof.Proof.Gen.ReferenceIdeal3.Run
public import Idealize.ShloMosaic.Lib.Pipeline.ValueKit

@[expose] public section

set_option maxRecDepth 16384
set_option maxHeartbeats 400000

noncomputable section

namespace Cert.KernelIdeal3.Qkv

open Cert.KernelIdeal3 Cert.KernelIdeal3.Gen
open Idealize.ShloMosaic Idealize.ShloMosaic.TcCoe Idealize.SL.Sem
open Idealize.ShloMosaic.Pipeline (Dat)

variable (m : (ℓ : Loc nD τ sig) → Buf (Elt Ideal) ℓ)

abbrev refH (a0 : FVec Ideal Cert.ReferenceIdeal3.S16x2048x1024 .f32) (a1 : FVec Ideal Cert.ReferenceIdeal3.S1024 .f32) : FVec Ideal Cert.ReferenceIdeal3.S16x2048x1024 .f32 :=
  (mulf (mulf a0 (broadcastInDim Cert.ReferenceIdeal3.S16x2048x1024 ![0, 1, 2] Cert.ReferenceIdeal3.Gen.bcast_S16x2048x1_S16x2048x1024_0_1_2 (Host.rsqrt (addf (Host.divf (broadcastInDim Cert.ReferenceIdeal3.S16x2048x1 ![0, 1] Cert.ReferenceIdeal3.Gen.bcast_S16x2048_S16x2048x1_0_1 (Host.reduceAdd (mulf a0 a0) (constant Cert.ReferenceIdeal3.S_ .f32 0x00000000#32) Cert.ReferenceIdeal3.Gen.reducesTo_S16x2048x1024_S16x2048_d2 Cert.ReferenceIdeal3.Gen.h_S_)) (broadcastInDim Cert.ReferenceIdeal3.S16x2048x1 ![] Cert.ReferenceIdeal3.Gen.bcast_S_S16x2048x1 (constant Cert.ReferenceIdeal3.S_ .f32 0x44800000#32))) (broadcastInDim Cert.ReferenceIdeal3.S16x2048x1 ![] Cert.ReferenceIdeal3.Gen.bcast_S_S16x2048x1 (constant Cert.ReferenceIdeal3.S_ .f32 0x358637BD#32)))))) (broadcastInDim Cert.ReferenceIdeal3.S16x2048x1024 ![0, 1, 2] Cert.ReferenceIdeal3.Gen.bcast_S1x1x1024_S16x2048x1024_0_1_2 (broadcastInDim Cert.ReferenceIdeal3.S1x1x1024 ![2] Cert.ReferenceIdeal3.Gen.bcast_S1024_S1x1x1024_2 a1)))

abbrev refP (h : FVec Ideal Cert.ReferenceIdeal3.S16x2048x1024 .f32) (a2 : FVec Ideal Cert.ReferenceIdeal3.S1024x3072 .f32) : FVec Ideal Cert.ReferenceIdeal3.S16x2048x3072 .f32 :=
  (Host.dotGeneral Cert.ReferenceIdeal3.dot_S16x2048x1024_S1024x3072_S16x2048x3072_2_0_01_1_n_n none h a2)

abbrev refY (a0 : FVec Ideal Cert.ReferenceIdeal3.S16x2048x1024 .f32) (a1 : FVec Ideal Cert.ReferenceIdeal3.S1024 .f32) (a2 : FVec Ideal Cert.ReferenceIdeal3.S1024x3072 .f32) : FVec Ideal Cert.ReferenceIdeal3.S16x2048x3072 .f32 :=
  refP (refH a0 a1) a2

/-- The scaled queries over the projection `y`. -/
abbrev refQ (y : FVec Ideal Cert.ReferenceIdeal3.S16x2048x3072 .f32) (a3 : FVec Ideal Cert.ReferenceIdeal3.S64 .f32) : FVec Ideal Cert.ReferenceIdeal3.S32768x1024 .bf16 :=
  truncf .bf16 (shapeCast _ (Host.divf (mulf (mulf (mulf (shapeCast _ (extractStridedSlice Cert.ReferenceIdeal3.S16x2048x1x16x64 ![0, 0, 0, 0, 0] (shapeCast _ y Cert.ReferenceIdeal3.Gen.shapeCasts_S16x2048x3072_S16x2048x3x16x64) Cert.ReferenceIdeal3.Gen.slices_S16x2048x3x16x64_S16x2048x1x16x64_0_0_0_0_0) Cert.ReferenceIdeal3.Gen.shapeCasts_S16x2048x1x16x64_S16x2048x16x64) (broadcastInDim Cert.ReferenceIdeal3.S16x2048x16x64 ![0, 1, 2, 3] Cert.ReferenceIdeal3.Gen.bcast_S16x2048x16x1_S16x2048x16x64_0_1_2_3 (Host.rsqrt (addf (Host.divf (broadcastInDim Cert.ReferenceIdeal3.S16x2048x16x1 ![0, 1, 2] Cert.ReferenceIdeal3.Gen.bcast_S16x2048x16_S16x2048x16x1_0_1_2 (Host.reduceAdd (mulf (shapeCast _ (extractStridedSlice Cert.ReferenceIdeal3.S16x2048x1x16x64 ![0, 0, 0, 0, 0] (shapeCast _ y Cert.ReferenceIdeal3.Gen.shapeCasts_S16x2048x3072_S16x2048x3x16x64) Cert.ReferenceIdeal3.Gen.slices_S16x2048x3x16x64_S16x2048x1x16x64_0_0_0_0_0) Cert.ReferenceIdeal3.Gen.shapeCasts_S16x2048x1x16x64_S16x2048x16x64) (shapeCast _ (extractStridedSlice Cert.ReferenceIdeal3.S16x2048x1x16x64 ![0, 0, 0, 0, 0] (shapeCast _ y Cert.ReferenceIdeal3.Gen.shapeCasts_S16x2048x3072_S16x2048x3x16x64) Cert.ReferenceIdeal3.Gen.slices_S16x2048x3x16x64_S16x2048x1x16x64_0_0_0_0_0) Cert.ReferenceIdeal3.Gen.shapeCasts_S16x2048x1x16x64_S16x2048x16x64)) (constant Cert.ReferenceIdeal3.S_ .f32 0x00000000#32) Cert.ReferenceIdeal3.Gen.reducesTo_S16x2048x16x64_S16x2048x16_d3 Cert.ReferenceIdeal3.Gen.h_S_)) (broadcastInDim Cert.ReferenceIdeal3.S16x2048x16x1 ![] Cert.ReferenceIdeal3.Gen.bcast_S_S16x2048x16x1 (constant Cert.ReferenceIdeal3.S_ .f32 0x42800000#32))) (broadcastInDim Cert.ReferenceIdeal3.S16x2048x16x1 ![] Cert.ReferenceIdeal3.Gen.bcast_S_S16x2048x16x1 (constant Cert.ReferenceIdeal3.S_ .f32 0x358637BD#32)))))) (broadcastInDim Cert.ReferenceIdeal3.S16x2048x16x64 ![0, 1, 2, 3] Cert.ReferenceIdeal3.Gen.bcast_S1x1x1x64_S16x2048x16x64_0_1_2_3 (broadcastInDim Cert.ReferenceIdeal3.S1x1x1x64 ![3] Cert.ReferenceIdeal3.Gen.bcast_S64_S1x1x1x64_3 a3))) (broadcastInDim Cert.ReferenceIdeal3.S16x2048x16x64 ![] Cert.ReferenceIdeal3.Gen.bcast_S_S16x2048x16x64 (constant Cert.ReferenceIdeal3.S_ .f32 0x3E000000#32))) (broadcastInDim Cert.ReferenceIdeal3.S16x2048x16x64 ![] Cert.ReferenceIdeal3.Gen.bcast_S_S16x2048x16x64 (Host.log (constant Cert.ReferenceIdeal3.S_ .f32 0x40000000#32)))) Cert.ReferenceIdeal3.Gen.shapeCasts_S16x2048x16x64_S32768x1024) Cert.ReferenceIdeal3.Gen.bitsLt_bf16_f32

/-- The keys over the projection `y`. -/
abbrev refK (y : FVec Ideal Cert.ReferenceIdeal3.S16x2048x3072 .f32) (a4 : FVec Ideal Cert.ReferenceIdeal3.S64 .f32) : FVec Ideal Cert.ReferenceIdeal3.S16x1024x2048 .f32 :=
  shapeCast _ (transpose Cert.ReferenceIdeal3.S16x16x64x2048 [0, 2, 3, 1] (mulf (mulf (shapeCast _ (extractStridedSlice Cert.ReferenceIdeal3.S16x2048x1x16x64 ![0, 0, 1, 0, 0] (shapeCast _ y Cert.ReferenceIdeal3.Gen.shapeCasts_S16x2048x3072_S16x2048x3x16x64) Cert.ReferenceIdeal3.Gen.slices_S16x2048x3x16x64_S16x2048x1x16x64_0_0_1_0_0) Cert.ReferenceIdeal3.Gen.shapeCasts_S16x2048x1x16x64_S16x2048x16x64) (broadcastInDim Cert.ReferenceIdeal3.S16x2048x16x64 ![0, 1, 2, 3] Cert.ReferenceIdeal3.Gen.bcast_S16x2048x16x1_S16x2048x16x64_0_1_2_3 (Host.rsqrt (addf (Host.divf (broadcastInDim Cert.ReferenceIdeal3.S16x2048x16x1 ![0, 1, 2] Cert.ReferenceIdeal3.Gen.bcast_S16x2048x16_S16x2048x16x1_0_1_2 (Host.reduceAdd (mulf (shapeCast _ (extractStridedSlice Cert.ReferenceIdeal3.S16x2048x1x16x64 ![0, 0, 1, 0, 0] (shapeCast _ y Cert.ReferenceIdeal3.Gen.shapeCasts_S16x2048x3072_S16x2048x3x16x64) Cert.ReferenceIdeal3.Gen.slices_S16x2048x3x16x64_S16x2048x1x16x64_0_0_1_0_0) Cert.ReferenceIdeal3.Gen.shapeCasts_S16x2048x1x16x64_S16x2048x16x64) (shapeCast _ (extractStridedSlice Cert.ReferenceIdeal3.S16x2048x1x16x64 ![0, 0, 1, 0, 0] (shapeCast _ y Cert.ReferenceIdeal3.Gen.shapeCasts_S16x2048x3072_S16x2048x3x16x64) Cert.ReferenceIdeal3.Gen.slices_S16x2048x3x16x64_S16x2048x1x16x64_0_0_1_0_0) Cert.ReferenceIdeal3.Gen.shapeCasts_S16x2048x1x16x64_S16x2048x16x64)) (constant Cert.ReferenceIdeal3.S_ .f32 0x00000000#32) Cert.ReferenceIdeal3.Gen.reducesTo_S16x2048x16x64_S16x2048x16_d3 Cert.ReferenceIdeal3.Gen.h_S_)) (broadcastInDim Cert.ReferenceIdeal3.S16x2048x16x1 ![] Cert.ReferenceIdeal3.Gen.bcast_S_S16x2048x16x1 (constant Cert.ReferenceIdeal3.S_ .f32 0x42800000#32))) (broadcastInDim Cert.ReferenceIdeal3.S16x2048x16x1 ![] Cert.ReferenceIdeal3.Gen.bcast_S_S16x2048x16x1 (constant Cert.ReferenceIdeal3.S_ .f32 0x358637BD#32)))))) (broadcastInDim Cert.ReferenceIdeal3.S16x2048x16x64 ![0, 1, 2, 3] Cert.ReferenceIdeal3.Gen.bcast_S1x1x1x64_S16x2048x16x64_0_1_2_3 (broadcastInDim Cert.ReferenceIdeal3.S1x1x1x64 ![3] Cert.ReferenceIdeal3.Gen.bcast_S64_S1x1x1x64_3 a4))) Cert.ReferenceIdeal3.Gen.transposes_S16x2048x16x64_S16x16x64x2048_0_2_3_1) Cert.ReferenceIdeal3.Gen.shapeCasts_S16x16x64x2048_S16x1024x2048

/-- The values over the projection `y`. -/
abbrev refV (y : FVec Ideal Cert.ReferenceIdeal3.S16x2048x3072 .f32) : FVec Ideal Cert.ReferenceIdeal3.S16x1024x2048 .f32 :=
  shapeCast _ (transpose Cert.ReferenceIdeal3.S16x16x64x2048 [0, 2, 3, 1] (shapeCast _ (extractStridedSlice Cert.ReferenceIdeal3.S16x2048x1x16x64 ![0, 0, 2, 0, 0] (shapeCast _ y Cert.ReferenceIdeal3.Gen.shapeCasts_S16x2048x3072_S16x2048x3x16x64) Cert.ReferenceIdeal3.Gen.slices_S16x2048x3x16x64_S16x2048x1x16x64_0_0_2_0_0) Cert.ReferenceIdeal3.Gen.shapeCasts_S16x2048x1x16x64_S16x2048x16x64) Cert.ReferenceIdeal3.Gen.transposes_S16x2048x16x64_S16x16x64x2048_0_2_3_1) Cert.ReferenceIdeal3.Gen.shapeCasts_S16x16x64x2048_S16x1024x2048

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0, 0] ∧ win0_7.index t = ![t.val, 0]
    ∧ win0_8.index t = ![t.val / 4, 0, t.val % 4] ∧ win0_9.index t = ![t.val / 4, 0, t.val % 4] :=
  (by decide +kernel : ∀ t : Fin grid0.N, _)

/-- The row of the first two axes that row `r` of block `t` is. -/
abbrev rB (t : Fin cfg0.N) (r : Fin 512) : Fin 16 := ⟨(t.val * 512 + r.val) / 2048, by have h : t.val < 64 := t.isLt; omega⟩
abbrev rS (t : Fin cfg0.N) (r : Fin 512) : Fin 2048 := ⟨(t.val * 512 + r.val) % 2048, by omega⟩

theorem blk0 (c : Dev nD) (t : Fin cfg0.N) (r : Fin 512) (k : Fin 1024) :
    iblk m c 0 t (ix2 r k) = m ((c : Thread nD τ).loc main_arg0) (ix3 (rB t r) (rS t r) k) := by
  blk_point [iblk, V, idx t]
theorem blk1 (c : Dev nD) (t : Fin cfg0.N) (k : Fin 1024) :
    iblk m c 1 t (ix2 0 k) = m ((c : Thread nD τ).loc main_arg1) (ix1 k) := by
  blk_point [iblk, V, idx t]
theorem blk2 (c : Dev nD) (t : Fin cfg0.N) (r : Fin 1024) (k : Fin 1024) :
    iblk m c 2 t (ix2 r k) = m ((c : Thread nD τ).loc main_arg2) (ix2 r ⟨k.val, by omega⟩) := by
  blk_point [iblk, V, idx t]
theorem blk3 (c : Dev nD) (t : Fin cfg0.N) (r : Fin 1024) (k : Fin 1024) :
    iblk m c 3 t (ix2 r k) = m ((c : Thread nD τ).loc main_arg2) (ix2 k ⟨1024 + r.val, by omega⟩) := by
  blk_point [iblk, V, idx t]
theorem blk4 (c : Dev nD) (t : Fin cfg0.N) (r : Fin 1024) (k : Fin 1024) :
    iblk m c 4 t (ix2 r k) = m ((c : Thread nD τ).loc main_arg2) (ix2 k ⟨2048 + r.val, by omega⟩) := by
  blk_point [iblk, V, idx t]
theorem blk5 (c : Dev nD) (t : Fin cfg0.N) (k : Fin 1024) :
    iblk m c 5 t (ix2 0 k) = m ((c : Thread nD τ).loc main_arg3) (ix1 ⟨k.val % 64, by omega⟩) := by
  blk_point [iblk, V, idx t]
theorem blk6 (c : Dev nD) (t : Fin cfg0.N) (k : Fin 64) :
    iblk m c 6 t (ix3 0 k 0) = m ((c : Thread nD τ).loc main_arg4) (ix1 k) := by
  blk_point [iblk, V, idx t]

theorem pay1 (c : Dev nD) (t : Fin cfg0.N) (r : Fin 512) (k : Fin 1024) :
    k0_pay1 (iblk m c 0 t) (iblk m c 1 t) (ix2 r k)
      = refH (m ((c : Thread nD τ).loc main_arg0)) (m ((c : Thread nD τ).loc main_arg1)) (ix3 (rB t r) (rS t r) k) := by
  pointwise [k0_pay1, refH]
  simp only [blk0, blk1]

theorem half (i : Fin 256) : Scalar.select (IntOp.andi
            (IntOp.cmpi CmpIPredicate.ne
              (IntOp.subi (BitVec.setWidth 32 (IntOp.cmpi CmpIPredicate.sgt (BitVec.ofNat 32 i.val) 0#32))
                (BitVec.setWidth 32 (IntOp.cmpi CmpIPredicate.slt (BitVec.ofNat 32 i.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 i.val) 64#32) 0#32))
          (IntOp.subi (IntOp.divsi ArithUnit.vector (BitVec.ofNat 32 i.val) 64#32) 1#32)
          (IntOp.divsi ArithUnit.vector (BitVec.ofNat 32 i.val) 64#32) = BitVec.ofNat 32 (i.val / 64) := by
  revert i
  decide +kernel

theorem same (i j : Fin 256) : k0_pay4 (F := Ideal) k0_pay2 k0_pay3 1#32 (ix2 i j) = if i.val / 64 = j.val / 64 then 1 else 0 := by
  pointwise [k0_pay4, k0_pay2, k0_pay3]
  rw [half, half]
  have h : ∀ a b : Fin 4, Scalar.select (α := EReal) (IntOp.cmpi CmpIPredicate.eq (BitVec.ofNat 32 a.val) (BitVec.ofNat 32 b.val)) 1 0 = if a.val = b.val then 1 else 0 := by
    intro a b
    fin_cases a <;> fin_cases b <;> rfl
  exact h ⟨i.val / 64, by omega⟩ ⟨j.val / 64, by omega⟩

/-- A sum against the indicator of one head's 64 lanes is the sum over those lanes. -/
theorem sum_same (f : Fin 256 → EReal) (c : Fin 256) :
    ∑ j : Fin 256, f j * (if j.val / 64 = c.val / 64 then 1 else 0) = ∑ d : Fin 64, f ⟨c.val / 64 * 64 + d.val, by omega⟩ := by
  have h : ∀ g : Fin 256 → EReal, ∑ j : Fin 256, g j = ∑ a : Fin 4, ∑ s : Fin 64, g ⟨64 * a.val + s.val, by omega⟩ := fun g => by
    rw [← (finProdFinEquiv (m := 4) (n := 64)).sum_comp g, Fintype.sum_prod_type]
    refine Finset.sum_congr rfl fun a _ => Finset.sum_congr rfl fun s _ => congrArg g (Fin.ext ?_)
    show s.val + 64 * a.val = 64 * a.val + s.val
    omega
  rw [h, Finset.sum_eq_single ⟨c.val / 64, by omega⟩]
  · refine Finset.sum_congr rfl fun d _ => ?_
    rw [if_pos (by show (64 * (c.val / 64) + d.val) / 64 = _; omega), mul_one]
    exact congrArg f (Fin.ext (by show 64 * (c.val / 64) + d.val = c.val / 64 * 64 + d.val; omega))
  · intro a _ ha
    refine Finset.sum_eq_zero fun s _ => ?_
    rw [if_neg, mul_zero]
    intro e
    refine ha (Fin.ext ?_)
    have e' : (64 * a.val + s.val) / 64 = c.val / 64 := e
    show a.val = c.val / 64
    omega
  · intro h
    exact absurd (Finset.mem_univ _) h

theorem c_inv64 : Ideal.ofBits FTy.f32 1015021568#32 = (((64 : ℝ)⁻¹ : ℝ) : EReal) := by
  simp [Ideal.ofBits, Ideal.ieee, -EReal.coe_mul]; norm_num
theorem c_64 : Ideal.ofBits FTy.f32 1115684864#32 = ((64 : ℝ) : EReal) := by
  simp [Ideal.ofBits, Ideal.ieee, -EReal.coe_mul]; norm_num
theorem c_eighth : Ideal.ofBits FTy.f32 1040187392#32 = ((1 / 8 : ℝ) : EReal) := by
  simp [Ideal.ofBits, Ideal.ieee, -EReal.coe_mul]; norm_num
theorem c_2 : Ideal.ofBits FTy.f32 1073741824#32 = ((2 : ℝ) : EReal) := by
  simp [Ideal.ofBits, Ideal.ieee, -EReal.coe_mul]; norm_num

theorem div_real (x : EReal) (r : ℝ) (h : r ≠ 0) : Ideal.div x (r : EReal) = x * ((r⁻¹ : ℝ) : EReal) := by
  unfold Ideal.div
  rw [if_neg (by exact_mod_cast h), EReal.coe_inv]

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

theorem last_scale (x : EReal) : x * (((1 / 8) * (Real.log 2)⁻¹ : ℝ) : EReal) = Ideal.div (x * ((1 / 8 : ℝ) : EReal)) ((Real.log 2 : ℝ) : EReal) := by
  rw [div_real _ _ (by positivity), EReal.coe_mul, mul_assoc]

theorem core (Y : FVec Ideal Cert.ReferenceIdeal3.S16x2048x3072 .f32) (g : FVec Ideal Cert.ReferenceIdeal3.S64 .f32) (t : Fin cfg0.N) (r : Fin 512) (l : Fin 1024)
    (o : ℕ) (ho : 64 ∣ o) (y : Fin 256 → EReal) (x : Fin 256) (h1 : l.val = o + x.val)
    (hy : ∀ (j : Fin 256) (h : o + j.val < 3072), y j = Y (ix3 (rB t r) (rS t r) ⟨o + j.val, h⟩)) (hb : t.val * 512 + r.val < 32768) :
    y x * Ideal.rsqrt ((∑ j : Fin 256, y j * y j * (if j.val / 64 = x.val / 64 then 1 else 0)) * Ideal.ofBits FTy.f32 1015021568#32 + Ideal.ofBits FTy.f32 897988541#32)
      * g (ix1 ⟨l.val % 64, by omega⟩) * (((1 / 8) * (Real.log 2)⁻¹ : ℝ) : EReal) = refQ Y g (ix2 ⟨t.val * 512 + r.val, hb⟩ l) := by
  rw [sum_same (fun j => y j * y j)]
  have e1 : y x = Y (ix3 (rB t r) (rS t r) ⟨l.val / 64 * 64 + l.val % 64, by omega⟩) := by
    rw [hy x (by omega)]
    exact congrArg (fun a => Y (ix3 (rB t r) (rS t r) a)) (Fin.ext (by show o + x.val = l.val / 64 * 64 + l.val % 64; omega))
  have e2 : ∀ d : Fin 64, y ⟨x.val / 64 * 64 + d.val, by omega⟩ = Y (ix3 (rB t r) (rS t r) ⟨l.val / 64 * 64 + d.val, by omega⟩) := fun d => by
    rw [hy _ (by show o + (x.val / 64 * 64 + d.val) < 3072; omega)]
    exact congrArg (fun a => Y (ix3 (rB t r) (rS t r) a)) (Fin.ext (by show o + (x.val / 64 * 64 + d.val) = l.val / 64 * 64 + d.val; omega))
  pointwise [refQ]
  simp only [e1, e2]
  simp only [c_inv64, c_64, c_eighth, c_2, log_two]
  rw [div_real _ 64 (by norm_num)]
  exact last_scale _

theorem p5 (H W) (r : Fin 512) (l : Fin 256) : k0_pay5 (F := Ideal) H W (ix2 r l) = ∑ k : Fin 1024, H (ix2 r k) * W (ix2 k l) := by
  pointwise [k0_pay5]
theorem p6 (H W) (r : Fin 512) (l : Fin 256) : k0_pay6 (F := Ideal) H W (ix2 r l) = ∑ k : Fin 1024, H (ix2 r k) * W (ix2 k l) := by
  pointwise [k0_pay6]
theorem p7 (H W) (r : Fin 512) (l : Fin 256) : k0_pay7 (F := Ideal) H W (ix2 r l) = ∑ k : Fin 1024, H (ix2 r k) * W (ix2 k l) := by
  pointwise [k0_pay7]
theorem p8 (H W) (r : Fin 512) (l : Fin 256) : k0_pay8 (F := Ideal) H W (ix2 r l) = ∑ k : Fin 1024, H (ix2 r k) * W (ix2 k l) := by
  pointwise [k0_pay8]
theorem scale : (Named.named Cert.KernelIdeal3.κ "query_scale" 1043900987#32 : Ideal .f32) = (((1 / 8) * (Real.log 2)⁻¹ : ℝ) : EReal) :=
  IdealRules.named_const.ideal_named_scalar _ _ _ _ rfl

theorem p13 (T Y G) (r : Fin 512) (l : Fin 256) : k0_pay13 (F := Ideal) (k0_pay11 T Y) (k0_pay12 G) (ix2 r l) = Y (ix2 r l) * Ideal.rsqrt ((∑ x : Fin 256, Y (ix2 r x) * Y (ix2 r x) * T (ix2 x l)) * Ideal.ofBits FTy.f32 1015021568#32 + Ideal.ofBits FTy.f32 897988541#32)
      * G (ix2 0 l) * (((1 / 8) * (Real.log 2)⁻¹ : ℝ) : EReal) := by
  pointwise [k0_pay13, k0_pay11, k0_pay12]
  rw [scale]
theorem p14 (T Y G) (r : Fin 512) (l : Fin 256) : k0_pay14 (F := Ideal) T Y G (ix2 r l) = Y (ix2 r l) * Ideal.rsqrt ((∑ x : Fin 256, Y (ix2 r x) * Y (ix2 r x) * T (ix2 x l)) * Ideal.ofBits FTy.f32 1015021568#32 + Ideal.ofBits FTy.f32 897988541#32)
      * G (ix2 0 l) * (((1 / 8) * (Real.log 2)⁻¹ : ℝ) : EReal) := by
  pointwise [k0_pay14]
  rw [scale]
theorem p15 (T Y G) (r : Fin 512) (l : Fin 256) : k0_pay15 (F := Ideal) T Y G (ix2 r l) = Y (ix2 r l) * Ideal.rsqrt ((∑ x : Fin 256, Y (ix2 r x) * Y (ix2 r x) * T (ix2 x l)) * Ideal.ofBits FTy.f32 1015021568#32 + Ideal.ofBits FTy.f32 897988541#32)
      * G (ix2 0 l) * (((1 / 8) * (Real.log 2)⁻¹ : ℝ) : EReal) := by
  pointwise [k0_pay15]
  rw [scale]
theorem p16 (T Y G) (r : Fin 512) (l : Fin 256) : k0_pay16 (F := Ideal) T Y G (ix2 r l) = Y (ix2 r l) * Ideal.rsqrt ((∑ x : Fin 256, Y (ix2 r x) * Y (ix2 r x) * T (ix2 x l)) * Ideal.ofBits FTy.f32 1015021568#32 + Ideal.ofBits FTy.f32 897988541#32)
      * G (ix2 0 l) * (((1 / 8) * (Real.log 2)⁻¹ : ℝ) : EReal) := by
  pointwise [k0_pay16]
  rw [scale]

theorem proj (HH : FVec Ideal Cert.ReferenceIdeal3.S16x2048x1024 .f32) (w : FVec Ideal Cert.ReferenceIdeal3.S1024x3072 .f32) (b : Fin 16) (s : Fin 2048) (l : Fin 3072) (h : Fin 1024 → EReal) (v : Fin 1024 → EReal)
    (hh : ∀ k, h k = HH (ix3 b s k)) (hv : ∀ k, v k = w (ix2 k l)) : ∑ k : Fin 1024, h k * v k = refP HH w (ix3 b s l) := by
  simp only [hh, hv]
  pointwise [refP]

theorem piece16 (Y : FVec Ideal Cert.ReferenceIdeal3.S16x2048x3072 .f32) (g : FVec Ideal Cert.ReferenceIdeal3.S64 .f32) (t : Fin cfg0.N) (r : Fin 512) (l : Fin 1024)
    (H : FVec Ideal S512x1024 .bf16) (W : FVec Ideal S1024x256 .bf16) (G : FVec Ideal S1x256 .f32) (x : Fin 256) (h1 : l.val = 768 + x.val)
    (hy : ∀ j : Fin 256, ∑ k : Fin 1024, H (ix2 r k) * W (ix2 k j) = Y (ix3 (rB t r) (rS t r) ⟨768 + j.val, by omega⟩))
    (hG : G (ix2 0 x) = g (ix1 ⟨l.val % 64, by omega⟩)) (hb : t.val * 512 + r.val < 32768) :
    k0_pay16 (F := Ideal) (k0_pay4 k0_pay2 k0_pay3 1#32) (k0_pay8 H W) G (ix2 r x) = refQ Y g (ix2 ⟨t.val * 512 + r.val, hb⟩ l) := by
  rw [p16]
  simp only [same, p8, hG]
  exact core Y g t r l 768 (by norm_num) (fun j => ∑ k : Fin 1024, H (ix2 r k) * W (ix2 k j)) x h1 (fun j _ => hy j) hb

theorem piece15 (Y : FVec Ideal Cert.ReferenceIdeal3.S16x2048x3072 .f32) (g : FVec Ideal Cert.ReferenceIdeal3.S64 .f32) (t : Fin cfg0.N) (r : Fin 512) (l : Fin 1024)
    (H : FVec Ideal S512x1024 .bf16) (W : FVec Ideal S1024x256 .bf16) (G : FVec Ideal S1x256 .f32) (x : Fin 256) (h1 : l.val = 512 + x.val)
    (hy : ∀ j : Fin 256, ∑ k : Fin 1024, H (ix2 r k) * W (ix2 k j) = Y (ix3 (rB t r) (rS t r) ⟨512 + j.val, by omega⟩))
    (hG : G (ix2 0 x) = g (ix1 ⟨l.val % 64, by omega⟩)) (hb : t.val * 512 + r.val < 32768) :
    k0_pay15 (F := Ideal) (k0_pay4 k0_pay2 k0_pay3 1#32) (k0_pay7 H W) G (ix2 r x) = refQ Y g (ix2 ⟨t.val * 512 + r.val, hb⟩ l) := by
  rw [p15]
  simp only [same, p7, hG]
  exact core Y g t r l 512 (by norm_num) (fun j => ∑ k : Fin 1024, H (ix2 r k) * W (ix2 k j)) x h1 (fun j _ => hy j) hb

theorem piece14 (Y : FVec Ideal Cert.ReferenceIdeal3.S16x2048x3072 .f32) (g : FVec Ideal Cert.ReferenceIdeal3.S64 .f32) (t : Fin cfg0.N) (r : Fin 512) (l : Fin 1024)
    (H : FVec Ideal S512x1024 .bf16) (W : FVec Ideal S1024x256 .bf16) (G : FVec Ideal S1x256 .f32) (x : Fin 256) (h1 : l.val = 256 + x.val)
    (hy : ∀ j : Fin 256, ∑ k : Fin 1024, H (ix2 r k) * W (ix2 k j) = Y (ix3 (rB t r) (rS t r) ⟨256 + j.val, by omega⟩))
    (hG : G (ix2 0 x) = g (ix1 ⟨l.val % 64, by omega⟩)) (hb : t.val * 512 + r.val < 32768) :
    k0_pay14 (F := Ideal) (k0_pay4 k0_pay2 k0_pay3 1#32) (k0_pay6 H W) G (ix2 r x) = refQ Y g (ix2 ⟨t.val * 512 + r.val, hb⟩ l) := by
  rw [p14]
  simp only [same, p6, hG]
  exact core Y g t r l 256 (by norm_num) (fun j => ∑ k : Fin 1024, H (ix2 r k) * W (ix2 k j)) x h1 (fun j _ => hy j) hb

theorem piece13 (Y : FVec Ideal Cert.ReferenceIdeal3.S16x2048x3072 .f32) (g : FVec Ideal Cert.ReferenceIdeal3.S64 .f32) (t : Fin cfg0.N) (r : Fin 512) (l : Fin 1024)
    (H : FVec Ideal S512x1024 .bf16) (W : FVec Ideal S1024x256 .bf16) (G : FVec Ideal S1x256 .f32) (x : Fin 256) (h1 : l.val = 0 + x.val)
    (hy : ∀ j : Fin 256, ∑ k : Fin 1024, H (ix2 r k) * W (ix2 k j) = Y (ix3 (rB t r) (rS t r) ⟨0 + j.val, by omega⟩))
    (hG : G (ix2 0 x) = g (ix1 ⟨l.val % 64, by omega⟩)) (hb : t.val * 512 + r.val < 32768) :
    k0_pay13 (F := Ideal) (k0_pay11 (k0_pay4 k0_pay2 k0_pay3 1#32) (k0_pay5 H W)) (k0_pay12 G) (ix2 r x) = refQ Y g (ix2 ⟨t.val * 512 + r.val, hb⟩ l) := by
  rw [p13]
  simp only [same, p5, hG]
  exact core Y g t r l 0 (by norm_num) (fun j => ∑ k : Fin 1024, H (ix2 r k) * W (ix2 k j)) x h1 (fun j _ => hy j) hb

theorem outQ (c : Dev nD) (t : Fin cfg0.N) (r : Fin 512) (l : Fin 1024) (hb : t.val * 512 + r.val < 32768) :
    (outsAt0 m c t).1 (ix2 r l) = refQ (refY (m ((c : Thread nD τ).loc main_arg0)) (m ((c : Thread nD τ).loc main_arg1)) (m ((c : Thread nD τ).loc main_arg2))) (m ((c : Thread nD τ).loc main_arg3)) (ix2 ⟨t.val * 512 + r.val, hb⟩ l) := by
  have h16 : ∀ x : Fin 256, l.val = 768 + x.val → k0_pay16 (F := Ideal) (k0_pay4 k0_pay2 k0_pay3 1#32) (k0_pay8 (k0_pay1 (iblk m c 0 t) (iblk m c 1 t)) (View.ld (iblk m c 2 t) (Rect.unit ![0, 768] ![1024, 256] inb_S1024x1024_S1024x256_0_768))) (View.ld (iblk m c 5 t) (Rect.unit ![0, 768] ![1, 256] inb_S1x1024_S1x256_0_768)) (ix2 r x) = refQ (refY (m ((c : Thread nD τ).loc main_arg0)) (m ((c : Thread nD τ).loc main_arg1)) (m ((c : Thread nD τ).loc main_arg2))) (m ((c : Thread nD τ).loc main_arg3)) (ix2 ⟨t.val * 512 + r.val, hb⟩ l) := fun x hx =>
    piece16 _ _ t r l (k0_pay1 (iblk m c 0 t) (iblk m c 1 t)) (View.ld (iblk m c 2 t) (Rect.unit ![0, 768] ![1024, 256] inb_S1024x1024_S1024x256_0_768)) (View.ld (iblk m c 5 t) (Rect.unit ![0, 768] ![1, 256] inb_S1x1024_S1x256_0_768)) x hx
      (fun j => proj _ _ _ _ _ _ _ (fun k => pay1 m c t r k) fun k => (show (View.ld (iblk m c 2 t) (Rect.unit ![0, 768] ![1024, 256] inb_S1024x1024_S1024x256_0_768)) (ix2 k j) = iblk m c 2 t (ix2 k ⟨768 + j.val, by omega⟩) by pointwise).trans (blk2 m c t k ⟨768 + j.val, by omega⟩))
      ((show (View.ld (iblk m c 5 t) (Rect.unit ![0, 768] ![1, 256] inb_S1x1024_S1x256_0_768)) (ix2 0 x) = iblk m c 5 t (ix2 0 l) by
        rw [show l = ⟨768 + x.val, by omega⟩ from Fin.ext hx]
        pointwise).trans (blk5 m c t l)) hb
  have h15 : ∀ x : Fin 256, l.val = 512 + x.val → k0_pay15 (F := Ideal) (k0_pay4 k0_pay2 k0_pay3 1#32) (k0_pay7 (k0_pay1 (iblk m c 0 t) (iblk m c 1 t)) (View.ld (iblk m c 2 t) (Rect.unit ![0, 512] ![1024, 256] inb_S1024x1024_S1024x256_0_512))) (View.ld (iblk m c 5 t) (Rect.unit ![0, 512] ![1, 256] inb_S1x1024_S1x256_0_512)) (ix2 r x) = refQ (refY (m ((c : Thread nD τ).loc main_arg0)) (m ((c : Thread nD τ).loc main_arg1)) (m ((c : Thread nD τ).loc main_arg2))) (m ((c : Thread nD τ).loc main_arg3)) (ix2 ⟨t.val * 512 + r.val, hb⟩ l) := fun x hx =>
    piece15 _ _ t r l (k0_pay1 (iblk m c 0 t) (iblk m c 1 t)) (View.ld (iblk m c 2 t) (Rect.unit ![0, 512] ![1024, 256] inb_S1024x1024_S1024x256_0_512)) (View.ld (iblk m c 5 t) (Rect.unit ![0, 512] ![1, 256] inb_S1x1024_S1x256_0_512)) x hx
      (fun j => proj _ _ _ _ _ _ _ (fun k => pay1 m c t r k) fun k => (show (View.ld (iblk m c 2 t) (Rect.unit ![0, 512] ![1024, 256] inb_S1024x1024_S1024x256_0_512)) (ix2 k j) = iblk m c 2 t (ix2 k ⟨512 + j.val, by omega⟩) by pointwise).trans (blk2 m c t k ⟨512 + j.val, by omega⟩))
      ((show (View.ld (iblk m c 5 t) (Rect.unit ![0, 512] ![1, 256] inb_S1x1024_S1x256_0_512)) (ix2 0 x) = iblk m c 5 t (ix2 0 l) by
        rw [show l = ⟨512 + x.val, by omega⟩ from Fin.ext hx]
        pointwise).trans (blk5 m c t l)) hb
  have h14 : ∀ x : Fin 256, l.val = 256 + x.val → k0_pay14 (F := Ideal) (k0_pay4 k0_pay2 k0_pay3 1#32) (k0_pay6 (k0_pay1 (iblk m c 0 t) (iblk m c 1 t)) (View.ld (iblk m c 2 t) (Rect.unit ![0, 256] ![1024, 256] inb_S1024x1024_S1024x256_0_256))) (View.ld (iblk m c 5 t) (Rect.unit ![0, 256] ![1, 256] inb_S1x1024_S1x256_0_256)) (ix2 r x) = refQ (refY (m ((c : Thread nD τ).loc main_arg0)) (m ((c : Thread nD τ).loc main_arg1)) (m ((c : Thread nD τ).loc main_arg2))) (m ((c : Thread nD τ).loc main_arg3)) (ix2 ⟨t.val * 512 + r.val, hb⟩ l) := fun x hx =>
    piece14 _ _ t r l (k0_pay1 (iblk m c 0 t) (iblk m c 1 t)) (View.ld (iblk m c 2 t) (Rect.unit ![0, 256] ![1024, 256] inb_S1024x1024_S1024x256_0_256)) (View.ld (iblk m c 5 t) (Rect.unit ![0, 256] ![1, 256] inb_S1x1024_S1x256_0_256)) x hx
      (fun j => proj _ _ _ _ _ _ _ (fun k => pay1 m c t r k) fun k => (show (View.ld (iblk m c 2 t) (Rect.unit ![0, 256] ![1024, 256] inb_S1024x1024_S1024x256_0_256)) (ix2 k j) = iblk m c 2 t (ix2 k ⟨256 + j.val, by omega⟩) by pointwise).trans (blk2 m c t k ⟨256 + j.val, by omega⟩))
      ((show (View.ld (iblk m c 5 t) (Rect.unit ![0, 256] ![1, 256] inb_S1x1024_S1x256_0_256)) (ix2 0 x) = iblk m c 5 t (ix2 0 l) by
        rw [show l = ⟨256 + x.val, by omega⟩ from Fin.ext hx]
        pointwise).trans (blk5 m c t l)) hb
  have h13 : ∀ x : Fin 256, l.val = 0 + x.val → k0_pay13 (F := Ideal) (k0_pay11 (k0_pay4 k0_pay2 k0_pay3 1#32) (k0_pay5 (k0_pay1 (iblk m c 0 t) (iblk m c 1 t)) (View.ld (iblk m c 2 t) (Rect.unit ![0, 0] ![1024, 256] inb_S1024x1024_S1024x256_0_0)))) (k0_pay12 (View.ld (iblk m c 5 t) (Rect.unit ![0, 0] ![1, 256] inb_S1x1024_S1x256_0_0))) (ix2 r x) = refQ (refY (m ((c : Thread nD τ).loc main_arg0)) (m ((c : Thread nD τ).loc main_arg1)) (m ((c : Thread nD τ).loc main_arg2))) (m ((c : Thread nD τ).loc main_arg3)) (ix2 ⟨t.val * 512 + r.val, hb⟩ l) := fun x hx =>
    piece13 _ _ t r l (k0_pay1 (iblk m c 0 t) (iblk m c 1 t)) (View.ld (iblk m c 2 t) (Rect.unit ![0, 0] ![1024, 256] inb_S1024x1024_S1024x256_0_0)) (View.ld (iblk m c 5 t) (Rect.unit ![0, 0] ![1, 256] inb_S1x1024_S1x256_0_0)) x hx
      (fun j => proj _ _ _ _ _ _ _ (fun k => pay1 m c t r k) fun k => (show (View.ld (iblk m c 2 t) (Rect.unit ![0, 0] ![1024, 256] inb_S1024x1024_S1024x256_0_0)) (ix2 k j) = iblk m c 2 t (ix2 k ⟨0 + j.val, by omega⟩) by pointwise).trans (blk2 m c t k ⟨0 + j.val, by omega⟩))
      ((show (View.ld (iblk m c 5 t) (Rect.unit ![0, 0] ![1, 256] inb_S1x1024_S1x256_0_0)) (ix2 0 x) = iblk m c 5 t (ix2 0 l) by
        rw [show l = ⟨0 + x.val, by omega⟩ from Fin.ext hx]
        pointwise).trans (blk5 m c t l)) hb
  generalize refQ _ _ = RQ at h13 h14 h15 h16 ⊢
  unfold outsAt0
  frame_out
  canon_tiles x h
  case piece0 =>
    idx_vars x
    obtain rfl : r = x0 := Fin.ext h0
    exact h16 x1 (by simpa using h1)
  case piece1 =>
    idx_vars x
    obtain rfl : r = x0 := Fin.ext h0
    exact h15 x1 (by simpa using h1)
  case piece2 =>
    idx_vars x
    obtain rfl : r = x0 := Fin.ext h0
    exact h14 x1 (by simpa using h1)
  case piece3 =>
    idx_vars x
    obtain rfl : r = x0 := Fin.ext h0
    exact h13 x1 (by simpa using h1)

theorem p17 (W H G) (r : Fin 1024) (l : Fin 512) : k0_pay17 (F := Ideal) (k0_pay9 W H) G (ix3 0 r l)
    = (∑ x, W (ix2 r x) * H (ix2 l x)) * Ideal.rsqrt (Ideal.div (∑ d : Fin 64, (∑ x, W (ix2 ⟨r.val / 64 * 64 + d.val, by omega⟩ x) * H (ix2 l x))
        * (∑ x, W (ix2 ⟨r.val / 64 * 64 + d.val, by omega⟩ x) * H (ix2 l x))) (Ideal.ofBits FTy.f32 1115684864#32) + Ideal.ofBits FTy.f32 897988541#32)
      * G (ix3 0 ⟨r.val % 64, by omega⟩ 0) := by
  pointwise [k0_pay17, k0_pay9]

theorem p10 (W H) (r : Fin 1024) (l : Fin 512) : k0_pay10 (F := Ideal) W H (ix3 0 r l) = ∑ x, W (ix2 r x) * H (ix2 l x) := by
  pointwise [k0_pay10]

theorem coreK (Y : FVec Ideal Cert.ReferenceIdeal3.S16x2048x3072 .f32) (g : FVec Ideal Cert.ReferenceIdeal3.S64 .f32) (t : Fin cfg0.N) (r : Fin 1024) (l : Fin 512)
    (W : FVec Ideal S1024x1024 .bf16) (H : FVec Ideal S512x1024 .bf16) (G : FVec Ideal S1x64x1 .f32)
    (hy : ∀ r : Fin 1024, ∑ k : Fin 1024, W (ix2 r k) * H (ix2 l k) = Y (ix3 (rB t l) (rS t l) ⟨1024 + r.val, by omega⟩))
    (hG : ∀ k, G (ix3 0 k 0) = g (ix1 k)) : k0_pay17 (F := Ideal) (k0_pay9 W H) G (ix3 0 r l) = refK Y g (ix3 (rB t l) r (rS t l)) := by
  rw [p17]
  simp only [hy, hG]
  pointwise [refK]
  have e1 : ∀ d : Fin 64, (⟨1024 + (r.val / 64 * 64 + d.val), by omega⟩ : Fin 3072) = ⟨1024 + r.val / 64 * 64 + d.val, by omega⟩ := fun d => Fin.ext (Nat.add_assoc _ _ _).symm
  have e2 : (⟨1024 + r.val, by omega⟩ : Fin 3072) = ⟨1024 + r.val / 64 * 64 + r.val % 64, by omega⟩ := Fin.ext (by show 1024 + r.val = 1024 + r.val / 64 * 64 + r.val % 64; omega)
  simp only [e1, e2]

theorem coreV (Y : FVec Ideal Cert.ReferenceIdeal3.S16x2048x3072 .f32) (t : Fin cfg0.N) (r : Fin 1024) (l : Fin 512)
    (W : FVec Ideal S1024x1024 .bf16) (H : FVec Ideal S512x1024 .bf16)
    (hy : ∑ k : Fin 1024, W (ix2 r k) * H (ix2 l k) = Y (ix3 (rB t l) (rS t l) ⟨2048 + r.val, by omega⟩)) :
    k0_pay10 (F := Ideal) W H (ix3 0 r l) = refV Y (ix3 (rB t l) r (rS t l)) := by
  rw [p10, hy]
  pointwise [refV]
  exact congrArg (fun a => Y (ix3 (rB t l) (rS t l) a)) (Fin.ext (by show 2048 + r.val = 2048 + r.val / 64 * 64 + r.val % 64; omega))

theorem projT (HH : FVec Ideal Cert.ReferenceIdeal3.S16x2048x1024 .f32) (w : FVec Ideal Cert.ReferenceIdeal3.S1024x3072 .f32) (b : Fin 16) (s : Fin 2048) (l : Fin 3072) (h : Fin 1024 → EReal) (v : Fin 1024 → EReal)
    (hh : ∀ k, h k = HH (ix3 b s k)) (hv : ∀ k, v k = w (ix2 k l)) : ∑ k : Fin 1024, v k * h k = refP HH w (ix3 b s l) :=
  (Finset.sum_congr rfl fun k _ => mul_comm _ _).trans (proj HH w b s l h v hh hv)

theorem outK (c : Dev nD) (t : Fin cfg0.N) (r : Fin 1024) (l : Fin 512) : (outsAt0 m c t).2.1 (ix3 0 r l) = refK (refY (m ((c : Thread nD τ).loc main_arg0)) (m ((c : Thread nD τ).loc main_arg1)) (m ((c : Thread nD τ).loc main_arg2))) (m ((c : Thread nD τ).loc main_arg4)) (ix3 (rB t l) r (rS t l)) := by
  have h : k0_pay17 (F := Ideal) (k0_pay9 (iblk m c 3 t) (k0_pay1 (iblk m c 0 t) (iblk m c 1 t))) (iblk m c 6 t) (ix3 0 r l) = refK (refY (m ((c : Thread nD τ).loc main_arg0)) (m ((c : Thread nD τ).loc main_arg1)) (m ((c : Thread nD τ).loc main_arg2))) (m ((c : Thread nD τ).loc main_arg4)) (ix3 (rB t l) r (rS t l)) := coreK _ _ t r l _ _ _ (fun r => projT _ _ _ _ _ _ _ (fun k => pay1 m c t l k) fun k => blk3 m c t r k) (fun k => blk6 m c t k)
  generalize refK _ _ = RR at h ⊢
  unfold outsAt0
  frame_out
  exact h

theorem outV (c : Dev nD) (t : Fin cfg0.N) (r : Fin 1024) (l : Fin 512) : (outsAt0 m c t).2.2 (ix3 0 r l) = refV (refY (m ((c : Thread nD τ).loc main_arg0)) (m ((c : Thread nD τ).loc main_arg1)) (m ((c : Thread nD τ).loc main_arg2))) (ix3 (rB t l) r (rS t l)) := by
  have h : k0_pay10 (F := Ideal) (iblk m c 4 t) (k0_pay1 (iblk m c 0 t) (iblk m c 1 t)) (ix3 0 r l) = refV (refY (m ((c : Thread nD τ).loc main_arg0)) (m ((c : Thread nD τ).loc main_arg1)) (m ((c : Thread nD τ).loc main_arg2))) (ix3 (rB t l) r (rS t l)) := coreV _ t r l _ _ (projT _ _ _ _ _ _ _ (fun k => pay1 m c t l k) fun k => blk4 m c t r k)
  generalize refV _ = RR at h ⊢
  unfold outsAt0
  frame_out
  exact h

theorem finalQ (c : Dev nD) : (dats m 0 c).arrAt 7 (cfgs 0).N = refQ (refY (m ((c : Thread nD τ).loc main_arg0)) (m ((c : Thread nD τ).loc main_arg1)) (m ((c : Thread nD τ).loc main_arg2))) (m ((c : Thread nD τ).loc main_arg3)) := by
  generalize hR : refQ (refY (m ((c : Thread nD τ).loc main_arg0)) (m ((c : Thread nD τ).loc main_arg1)) (m ((c : Thread nD τ).loc main_arg2))) (m ((c : Thread nD τ).loc main_arg3)) = RR
  refine (dats m 0 c).arrAt_eq_of_covers 7 _ (by decide +kernel) fun t _ y => ?_
  blk_simp
  rw [after0_7]
  idx_vars y
  have hb : t.val * 512 + y0.val < 32768 := by have h : t.val < 64 := t.isLt; omega
  rw [outQ m c t y0 y1 hb, hR]
  blk_ext [idx t]

theorem finalK (c : Dev nD) : (dats m 0 c).arrAt 8 (cfgs 0).N = refK (refY (m ((c : Thread nD τ).loc main_arg0)) (m ((c : Thread nD τ).loc main_arg1)) (m ((c : Thread nD τ).loc main_arg2))) (m ((c : Thread nD τ).loc main_arg4)) := by
  generalize hR : refK (refY (m ((c : Thread nD τ).loc main_arg0)) (m ((c : Thread nD τ).loc main_arg1)) (m ((c : Thread nD τ).loc main_arg2))) (m ((c : Thread nD τ).loc main_arg4)) = RR
  refine (dats m 0 c).arrAt_eq_of_covers 8 _ (by decide +kernel) fun t _ y => ?_
  blk_simp
  rw [after0_8]
  idx_vars y
  obtain rfl : y0 = 0 := Fin.ext (by omega)
  rw [outK m c t y1 y2, hR]
  blk_ext [idx t]

theorem finalV (c : Dev nD) : (dats m 0 c).arrAt 9 (cfgs 0).N = refV (refY (m ((c : Thread nD τ).loc main_arg0)) (m ((c : Thread nD τ).loc main_arg1)) (m ((c : Thread nD τ).loc main_arg2))) := by
  generalize hR : refV (refY (m ((c : Thread nD τ).loc main_arg0)) (m ((c : Thread nD τ).loc main_arg1)) (m ((c : Thread nD τ).loc main_arg2))) = RR
  refine (dats m 0 c).arrAt_eq_of_covers 9 _ (by decide +kernel) fun t _ y => ?_
  blk_simp
  rw [after0_9]
  idx_vars y
  obtain rfl : y0 = 0 := Fin.ext (by omega)
  rw [outV m c t y1 y2, hR]
  blk_ext [idx t]

theorem res_q (m' : (ℓ : Loc Cert.ReferenceIdeal3.nD Cert.ReferenceIdeal3.τ Cert.ReferenceIdeal3.sig) → Buf (Elt Ideal) ℓ) (c : Dev Cert.ReferenceIdeal3.nD) : Cert.ReferenceIdeal3.Value.res_main_v53 m' c = refQ (refY (m' ((c.tc : Thread Cert.ReferenceIdeal3.nD Cert.ReferenceIdeal3.τ).loc Cert.ReferenceIdeal3.main_arg0)) (m' ((c.tc : Thread Cert.ReferenceIdeal3.nD Cert.ReferenceIdeal3.τ).loc Cert.ReferenceIdeal3.main_arg1)) (m' ((c.tc : Thread Cert.ReferenceIdeal3.nD Cert.ReferenceIdeal3.τ).loc Cert.ReferenceIdeal3.main_arg2))) (m' ((c.tc : Thread Cert.ReferenceIdeal3.nD Cert.ReferenceIdeal3.τ).loc Cert.ReferenceIdeal3.main_arg3)) := rfl
theorem res_k (m' : (ℓ : Loc Cert.ReferenceIdeal3.nD Cert.ReferenceIdeal3.τ Cert.ReferenceIdeal3.sig) → Buf (Elt Ideal) ℓ) (c : Dev Cert.ReferenceIdeal3.nD) : Cert.ReferenceIdeal3.Value.res_main_v55 m' c = refK (refY (m' ((c.tc : Thread Cert.ReferenceIdeal3.nD Cert.ReferenceIdeal3.τ).loc Cert.ReferenceIdeal3.main_arg0)) (m' ((c.tc : Thread Cert.ReferenceIdeal3.nD Cert.ReferenceIdeal3.τ).loc Cert.ReferenceIdeal3.main_arg1)) (m' ((c.tc : Thread Cert.ReferenceIdeal3.nD Cert.ReferenceIdeal3.τ).loc Cert.ReferenceIdeal3.main_arg2))) (m' ((c.tc : Thread Cert.ReferenceIdeal3.nD Cert.ReferenceIdeal3.τ).loc Cert.ReferenceIdeal3.main_arg4)) := rfl

end Cert.KernelIdeal3.Qkv
-- ==== Proof.MlProj.Value.lean ====
/- The projections of the mLSTM: what the run leaves in the five result arrays is the reference's terms of the arguments. -/
module

public import proofs.«01_k».proof.Proof.Gen.Kernel4.Frame
public import proofs.«01_k».proof.Proof.Gen.KernelIdeal4.Value
public import proofs.«01_k».proof.Proof.Gen.ReferenceIdeal4.Run
public import Idealize.ShloMosaic.Lib.Pipeline.ValueKit

@[expose] public section

set_option maxRecDepth 16384
set_option maxHeartbeats 400000

noncomputable section

namespace Cert.KernelIdeal4.MlProj

open Cert.KernelIdeal4 Cert.KernelIdeal4.Gen
open Idealize.ShloMosaic Idealize.ShloMosaic.TcCoe Idealize.SL.Sem
open Idealize.ShloMosaic.Pipeline (Dat)

variable (m : (ℓ : Loc nD τ sig) → Buf (Elt Ideal) ℓ)

abbrev refH (a0 : FVec Ideal Cert.ReferenceIdeal4.S16x2048x1024 .f32) (a1 : FVec Ideal Cert.ReferenceIdeal4.S1024 .f32) : FVec Ideal Cert.ReferenceIdeal4.S16x2048x1024 .f32 :=
  (mulf (mulf a0 (broadcastInDim Cert.ReferenceIdeal4.S16x2048x1024 ![0, 1, 2] Cert.ReferenceIdeal4.Gen.bcast_S16x2048x1_S16x2048x1024_0_1_2 (Host.rsqrt (addf (Host.divf (broadcastInDim Cert.ReferenceIdeal4.S16x2048x1 ![0, 1] Cert.ReferenceIdeal4.Gen.bcast_S16x2048_S16x2048x1_0_1 (Host.reduceAdd (mulf a0 a0) (constant Cert.ReferenceIdeal4.S_ .f32 0x00000000#32) Cert.ReferenceIdeal4.Gen.reducesTo_S16x2048x1024_S16x2048_d2 Cert.ReferenceIdeal4.Gen.h_S_)) (broadcastInDim Cert.ReferenceIdeal4.S16x2048x1 ![] Cert.ReferenceIdeal4.Gen.bcast_S_S16x2048x1 (constant Cert.ReferenceIdeal4.S_ .f32 0x44800000#32))) (broadcastInDim Cert.ReferenceIdeal4.S16x2048x1 ![] Cert.ReferenceIdeal4.Gen.bcast_S_S16x2048x1 (constant Cert.ReferenceIdeal4.S_ .f32 0x358637BD#32)))))) (broadcastInDim Cert.ReferenceIdeal4.S16x2048x1024 ![0, 1, 2] Cert.ReferenceIdeal4.Gen.bcast_S1x1x1024_S16x2048x1024_0_1_2 (broadcastInDim Cert.ReferenceIdeal4.S1x1x1024 ![2] Cert.ReferenceIdeal4.Gen.bcast_S1024_S1x1x1024_2 a1)))

abbrev refP (h : FVec Ideal Cert.ReferenceIdeal4.S16x2048x1024 .f32) (a2 : FVec Ideal Cert.ReferenceIdeal4.S1024x3088 .f32) : FVec Ideal Cert.ReferenceIdeal4.S16x2048x3088 .f32 :=
  (Host.dotGeneral Cert.ReferenceIdeal4.dot_S16x2048x1024_S1024x3088_S16x2048x3088_2_0_01_1_n_n none h a2)

abbrev refY (a0 : FVec Ideal Cert.ReferenceIdeal4.S16x2048x1024 .f32) (a1 : FVec Ideal Cert.ReferenceIdeal4.S1024 .f32) (a2 : FVec Ideal Cert.ReferenceIdeal4.S1024x3088 .f32) : FVec Ideal Cert.ReferenceIdeal4.S16x2048x3088 .f32 :=
  refP (refH a0 a1) a2

abbrev refQ (y : FVec Ideal Cert.ReferenceIdeal4.S16x2048x3088 .f32) : FVec Ideal Cert.ReferenceIdeal4.S32768x512 .bf16 :=
  truncf .bf16 (shapeCast _ (extractStridedSlice Cert.ReferenceIdeal4.S16x2048x512 ![0, 0, 0] y Cert.ReferenceIdeal4.Gen.slices_S16x2048x3088_S16x2048x512_0_0_0) Cert.ReferenceIdeal4.Gen.shapeCasts_S16x2048x512_S32768x512) Cert.ReferenceIdeal4.Gen.bitsLt_bf16_f32

abbrev refK (y : FVec Ideal Cert.ReferenceIdeal4.S16x2048x3088 .f32) : FVec Ideal Cert.ReferenceIdeal4.S32768x512 .bf16 :=
  truncf .bf16 (shapeCast _ (mulf (extractStridedSlice Cert.ReferenceIdeal4.S16x2048x512 ![0, 0, 512] y Cert.ReferenceIdeal4.Gen.slices_S16x2048x3088_S16x2048x512_0_0_512) (broadcastInDim Cert.ReferenceIdeal4.S16x2048x512 ![] Cert.ReferenceIdeal4.Gen.bcast_S_S16x2048x512 (constant Cert.ReferenceIdeal4.S_ .f32 0x3E000000#32))) Cert.ReferenceIdeal4.Gen.shapeCasts_S16x2048x512_S32768x512) Cert.ReferenceIdeal4.Gen.bitsLt_bf16_f32

abbrev refV (y : FVec Ideal Cert.ReferenceIdeal4.S16x2048x3088 .f32) : FVec Ideal Cert.ReferenceIdeal4.S32768x1024 .bf16 :=
  truncf .bf16 (shapeCast _ (extractStridedSlice Cert.ReferenceIdeal4.S16x2048x1024 ![0, 0, 1024] y Cert.ReferenceIdeal4.Gen.slices_S16x2048x3088_S16x2048x1024_0_0_1024) Cert.ReferenceIdeal4.Gen.shapeCasts_S16x2048x1024_S32768x1024) Cert.ReferenceIdeal4.Gen.bitsLt_bf16_f32

abbrev refO (y : FVec Ideal Cert.ReferenceIdeal4.S16x2048x3088 .f32) : FVec Ideal Cert.ReferenceIdeal4.S32768x1024 .f32 :=
  shapeCast _ (extractStridedSlice Cert.ReferenceIdeal4.S16x2048x1024 ![0, 0, 2048] y Cert.ReferenceIdeal4.Gen.slices_S16x2048x3088_S16x2048x1024_0_0_2048) Cert.ReferenceIdeal4.Gen.shapeCasts_S16x2048x1024_S32768x1024

/-- The capped gates over the projection `y`. -/
abbrev refG (y : FVec Ideal Cert.ReferenceIdeal4.S16x2048x3088 .f32) (a3 : FVec Ideal Cert.ReferenceIdeal4.S16 .f32) : FVec Ideal Cert.ReferenceIdeal4.S16x2048x16 .f32 :=
  (mulf (broadcastInDim Cert.ReferenceIdeal4.S16x2048x16 ![] Cert.ReferenceIdeal4.Gen.bcast_S_S16x2048x16 (constant Cert.ReferenceIdeal4.S_ .f32 0x41700000#32)) (Host.tanh (Host.divf (addf (extractStridedSlice Cert.ReferenceIdeal4.S16x2048x16 ![0, 0, 3072] y Cert.ReferenceIdeal4.Gen.slices_S16x2048x3088_S16x2048x16_0_0_3072) (broadcastInDim Cert.ReferenceIdeal4.S16x2048x16 ![0, 1, 2] Cert.ReferenceIdeal4.Gen.bcast_S1x1x16_S16x2048x16_0_1_2 (broadcastInDim Cert.ReferenceIdeal4.S1x1x16 ![2] Cert.ReferenceIdeal4.Gen.bcast_S16_S1x1x16_2 a3))) (broadcastInDim Cert.ReferenceIdeal4.S16x2048x16 ![] Cert.ReferenceIdeal4.Gen.bcast_S_S16x2048x16 (constant Cert.ReferenceIdeal4.S_ .f32 0x41700000#32)))))

/-- The log-sigmoid of the forget gates. -/
abbrev refL (g : FVec Ideal Cert.ReferenceIdeal4.S16x2048x16 .f32) : FVec Ideal Cert.ReferenceIdeal4.S16x2048x8 .f32 :=
  (Host.negf (select (cmpf .une (subf (Host.negf (extractStridedSlice Cert.ReferenceIdeal4.S16x2048x8 ![0, 0, 8] g Cert.ReferenceIdeal4.Gen.slices_S16x2048x16_S16x2048x8_0_0_8)) (broadcastInDim Cert.ReferenceIdeal4.S16x2048x8 ![] Cert.ReferenceIdeal4.Gen.bcast_S_S16x2048x8 (constant Cert.ReferenceIdeal4.S_ .f32 0x00000000#32))) (subf (Host.negf (extractStridedSlice Cert.ReferenceIdeal4.S16x2048x8 ![0, 0, 8] g Cert.ReferenceIdeal4.Gen.slices_S16x2048x16_S16x2048x8_0_0_8)) (broadcastInDim Cert.ReferenceIdeal4.S16x2048x8 ![] Cert.ReferenceIdeal4.Gen.bcast_S_S16x2048x8 (constant Cert.ReferenceIdeal4.S_ .f32 0x00000000#32)))) (addf (Host.negf (extractStridedSlice Cert.ReferenceIdeal4.S16x2048x8 ![0, 0, 8] g Cert.ReferenceIdeal4.Gen.slices_S16x2048x16_S16x2048x8_0_0_8)) (broadcastInDim Cert.ReferenceIdeal4.S16x2048x8 ![] Cert.ReferenceIdeal4.Gen.bcast_S_S16x2048x8 (constant Cert.ReferenceIdeal4.S_ .f32 0x00000000#32))) (addf (maximumf (Host.negf (extractStridedSlice Cert.ReferenceIdeal4.S16x2048x8 ![0, 0, 8] g Cert.ReferenceIdeal4.Gen.slices_S16x2048x16_S16x2048x8_0_0_8)) (broadcastInDim Cert.ReferenceIdeal4.S16x2048x8 ![] Cert.ReferenceIdeal4.Gen.bcast_S_S16x2048x8 (constant Cert.ReferenceIdeal4.S_ .f32 0x00000000#32))) (Host.log1p (Host.exp (Host.negf (Host.absf (subf (Host.negf (extractStridedSlice Cert.ReferenceIdeal4.S16x2048x8 ![0, 0, 8] g Cert.ReferenceIdeal4.Gen.slices_S16x2048x16_S16x2048x8_0_0_8)) (broadcastInDim Cert.ReferenceIdeal4.S16x2048x8 ![] Cert.ReferenceIdeal4.Gen.bcast_S_S16x2048x8 (constant Cert.ReferenceIdeal4.S_ .f32 0x00000000#32))))))))))

/-- The gates in the layout of the heads' pairs. -/
abbrev refA (g : FVec Ideal Cert.ReferenceIdeal4.S16x2048x16 .f32) (l : FVec Ideal Cert.ReferenceIdeal4.S16x2048x8 .f32) : FVec Ideal Cert.ReferenceIdeal4.S16x32768 .f32 :=
  transpose Cert.ReferenceIdeal4.S16x32768 [1, 0] (shapeCast _ (concatenate Cert.ReferenceIdeal4.S32768x4x4 2 [⟨Cert.ReferenceIdeal4.S32768x4x2, (shapeCast _ (extractStridedSlice Cert.ReferenceIdeal4.S16x2048x8 ![0, 0, 0] g Cert.ReferenceIdeal4.Gen.slices_S16x2048x16_S16x2048x8_0_0_0) Cert.ReferenceIdeal4.Gen.shapeCasts_S16x2048x8_S32768x4x2)⟩, ⟨Cert.ReferenceIdeal4.S32768x4x2, (shapeCast _ l Cert.ReferenceIdeal4.Gen.shapeCasts_S16x2048x8_S32768x4x2)⟩] Cert.ReferenceIdeal4.Gen.concatenates_S32768x4x2_S32768x4x2_S32768x4x4_d2) Cert.ReferenceIdeal4.Gen.shapeCasts_S32768x4x4_S32768x16) Cert.ReferenceIdeal4.Gen.transposes_S32768x16_S16x32768_1_0

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] ∧ win0_9.index t = ![0, t.val] :=
  (by decide +kernel : ∀ t : Fin grid0.N, _)

/-- The row of the first two axes that row `r` of block `t` is. -/
abbrev rB (t : Fin cfg0.N) (r : Fin 512) : Fin 16 := ⟨(t.val * 512 + r.val) / 2048, by have h : t.val < 64 := t.isLt; omega⟩
abbrev rS (t : Fin cfg0.N) (r : Fin 512) : Fin 2048 := ⟨(t.val * 512 + r.val) % 2048, by omega⟩
abbrev perm (r : Fin 16) : Fin 16 := ⟨r.val / 4 * 2 + r.val % 2 + r.val % 4 / 2 * 8, by omega⟩

theorem blk0 (c : Dev nD) (t : Fin cfg0.N) (r : Fin 512) (k : Fin 1024) :
    iblk m c 0 t (ix2 r k) = m ((c : Thread nD τ).loc main_arg0) (ix3 (rB t r) (rS t r) k) := by
  blk_point [iblk, V, idx t]
theorem blk1 (c : Dev nD) (t : Fin cfg0.N) (k : Fin 1024) :
    iblk m c 1 t (ix2 0 k) = m ((c : Thread nD τ).loc main_arg1) (ix1 k) := by
  blk_point [iblk, V, idx t]
theorem blk2 (c : Dev nD) (t : Fin cfg0.N) (r : Fin 1024) (k : Fin 3072) :
    iblk m c 2 t (ix2 r k) = m ((c : Thread nD τ).loc main_arg2) (ix2 r ⟨k.val, by omega⟩) := by
  blk_point [iblk, V, idx t]

theorem pay2 (c : Dev nD) (t : Fin cfg0.N) (r : Fin 512) (k : Fin 1024) :
    k0_pay2 (iblk m c 0 t) (iblk m c 1 t) (ix2 r k)
      = refH (m ((c : Thread nD τ).loc main_arg0)) (m ((c : Thread nD τ).loc main_arg1)) (ix3 (rB t r) (rS t r) k) := by
  pointwise [k0_pay2, refH]
  simp only [blk0, blk1]

/-- The columns the host picks for the gates. -/
abbrev cols : IVec S16x1 32 :=
  broadcastInDim S16x1 ![0] bcast_S16_S16x1_0
    (select (cmpi CmpIPredicate.slt (fun i => lit0 (S16.rowMajor i)) (broadcastInDim S16 ![] bcast_S_S16 (constantI S_ 32 0#32)))
      (addi (fun i => lit0 (S16.rowMajor i)) (broadcastInDim S16 ![] bcast_S_S16 (constantI S_ 32 16#32))) fun i => lit0 (S16.rowMajor i))

theorem cols_at (r : Fin 16) : cols (ix2 r 0) = BitVec.ofNat 32 (perm r).val := by
  revert r
  decide +kernel

theorem clamp_perm : ∀ r : Fin 16, min (BitVec.ofNat 32 (perm r).val).toInt.toNat (16 - 1) + 0 + 0 = (perm r).val := by
  decide

theorem gather_cols (x : S1024x16.Idx → EReal) (k : Fin 1024) (r : Fin 16) :
    Host.gather gather_S1024x16_S16x1_S1024x16_0_1_n_n_1_1_10241 x cols (ix2 k r) = x (ix2 k (perm r)) := by
  unfold Host.gather
  congr 1
  funext a
  refine Fin.ext ?_
  match a with
  | ⟨0, _⟩ =>
    show 0 + 0 + k.val = k.val
    omega
  | ⟨1, _⟩ =>
    refine Eq.trans ?_ (clamp_perm r)
    rw [← cols_at]
    rfl

theorem gather_bias (x : S16.Idx → EReal) (r : Fin 16) :
    Host.gather gather_S16_S16x1_S16_n_0_n_n_0_1_1 x cols (ix1 r) = x (ix1 (perm r)) := by
  unfold Host.gather
  congr 1
  funext a
  refine Fin.ext ?_
  match a with
  | ⟨0, _⟩ =>
    refine Eq.trans ?_ (clamp_perm r)
    rw [← cols_at]
    rfl

theorem v11 (c : Dev nD) : V m c main_v11 = (transpose S16x1024 [1, 0] (Host.gather gather_S1024x16_S16x1_S1024x16_0_1_n_n_1_1_10241
      (extractStridedSlice S1024x16 ![0, 3072] (m ((c : Thread nD τ).loc main_arg2)) slices_S1024x3088_S1024x16_0_3072) cols) transposes_S1024x16_S16x1024_1_0 : S16x1024.Idx → EReal) := rfl
theorem v19 (c : Dev nD) : V m c main_v19 = (shapeCast S16x1 (Host.gather gather_S16_S16x1_S16_n_0_n_n_0_1_1 (m ((c : Thread nD τ).loc main_arg3)) cols) shapeCasts_S16_S16x1 : S16x1.Idx → EReal) := rfl

theorem blk3 (c : Dev nD) (t : Fin cfg0.N) (r : Fin 16) (k : Fin 1024) :
    iblk m c 3 t (ix2 r k) = m ((c : Thread nD τ).loc main_arg2) (ix2 k ⟨3072 + (perm r).val, by omega⟩) := by
  have h : iblk m c 3 t (ix2 r k) = (V m c main_v11 : S16x1024.Idx → EReal) (ix2 r k) := by
    unfold iblk
    show View.read (Elt Ideal) ((View.whole main_v11).slice ((win0 3).rect t)) (V m c main_v11) (ix2 r k) = _
    generalize V m c main_v11 = X
    blk_point [idx t]
  rw [h, v11]
  have e : (transpose S16x1024 [1, 0] (Host.gather gather_S1024x16_S16x1_S1024x16_0_1_n_n_1_1_10241
      (extractStridedSlice S1024x16 ![0, 3072] (m ((c : Thread nD τ).loc main_arg2)) slices_S1024x3088_S1024x16_0_3072) cols) transposes_S1024x16_S16x1024_1_0 : S16x1024.Idx → EReal) (ix2 r k)
      = Host.gather gather_S1024x16_S16x1_S1024x16_0_1_n_n_1_1_10241 (extractStridedSlice S1024x16 ![0, 3072] (m ((c : Thread nD τ).loc main_arg2)) slices_S1024x3088_S1024x16_0_3072) cols (ix2 k r) := by
    generalize Host.gather _ _ _ = X
    pointwise
  rw [e, gather_cols]
  pointwise
theorem blk4 (c : Dev nD) (t : Fin cfg0.N) (r : Fin 16) :
    iblk m c 4 t (ix2 r 0) = m ((c : Thread nD τ).loc main_arg3) (ix1 (perm r)) := by
  have h : iblk m c 4 t (ix2 r 0) = (V m c main_v19 : S16x1.Idx → EReal) (ix2 r 0) := by
    unfold iblk
    show View.read (Elt Ideal) ((View.whole main_v19).slice ((win0 4).rect t)) (V m c main_v19) (ix2 r 0) = _
    generalize V m c main_v19 = X
    blk_point [idx t]
  rw [h, v19]
  have e : (shapeCast S16x1 (Host.gather gather_S16_S16x1_S16_n_0_n_n_0_1_1 (m ((c : Thread nD τ).loc main_arg3)) cols) shapeCasts_S16_S16x1 : S16x1.Idx → EReal) (ix2 r 0)
      = Host.gather gather_S16_S16x1_S16_n_0_n_n_0_1_1 (m ((c : Thread nD τ).loc main_arg3)) cols (ix1 r) := by
    generalize Host.gather _ _ _ = X
    pointwise
  rw [e, gather_bias]

theorem c_15 : Ideal.ofBits FTy.f32 1097859072#32 = ((15 : ℝ) : EReal) := by
  simp [Ideal.ofBits, Ideal.ieee, -EReal.coe_mul]; norm_num

theorem inv_cap : Named.named (F := Ideal) (φ := .f32) κ "inv_cap" 1032358025#32 = (((15 : ℝ)⁻¹ : ℝ) : EReal) :=
  (IdealRules.named_const.ideal_named_scalar _ _ _ _ rfl).trans (by rw [one_div])

theorem div_real (x : EReal) (r : ℝ) (h : r ≠ 0) : Ideal.div x (r : EReal) = x * ((r⁻¹ : ℝ) : EReal) := by
  unfold Ideal.div
  rw [if_neg (by exact_mod_cast h), EReal.coe_inv]

theorem log_ne_bot (x : EReal) (h : 1 ≤ x) : Ideal.log x ≠ ⊥ := by
  induction x with
  | bot => exact absurd (le_bot_iff.1 h) (EReal.coe_ne_bot 1)
  | top =>
    show (⊤ : EReal) ≠ ⊥
    simp
  | coe r =>
    have h' : (1 : ℝ) ≤ r := by exact_mod_cast h
    show (if r ≤ 0 then (⊥ : EReal) else ((Real.log r : ℝ) : EReal)) ≠ ⊥
    rw [if_neg (by linarith)]
    exact EReal.coe_ne_bot _

theorem exp_nonneg (x : EReal) : 0 ≤ Ideal.exp x := by
  induction x with
  | bot => exact le_refl (0 : EReal)
  | top => exact le_top (a := (0 : EReal))
  | coe r =>
    show (0 : EReal) ≤ ((Real.exp r : ℝ) : EReal)
    exact_mod_cast (Real.exp_pos r).le

/-- The log-sigmoid as the kernel writes it is the one the reference writes. -/
theorem log_sigmoid (z : EReal) : min z 0 - Ideal.log (1 + Ideal.exp (0 - FloatOps.absf (F := Ideal) (φ := .f32) z))
    = -(if -z ≠ -z then -z else max (-z) 0 + Ideal.log1p (Ideal.exp (-FloatOps.absf (F := Ideal) (φ := .f32) (-z)))) := by
  rw [if_neg (by simp)]
  have ha : FloatOps.absf (F := Ideal) (φ := .f32) (-z) = FloatOps.absf (F := Ideal) (φ := .f32) z := by
    show max (-z) (- -z) = max z (-z)
    rw [neg_neg, max_comm]
  rw [ha, zero_sub]
  have hl : ∀ x, Ideal.log1p x = Ideal.log (1 + x) := fun x => rfl
  rw [hl]
  have hb : Ideal.log (1 + Ideal.exp (-FloatOps.absf (F := Ideal) (φ := .f32) z)) ≠ ⊥ := log_ne_bot _ (by
    have := exp_nonneg (-FloatOps.absf (F := Ideal) (φ := .f32) z)
    calc (1 : EReal) = 1 + 0 := (add_zero _).symm
      _ ≤ _ := add_le_add_right this 1)
  generalize Ideal.log (1 + Ideal.exp (-FloatOps.absf (F := Ideal) (φ := .f32) z)) = L at hb
  rw [EReal.neg_add (.inl (ne_of_gt (lt_of_lt_of_le (by simp) (le_max_right (-z) 0)))) (.inr hb)]
  congr 1
  rcases le_total z 0 with h | h
  · rw [min_eq_left h, max_eq_left (by simpa using EReal.neg_le_neg_iff.2 h), neg_neg]
  · rw [min_eq_right h, max_eq_right (by simpa using EReal.neg_le_neg_iff.2 h), neg_zero]

theorem refL_at (g : FVec Ideal Cert.ReferenceIdeal4.S16x2048x16 .f32) (b : Fin 16) (s : Fin 2048) (l : Fin 8) (i : Fin 16) (hi : i.val = 8 + l.val) : refL g (ix3 b s l)
    = min (g (ix3 b s i)) 0 - Ideal.log (1 + Ideal.exp (0 - FloatOps.absf (F := Ideal) (φ := .f32) (g (ix3 b s i)))) := by
  rw [log_sigmoid, show i = ⟨8 + l.val, by omega⟩ from Fin.ext hi]
  pointwise [refL]

theorem mask (r : Fin 16) : (IntOp.cmpi CmpIPredicate.slt
        (Scalar.select
          (IntOp.andi
            (IntOp.xori
              (IntOp.cmpi CmpIPredicate.slt
                (IntOp.remsi ArithUnit.vector (BitVec.ofNat 32 r.val)
                  (Scalar.select (Scalar.cmpi CmpIPredicate.eq 4#32 0#32) 1#32 4#32))
                0#32)
              (Scalar.cmpi CmpIPredicate.slt 4#32 0#32))
            (IntOp.cmpi CmpIPredicate.ne
              (IntOp.remsi ArithUnit.vector (BitVec.ofNat 32 r.val)
                (Scalar.select (Scalar.cmpi CmpIPredicate.eq 4#32 0#32) 1#32 4#32))
              0#32))
          (IntOp.addi
            (IntOp.remsi ArithUnit.vector (BitVec.ofNat 32 r.val)
              (Scalar.select (Scalar.cmpi CmpIPredicate.eq 4#32 0#32) 1#32 4#32))
            4#32)
          (IntOp.remsi ArithUnit.vector (BitVec.ofNat 32 r.val)
            (Scalar.select (Scalar.cmpi CmpIPredicate.eq 4#32 0#32) 1#32 4#32)))
        2#32) = if r.val % 4 < 2 then 1#1 else 0#1 := by
  revert r
  decide +kernel

theorem p1 (g : FVec Ideal S16x512 .f32) (r : Fin 16) (l : Fin 512) : k0_pay1 (F := Ideal) g 4#32 k0_pay8 0#32 (ix2 r l)
    = if r.val % 4 < 2 then g (ix2 r l) else min (g (ix2 r l)) 0 - Ideal.log (1 + Ideal.exp (0 - FloatOps.absf (F := Ideal) (φ := .f32) (g (ix2 r l)))) := by
  pointwise [k0_pay1, k0_pay8]
  rw [mask]
  by_cases h : r.val % 4 < 2
  · rw [if_pos h, if_pos h]
    rfl
  · rw [if_neg h, if_neg h]
    rfl

/-- A gate's value, from the kernel's operands. -/
theorem coreA (y : FVec Ideal Cert.ReferenceIdeal4.S16x2048x3088 .f32) (a3 : FVec Ideal Cert.ReferenceIdeal4.S16 .f32) (t : Fin cfg0.N) (r : Fin 16) (l : Fin 512)
    (W : FVec Ideal S16x1024 .bf16) (H : FVec Ideal S512x1024 .bf16) (G : FVec Ideal S16x1 .f32)
    (hy : ∑ k : Fin 1024, W (ix2 r k) * H (ix2 l k) = y (ix3 (rB t l) (rS t l) ⟨3072 + (perm r).val, by omega⟩))
    (hG : G (ix2 r 0) = a3 (ix1 (perm r))) (hb : t.val * 512 + l.val < 32768) :
    k0_pay1 (F := Ideal) (k0_pay7 W H G) 4#32 k0_pay8 0#32 (ix2 r l) = refA (refG y a3) (refL (refG y a3)) (ix2 r ⟨t.val * 512 + l.val, hb⟩) := by
  have h7 : k0_pay7 (F := Ideal) W H G (ix2 r l) = refG y a3 (ix3 (rB t l) (rS t l) (perm r)) := by
    pointwise [k0_pay7, refG]
    rw [hy, hG, inv_cap]
    simp only [c_15]
    rw [div_real _ 15 (by norm_num)]
  rw [p1, h7]
  generalize refG y a3 = g
  have hL := refL_at g (rB t l) (rS t l)
  generalize refL g = L at hL ⊢
  pointwise [refA]
  by_cases h : r.val % 4 < 2
  · rw [if_pos h, dif_pos h]
    exact congrArg (fun i => g (ix3 (rB t l) (rS t l) i)) (Fin.ext (by show r.val / 4 * 2 + r.val % 2 + r.val % 4 / 2 * 8 = r.val / 4 * 2 + r.val % 4; omega))
  · rw [if_neg h, dif_neg h]
    exact (hL ⟨r.val / 4 * 2 + (r.val % 4 - 2), by omega⟩ (perm r) (by show r.val / 4 * 2 + r.val % 2 + r.val % 4 / 2 * 8 = 8 + (r.val / 4 * 2 + (r.val % 4 - 2)); omega)).symm

theorem proj (HH : FVec Ideal Cert.ReferenceIdeal4.S16x2048x1024 .f32) (w : FVec Ideal Cert.ReferenceIdeal4.S1024x3088 .f32) (b : Fin 16) (s : Fin 2048) (l : Fin 3088) (h : Fin 1024 → EReal) (v : Fin 1024 → EReal)
    (hh : ∀ k, h k = HH (ix3 b s k)) (hv : ∀ k, v k = w (ix2 k l)) : ∑ k : Fin 1024, h k * v k = refP HH w (ix3 b s l) := by
  simp only [hh, hv]
  pointwise [refP]

theorem projT (HH : FVec Ideal Cert.ReferenceIdeal4.S16x2048x1024 .f32) (w : FVec Ideal Cert.ReferenceIdeal4.S1024x3088 .f32) (b : Fin 16) (s : Fin 2048) (l : Fin 3088) (h : Fin 1024 → EReal) (v : Fin 1024 → EReal)
    (hh : ∀ k, h k = HH (ix3 b s k)) (hv : ∀ k, v k = w (ix2 k l)) : ∑ k : Fin 1024, v k * h k = refP HH w (ix3 b s l) :=
  (Finset.sum_congr rfl fun k _ => mul_comm _ _).trans (proj HH w b s l h v hh hv)

theorem coreQ (y : FVec Ideal Cert.ReferenceIdeal4.S16x2048x3088 .f32) (t : Fin cfg0.N) (r : Fin 512) (l : Fin 512) (H : FVec Ideal S512x1024 .bf16) (W : FVec Ideal S1024x512 .bf16)
    (hy : ∑ k : Fin 1024, H (ix2 r k) * W (ix2 k l) = y (ix3 (rB t r) (rS t r) ⟨0 + l.val, by omega⟩)) (hb : t.val * 512 + r.val < 32768) :
    k0_pay3 (F := Ideal) H W (ix2 r l) = refQ y (ix2 ⟨t.val * 512 + r.val, hb⟩ l) := by
  have h : refQ y (ix2 ⟨t.val * 512 + r.val, hb⟩ l) = y (ix3 (rB t r) (rS t r) ⟨0 + l.val, by omega⟩) := by
    pointwise [refQ]
  rw [h, ← hy]
  pointwise [k0_pay3]

theorem outQ (c : Dev nD) (t : Fin cfg0.N) (r : Fin 512) (l : Fin 512) (hb : t.val * 512 + r.val < 32768) : (outsAt0 m c t).1 (ix2 r l) = refQ (refY (m ((c : Thread nD τ).loc main_arg0)) (m ((c : Thread nD τ).loc main_arg1)) (m ((c : Thread nD τ).loc main_arg2))) (ix2 ⟨t.val * 512 + r.val, hb⟩ l) := by
  have h : k0_pay3 (F := Ideal) (k0_pay2 (iblk m c 0 t) (iblk m c 1 t)) (View.ld (iblk m c 2 t) (Rect.unit ![0, 0] ![1024, 512] inb_S1024x3072_S1024x512_0_0)) (ix2 r l) = refQ (refY (m ((c : Thread nD τ).loc main_arg0)) (m ((c : Thread nD τ).loc main_arg1)) (m ((c : Thread nD τ).loc main_arg2))) (ix2 ⟨t.val * 512 + r.val, hb⟩ l) :=
    coreQ _ t r l _ _ (proj _ _ _ _ _ _ _ (fun k => pay2 m c t r k) fun k =>
      (show (View.ld (iblk m c 2 t) (Rect.unit ![0, 0] ![1024, 512] inb_S1024x3072_S1024x512_0_0)) (ix2 k l) = iblk m c 2 t (ix2 k ⟨0 + l.val, by omega⟩) by pointwise).trans (blk2 m c t k ⟨0 + l.val, by omega⟩)) hb
  generalize refQ _ = RR at h ⊢
  unfold outsAt0
  frame_out
  exact h

theorem coreK (y : FVec Ideal Cert.ReferenceIdeal4.S16x2048x3088 .f32) (t : Fin cfg0.N) (r : Fin 512) (l : Fin 512) (H : FVec Ideal S512x1024 .bf16) (W : FVec Ideal S1024x512 .bf16)
    (hy : ∑ k : Fin 1024, H (ix2 r k) * W (ix2 k l) = y (ix3 (rB t r) (rS t r) ⟨512 + l.val, by omega⟩)) (hb : t.val * 512 + r.val < 32768) :
    k0_pay4 (F := Ideal) H W (ix2 r l) = refK y (ix2 ⟨t.val * 512 + r.val, hb⟩ l) := by
  have h : refK y (ix2 ⟨t.val * 512 + r.val, hb⟩ l) = y (ix3 (rB t r) (rS t r) ⟨512 + l.val, by omega⟩) * Ideal.ofBits FTy.f32 1040187392#32 := by
    pointwise [refK]
  rw [h, ← hy]
  pointwise [k0_pay4]

theorem outK (c : Dev nD) (t : Fin cfg0.N) (r : Fin 512) (l : Fin 512) (hb : t.val * 512 + r.val < 32768) : (outsAt0 m c t).2.1 (ix2 r l) = refK (refY (m ((c : Thread nD τ).loc main_arg0)) (m ((c : Thread nD τ).loc main_arg1)) (m ((c : Thread nD τ).loc main_arg2))) (ix2 ⟨t.val * 512 + r.val, hb⟩ l) := by
  have h : k0_pay4 (F := Ideal) (k0_pay2 (iblk m c 0 t) (iblk m c 1 t)) (View.ld (iblk m c 2 t) (Rect.unit ![0, 512] ![1024, 512] inb_S1024x3072_S1024x512_0_512)) (ix2 r l) = refK (refY (m ((c : Thread nD τ).loc main_arg0)) (m ((c : Thread nD τ).loc main_arg1)) (m ((c : Thread nD τ).loc main_arg2))) (ix2 ⟨t.val * 512 + r.val, hb⟩ l) :=
    coreK _ t r l _ _ (proj _ _ _ _ _ _ _ (fun k => pay2 m c t r k) fun k =>
      (show (View.ld (iblk m c 2 t) (Rect.unit ![0, 512] ![1024, 512] inb_S1024x3072_S1024x512_0_512)) (ix2 k l) = iblk m c 2 t (ix2 k ⟨512 + l.val, by omega⟩) by pointwise).trans (blk2 m c t k ⟨512 + l.val, by omega⟩)) hb
  generalize refK _ = RR at h ⊢
  unfold outsAt0
  frame_out
  exact h

theorem coreV (y : FVec Ideal Cert.ReferenceIdeal4.S16x2048x3088 .f32) (t : Fin cfg0.N) (r : Fin 512) (l : Fin 1024) (H : FVec Ideal S512x1024 .bf16) (W : FVec Ideal S1024x1024 .bf16)
    (hy : ∑ k : Fin 1024, H (ix2 r k) * W (ix2 k l) = y (ix3 (rB t r) (rS t r) ⟨1024 + l.val, by omega⟩)) (hb : t.val * 512 + r.val < 32768) :
    k0_pay5 (F := Ideal) H W (ix2 r l) = refV y (ix2 ⟨t.val * 512 + r.val, hb⟩ l) := by
  have h : refV y (ix2 ⟨t.val * 512 + r.val, hb⟩ l) = y (ix3 (rB t r) (rS t r) ⟨1024 + l.val, by omega⟩) := by
    pointwise [refV]
  rw [h, ← hy]
  pointwise [k0_pay5]

theorem outV (c : Dev nD) (t : Fin cfg0.N) (r : Fin 512) (l : Fin 1024) (hb : t.val * 512 + r.val < 32768) : (outsAt0 m c t).2.2.1 (ix2 r l) = refV (refY (m ((c : Thread nD τ).loc main_arg0)) (m ((c : Thread nD τ).loc main_arg1)) (m ((c : Thread nD τ).loc main_arg2))) (ix2 ⟨t.val * 512 + r.val, hb⟩ l) := by
  have h : k0_pay5 (F := Ideal) (k0_pay2 (iblk m c 0 t) (iblk m c 1 t)) (View.ld (iblk m c 2 t) (Rect.unit ![0, 1024] ![1024, 1024] inb_S1024x3072_S1024x1024_0_1024)) (ix2 r l) = refV (refY (m ((c : Thread nD τ).loc main_arg0)) (m ((c : Thread nD τ).loc main_arg1)) (m ((c : Thread nD τ).loc main_arg2))) (ix2 ⟨t.val * 512 + r.val, hb⟩ l) :=
    coreV _ t r l _ _ (proj _ _ _ _ _ _ _ (fun k => pay2 m c t r k) fun k =>
      (show (View.ld (iblk m c 2 t) (Rect.unit ![0, 1024] ![1024, 1024] inb_S1024x3072_S1024x1024_0_1024)) (ix2 k l) = iblk m c 2 t (ix2 k ⟨1024 + l.val, by omega⟩) by pointwise).trans (blk2 m c t k ⟨1024 + l.val, by omega⟩)) hb
  generalize refV _ = RR at h ⊢
  unfold outsAt0
  frame_out
  exact h

theorem coreO (y : FVec Ideal Cert.ReferenceIdeal4.S16x2048x3088 .f32) (t : Fin cfg0.N) (r : Fin 512) (l : Fin 1024) (H : FVec Ideal S512x1024 .bf16) (W : FVec Ideal S1024x1024 .bf16)
    (hy : ∑ k : Fin 1024, H (ix2 r k) * W (ix2 k l) = y (ix3 (rB t r) (rS t r) ⟨2048 + l.val, by omega⟩)) (hb : t.val * 512 + r.val < 32768) :
    k0_pay6 (F := Ideal) H W (ix2 r l) = refO y (ix2 ⟨t.val * 512 + r.val, hb⟩ l) := by
  have h : refO y (ix2 ⟨t.val * 512 + r.val, hb⟩ l) = y (ix3 (rB t r) (rS t r) ⟨2048 + l.val, by omega⟩) := by
    pointwise [refO]
  rw [h, ← hy]
  pointwise [k0_pay6]

theorem outO (c : Dev nD) (t : Fin cfg0.N) (r : Fin 512) (l : Fin 1024) (hb : t.val * 512 + r.val < 32768) : (outsAt0 m c t).2.2.2.1 (ix2 r l) = refO (refY (m ((c : Thread nD τ).loc main_arg0)) (m ((c : Thread nD τ).loc main_arg1)) (m ((c : Thread nD τ).loc main_arg2))) (ix2 ⟨t.val * 512 + r.val, hb⟩ l) := by
  have h : k0_pay6 (F := Ideal) (k0_pay2 (iblk m c 0 t) (iblk m c 1 t)) (View.ld (iblk m c 2 t) (Rect.unit ![0, 2048] ![1024, 1024] inb_S1024x3072_S1024x1024_0_2048)) (ix2 r l) = refO (refY (m ((c : Thread nD τ).loc main_arg0)) (m ((c : Thread nD τ).loc main_arg1)) (m ((c : Thread nD τ).loc main_arg2))) (ix2 ⟨t.val * 512 + r.val, hb⟩ l) :=
    coreO _ t r l _ _ (proj _ _ _ _ _ _ _ (fun k => pay2 m c t r k) fun k =>
      (show (View.ld (iblk m c 2 t) (Rect.unit ![0, 2048] ![1024, 1024] inb_S1024x3072_S1024x1024_0_2048)) (ix2 k l) = iblk m c 2 t (ix2 k ⟨2048 + l.val, by omega⟩) by pointwise).trans (blk2 m c t k ⟨2048 + l.val, by omega⟩)) hb
  generalize refO _ = RR at h ⊢
  unfold outsAt0
  frame_out
  exact h

theorem outA (c : Dev nD) (t : Fin cfg0.N) (r : Fin 16) (l : Fin 512) (hb : t.val * 512 + l.val < 32768) :
    (outsAt0 m c t).2.2.2.2 (ix2 r l) = refA (refG (refY (m ((c : Thread nD τ).loc main_arg0)) (m ((c : Thread nD τ).loc main_arg1)) (m ((c : Thread nD τ).loc main_arg2))) (m ((c : Thread nD τ).loc main_arg3))) (refL (refG (refY (m ((c : Thread nD τ).loc main_arg0)) (m ((c : Thread nD τ).loc main_arg1)) (m ((c : Thread nD τ).loc main_arg2))) (m ((c : Thread nD τ).loc main_arg3)))) (ix2 r ⟨t.val * 512 + l.val, hb⟩) := by
  have h : k0_pay1 (F := Ideal) (k0_pay7 (iblk m c 3 t) (k0_pay2 (iblk m c 0 t) (iblk m c 1 t)) (iblk m c 4 t)) 4#32 k0_pay8 0#32 (ix2 r l) = refA (refG (refY (m ((c : Thread nD τ).loc main_arg0)) (m ((c : Thread nD τ).loc main_arg1)) (m ((c : Thread nD τ).loc main_arg2))) (m ((c : Thread nD τ).loc main_arg3))) (refL (refG (refY (m ((c : Thread nD τ).loc main_arg0)) (m ((c : Thread nD τ).loc main_arg1)) (m ((c : Thread nD τ).loc main_arg2))) (m ((c : Thread nD τ).loc main_arg3)))) (ix2 r ⟨t.val * 512 + l.val, hb⟩) :=
    coreA _ _ t r l _ _ _ (projT _ _ _ _ _ _ _ (fun k => pay2 m c t l k) fun k => blk3 m c t r k) (blk4 m c t r) hb
  generalize refA _ _ = RR at h ⊢
  unfold outsAt0
  frame_out
  exact h

theorem finalQ (c : Dev nD) : (dats m 0 c).arrAt 5 (cfgs 0).N = refQ (refY (m ((c : Thread nD τ).loc main_arg0)) (m ((c : Thread nD τ).loc main_arg1)) (m ((c : Thread nD τ).loc main_arg2))) := by
  generalize hR : refQ (refY (m ((c : Thread nD τ).loc main_arg0)) (m ((c : Thread nD τ).loc main_arg1)) (m ((c : Thread nD τ).loc main_arg2))) = RR
  refine (dats m 0 c).arrAt_eq_of_covers 5 _ (by decide +kernel) fun t _ y => ?_
  blk_simp
  rw [after0_5]
  idx_vars y
  have hb : t.val * 512 + y0.val < 32768 := by have h : t.val < 64 := t.isLt; omega
  rw [outQ m c t y0 y1 hb, hR]
  blk_ext [idx t]

theorem finalK (c : Dev nD) : (dats m 0 c).arrAt 6 (cfgs 0).N = refK (refY (m ((c : Thread nD τ).loc main_arg0)) (m ((c : Thread nD τ).loc main_arg1)) (m ((c : Thread nD τ).loc main_arg2))) := by
  generalize hR : refK (refY (m ((c : Thread nD τ).loc main_arg0)) (m ((c : Thread nD τ).loc main_arg1)) (m ((c : Thread nD τ).loc main_arg2))) = RR
  refine (dats m 0 c).arrAt_eq_of_covers 6 _ (by decide +kernel) fun t _ y => ?_
  blk_simp
  rw [after0_6]
  idx_vars y
  have hb : t.val * 512 + y0.val < 32768 := by have h : t.val < 64 := t.isLt; omega
  rw [outK m c t y0 y1 hb, hR]
  blk_ext [idx t]

theorem finalV (c : Dev nD) : (dats m 0 c).arrAt 7 (cfgs 0).N = refV (refY (m ((c : Thread nD τ).loc main_arg0)) (m ((c : Thread nD τ).loc main_arg1)) (m ((c : Thread nD τ).loc main_arg2))) := by
  generalize hR : refV (refY (m ((c : Thread nD τ).loc main_arg0)) (m ((c : Thread nD τ).loc main_arg1)) (m ((c : Thread nD τ).loc main_arg2))) = RR
  refine (dats m 0 c).arrAt_eq_of_covers 7 _ (by decide +kernel) fun t _ y => ?_
  blk_simp
  rw [after0_7]
  idx_vars y
  have hb : t.val * 512 + y0.val < 32768 := by have h : t.val < 64 := t.isLt; omega
  rw [outV m c t y0 y1 hb, hR]
  blk_ext [idx t]

theorem finalO (c : Dev nD) : (dats m 0 c).arrAt 8 (cfgs 0).N = refO (refY (m ((c : Thread nD τ).loc main_arg0)) (m ((c : Thread nD τ).loc main_arg1)) (m ((c : Thread nD τ).loc main_arg2))) := by
  generalize hR : refO (refY (m ((c : Thread nD τ).loc main_arg0)) (m ((c : Thread nD τ).loc main_arg1)) (m ((c : Thread nD τ).loc main_arg2))) = RR
  refine (dats m 0 c).arrAt_eq_of_covers 8 _ (by decide +kernel) fun t _ y => ?_
  blk_simp
  rw [after0_8]
  idx_vars y
  have hb : t.val * 512 + y0.val < 32768 := by have h : t.val < 64 := t.isLt; omega
  rw [outO m c t y0 y1 hb, hR]
  blk_ext [idx t]

theorem finalA (c : Dev nD) : (dats m 0 c).arrAt 9 (cfgs 0).N = refA (refG (refY (m ((c : Thread nD τ).loc main_arg0)) (m ((c : Thread nD τ).loc main_arg1)) (m ((c : Thread nD τ).loc main_arg2))) (m ((c : Thread nD τ).loc main_arg3))) (refL (refG (refY (m ((c : Thread nD τ).loc main_arg0)) (m ((c : Thread nD τ).loc main_arg1)) (m ((c : Thread nD τ).loc main_arg2))) (m ((c : Thread nD τ).loc main_arg3)))) := by
  generalize hR : refA (refG (refY (m ((c : Thread nD τ).loc main_arg0)) (m ((c : Thread nD τ).loc main_arg1)) (m ((c : Thread nD τ).loc main_arg2))) (m ((c : Thread nD τ).loc main_arg3))) (refL (refG (refY (m ((c : Thread nD τ).loc main_arg0)) (m ((c : Thread nD τ).loc main_arg1)) (m ((c : Thread nD τ).loc main_arg2))) (m ((c : Thread nD τ).loc main_arg3)))) = RR
  refine (dats m 0 c).arrAt_eq_of_covers 9 _ (by decide +kernel) fun t _ y => ?_
  blk_simp
  rw [after0_9]
  idx_vars y
  have hb : t.val * 512 + y1.val < 32768 := by have h : t.val < 64 := t.isLt; omega
  rw [outA m c t y0 y1 hb, hR]
  blk_ext [idx t]

theorem res_a (m' : (ℓ : Loc Cert.ReferenceIdeal4.nD Cert.ReferenceIdeal4.τ Cert.ReferenceIdeal4.sig) → Buf (Elt Ideal) ℓ) (c : Dev Cert.ReferenceIdeal4.nD) : Cert.ReferenceIdeal4.Value.res_main_v43 m' c = refA (refG (refY (m' ((c.tc : Thread Cert.ReferenceIdeal4.nD Cert.ReferenceIdeal4.τ).loc Cert.ReferenceIdeal4.main_arg0)) (m' ((c.tc : Thread Cert.ReferenceIdeal4.nD Cert.ReferenceIdeal4.τ).loc Cert.ReferenceIdeal4.main_arg1)) (m' ((c.tc : Thread Cert.ReferenceIdeal4.nD Cert.ReferenceIdeal4.τ).loc Cert.ReferenceIdeal4.main_arg2))) (m' ((c.tc : Thread Cert.ReferenceIdeal4.nD Cert.ReferenceIdeal4.τ).loc Cert.ReferenceIdeal4.main_arg3))) (refL (refG (refY (m' ((c.tc : Thread Cert.ReferenceIdeal4.nD Cert.ReferenceIdeal4.τ).loc Cert.ReferenceIdeal4.main_arg0)) (m' ((c.tc : Thread Cert.ReferenceIdeal4.nD Cert.ReferenceIdeal4.τ).loc Cert.ReferenceIdeal4.main_arg1)) (m' ((c.tc : Thread Cert.ReferenceIdeal4.nD Cert.ReferenceIdeal4.τ).loc Cert.ReferenceIdeal4.main_arg2))) (m' ((c.tc : Thread Cert.ReferenceIdeal4.nD Cert.ReferenceIdeal4.τ).loc Cert.ReferenceIdeal4.main_arg3)))) := rfl

end Cert.KernelIdeal4.MlProj
-- ==== Proof.FfnS.Value.lean ====
/- The feed-forward block of the sample batch: what the run leaves in its result array is the reference's term of the arguments. -/
module

public import proofs.«01_k».proof.Proof.Gen.KernelIdeal6.Value
public import proofs.«01_k».proof.Proof.Gen.ReferenceIdeal6.Run
public import Idealize.ShloMosaic.Lib.Pipeline.ValueKit

@[expose] public section

set_option maxRecDepth 16384
set_option maxHeartbeats 400000

noncomputable section

namespace Cert.KernelIdeal6.FfnS

open Cert.KernelIdeal6 Cert.KernelIdeal6.Gen
open Idealize.ShloMosaic Idealize.ShloMosaic.TcCoe Idealize.SL.Sem
open Idealize.ShloMosaic.Pipeline (Dat)

variable (m : (ℓ : Loc nD τ sig) → Buf (Elt Ideal) ℓ)

theorem sum_eleven (g : Fin 11 → EReal) : ∑ a, g a = g 0 + g 1 + g 2 + g 3 + g 4 + g 5 + g 6 + g 7 + g 8 + g 9 + g 10 := by
  rw [Fin.sum_univ_castSucc, Fin.sum_univ_castSucc, Fin.sum_univ_castSucc, Fin.sum_univ_eight]
  rfl

/-- A sum over the hidden units is the sum over the eleven chunks of 256. -/
theorem sum_chunks (f : Fin 2816 → EReal) :
    ∑ j : Fin 2816, f j = (∑ j : Fin 256, f ⟨j.val, by omega⟩) + (∑ j : Fin 256, f ⟨256 + j.val, by omega⟩) + (∑ j : Fin 256, f ⟨512 + j.val, by omega⟩) + (∑ j : Fin 256, f ⟨768 + j.val, by omega⟩) + (∑ j : Fin 256, f ⟨1024 + j.val, by omega⟩) + (∑ j : Fin 256, f ⟨1280 + j.val, by omega⟩) + (∑ j : Fin 256, f ⟨1536 + j.val, by omega⟩) + (∑ j : Fin 256, f ⟨1792 + j.val, by omega⟩) + (∑ j : Fin 256, f ⟨2048 + j.val, by omega⟩) + (∑ j : Fin 256, f ⟨2304 + j.val, by omega⟩) + (∑ j : Fin 256, f ⟨2560 + j.val, by omega⟩) := by
  have h : ∑ j : Fin 2816, f j = ∑ a : Fin 11, ∑ s : Fin 256, f ⟨256 * a.val + s.val, by omega⟩ := by
    rw [← (finProdFinEquiv (m := 11) (n := 256)).sum_comp f, Fintype.sum_prod_type]
    refine Finset.sum_congr rfl fun a _ => Finset.sum_congr rfl fun s _ => congrArg f (Fin.ext ?_)
    show s.val + 256 * a.val = 256 * a.val + s.val
    omega
  rw [h, sum_eleven]
  simp only [Fin.isValue, Fin.val_zero, Nat.mul_zero, Nat.zero_add]
  rfl

/-- One hidden unit's share of an element of the result: the gate, its sigmoid and the up projection times the row of the
down projection. -/
def unit (h : FVec Ideal S128x1024 .bf16) (w : FVec Ideal S1024x5632 .bf16) (d : FVec Ideal S2816x1024 .bf16)
    (r : Fin 128) (l : Fin 1024) (j : Fin 2816) : EReal :=
  ((∑ k : Fin 1024, h (ix2 r k) * w (ix2 k ⟨j.val, by omega⟩)) * Ideal.logistic (∑ k : Fin 1024, h (ix2 r k) * w (ix2 k ⟨j.val, by omega⟩))
    * (∑ k : Fin 1024, h (ix2 r k) * w (ix2 k ⟨2816 + j.val, by omega⟩))) * d (ix2 j l)

theorem outs (c : Dev nD) (t : Fin cfg0.N) (r : Fin 128) (l : Fin 1024) :
    outsAt0 m c t (ix2 r l) = k0_pay2 (iblk m c 2 t) (iblk m c 0 t) (iblk m c 1 t) (ix2 r l)
      + ∑ j : Fin 2816, unit (k0_pay3 (iblk m c 2 t) (iblk m c 0 t) (iblk m c 1 t) (iblk m c 3 t)) (iblk m c 4 t) (iblk m c 5 t) r l j := by
  unfold outsAt0
  frame_out
  generalize k0_pay3 (F := Ideal) _ _ _ _ = H
  generalize k0_pay2 (F := Ideal) _ _ _ = A
  rw [sum_chunks]
  pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]
  simp only [← add_assoc, unit, Nat.reduceAdd]

abbrev refX (a : FVec Ideal S32x4x1024 .bf16) (wo : FVec Ideal S1024x1024 .f32) (x : FVec Ideal S32x4x1024 .f32) : FVec Ideal S32x4x1024 .f32 :=
  addf x (Host.dotGeneral Cert.ReferenceIdeal6.dot_S32x4x1024_S1024x1024_S32x4x1024_2_0_01_1_n_n none a wo)

abbrev refH (x : FVec Ideal S32x4x1024 .f32) (g : FVec Ideal S1024 .f32) : FVec Ideal S32x4x1024 .f32 :=
  mulf (mulf x (broadcastInDim Cert.ReferenceIdeal6.S32x4x1024 ![0, 1, 2] Cert.ReferenceIdeal6.Gen.bcast_S32x4x1_S32x4x1024_0_1_2 (Host.rsqrt (addf (Host.divf (broadcastInDim Cert.ReferenceIdeal6.S32x4x1 ![0, 1] Cert.ReferenceIdeal6.Gen.bcast_S32x4_S32x4x1_0_1 (Host.reduceAdd (mulf x x) (constant Cert.ReferenceIdeal6.S_ .f32 0x00000000#32) Cert.ReferenceIdeal6.Gen.reducesTo_S32x4x1024_S32x4_d2 Cert.ReferenceIdeal6.Gen.h_S_)) (broadcastInDim Cert.ReferenceIdeal6.S32x4x1 ![] Cert.ReferenceIdeal6.Gen.bcast_S_S32x4x1 (constant Cert.ReferenceIdeal6.S_ .f32 0x44800000#32))) (broadcastInDim Cert.ReferenceIdeal6.S32x4x1 ![] Cert.ReferenceIdeal6.Gen.bcast_S_S32x4x1 (constant Cert.ReferenceIdeal6.S_ .f32 0x358637BD#32)))))) (broadcastInDim Cert.ReferenceIdeal6.S32x4x1024 ![0, 1, 2] Cert.ReferenceIdeal6.Gen.bcast_S1x1x1024_S32x4x1024_0_1_2 (broadcastInDim Cert.ReferenceIdeal6.S1x1x1024 ![2] Cert.ReferenceIdeal6.Gen.bcast_S1024_S1x1x1024_2 g))

abbrev refF (h : FVec Ideal S32x4x1024 .f32) (w : FVec Ideal S1024x5632 .f32) (d : FVec Ideal S2816x1024 .f32) : FVec Ideal S32x4x1024 .f32 :=
  Host.dotGeneral Cert.ReferenceIdeal6.dot_S32x4x2816_S2816x1024_S32x4x1024_2_0_01_1_n_n none (mulf (mulf (extractStridedSlice Cert.ReferenceIdeal6.S32x4x2816 ![0, 0, 0] (Host.dotGeneral Cert.ReferenceIdeal6.dot_S32x4x1024_S1024x5632_S32x4x5632_2_0_01_1_n_n none h w) Cert.ReferenceIdeal6.Gen.slices_S32x4x5632_S32x4x2816_0_0_0) (Host.divf (broadcastInDim Cert.ReferenceIdeal6.S32x4x2816 ![] Cert.ReferenceIdeal6.Gen.bcast_S_S32x4x2816 (constant Cert.ReferenceIdeal6.S_ .f32 0x3F800000#32)) (addf (broadcastInDim Cert.ReferenceIdeal6.S32x4x2816 ![] Cert.ReferenceIdeal6.Gen.bcast_S_S32x4x2816 (constant Cert.ReferenceIdeal6.S_ .f32 0x3F800000#32)) (Host.exp (Host.negf (extractStridedSlice Cert.ReferenceIdeal6.S32x4x2816 ![0, 0, 0] (Host.dotGeneral Cert.ReferenceIdeal6.dot_S32x4x1024_S1024x5632_S32x4x5632_2_0_01_1_n_n none h w) Cert.ReferenceIdeal6.Gen.slices_S32x4x5632_S32x4x2816_0_0_0)))))) (extractStridedSlice Cert.ReferenceIdeal6.S32x4x2816 ![0, 0, 2816] (Host.dotGeneral Cert.ReferenceIdeal6.dot_S32x4x1024_S1024x5632_S32x4x5632_2_0_01_1_n_n none h w) Cert.ReferenceIdeal6.Gen.slices_S32x4x5632_S32x4x2816_0_0_2816)) d

/-- The reference's result over the argument arrays. -/
abbrev REF (a : FVec Ideal S32x4x1024 .bf16) (wo : FVec Ideal S1024x1024 .f32) (x : FVec Ideal S32x4x1024 .f32)
    (g : FVec Ideal S1024 .f32) (w : FVec Ideal S1024x5632 .f32) (d : FVec Ideal S2816x1024 .f32) : FVec Ideal S128x1024 .f32 :=
  shapeCast Cert.ReferenceIdeal6.S128x1024 (addf (refX a wo x) (refF (refH (refX a wo x) g) w d)) Cert.ReferenceIdeal6.Gen.shapeCasts_S32x4x1024_S128x1024

theorem res_eq (m' : (ℓ : Loc Cert.ReferenceIdeal6.nD Cert.ReferenceIdeal6.τ Cert.ReferenceIdeal6.sig) → Buf (Elt Ideal) ℓ) (c : Dev Cert.ReferenceIdeal6.nD) :
    Cert.ReferenceIdeal6.Value.res_main_v22 m' c = REF (m' ((c.tc : Thread Cert.ReferenceIdeal6.nD Cert.ReferenceIdeal6.τ).loc Cert.ReferenceIdeal6.main_arg0)) (m' ((c.tc : Thread Cert.ReferenceIdeal6.nD Cert.ReferenceIdeal6.τ).loc Cert.ReferenceIdeal6.main_arg1))
      (m' ((c.tc : Thread Cert.ReferenceIdeal6.nD Cert.ReferenceIdeal6.τ).loc Cert.ReferenceIdeal6.main_arg2)) (m' ((c.tc : Thread Cert.ReferenceIdeal6.nD Cert.ReferenceIdeal6.τ).loc Cert.ReferenceIdeal6.main_arg3))
      (m' ((c.tc : Thread Cert.ReferenceIdeal6.nD Cert.ReferenceIdeal6.τ).loc Cert.ReferenceIdeal6.main_arg4)) (m' ((c.tc : Thread Cert.ReferenceIdeal6.nD Cert.ReferenceIdeal6.τ).loc Cert.ReferenceIdeal6.main_arg5)) := rfl

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![t.val, 0] :=
  (by decide +kernel : ∀ t : Fin grid0.N, _)

/-- The row of the first two axes that row `r` of block `t` is. -/
abbrev rB (t : Fin cfg0.N) (r : Fin 128) : Fin 32 := ⟨r.val / 4, by omega⟩
abbrev rS (t : Fin cfg0.N) (r : Fin 128) : Fin 4 := ⟨r.val % 4, by omega⟩

theorem blk0 (c : Dev nD) (t : Fin cfg0.N) (r : Fin 128) (k : Fin 1024) :
    iblk m c 0 t (ix2 r k) = m ((c : Thread nD τ).loc main_arg0) (ix3 (rB t r) (rS t r) k) := by
  blk_point [iblk, V, idx t]
theorem blk1 (c : Dev nD) (t : Fin cfg0.N) (r : Fin 1024) (k : Fin 1024) :
    iblk m c 1 t (ix2 r k) = m ((c : Thread nD τ).loc main_arg1) (ix2 r k) := by
  blk_point [iblk, V, idx t]
theorem blk2 (c : Dev nD) (t : Fin cfg0.N) (r : Fin 128) (k : Fin 1024) :
    iblk m c 2 t (ix2 r k) = m ((c : Thread nD τ).loc main_arg2) (ix3 (rB t r) (rS t r) k) := by
  blk_point [iblk, V, idx t]
theorem blk3 (c : Dev nD) (t : Fin cfg0.N) (k : Fin 1024) :
    iblk m c 3 t (ix2 0 k) = m ((c : Thread nD τ).loc main_arg3) (ix1 k) := by
  blk_point [iblk, V, idx t]
theorem blk4 (c : Dev nD) (t : Fin cfg0.N) (r : Fin 1024) (k : Fin 5632) :
    iblk m c 4 t (ix2 r k) = m ((c : Thread nD τ).loc main_arg4) (ix2 r k) := by
  blk_point [iblk, V, idx t]
theorem blk5 (c : Dev nD) (t : Fin cfg0.N) (r : Fin 2816) (k : Fin 1024) :
    iblk m c 5 t (ix2 r k) = m ((c : Thread nD τ).loc main_arg5) (ix2 r k) := by
  blk_point [iblk, V, idx t]

theorem pay2 (c : Dev nD) (t : Fin cfg0.N) (r : Fin 128) (k : Fin 1024) :
    k0_pay2 (iblk m c 2 t) (iblk m c 0 t) (iblk m c 1 t) (ix2 r k) = refX (m ((c : Thread nD τ).loc main_arg0)) (m ((c : Thread nD τ).loc main_arg1)) (m ((c : Thread nD τ).loc main_arg2)) (ix3 (rB t r) (rS t r) k) := by
  pointwise [k0_pay2, refX]
  simp only [blk0, blk1, blk2]

theorem pay3 (c : Dev nD) (t : Fin cfg0.N) (r : Fin 128) (k : Fin 1024) :
    k0_pay3 (iblk m c 2 t) (iblk m c 0 t) (iblk m c 1 t) (iblk m c 3 t) (ix2 r k)
      = refH (refX (m ((c : Thread nD τ).loc main_arg0)) (m ((c : Thread nD τ).loc main_arg1)) (m ((c : Thread nD τ).loc main_arg2))) (m ((c : Thread nD τ).loc main_arg3)) (ix3 (rB t r) (rS t r) k) := by
  generalize hX : refX (m ((c : Thread nD τ).loc main_arg0)) (m ((c : Thread nD τ).loc main_arg1)) (m ((c : Thread nD τ).loc main_arg2)) = X
  have h2 : ∀ k, k0_pay2 (iblk m c 2 t) (iblk m c 0 t) (iblk m c 1 t) (ix2 r k) = X (ix3 (rB t r) (rS t r) k) := fun k => by
    rw [pay2, hX]
  pointwise [k0_pay3, refH]
  simp only [h2, blk3]

theorem ref_apply (X H : FVec Ideal S32x4x1024 .f32) (w : FVec Ideal S1024x5632 .f32) (d : FVec Ideal S2816x1024 .f32)
    (t : Fin cfg0.N) (r : Fin 128) (l : Fin 1024) (h : t.val * 128 + r.val < 128) :
    (shapeCast Cert.ReferenceIdeal6.S128x1024 (addf X (refF H w d)) Cert.ReferenceIdeal6.Gen.shapeCasts_S32x4x1024_S128x1024 : FVec Ideal S128x1024 .f32) (ix2 ⟨t.val * 128 + r.val, h⟩ l)
      = X (ix3 (rB t r) (rS t r) l)
      + ∑ j : Fin 2816, ((∑ k : Fin 1024, H (ix3 (rB t r) (rS t r) k) * w (ix2 k ⟨j.val, by omega⟩))
          * Ideal.logistic (∑ k : Fin 1024, H (ix3 (rB t r) (rS t r) k) * w (ix2 k ⟨j.val, by omega⟩))
        * (∑ k : Fin 1024, H (ix3 (rB t r) (rS t r) k) * w (ix2 k ⟨2816 + j.val, by omega⟩))) * d (ix2 j l) := by
  pointwise [refF]
  simp only [Ideal.logistic]

theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  rw [outs, pay2]
  simp only [unit, pay3, blk4, blk5]
  have hb : t.val * 128 + y0.val < 128 := by have h : t.val < 1 := t.isLt; omega
  have e : ((View.whole main_v6).slice (win0_6.rect t)).emb (ix2 y0 y1) = (ix2 ⟨t.val * 128 + y0.val, hb⟩ y1 : S128x1024.Idx) := by
    blk_ext [idx t]
  rw [e]
  exact (ref_apply _ _ _ _ t y0 y1 hb).symm

end Cert.KernelIdeal6.FfnS
-- ==== Proof.QkvS.Value.lean ====
/- The projections to queries, keys and values on the sample batch: what the run leaves in the three result arrays is the reference's terms of the arguments. -/
module

public import proofs.«01_k».proof.Proof.Gen.KernelIdeal5.Value
public import proofs.«01_k».proof.Proof.Gen.ReferenceIdeal5.Run
public import Idealize.ShloMosaic.Lib.Pipeline.ValueKit

@[expose] public section

set_option maxRecDepth 16384
set_option maxHeartbeats 400000

noncomputable section

namespace Cert.KernelIdeal5.QkvS

open Cert.KernelIdeal5 Cert.KernelIdeal5.Gen
open Idealize.ShloMosaic Idealize.ShloMosaic.TcCoe Idealize.SL.Sem
open Idealize.ShloMosaic.Pipeline (Dat)

variable (m : (ℓ : Loc nD τ sig) → Buf (Elt Ideal) ℓ)

abbrev refH (a0 : FVec Ideal Cert.ReferenceIdeal5.S32x4x1024 .f32) (a1 : FVec Ideal Cert.ReferenceIdeal5.S1024 .f32) : FVec Ideal Cert.ReferenceIdeal5.S32x4x1024 .f32 :=
  (mulf (mulf a0 (broadcastInDim Cert.ReferenceIdeal5.S32x4x1024 ![0, 1, 2] Cert.ReferenceIdeal5.Gen.bcast_S32x4x1_S32x4x1024_0_1_2 (Host.rsqrt (addf (Host.divf (broadcastInDim Cert.ReferenceIdeal5.S32x4x1 ![0, 1] Cert.ReferenceIdeal5.Gen.bcast_S32x4_S32x4x1_0_1 (Host.reduceAdd (mulf a0 a0) (constant Cert.ReferenceIdeal5.S_ .f32 0x00000000#32) Cert.ReferenceIdeal5.Gen.reducesTo_S32x4x1024_S32x4_d2 Cert.ReferenceIdeal5.Gen.h_S_)) (broadcastInDim Cert.ReferenceIdeal5.S32x4x1 ![] Cert.ReferenceIdeal5.Gen.bcast_S_S32x4x1 (constant Cert.ReferenceIdeal5.S_ .f32 0x44800000#32))) (broadcastInDim Cert.ReferenceIdeal5.S32x4x1 ![] Cert.ReferenceIdeal5.Gen.bcast_S_S32x4x1 (constant Cert.ReferenceIdeal5.S_ .f32 0x358637BD#32)))))) (broadcastInDim Cert.ReferenceIdeal5.S32x4x1024 ![0, 1, 2] Cert.ReferenceIdeal5.Gen.bcast_S1x1x1024_S32x4x1024_0_1_2 (broadcastInDim Cert.ReferenceIdeal5.S1x1x1024 ![2] Cert.ReferenceIdeal5.Gen.bcast_S1024_S1x1x1024_2 a1)))

abbrev refP (h : FVec Ideal Cert.ReferenceIdeal5.S32x4x1024 .f32) (a2 : FVec Ideal Cert.ReferenceIdeal5.S1024x3072 .f32) : FVec Ideal Cert.ReferenceIdeal5.S32x4x3072 .f32 :=
  (Host.dotGeneral Cert.ReferenceIdeal5.dot_S32x4x1024_S1024x3072_S32x4x3072_2_0_01_1_n_n none h a2)

abbrev refY (a0 : FVec Ideal Cert.ReferenceIdeal5.S32x4x1024 .f32) (a1 : FVec Ideal Cert.ReferenceIdeal5.S1024 .f32) (a2 : FVec Ideal Cert.ReferenceIdeal5.S1024x3072 .f32) : FVec Ideal Cert.ReferenceIdeal5.S32x4x3072 .f32 :=
  refP (refH a0 a1) a2

/-- The scaled queries over the projection `y`. -/
abbrev refQ (y : FVec Ideal Cert.ReferenceIdeal5.S32x4x3072 .f32) (a3 : FVec Ideal Cert.ReferenceIdeal5.S64 .f32) : FVec Ideal Cert.ReferenceIdeal5.S128x1024 .bf16 :=
  truncf .bf16 (shapeCast _ (Host.divf (mulf (mulf (mulf (shapeCast _ (extractStridedSlice Cert.ReferenceIdeal5.S32x4x1x16x64 ![0, 0, 0, 0, 0] (shapeCast _ y Cert.ReferenceIdeal5.Gen.shapeCasts_S32x4x3072_S32x4x3x16x64) Cert.ReferenceIdeal5.Gen.slices_S32x4x3x16x64_S32x4x1x16x64_0_0_0_0_0) Cert.ReferenceIdeal5.Gen.shapeCasts_S32x4x1x16x64_S32x4x16x64) (broadcastInDim Cert.ReferenceIdeal5.S32x4x16x64 ![0, 1, 2, 3] Cert.ReferenceIdeal5.Gen.bcast_S32x4x16x1_S32x4x16x64_0_1_2_3 (Host.rsqrt (addf (Host.divf (broadcastInDim Cert.ReferenceIdeal5.S32x4x16x1 ![0, 1, 2] Cert.ReferenceIdeal5.Gen.bcast_S32x4x16_S32x4x16x1_0_1_2 (Host.reduceAdd (mulf (shapeCast _ (extractStridedSlice Cert.ReferenceIdeal5.S32x4x1x16x64 ![0, 0, 0, 0, 0] (shapeCast _ y Cert.ReferenceIdeal5.Gen.shapeCasts_S32x4x3072_S32x4x3x16x64) Cert.ReferenceIdeal5.Gen.slices_S32x4x3x16x64_S32x4x1x16x64_0_0_0_0_0) Cert.ReferenceIdeal5.Gen.shapeCasts_S32x4x1x16x64_S32x4x16x64) (shapeCast _ (extractStridedSlice Cert.ReferenceIdeal5.S32x4x1x16x64 ![0, 0, 0, 0, 0] (shapeCast _ y Cert.ReferenceIdeal5.Gen.shapeCasts_S32x4x3072_S32x4x3x16x64) Cert.ReferenceIdeal5.Gen.slices_S32x4x3x16x64_S32x4x1x16x64_0_0_0_0_0) Cert.ReferenceIdeal5.Gen.shapeCasts_S32x4x1x16x64_S32x4x16x64)) (constant Cert.ReferenceIdeal5.S_ .f32 0x00000000#32) Cert.ReferenceIdeal5.Gen.reducesTo_S32x4x16x64_S32x4x16_d3 Cert.ReferenceIdeal5.Gen.h_S_)) (broadcastInDim Cert.ReferenceIdeal5.S32x4x16x1 ![] Cert.ReferenceIdeal5.Gen.bcast_S_S32x4x16x1 (constant Cert.ReferenceIdeal5.S_ .f32 0x42800000#32))) (broadcastInDim Cert.ReferenceIdeal5.S32x4x16x1 ![] Cert.ReferenceIdeal5.Gen.bcast_S_S32x4x16x1 (constant Cert.ReferenceIdeal5.S_ .f32 0x358637BD#32)))))) (broadcastInDim Cert.ReferenceIdeal5.S32x4x16x64 ![0, 1, 2, 3] Cert.ReferenceIdeal5.Gen.bcast_S1x1x1x64_S32x4x16x64_0_1_2_3 (broadcastInDim Cert.ReferenceIdeal5.S1x1x1x64 ![3] Cert.ReferenceIdeal5.Gen.bcast_S64_S1x1x1x64_3 a3))) (broadcastInDim Cert.ReferenceIdeal5.S32x4x16x64 ![] Cert.ReferenceIdeal5.Gen.bcast_S_S32x4x16x64 (constant Cert.ReferenceIdeal5.S_ .f32 0x3E000000#32))) (broadcastInDim Cert.ReferenceIdeal5.S32x4x16x64 ![] Cert.ReferenceIdeal5.Gen.bcast_S_S32x4x16x64 (Host.log (constant Cert.ReferenceIdeal5.S_ .f32 0x40000000#32)))) Cert.ReferenceIdeal5.Gen.shapeCasts_S32x4x16x64_S128x1024) Cert.ReferenceIdeal5.Gen.bitsLt_bf16_f32

/-- The keys over the projection `y`. -/
abbrev refK (y : FVec Ideal Cert.ReferenceIdeal5.S32x4x3072 .f32) (a4 : FVec Ideal Cert.ReferenceIdeal5.S64 .f32) : FVec Ideal Cert.ReferenceIdeal5.S1x1024x128 .f32 :=
  shapeCast _ (transpose Cert.ReferenceIdeal5.S16x64x32x4 [2, 3, 0, 1] (mulf (mulf (shapeCast _ (extractStridedSlice Cert.ReferenceIdeal5.S32x4x1x16x64 ![0, 0, 1, 0, 0] (shapeCast _ y Cert.ReferenceIdeal5.Gen.shapeCasts_S32x4x3072_S32x4x3x16x64) Cert.ReferenceIdeal5.Gen.slices_S32x4x3x16x64_S32x4x1x16x64_0_0_1_0_0) Cert.ReferenceIdeal5.Gen.shapeCasts_S32x4x1x16x64_S32x4x16x64) (broadcastInDim Cert.ReferenceIdeal5.S32x4x16x64 ![0, 1, 2, 3] Cert.ReferenceIdeal5.Gen.bcast_S32x4x16x1_S32x4x16x64_0_1_2_3 (Host.rsqrt (addf (Host.divf (broadcastInDim Cert.ReferenceIdeal5.S32x4x16x1 ![0, 1, 2] Cert.ReferenceIdeal5.Gen.bcast_S32x4x16_S32x4x16x1_0_1_2 (Host.reduceAdd (mulf (shapeCast _ (extractStridedSlice Cert.ReferenceIdeal5.S32x4x1x16x64 ![0, 0, 1, 0, 0] (shapeCast _ y Cert.ReferenceIdeal5.Gen.shapeCasts_S32x4x3072_S32x4x3x16x64) Cert.ReferenceIdeal5.Gen.slices_S32x4x3x16x64_S32x4x1x16x64_0_0_1_0_0) Cert.ReferenceIdeal5.Gen.shapeCasts_S32x4x1x16x64_S32x4x16x64) (shapeCast _ (extractStridedSlice Cert.ReferenceIdeal5.S32x4x1x16x64 ![0, 0, 1, 0, 0] (shapeCast _ y Cert.ReferenceIdeal5.Gen.shapeCasts_S32x4x3072_S32x4x3x16x64) Cert.ReferenceIdeal5.Gen.slices_S32x4x3x16x64_S32x4x1x16x64_0_0_1_0_0) Cert.ReferenceIdeal5.Gen.shapeCasts_S32x4x1x16x64_S32x4x16x64)) (constant Cert.ReferenceIdeal5.S_ .f32 0x00000000#32) Cert.ReferenceIdeal5.Gen.reducesTo_S32x4x16x64_S32x4x16_d3 Cert.ReferenceIdeal5.Gen.h_S_)) (broadcastInDim Cert.ReferenceIdeal5.S32x4x16x1 ![] Cert.ReferenceIdeal5.Gen.bcast_S_S32x4x16x1 (constant Cert.ReferenceIdeal5.S_ .f32 0x42800000#32))) (broadcastInDim Cert.ReferenceIdeal5.S32x4x16x1 ![] Cert.ReferenceIdeal5.Gen.bcast_S_S32x4x16x1 (constant Cert.ReferenceIdeal5.S_ .f32 0x358637BD#32)))))) (broadcastInDim Cert.ReferenceIdeal5.S32x4x16x64 ![0, 1, 2, 3] Cert.ReferenceIdeal5.Gen.bcast_S1x1x1x64_S32x4x16x64_0_1_2_3 (broadcastInDim Cert.ReferenceIdeal5.S1x1x1x64 ![3] Cert.ReferenceIdeal5.Gen.bcast_S64_S1x1x1x64_3 a4))) Cert.ReferenceIdeal5.Gen.transposes_S32x4x16x64_S16x64x32x4_2_3_0_1) Cert.ReferenceIdeal5.Gen.shapeCasts_S16x64x32x4_S1x1024x128

/-- The values over the projection `y`. -/
abbrev refV (y : FVec Ideal Cert.ReferenceIdeal5.S32x4x3072 .f32) : FVec Ideal Cert.ReferenceIdeal5.S1x1024x128 .f32 :=
  shapeCast _ (transpose Cert.ReferenceIdeal5.S16x64x32x4 [2, 3, 0, 1] (shapeCast _ (extractStridedSlice Cert.ReferenceIdeal5.S32x4x1x16x64 ![0, 0, 2, 0, 0] (shapeCast _ y Cert.ReferenceIdeal5.Gen.shapeCasts_S32x4x3072_S32x4x3x16x64) Cert.ReferenceIdeal5.Gen.slices_S32x4x3x16x64_S32x4x1x16x64_0_0_2_0_0) Cert.ReferenceIdeal5.Gen.shapeCasts_S32x4x1x16x64_S32x4x16x64) Cert.ReferenceIdeal5.Gen.transposes_S32x4x16x64_S16x64x32x4_2_3_0_1) Cert.ReferenceIdeal5.Gen.shapeCasts_S16x64x32x4_S1x1024x128

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0, 0] ∧ win0_7.index t = ![t.val, 0]
    ∧ win0_8.index t = ![t.val, 0, 0] ∧ win0_9.index t = ![t.val, 0, 0] :=
  (by decide +kernel : ∀ t : Fin grid0.N, _)

/-- The row of the first two axes that row `r` of block `t` is. -/
abbrev rB (t : Fin cfg0.N) (r : Fin 128) : Fin 32 := ⟨r.val / 4, by omega⟩
abbrev rS (t : Fin cfg0.N) (r : Fin 128) : Fin 4 := ⟨r.val % 4, by omega⟩

theorem blk0 (c : Dev nD) (t : Fin cfg0.N) (r : Fin 128) (k : Fin 1024) :
    iblk m c 0 t (ix2 r k) = m ((c : Thread nD τ).loc main_arg0) (ix3 (rB t r) (rS t r) k) := by
  blk_point [iblk, V, idx t]
theorem blk1 (c : Dev nD) (t : Fin cfg0.N) (k : Fin 1024) :
    iblk m c 1 t (ix2 0 k) = m ((c : Thread nD τ).loc main_arg1) (ix1 k) := by
  blk_point [iblk, V, idx t]
theorem blk2 (c : Dev nD) (t : Fin cfg0.N) (r : Fin 1024) (k : Fin 1024) :
    iblk m c 2 t (ix2 r k) = m ((c : Thread nD τ).loc main_arg2) (ix2 r ⟨k.val, by omega⟩) := by
  blk_point [iblk, V, idx t]
theorem blk3 (c : Dev nD) (t : Fin cfg0.N) (r : Fin 1024) (k : Fin 1024) :
    iblk m c 3 t (ix2 r k) = m ((c : Thread nD τ).loc main_arg2) (ix2 k ⟨1024 + r.val, by omega⟩) := by
  blk_point [iblk, V, idx t]
theorem blk4 (c : Dev nD) (t : Fin cfg0.N) (r : Fin 1024) (k : Fin 1024) :
    iblk m c 4 t (ix2 r k) = m ((c : Thread nD τ).loc main_arg2) (ix2 k ⟨2048 + r.val, by omega⟩) := by
  blk_point [iblk, V, idx t]
theorem blk5 (c : Dev nD) (t : Fin cfg0.N) (k : Fin 1024) :
    iblk m c 5 t (ix2 0 k) = m ((c : Thread nD τ).loc main_arg3) (ix1 ⟨k.val % 64, by omega⟩) := by
  blk_point [iblk, V, idx t]
theorem blk6 (c : Dev nD) (t : Fin cfg0.N) (k : Fin 64) :
    iblk m c 6 t (ix3 0 k 0) = m ((c : Thread nD τ).loc main_arg4) (ix1 k) := by
  blk_point [iblk, V, idx t]

theorem pay1 (c : Dev nD) (t : Fin cfg0.N) (r : Fin 128) (k : Fin 1024) :
    k0_pay1 (iblk m c 0 t) (iblk m c 1 t) (ix2 r k)
      = refH (m ((c : Thread nD τ).loc main_arg0)) (m ((c : Thread nD τ).loc main_arg1)) (ix3 (rB t r) (rS t r) k) := by
  pointwise [k0_pay1, refH]
  simp only [blk0, blk1]

theorem half (i : Fin 256) : Scalar.select (IntOp.andi
            (IntOp.cmpi CmpIPredicate.ne
              (IntOp.subi (BitVec.setWidth 32 (IntOp.cmpi CmpIPredicate.sgt (BitVec.ofNat 32 i.val) 0#32))
                (BitVec.setWidth 32 (IntOp.cmpi CmpIPredicate.slt (BitVec.ofNat 32 i.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 i.val) 64#32) 0#32))
          (IntOp.subi (IntOp.divsi ArithUnit.vector (BitVec.ofNat 32 i.val) 64#32) 1#32)
          (IntOp.divsi ArithUnit.vector (BitVec.ofNat 32 i.val) 64#32) = BitVec.ofNat 32 (i.val / 64) := by
  revert i
  decide +kernel

theorem same (i j : Fin 256) : k0_pay4 (F := Ideal) k0_pay2 k0_pay3 1#32 (ix2 i j) = if i.val / 64 = j.val / 64 then 1 else 0 := by
  pointwise [k0_pay4, k0_pay2, k0_pay3]
  rw [half, half]
  have h : ∀ a b : Fin 4, Scalar.select (α := EReal) (IntOp.cmpi CmpIPredicate.eq (BitVec.ofNat 32 a.val) (BitVec.ofNat 32 b.val)) 1 0 = if a.val = b.val then 1 else 0 := by
    intro a b
    fin_cases a <;> fin_cases b <;> rfl
  exact h ⟨i.val / 64, by omega⟩ ⟨j.val / 64, by omega⟩

/-- A sum against the indicator of one head's 64 lanes is the sum over those lanes. -/
theorem sum_same (f : Fin 256 → EReal) (c : Fin 256) :
    ∑ j : Fin 256, f j * (if j.val / 64 = c.val / 64 then 1 else 0) = ∑ d : Fin 64, f ⟨c.val / 64 * 64 + d.val, by omega⟩ := by
  have h : ∀ g : Fin 256 → EReal, ∑ j : Fin 256, g j = ∑ a : Fin 4, ∑ s : Fin 64, g ⟨64 * a.val + s.val, by omega⟩ := fun g => by
    rw [← (finProdFinEquiv (m := 4) (n := 64)).sum_comp g, Fintype.sum_prod_type]
    refine Finset.sum_congr rfl fun a _ => Finset.sum_congr rfl fun s _ => congrArg g (Fin.ext ?_)
    show s.val + 64 * a.val = 64 * a.val + s.val
    omega
  rw [h, Finset.sum_eq_single ⟨c.val / 64, by omega⟩]
  · refine Finset.sum_congr rfl fun d _ => ?_
    rw [if_pos (by show (64 * (c.val / 64) + d.val) / 64 = _; omega), mul_one]
    exact congrArg f (Fin.ext (by show 64 * (c.val / 64) + d.val = c.val / 64 * 64 + d.val; omega))
  · intro a _ ha
    refine Finset.sum_eq_zero fun s _ => ?_
    rw [if_neg, mul_zero]
    intro e
    refine ha (Fin.ext ?_)
    have e' : (64 * a.val + s.val) / 64 = c.val / 64 := e
    show a.val = c.val / 64
    omega
  · intro h
    exact absurd (Finset.mem_univ _) h

theorem c_inv64 : Ideal.ofBits FTy.f32 1015021568#32 = (((64 : ℝ)⁻¹ : ℝ) : EReal) := by
  simp [Ideal.ofBits, Ideal.ieee, -EReal.coe_mul]; norm_num
theorem c_64 : Ideal.ofBits FTy.f32 1115684864#32 = ((64 : ℝ) : EReal) := by
  simp [Ideal.ofBits, Ideal.ieee, -EReal.coe_mul]; norm_num
theorem c_eighth : Ideal.ofBits FTy.f32 1040187392#32 = ((1 / 8 : ℝ) : EReal) := by
  simp [Ideal.ofBits, Ideal.ieee, -EReal.coe_mul]; norm_num
theorem c_2 : Ideal.ofBits FTy.f32 1073741824#32 = ((2 : ℝ) : EReal) := by
  simp [Ideal.ofBits, Ideal.ieee, -EReal.coe_mul]; norm_num

theorem div_real (x : EReal) (r : ℝ) (h : r ≠ 0) : Ideal.div x (r : EReal) = x * ((r⁻¹ : ℝ) : EReal) := by
  unfold Ideal.div
  rw [if_neg (by exact_mod_cast h), EReal.coe_inv]

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

theorem last_scale (x : EReal) : x * (((1 / 8) * (Real.log 2)⁻¹ : ℝ) : EReal) = Ideal.div (x * ((1 / 8 : ℝ) : EReal)) ((Real.log 2 : ℝ) : EReal) := by
  rw [div_real _ _ (by positivity), EReal.coe_mul, mul_assoc]

theorem core (Y : FVec Ideal Cert.ReferenceIdeal5.S32x4x3072 .f32) (g : FVec Ideal Cert.ReferenceIdeal5.S64 .f32) (t : Fin cfg0.N) (r : Fin 128) (l : Fin 1024)
    (o : ℕ) (ho : 64 ∣ o) (y : Fin 256 → EReal) (x : Fin 256) (h1 : l.val = o + x.val)
    (hy : ∀ (j : Fin 256) (h : o + j.val < 3072), y j = Y (ix3 (rB t r) (rS t r) ⟨o + j.val, h⟩)) (hb : t.val * 128 + r.val < 128) :
    y x * Ideal.rsqrt ((∑ j : Fin 256, y j * y j * (if j.val / 64 = x.val / 64 then 1 else 0)) * Ideal.ofBits FTy.f32 1015021568#32 + Ideal.ofBits FTy.f32 897988541#32)
      * g (ix1 ⟨l.val % 64, by omega⟩) * (((1 / 8) * (Real.log 2)⁻¹ : ℝ) : EReal) = refQ Y g (ix2 ⟨t.val * 128 + r.val, hb⟩ l) := by
  rw [sum_same (fun j => y j * y j)]
  have e1 : y x = Y (ix3 (rB t r) (rS t r) ⟨l.val / 64 * 64 + l.val % 64, by omega⟩) := by
    rw [hy x (by omega)]
    exact congrArg (fun a => Y (ix3 (rB t r) (rS t r) a)) (Fin.ext (by show o + x.val = l.val / 64 * 64 + l.val % 64; omega))
  have e2 : ∀ d : Fin 64, y ⟨x.val / 64 * 64 + d.val, by omega⟩ = Y (ix3 (rB t r) (rS t r) ⟨l.val / 64 * 64 + d.val, by omega⟩) := fun d => by
    rw [hy _ (by show o + (x.val / 64 * 64 + d.val) < 3072; omega)]
    exact congrArg (fun a => Y (ix3 (rB t r) (rS t r) a)) (Fin.ext (by show o + (x.val / 64 * 64 + d.val) = l.val / 64 * 64 + d.val; omega))
  pointwise [refQ]
  simp only [e1, e2]
  simp only [c_inv64, c_64, c_eighth, c_2, log_two]
  rw [div_real _ 64 (by norm_num)]
  exact last_scale _

theorem p5 (H W) (r : Fin 128) (l : Fin 256) : k0_pay5 (F := Ideal) H W (ix2 r l) = ∑ k : Fin 1024, H (ix2 r k) * W (ix2 k l) := by
  pointwise [k0_pay5]
theorem p6 (H W) (r : Fin 128) (l : Fin 256) : k0_pay6 (F := Ideal) H W (ix2 r l) = ∑ k : Fin 1024, H (ix2 r k) * W (ix2 k l) := by
  pointwise [k0_pay6]
theorem p7 (H W) (r : Fin 128) (l : Fin 256) : k0_pay7 (F := Ideal) H W (ix2 r l) = ∑ k : Fin 1024, H (ix2 r k) * W (ix2 k l) := by
  pointwise [k0_pay7]
theorem p8 (H W) (r : Fin 128) (l : Fin 256) : k0_pay8 (F := Ideal) H W (ix2 r l) = ∑ k : Fin 1024, H (ix2 r k) * W (ix2 k l) := by
  pointwise [k0_pay8]
theorem scale : (Named.named Cert.KernelIdeal5.κ "query_scale" 1043900987#32 : Ideal .f32) = (((1 / 8) * (Real.log 2)⁻¹ : ℝ) : EReal) :=
  IdealRules.named_const.ideal_named_scalar _ _ _ _ rfl

theorem p13 (T Y G) (r : Fin 128) (l : Fin 256) : k0_pay13 (F := Ideal) (k0_pay11 T Y) (k0_pay12 G) (ix2 r l) = Y (ix2 r l) * Ideal.rsqrt ((∑ x : Fin 256, Y (ix2 r x) * Y (ix2 r x) * T (ix2 x l)) * Ideal.ofBits FTy.f32 1015021568#32 + Ideal.ofBits FTy.f32 897988541#32)
      * G (ix2 0 l) * (((1 / 8) * (Real.log 2)⁻¹ : ℝ) : EReal) := by
  pointwise [k0_pay13, k0_pay11, k0_pay12]
  rw [scale]
theorem p14 (T Y G) (r : Fin 128) (l : Fin 256) : k0_pay14 (F := Ideal) T Y G (ix2 r l) = Y (ix2 r l) * Ideal.rsqrt ((∑ x : Fin 256, Y (ix2 r x) * Y (ix2 r x) * T (ix2 x l)) * Ideal.ofBits FTy.f32 1015021568#32 + Ideal.ofBits FTy.f32 897988541#32)
      * G (ix2 0 l) * (((1 / 8) * (Real.log 2)⁻¹ : ℝ) : EReal) := by
  pointwise [k0_pay14]
  rw [scale]
theorem p15 (T Y G) (r : Fin 128) (l : Fin 256) : k0_pay15 (F := Ideal) T Y G (ix2 r l) = Y (ix2 r l) * Ideal.rsqrt ((∑ x : Fin 256, Y (ix2 r x) * Y (ix2 r x) * T (ix2 x l)) * Ideal.ofBits FTy.f32 1015021568#32 + Ideal.ofBits FTy.f32 897988541#32)
      * G (ix2 0 l) * (((1 / 8) * (Real.log 2)⁻¹ : ℝ) : EReal) := by
  pointwise [k0_pay15]
  rw [scale]
theorem p16 (T Y G) (r : Fin 128) (l : Fin 256) : k0_pay16 (F := Ideal) T Y G (ix2 r l) = Y (ix2 r l) * Ideal.rsqrt ((∑ x : Fin 256, Y (ix2 r x) * Y (ix2 r x) * T (ix2 x l)) * Ideal.ofBits FTy.f32 1015021568#32 + Ideal.ofBits FTy.f32 897988541#32)
      * G (ix2 0 l) * (((1 / 8) * (Real.log 2)⁻¹ : ℝ) : EReal) := by
  pointwise [k0_pay16]
  rw [scale]

theorem proj (HH : FVec Ideal Cert.ReferenceIdeal5.S32x4x1024 .f32) (w : FVec Ideal Cert.ReferenceIdeal5.S1024x3072 .f32) (b : Fin 32) (s : Fin 4) (l : Fin 3072) (h : Fin 1024 → EReal) (v : Fin 1024 → EReal)
    (hh : ∀ k, h k = HH (ix3 b s k)) (hv : ∀ k, v k = w (ix2 k l)) : ∑ k : Fin 1024, h k * v k = refP HH w (ix3 b s l) := by
  simp only [hh, hv]
  pointwise [refP]

theorem piece16 (Y : FVec Ideal Cert.ReferenceIdeal5.S32x4x3072 .f32) (g : FVec Ideal Cert.ReferenceIdeal5.S64 .f32) (t : Fin cfg0.N) (r : Fin 128) (l : Fin 1024)
    (H : FVec Ideal S128x1024 .bf16) (W : FVec Ideal S1024x256 .bf16) (G : FVec Ideal S1x256 .f32) (x : Fin 256) (h1 : l.val = 768 + x.val)
    (hy : ∀ j : Fin 256, ∑ k : Fin 1024, H (ix2 r k) * W (ix2 k j) = Y (ix3 (rB t r) (rS t r) ⟨768 + j.val, by omega⟩))
    (hG : G (ix2 0 x) = g (ix1 ⟨l.val % 64, by omega⟩)) (hb : t.val * 128 + r.val < 128) :
    k0_pay16 (F := Ideal) (k0_pay4 k0_pay2 k0_pay3 1#32) (k0_pay8 H W) G (ix2 r x) = refQ Y g (ix2 ⟨t.val * 128 + r.val, hb⟩ l) := by
  rw [p16]
  simp only [same, p8, hG]
  exact core Y g t r l 768 (by norm_num) (fun j => ∑ k : Fin 1024, H (ix2 r k) * W (ix2 k j)) x h1 (fun j _ => hy j) hb

theorem piece15 (Y : FVec Ideal Cert.ReferenceIdeal5.S32x4x3072 .f32) (g : FVec Ideal Cert.ReferenceIdeal5.S64 .f32) (t : Fin cfg0.N) (r : Fin 128) (l : Fin 1024)
    (H : FVec Ideal S128x1024 .bf16) (W : FVec Ideal S1024x256 .bf16) (G : FVec Ideal S1x256 .f32) (x : Fin 256) (h1 : l.val = 512 + x.val)
    (hy : ∀ j : Fin 256, ∑ k : Fin 1024, H (ix2 r k) * W (ix2 k j) = Y (ix3 (rB t r) (rS t r) ⟨512 + j.val, by omega⟩))
    (hG : G (ix2 0 x) = g (ix1 ⟨l.val % 64, by omega⟩)) (hb : t.val * 128 + r.val < 128) :
    k0_pay15 (F := Ideal) (k0_pay4 k0_pay2 k0_pay3 1#32) (k0_pay7 H W) G (ix2 r x) = refQ Y g (ix2 ⟨t.val * 128 + r.val, hb⟩ l) := by
  rw [p15]
  simp only [same, p7, hG]
  exact core Y g t r l 512 (by norm_num) (fun j => ∑ k : Fin 1024, H (ix2 r k) * W (ix2 k j)) x h1 (fun j _ => hy j) hb

theorem piece14 (Y : FVec Ideal Cert.ReferenceIdeal5.S32x4x3072 .f32) (g : FVec Ideal Cert.ReferenceIdeal5.S64 .f32) (t : Fin cfg0.N) (r : Fin 128) (l : Fin 1024)
    (H : FVec Ideal S128x1024 .bf16) (W : FVec Ideal S1024x256 .bf16) (G : FVec Ideal S1x256 .f32) (x : Fin 256) (h1 : l.val = 256 + x.val)
    (hy : ∀ j : Fin 256, ∑ k : Fin 1024, H (ix2 r k) * W (ix2 k j) = Y (ix3 (rB t r) (rS t r) ⟨256 + j.val, by omega⟩))
    (hG : G (ix2 0 x) = g (ix1 ⟨l.val % 64, by omega⟩)) (hb : t.val * 128 + r.val < 128) :
    k0_pay14 (F := Ideal) (k0_pay4 k0_pay2 k0_pay3 1#32) (k0_pay6 H W) G (ix2 r x) = refQ Y g (ix2 ⟨t.val * 128 + r.val, hb⟩ l) := by
  rw [p14]
  simp only [same, p6, hG]
  exact core Y g t r l 256 (by norm_num) (fun j => ∑ k : Fin 1024, H (ix2 r k) * W (ix2 k j)) x h1 (fun j _ => hy j) hb

theorem piece13 (Y : FVec Ideal Cert.ReferenceIdeal5.S32x4x3072 .f32) (g : FVec Ideal Cert.ReferenceIdeal5.S64 .f32) (t : Fin cfg0.N) (r : Fin 128) (l : Fin 1024)
    (H : FVec Ideal S128x1024 .bf16) (W : FVec Ideal S1024x256 .bf16) (G : FVec Ideal S1x256 .f32) (x : Fin 256) (h1 : l.val = 0 + x.val)
    (hy : ∀ j : Fin 256, ∑ k : Fin 1024, H (ix2 r k) * W (ix2 k j) = Y (ix3 (rB t r) (rS t r) ⟨0 + j.val, by omega⟩))
    (hG : G (ix2 0 x) = g (ix1 ⟨l.val % 64, by omega⟩)) (hb : t.val * 128 + r.val < 128) :
    k0_pay13 (F := Ideal) (k0_pay11 (k0_pay4 k0_pay2 k0_pay3 1#32) (k0_pay5 H W)) (k0_pay12 G) (ix2 r x) = refQ Y g (ix2 ⟨t.val * 128 + r.val, hb⟩ l) := by
  rw [p13]
  simp only [same, p5, hG]
  exact core Y g t r l 0 (by norm_num) (fun j => ∑ k : Fin 1024, H (ix2 r k) * W (ix2 k j)) x h1 (fun j _ => hy j) hb

theorem outQ (c : Dev nD) (t : Fin cfg0.N) (r : Fin 128) (l : Fin 1024) (hb : t.val * 128 + r.val < 128) :
    (outsAt0 m c t).1 (ix2 r l) = refQ (refY (m ((c : Thread nD τ).loc main_arg0)) (m ((c : Thread nD τ).loc main_arg1)) (m ((c : Thread nD τ).loc main_arg2))) (m ((c : Thread nD τ).loc main_arg3)) (ix2 ⟨t.val * 128 + r.val, hb⟩ l) := by
  have h16 : ∀ x : Fin 256, l.val = 768 + x.val → k0_pay16 (F := Ideal) (k0_pay4 k0_pay2 k0_pay3 1#32) (k0_pay8 (k0_pay1 (iblk m c 0 t) (iblk m c 1 t)) (View.ld (iblk m c 2 t) (Rect.unit ![0, 768] ![1024, 256] inb_S1024x1024_S1024x256_0_768))) (View.ld (iblk m c 5 t) (Rect.unit ![0, 768] ![1, 256] inb_S1x1024_S1x256_0_768)) (ix2 r x) = refQ (refY (m ((c : Thread nD τ).loc main_arg0)) (m ((c : Thread nD τ).loc main_arg1)) (m ((c : Thread nD τ).loc main_arg2))) (m ((c : Thread nD τ).loc main_arg3)) (ix2 ⟨t.val * 128 + r.val, hb⟩ l) := fun x hx =>
    piece16 _ _ t r l (k0_pay1 (iblk m c 0 t) (iblk m c 1 t)) (View.ld (iblk m c 2 t) (Rect.unit ![0, 768] ![1024, 256] inb_S1024x1024_S1024x256_0_768)) (View.ld (iblk m c 5 t) (Rect.unit ![0, 768] ![1, 256] inb_S1x1024_S1x256_0_768)) x hx
      (fun j => proj _ _ _ _ _ _ _ (fun k => pay1 m c t r k) fun k => (show (View.ld (iblk m c 2 t) (Rect.unit ![0, 768] ![1024, 256] inb_S1024x1024_S1024x256_0_768)) (ix2 k j) = iblk m c 2 t (ix2 k ⟨768 + j.val, by omega⟩) by pointwise).trans (blk2 m c t k ⟨768 + j.val, by omega⟩))
      ((show (View.ld (iblk m c 5 t) (Rect.unit ![0, 768] ![1, 256] inb_S1x1024_S1x256_0_768)) (ix2 0 x) = iblk m c 5 t (ix2 0 l) by
        rw [show l = ⟨768 + x.val, by omega⟩ from Fin.ext hx]
        pointwise).trans (blk5 m c t l)) hb
  have h15 : ∀ x : Fin 256, l.val = 512 + x.val → k0_pay15 (F := Ideal) (k0_pay4 k0_pay2 k0_pay3 1#32) (k0_pay7 (k0_pay1 (iblk m c 0 t) (iblk m c 1 t)) (View.ld (iblk m c 2 t) (Rect.unit ![0, 512] ![1024, 256] inb_S1024x1024_S1024x256_0_512))) (View.ld (iblk m c 5 t) (Rect.unit ![0, 512] ![1, 256] inb_S1x1024_S1x256_0_512)) (ix2 r x) = refQ (refY (m ((c : Thread nD τ).loc main_arg0)) (m ((c : Thread nD τ).loc main_arg1)) (m ((c : Thread nD τ).loc main_arg2))) (m ((c : Thread nD τ).loc main_arg3)) (ix2 ⟨t.val * 128 + r.val, hb⟩ l) := fun x hx =>
    piece15 _ _ t r l (k0_pay1 (iblk m c 0 t) (iblk m c 1 t)) (View.ld (iblk m c 2 t) (Rect.unit ![0, 512] ![1024, 256] inb_S1024x1024_S1024x256_0_512)) (View.ld (iblk m c 5 t) (Rect.unit ![0, 512] ![1, 256] inb_S1x1024_S1x256_0_512)) x hx
      (fun j => proj _ _ _ _ _ _ _ (fun k => pay1 m c t r k) fun k => (show (View.ld (iblk m c 2 t) (Rect.unit ![0, 512] ![1024, 256] inb_S1024x1024_S1024x256_0_512)) (ix2 k j) = iblk m c 2 t (ix2 k ⟨512 + j.val, by omega⟩) by pointwise).trans (blk2 m c t k ⟨512 + j.val, by omega⟩))
      ((show (View.ld (iblk m c 5 t) (Rect.unit ![0, 512] ![1, 256] inb_S1x1024_S1x256_0_512)) (ix2 0 x) = iblk m c 5 t (ix2 0 l) by
        rw [show l = ⟨512 + x.val, by omega⟩ from Fin.ext hx]
        pointwise).trans (blk5 m c t l)) hb
  have h14 : ∀ x : Fin 256, l.val = 256 + x.val → k0_pay14 (F := Ideal) (k0_pay4 k0_pay2 k0_pay3 1#32) (k0_pay6 (k0_pay1 (iblk m c 0 t) (iblk m c 1 t)) (View.ld (iblk m c 2 t) (Rect.unit ![0, 256] ![1024, 256] inb_S1024x1024_S1024x256_0_256))) (View.ld (iblk m c 5 t) (Rect.unit ![0, 256] ![1, 256] inb_S1x1024_S1x256_0_256)) (ix2 r x) = refQ (refY (m ((c : Thread nD τ).loc main_arg0)) (m ((c : Thread nD τ).loc main_arg1)) (m ((c : Thread nD τ).loc main_arg2))) (m ((c : Thread nD τ).loc main_arg3)) (ix2 ⟨t.val * 128 + r.val, hb⟩ l) := fun x hx =>
    piece14 _ _ t r l (k0_pay1 (iblk m c 0 t) (iblk m c 1 t)) (View.ld (iblk m c 2 t) (Rect.unit ![0, 256] ![1024, 256] inb_S1024x1024_S1024x256_0_256)) (View.ld (iblk m c 5 t) (Rect.unit ![0, 256] ![1, 256] inb_S1x1024_S1x256_0_256)) x hx
      (fun j => proj _ _ _ _ _ _ _ (fun k => pay1 m c t r k) fun k => (show (View.ld (iblk m c 2 t) (Rect.unit ![0, 256] ![1024, 256] inb_S1024x1024_S1024x256_0_256)) (ix2 k j) = iblk m c 2 t (ix2 k ⟨256 + j.val, by omega⟩) by pointwise).trans (blk2 m c t k ⟨256 + j.val, by omega⟩))
      ((show (View.ld (iblk m c 5 t) (Rect.unit ![0, 256] ![1, 256] inb_S1x1024_S1x256_0_256)) (ix2 0 x) = iblk m c 5 t (ix2 0 l) by
        rw [show l = ⟨256 + x.val, by omega⟩ from Fin.ext hx]
        pointwise).trans (blk5 m c t l)) hb
  have h13 : ∀ x : Fin 256, l.val = 0 + x.val → k0_pay13 (F := Ideal) (k0_pay11 (k0_pay4 k0_pay2 k0_pay3 1#32) (k0_pay5 (k0_pay1 (iblk m c 0 t) (iblk m c 1 t)) (View.ld (iblk m c 2 t) (Rect.unit ![0, 0] ![1024, 256] inb_S1024x1024_S1024x256_0_0)))) (k0_pay12 (View.ld (iblk m c 5 t) (Rect.unit ![0, 0] ![1, 256] inb_S1x1024_S1x256_0_0))) (ix2 r x) = refQ (refY (m ((c : Thread nD τ).loc main_arg0)) (m ((c : Thread nD τ).loc main_arg1)) (m ((c : Thread nD τ).loc main_arg2))) (m ((c : Thread nD τ).loc main_arg3)) (ix2 ⟨t.val * 128 + r.val, hb⟩ l) := fun x hx =>
    piece13 _ _ t r l (k0_pay1 (iblk m c 0 t) (iblk m c 1 t)) (View.ld (iblk m c 2 t) (Rect.unit ![0, 0] ![1024, 256] inb_S1024x1024_S1024x256_0_0)) (View.ld (iblk m c 5 t) (Rect.unit ![0, 0] ![1, 256] inb_S1x1024_S1x256_0_0)) x hx
      (fun j => proj _ _ _ _ _ _ _ (fun k => pay1 m c t r k) fun k => (show (View.ld (iblk m c 2 t) (Rect.unit ![0, 0] ![1024, 256] inb_S1024x1024_S1024x256_0_0)) (ix2 k j) = iblk m c 2 t (ix2 k ⟨0 + j.val, by omega⟩) by pointwise).trans (blk2 m c t k ⟨0 + j.val, by omega⟩))
      ((show (View.ld (iblk m c 5 t) (Rect.unit ![0, 0] ![1, 256] inb_S1x1024_S1x256_0_0)) (ix2 0 x) = iblk m c 5 t (ix2 0 l) by
        rw [show l = ⟨0 + x.val, by omega⟩ from Fin.ext hx]
        pointwise).trans (blk5 m c t l)) hb
  generalize refQ _ _ = RQ at h13 h14 h15 h16 ⊢
  unfold outsAt0
  frame_out
  canon_tiles x h
  case piece0 =>
    idx_vars x
    obtain rfl : r = x0 := Fin.ext h0
    exact h16 x1 (by simpa using h1)
  case piece1 =>
    idx_vars x
    obtain rfl : r = x0 := Fin.ext h0
    exact h15 x1 (by simpa using h1)
  case piece2 =>
    idx_vars x
    obtain rfl : r = x0 := Fin.ext h0
    exact h14 x1 (by simpa using h1)
  case piece3 =>
    idx_vars x
    obtain rfl : r = x0 := Fin.ext h0
    exact h13 x1 (by simpa using h1)

theorem p17 (W H G) (r : Fin 1024) (l : Fin 128) : k0_pay17 (F := Ideal) (k0_pay9 W H) G (ix3 0 r l)
    = (∑ x, W (ix2 r x) * H (ix2 l x)) * Ideal.rsqrt (Ideal.div (∑ d : Fin 64, (∑ x, W (ix2 ⟨r.val / 64 * 64 + d.val, by omega⟩ x) * H (ix2 l x))
        * (∑ x, W (ix2 ⟨r.val / 64 * 64 + d.val, by omega⟩ x) * H (ix2 l x))) (Ideal.ofBits FTy.f32 1115684864#32) + Ideal.ofBits FTy.f32 897988541#32)
      * G (ix3 0 ⟨r.val % 64, by omega⟩ 0) := by
  pointwise [k0_pay17, k0_pay9]

theorem p10 (W H) (r : Fin 1024) (l : Fin 128) : k0_pay10 (F := Ideal) W H (ix3 0 r l) = ∑ x, W (ix2 r x) * H (ix2 l x) := by
  pointwise [k0_pay10]

theorem coreK (Y : FVec Ideal Cert.ReferenceIdeal5.S32x4x3072 .f32) (g : FVec Ideal Cert.ReferenceIdeal5.S64 .f32) (t : Fin cfg0.N) (r : Fin 1024) (l : Fin 128)
    (W : FVec Ideal S1024x1024 .bf16) (H : FVec Ideal S128x1024 .bf16) (G : FVec Ideal S1x64x1 .f32)
    (hy : ∀ r : Fin 1024, ∑ k : Fin 1024, W (ix2 r k) * H (ix2 l k) = Y (ix3 (rB t l) (rS t l) ⟨1024 + r.val, by omega⟩))
    (hG : ∀ k, G (ix3 0 k 0) = g (ix1 k)) : k0_pay17 (F := Ideal) (k0_pay9 W H) G (ix3 0 r l) = refK Y g (ix3 0 r ⟨t.val * 128 + l.val, by have h : t.val < 1 := t.isLt; omega⟩) := by
  rw [p17]
  simp only [hy, hG]
  pointwise [refK]
  have e1 : ∀ d : Fin 64, (⟨1024 + (r.val / 64 * 64 + d.val), by omega⟩ : Fin 3072) = ⟨1024 + r.val / 64 * 64 + d.val, by omega⟩ := fun d => Fin.ext (Nat.add_assoc _ _ _).symm
  have e2 : (⟨1024 + r.val, by omega⟩ : Fin 3072) = ⟨1024 + r.val / 64 * 64 + r.val % 64, by omega⟩ := Fin.ext (by show 1024 + r.val = 1024 + r.val / 64 * 64 + r.val % 64; omega)
  simp only [e1, e2]

theorem coreV (Y : FVec Ideal Cert.ReferenceIdeal5.S32x4x3072 .f32) (t : Fin cfg0.N) (r : Fin 1024) (l : Fin 128)
    (W : FVec Ideal S1024x1024 .bf16) (H : FVec Ideal S128x1024 .bf16)
    (hy : ∑ k : Fin 1024, W (ix2 r k) * H (ix2 l k) = Y (ix3 (rB t l) (rS t l) ⟨2048 + r.val, by omega⟩)) :
    k0_pay10 (F := Ideal) W H (ix3 0 r l) = refV Y (ix3 0 r ⟨t.val * 128 + l.val, by have h : t.val < 1 := t.isLt; omega⟩) := by
  rw [p10, hy]
  pointwise [refV]
  exact congrArg (fun a => Y (ix3 (rB t l) (rS t l) a)) (Fin.ext (by show 2048 + r.val = 2048 + r.val / 64 * 64 + r.val % 64; omega))

theorem projT (HH : FVec Ideal Cert.ReferenceIdeal5.S32x4x1024 .f32) (w : FVec Ideal Cert.ReferenceIdeal5.S1024x3072 .f32) (b : Fin 32) (s : Fin 4) (l : Fin 3072) (h : Fin 1024 → EReal) (v : Fin 1024 → EReal)
    (hh : ∀ k, h k = HH (ix3 b s k)) (hv : ∀ k, v k = w (ix2 k l)) : ∑ k : Fin 1024, v k * h k = refP HH w (ix3 b s l) :=
  (Finset.sum_congr rfl fun k _ => mul_comm _ _).trans (proj HH w b s l h v hh hv)

theorem outK (c : Dev nD) (t : Fin cfg0.N) (r : Fin 1024) (l : Fin 128) : (outsAt0 m c t).2.1 (ix3 0 r l) = refK (refY (m ((c : Thread nD τ).loc main_arg0)) (m ((c : Thread nD τ).loc main_arg1)) (m ((c : Thread nD τ).loc main_arg2))) (m ((c : Thread nD τ).loc main_arg4)) (ix3 0 r ⟨t.val * 128 + l.val, by have h : t.val < 1 := t.isLt; omega⟩) := by
  have h : k0_pay17 (F := Ideal) (k0_pay9 (iblk m c 3 t) (k0_pay1 (iblk m c 0 t) (iblk m c 1 t))) (iblk m c 6 t) (ix3 0 r l) = refK (refY (m ((c : Thread nD τ).loc main_arg0)) (m ((c : Thread nD τ).loc main_arg1)) (m ((c : Thread nD τ).loc main_arg2))) (m ((c : Thread nD τ).loc main_arg4)) (ix3 0 r ⟨t.val * 128 + l.val, by have h : t.val < 1 := t.isLt; omega⟩) := coreK _ _ t r l _ _ _ (fun r => projT _ _ _ _ _ _ _ (fun k => pay1 m c t l k) fun k => blk3 m c t r k) (fun k => blk6 m c t k)
  generalize refK _ _ = RR at h ⊢
  unfold outsAt0
  frame_out
  exact h

theorem outV (c : Dev nD) (t : Fin cfg0.N) (r : Fin 1024) (l : Fin 128) : (outsAt0 m c t).2.2 (ix3 0 r l) = refV (refY (m ((c : Thread nD τ).loc main_arg0)) (m ((c : Thread nD τ).loc main_arg1)) (m ((c : Thread nD τ).loc main_arg2))) (ix3 0 r ⟨t.val * 128 + l.val, by have h : t.val < 1 := t.isLt; omega⟩) := by
  have h : k0_pay10 (F := Ideal) (iblk m c 4 t) (k0_pay1 (iblk m c 0 t) (iblk m c 1 t)) (ix3 0 r l) = refV (refY (m ((c : Thread nD τ).loc main_arg0)) (m ((c : Thread nD τ).loc main_arg1)) (m ((c : Thread nD τ).loc main_arg2))) (ix3 0 r ⟨t.val * 128 + l.val, by have h : t.val < 1 := t.isLt; omega⟩) := coreV _ t r l _ _ (projT _ _ _ _ _ _ _ (fun k => pay1 m c t l k) fun k => blk4 m c t r k)
  generalize refV _ = RR at h ⊢
  unfold outsAt0
  frame_out
  exact h

theorem finalQ (c : Dev nD) : (dats m 0 c).arrAt 7 (cfgs 0).N = refQ (refY (m ((c : Thread nD τ).loc main_arg0)) (m ((c : Thread nD τ).loc main_arg1)) (m ((c : Thread nD τ).loc main_arg2))) (m ((c : Thread nD τ).loc main_arg3)) := by
  generalize hR : refQ (refY (m ((c : Thread nD τ).loc main_arg0)) (m ((c : Thread nD τ).loc main_arg1)) (m ((c : Thread nD τ).loc main_arg2))) (m ((c : Thread nD τ).loc main_arg3)) = RR
  refine (dats m 0 c).arrAt_eq_of_covers 7 _ (by decide +kernel) fun t _ y => ?_
  blk_simp
  rw [after0_7]
  idx_vars y
  have hb : t.val * 128 + y0.val < 128 := by have h : t.val < 1 := t.isLt; omega
  rw [outQ m c t y0 y1 hb, hR]
  blk_ext [idx t]

theorem finalK (c : Dev nD) : (dats m 0 c).arrAt 8 (cfgs 0).N = refK (refY (m ((c : Thread nD τ).loc main_arg0)) (m ((c : Thread nD τ).loc main_arg1)) (m ((c : Thread nD τ).loc main_arg2))) (m ((c : Thread nD τ).loc main_arg4)) := by
  generalize hR : refK (refY (m ((c : Thread nD τ).loc main_arg0)) (m ((c : Thread nD τ).loc main_arg1)) (m ((c : Thread nD τ).loc main_arg2))) (m ((c : Thread nD τ).loc main_arg4)) = RR
  refine (dats m 0 c).arrAt_eq_of_covers 8 _ (by decide +kernel) fun t _ y => ?_
  blk_simp
  rw [after0_8]
  idx_vars y
  obtain rfl : y0 = 0 := Fin.ext (by omega)
  rw [outK m c t y1 y2, hR]
  blk_ext [idx t]

theorem finalV (c : Dev nD) : (dats m 0 c).arrAt 9 (cfgs 0).N = refV (refY (m ((c : Thread nD τ).loc main_arg0)) (m ((c : Thread nD τ).loc main_arg1)) (m ((c : Thread nD τ).loc main_arg2))) := by
  generalize hR : refV (refY (m ((c : Thread nD τ).loc main_arg0)) (m ((c : Thread nD τ).loc main_arg1)) (m ((c : Thread nD τ).loc main_arg2))) = RR
  refine (dats m 0 c).arrAt_eq_of_covers 9 _ (by decide +kernel) fun t _ y => ?_
  blk_simp
  rw [after0_9]
  idx_vars y
  obtain rfl : y0 = 0 := Fin.ext (by omega)
  rw [outV m c t y1 y2, hR]
  blk_ext [idx t]

end Cert.KernelIdeal5.QkvS
-- ==== Proof.MlProjS.Value.lean ====
/- The projections of the mLSTM on the sample batch: what the run leaves in the five result arrays is the reference's terms of the arguments. -/
module

public import proofs.«01_k».proof.Proof.Gen.Kernel7.Frame
public import proofs.«01_k».proof.Proof.Gen.KernelIdeal7.Value
public import proofs.«01_k».proof.Proof.Gen.ReferenceIdeal7.Run
public import Idealize.ShloMosaic.Lib.Pipeline.ValueKit

@[expose] public section

set_option maxRecDepth 16384
set_option maxHeartbeats 400000

noncomputable section

namespace Cert.KernelIdeal7.MlProjS

open Cert.KernelIdeal7 Cert.KernelIdeal7.Gen
open Idealize.ShloMosaic Idealize.ShloMosaic.TcCoe Idealize.SL.Sem
open Idealize.ShloMosaic.Pipeline (Dat)

variable (m : (ℓ : Loc nD τ sig) → Buf (Elt Ideal) ℓ)

abbrev refH (a0 : FVec Ideal Cert.ReferenceIdeal7.S32x4x1024 .f32) (a1 : FVec Ideal Cert.ReferenceIdeal7.S1024 .f32) : FVec Ideal Cert.ReferenceIdeal7.S32x4x1024 .f32 :=
  (mulf (mulf a0 (broadcastInDim Cert.ReferenceIdeal7.S32x4x1024 ![0, 1, 2] Cert.ReferenceIdeal7.Gen.bcast_S32x4x1_S32x4x1024_0_1_2 (Host.rsqrt (addf (Host.divf (broadcastInDim Cert.ReferenceIdeal7.S32x4x1 ![0, 1] Cert.ReferenceIdeal7.Gen.bcast_S32x4_S32x4x1_0_1 (Host.reduceAdd (mulf a0 a0) (constant Cert.ReferenceIdeal7.S_ .f32 0x00000000#32) Cert.ReferenceIdeal7.Gen.reducesTo_S32x4x1024_S32x4_d2 Cert.ReferenceIdeal7.Gen.h_S_)) (broadcastInDim Cert.ReferenceIdeal7.S32x4x1 ![] Cert.ReferenceIdeal7.Gen.bcast_S_S32x4x1 (constant Cert.ReferenceIdeal7.S_ .f32 0x44800000#32))) (broadcastInDim Cert.ReferenceIdeal7.S32x4x1 ![] Cert.ReferenceIdeal7.Gen.bcast_S_S32x4x1 (constant Cert.ReferenceIdeal7.S_ .f32 0x358637BD#32)))))) (broadcastInDim Cert.ReferenceIdeal7.S32x4x1024 ![0, 1, 2] Cert.ReferenceIdeal7.Gen.bcast_S1x1x1024_S32x4x1024_0_1_2 (broadcastInDim Cert.ReferenceIdeal7.S1x1x1024 ![2] Cert.ReferenceIdeal7.Gen.bcast_S1024_S1x1x1024_2 a1)))

abbrev refP (h : FVec Ideal Cert.ReferenceIdeal7.S32x4x1024 .f32) (a2 : FVec Ideal Cert.ReferenceIdeal7.S1024x3088 .f32) : FVec Ideal Cert.ReferenceIdeal7.S32x4x3088 .f32 :=
  (Host.dotGeneral Cert.ReferenceIdeal7.dot_S32x4x1024_S1024x3088_S32x4x3088_2_0_01_1_n_n none h a2)

abbrev refY (a0 : FVec Ideal Cert.ReferenceIdeal7.S32x4x1024 .f32) (a1 : FVec Ideal Cert.ReferenceIdeal7.S1024 .f32) (a2 : FVec Ideal Cert.ReferenceIdeal7.S1024x3088 .f32) : FVec Ideal Cert.ReferenceIdeal7.S32x4x3088 .f32 :=
  refP (refH a0 a1) a2

abbrev refQ (y : FVec Ideal Cert.ReferenceIdeal7.S32x4x3088 .f32) : FVec Ideal Cert.ReferenceIdeal7.S128x512 .bf16 :=
  truncf .bf16 (shapeCast _ (extractStridedSlice Cert.ReferenceIdeal7.S32x4x512 ![0, 0, 0] y Cert.ReferenceIdeal7.Gen.slices_S32x4x3088_S32x4x512_0_0_0) Cert.ReferenceIdeal7.Gen.shapeCasts_S32x4x512_S128x512) Cert.ReferenceIdeal7.Gen.bitsLt_bf16_f32

abbrev refK (y : FVec Ideal Cert.ReferenceIdeal7.S32x4x3088 .f32) : FVec Ideal Cert.ReferenceIdeal7.S128x512 .bf16 :=
  truncf .bf16 (shapeCast _ (mulf (extractStridedSlice Cert.ReferenceIdeal7.S32x4x512 ![0, 0, 512] y Cert.ReferenceIdeal7.Gen.slices_S32x4x3088_S32x4x512_0_0_512) (broadcastInDim Cert.ReferenceIdeal7.S32x4x512 ![] Cert.ReferenceIdeal7.Gen.bcast_S_S32x4x512 (constant Cert.ReferenceIdeal7.S_ .f32 0x3E000000#32))) Cert.ReferenceIdeal7.Gen.shapeCasts_S32x4x512_S128x512) Cert.ReferenceIdeal7.Gen.bitsLt_bf16_f32

abbrev refV (y : FVec Ideal Cert.ReferenceIdeal7.S32x4x3088 .f32) : FVec Ideal Cert.ReferenceIdeal7.S128x1024 .bf16 :=
  truncf .bf16 (shapeCast _ (extractStridedSlice Cert.ReferenceIdeal7.S32x4x1024 ![0, 0, 1024] y Cert.ReferenceIdeal7.Gen.slices_S32x4x3088_S32x4x1024_0_0_1024) Cert.ReferenceIdeal7.Gen.shapeCasts_S32x4x1024_S128x1024) Cert.ReferenceIdeal7.Gen.bitsLt_bf16_f32

abbrev refO (y : FVec Ideal Cert.ReferenceIdeal7.S32x4x3088 .f32) : FVec Ideal Cert.ReferenceIdeal7.S128x1024 .f32 :=
  shapeCast _ (extractStridedSlice Cert.ReferenceIdeal7.S32x4x1024 ![0, 0, 2048] y Cert.ReferenceIdeal7.Gen.slices_S32x4x3088_S32x4x1024_0_0_2048) Cert.ReferenceIdeal7.Gen.shapeCasts_S32x4x1024_S128x1024

/-- The capped gates over the projection `y`. -/
abbrev refG (y : FVec Ideal Cert.ReferenceIdeal7.S32x4x3088 .f32) (a3 : FVec Ideal Cert.ReferenceIdeal7.S16 .f32) : FVec Ideal Cert.ReferenceIdeal7.S32x4x16 .f32 :=
  (mulf (broadcastInDim Cert.ReferenceIdeal7.S32x4x16 ![] Cert.ReferenceIdeal7.Gen.bcast_S_S32x4x16 (constant Cert.ReferenceIdeal7.S_ .f32 0x41700000#32)) (Host.tanh (Host.divf (addf (extractStridedSlice Cert.ReferenceIdeal7.S32x4x16 ![0, 0, 3072] y Cert.ReferenceIdeal7.Gen.slices_S32x4x3088_S32x4x16_0_0_3072) (broadcastInDim Cert.ReferenceIdeal7.S32x4x16 ![0, 1, 2] Cert.ReferenceIdeal7.Gen.bcast_S1x1x16_S32x4x16_0_1_2 (broadcastInDim Cert.ReferenceIdeal7.S1x1x16 ![2] Cert.ReferenceIdeal7.Gen.bcast_S16_S1x1x16_2 a3))) (broadcastInDim Cert.ReferenceIdeal7.S32x4x16 ![] Cert.ReferenceIdeal7.Gen.bcast_S_S32x4x16 (constant Cert.ReferenceIdeal7.S_ .f32 0x41700000#32)))))

/-- The log-sigmoid of the forget gates. -/
abbrev refL (g : FVec Ideal Cert.ReferenceIdeal7.S32x4x16 .f32) : FVec Ideal Cert.ReferenceIdeal7.S32x4x8 .f32 :=
  (Host.negf (select (cmpf .une (subf (Host.negf (extractStridedSlice Cert.ReferenceIdeal7.S32x4x8 ![0, 0, 8] g Cert.ReferenceIdeal7.Gen.slices_S32x4x16_S32x4x8_0_0_8)) (broadcastInDim Cert.ReferenceIdeal7.S32x4x8 ![] Cert.ReferenceIdeal7.Gen.bcast_S_S32x4x8 (constant Cert.ReferenceIdeal7.S_ .f32 0x00000000#32))) (subf (Host.negf (extractStridedSlice Cert.ReferenceIdeal7.S32x4x8 ![0, 0, 8] g Cert.ReferenceIdeal7.Gen.slices_S32x4x16_S32x4x8_0_0_8)) (broadcastInDim Cert.ReferenceIdeal7.S32x4x8 ![] Cert.ReferenceIdeal7.Gen.bcast_S_S32x4x8 (constant Cert.ReferenceIdeal7.S_ .f32 0x00000000#32)))) (addf (Host.negf (extractStridedSlice Cert.ReferenceIdeal7.S32x4x8 ![0, 0, 8] g Cert.ReferenceIdeal7.Gen.slices_S32x4x16_S32x4x8_0_0_8)) (broadcastInDim Cert.ReferenceIdeal7.S32x4x8 ![] Cert.ReferenceIdeal7.Gen.bcast_S_S32x4x8 (constant Cert.ReferenceIdeal7.S_ .f32 0x00000000#32))) (addf (maximumf (Host.negf (extractStridedSlice Cert.ReferenceIdeal7.S32x4x8 ![0, 0, 8] g Cert.ReferenceIdeal7.Gen.slices_S32x4x16_S32x4x8_0_0_8)) (broadcastInDim Cert.ReferenceIdeal7.S32x4x8 ![] Cert.ReferenceIdeal7.Gen.bcast_S_S32x4x8 (constant Cert.ReferenceIdeal7.S_ .f32 0x00000000#32))) (Host.log1p (Host.exp (Host.negf (Host.absf (subf (Host.negf (extractStridedSlice Cert.ReferenceIdeal7.S32x4x8 ![0, 0, 8] g Cert.ReferenceIdeal7.Gen.slices_S32x4x16_S32x4x8_0_0_8)) (broadcastInDim Cert.ReferenceIdeal7.S32x4x8 ![] Cert.ReferenceIdeal7.Gen.bcast_S_S32x4x8 (constant Cert.ReferenceIdeal7.S_ .f32 0x00000000#32))))))))))

/-- The gates in the layout of the heads' pairs. -/
abbrev refA (g : FVec Ideal Cert.ReferenceIdeal7.S32x4x16 .f32) (l : FVec Ideal Cert.ReferenceIdeal7.S32x4x8 .f32) : FVec Ideal Cert.ReferenceIdeal7.S16x128 .f32 :=
  transpose Cert.ReferenceIdeal7.S16x128 [1, 0] (shapeCast _ (concatenate Cert.ReferenceIdeal7.S128x4x4 2 [⟨Cert.ReferenceIdeal7.S128x4x2, (shapeCast _ (extractStridedSlice Cert.ReferenceIdeal7.S32x4x8 ![0, 0, 0] g Cert.ReferenceIdeal7.Gen.slices_S32x4x16_S32x4x8_0_0_0) Cert.ReferenceIdeal7.Gen.shapeCasts_S32x4x8_S128x4x2)⟩, ⟨Cert.ReferenceIdeal7.S128x4x2, (shapeCast _ l Cert.ReferenceIdeal7.Gen.shapeCasts_S32x4x8_S128x4x2)⟩] Cert.ReferenceIdeal7.Gen.concatenates_S128x4x2_S128x4x2_S128x4x4_d2) Cert.ReferenceIdeal7.Gen.shapeCasts_S128x4x4_S128x16) Cert.ReferenceIdeal7.Gen.transposes_S128x16_S16x128_1_0

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] ∧ win0_9.index t = ![0, t.val] :=
  (by decide +kernel : ∀ t : Fin grid0.N, _)

/-- The row of the first two axes that row `r` of block `t` is. -/
abbrev rB (t : Fin cfg0.N) (r : Fin 128) : Fin 32 := ⟨r.val / 4, by omega⟩
abbrev rS (t : Fin cfg0.N) (r : Fin 128) : Fin 4 := ⟨r.val % 4, by omega⟩
abbrev perm (r : Fin 16) : Fin 16 := ⟨r.val / 4 * 2 + r.val % 2 + r.val % 4 / 2 * 8, by omega⟩

theorem blk0 (c : Dev nD) (t : Fin cfg0.N) (r : Fin 128) (k : Fin 1024) :
    iblk m c 0 t (ix2 r k) = m ((c : Thread nD τ).loc main_arg0) (ix3 (rB t r) (rS t r) k) := by
  blk_point [iblk, V, idx t]
theorem blk1 (c : Dev nD) (t : Fin cfg0.N) (k : Fin 1024) :
    iblk m c 1 t (ix2 0 k) = m ((c : Thread nD τ).loc main_arg1) (ix1 k) := by
  blk_point [iblk, V, idx t]
theorem blk2 (c : Dev nD) (t : Fin cfg0.N) (r : Fin 1024) (k : Fin 3072) :
    iblk m c 2 t (ix2 r k) = m ((c : Thread nD τ).loc main_arg2) (ix2 r ⟨k.val, by omega⟩) := by
  blk_point [iblk, V, idx t]

theorem pay2 (c : Dev nD) (t : Fin cfg0.N) (r : Fin 128) (k : Fin 1024) :
    k0_pay2 (iblk m c 0 t) (iblk m c 1 t) (ix2 r k)
      = refH (m ((c : Thread nD τ).loc main_arg0)) (m ((c : Thread nD τ).loc main_arg1)) (ix3 (rB t r) (rS t r) k) := by
  pointwise [k0_pay2, refH]
  simp only [blk0, blk1]

/-- The columns the host picks for the gates. -/
abbrev cols : IVec S16x1 32 :=
  broadcastInDim S16x1 ![0] bcast_S16_S16x1_0
    (select (cmpi CmpIPredicate.slt (fun i => lit0 (S16.rowMajor i)) (broadcastInDim S16 ![] bcast_S_S16 (constantI S_ 32 0#32)))
      (addi (fun i => lit0 (S16.rowMajor i)) (broadcastInDim S16 ![] bcast_S_S16 (constantI S_ 32 16#32))) fun i => lit0 (S16.rowMajor i))

theorem cols_at (r : Fin 16) : cols (ix2 r 0) = BitVec.ofNat 32 (perm r).val := by
  revert r
  decide +kernel

theorem clamp_perm : ∀ r : Fin 16, min (BitVec.ofNat 32 (perm r).val).toInt.toNat (16 - 1) + 0 + 0 = (perm r).val := by
  decide

theorem gather_cols (x : S1024x16.Idx → EReal) (k : Fin 1024) (r : Fin 16) :
    Host.gather gather_S1024x16_S16x1_S1024x16_0_1_n_n_1_1_10241 x cols (ix2 k r) = x (ix2 k (perm r)) := by
  unfold Host.gather
  congr 1
  funext a
  refine Fin.ext ?_
  match a with
  | ⟨0, _⟩ =>
    show 0 + 0 + k.val = k.val
    omega
  | ⟨1, _⟩ =>
    refine Eq.trans ?_ (clamp_perm r)
    rw [← cols_at]
    rfl

theorem gather_bias (x : S16.Idx → EReal) (r : Fin 16) :
    Host.gather gather_S16_S16x1_S16_n_0_n_n_0_1_1 x cols (ix1 r) = x (ix1 (perm r)) := by
  unfold Host.gather
  congr 1
  funext a
  refine Fin.ext ?_
  match a with
  | ⟨0, _⟩ =>
    refine Eq.trans ?_ (clamp_perm r)
    rw [← cols_at]
    rfl

theorem v11 (c : Dev nD) : V m c main_v11 = (transpose S16x1024 [1, 0] (Host.gather gather_S1024x16_S16x1_S1024x16_0_1_n_n_1_1_10241
      (extractStridedSlice S1024x16 ![0, 3072] (m ((c : Thread nD τ).loc main_arg2)) slices_S1024x3088_S1024x16_0_3072) cols) transposes_S1024x16_S16x1024_1_0 : S16x1024.Idx → EReal) := rfl
theorem v19 (c : Dev nD) : V m c main_v19 = (shapeCast S16x1 (Host.gather gather_S16_S16x1_S16_n_0_n_n_0_1_1 (m ((c : Thread nD τ).loc main_arg3)) cols) shapeCasts_S16_S16x1 : S16x1.Idx → EReal) := rfl

theorem blk3 (c : Dev nD) (t : Fin cfg0.N) (r : Fin 16) (k : Fin 1024) :
    iblk m c 3 t (ix2 r k) = m ((c : Thread nD τ).loc main_arg2) (ix2 k ⟨3072 + (perm r).val, by omega⟩) := by
  have h : iblk m c 3 t (ix2 r k) = (V m c main_v11 : S16x1024.Idx → EReal) (ix2 r k) := by
    unfold iblk
    show View.read (Elt Ideal) ((View.whole main_v11).slice ((win0 3).rect t)) (V m c main_v11) (ix2 r k) = _
    generalize V m c main_v11 = X
    blk_point [idx t]
  rw [h, v11]
  have e : (transpose S16x1024 [1, 0] (Host.gather gather_S1024x16_S16x1_S1024x16_0_1_n_n_1_1_10241
      (extractStridedSlice S1024x16 ![0, 3072] (m ((c : Thread nD τ).loc main_arg2)) slices_S1024x3088_S1024x16_0_3072) cols) transposes_S1024x16_S16x1024_1_0 : S16x1024.Idx → EReal) (ix2 r k)
      = Host.gather gather_S1024x16_S16x1_S1024x16_0_1_n_n_1_1_10241 (extractStridedSlice S1024x16 ![0, 3072] (m ((c : Thread nD τ).loc main_arg2)) slices_S1024x3088_S1024x16_0_3072) cols (ix2 k r) := by
    generalize Host.gather _ _ _ = X
    pointwise
  rw [e, gather_cols]
  pointwise
theorem blk4 (c : Dev nD) (t : Fin cfg0.N) (r : Fin 16) :
    iblk m c 4 t (ix2 r 0) = m ((c : Thread nD τ).loc main_arg3) (ix1 (perm r)) := by
  have h : iblk m c 4 t (ix2 r 0) = (V m c main_v19 : S16x1.Idx → EReal) (ix2 r 0) := by
    unfold iblk
    show View.read (Elt Ideal) ((View.whole main_v19).slice ((win0 4).rect t)) (V m c main_v19) (ix2 r 0) = _
    generalize V m c main_v19 = X
    blk_point [idx t]
  rw [h, v19]
  have e : (shapeCast S16x1 (Host.gather gather_S16_S16x1_S16_n_0_n_n_0_1_1 (m ((c : Thread nD τ).loc main_arg3)) cols) shapeCasts_S16_S16x1 : S16x1.Idx → EReal) (ix2 r 0)
      = Host.gather gather_S16_S16x1_S16_n_0_n_n_0_1_1 (m ((c : Thread nD τ).loc main_arg3)) cols (ix1 r) := by
    generalize Host.gather _ _ _ = X
    pointwise
  rw [e, gather_bias]

theorem c_15 : Ideal.ofBits FTy.f32 1097859072#32 = ((15 : ℝ) : EReal) := by
  simp [Ideal.ofBits, Ideal.ieee, -EReal.coe_mul]; norm_num

theorem inv_cap : Named.named (F := Ideal) (φ := .f32) κ "inv_cap" 1032358025#32 = (((15 : ℝ)⁻¹ : ℝ) : EReal) :=
  (IdealRules.named_const.ideal_named_scalar _ _ _ _ rfl).trans (by rw [one_div])

theorem div_real (x : EReal) (r : ℝ) (h : r ≠ 0) : Ideal.div x (r : EReal) = x * ((r⁻¹ : ℝ) : EReal) := by
  unfold Ideal.div
  rw [if_neg (by exact_mod_cast h), EReal.coe_inv]

theorem log_ne_bot (x : EReal) (h : 1 ≤ x) : Ideal.log x ≠ ⊥ := by
  induction x with
  | bot => exact absurd (le_bot_iff.1 h) (EReal.coe_ne_bot 1)
  | top =>
    show (⊤ : EReal) ≠ ⊥
    simp
  | coe r =>
    have h' : (1 : ℝ) ≤ r := by exact_mod_cast h
    show (if r ≤ 0 then (⊥ : EReal) else ((Real.log r : ℝ) : EReal)) ≠ ⊥
    rw [if_neg (by linarith)]
    exact EReal.coe_ne_bot _

theorem exp_nonneg (x : EReal) : 0 ≤ Ideal.exp x := by
  induction x with
  | bot => exact le_refl (0 : EReal)
  | top => exact le_top (a := (0 : EReal))
  | coe r =>
    show (0 : EReal) ≤ ((Real.exp r : ℝ) : EReal)
    exact_mod_cast (Real.exp_pos r).le

/-- The log-sigmoid as the kernel writes it is the one the reference writes. -/
theorem log_sigmoid (z : EReal) : min z 0 - Ideal.log (1 + Ideal.exp (0 - FloatOps.absf (F := Ideal) (φ := .f32) z))
    = -(if -z ≠ -z then -z else max (-z) 0 + Ideal.log1p (Ideal.exp (-FloatOps.absf (F := Ideal) (φ := .f32) (-z)))) := by
  rw [if_neg (by simp)]
  have ha : FloatOps.absf (F := Ideal) (φ := .f32) (-z) = FloatOps.absf (F := Ideal) (φ := .f32) z := by
    show max (-z) (- -z) = max z (-z)
    rw [neg_neg, max_comm]
  rw [ha, zero_sub]
  have hl : ∀ x, Ideal.log1p x = Ideal.log (1 + x) := fun x => rfl
  rw [hl]
  have hb : Ideal.log (1 + Ideal.exp (-FloatOps.absf (F := Ideal) (φ := .f32) z)) ≠ ⊥ := log_ne_bot _ (by
    have := exp_nonneg (-FloatOps.absf (F := Ideal) (φ := .f32) z)
    calc (1 : EReal) = 1 + 0 := (add_zero _).symm
      _ ≤ _ := add_le_add_right this 1)
  generalize Ideal.log (1 + Ideal.exp (-FloatOps.absf (F := Ideal) (φ := .f32) z)) = L at hb
  rw [EReal.neg_add (.inl (ne_of_gt (lt_of_lt_of_le (by simp) (le_max_right (-z) 0)))) (.inr hb)]
  congr 1
  rcases le_total z 0 with h | h
  · rw [min_eq_left h, max_eq_left (by simpa using EReal.neg_le_neg_iff.2 h), neg_neg]
  · rw [min_eq_right h, max_eq_right (by simpa using EReal.neg_le_neg_iff.2 h), neg_zero]

theorem refL_at (g : FVec Ideal Cert.ReferenceIdeal7.S32x4x16 .f32) (b : Fin 32) (s : Fin 4) (l : Fin 8) (i : Fin 16) (hi : i.val = 8 + l.val) : refL g (ix3 b s l)
    = min (g (ix3 b s i)) 0 - Ideal.log (1 + Ideal.exp (0 - FloatOps.absf (F := Ideal) (φ := .f32) (g (ix3 b s i)))) := by
  rw [log_sigmoid, show i = ⟨8 + l.val, by omega⟩ from Fin.ext hi]
  pointwise [refL]

theorem mask (r : Fin 16) : (IntOp.cmpi CmpIPredicate.slt
        (Scalar.select
          (IntOp.andi
            (IntOp.xori
              (IntOp.cmpi CmpIPredicate.slt
                (IntOp.remsi ArithUnit.vector (BitVec.ofNat 32 r.val)
                  (Scalar.select (Scalar.cmpi CmpIPredicate.eq 4#32 0#32) 1#32 4#32))
                0#32)
              (Scalar.cmpi CmpIPredicate.slt 4#32 0#32))
            (IntOp.cmpi CmpIPredicate.ne
              (IntOp.remsi ArithUnit.vector (BitVec.ofNat 32 r.val)
                (Scalar.select (Scalar.cmpi CmpIPredicate.eq 4#32 0#32) 1#32 4#32))
              0#32))
          (IntOp.addi
            (IntOp.remsi ArithUnit.vector (BitVec.ofNat 32 r.val)
              (Scalar.select (Scalar.cmpi CmpIPredicate.eq 4#32 0#32) 1#32 4#32))
            4#32)
          (IntOp.remsi ArithUnit.vector (BitVec.ofNat 32 r.val)
            (Scalar.select (Scalar.cmpi CmpIPredicate.eq 4#32 0#32) 1#32 4#32)))
        2#32) = if r.val % 4 < 2 then 1#1 else 0#1 := by
  revert r
  decide +kernel

theorem p1 (g : FVec Ideal S16x128 .f32) (r : Fin 16) (l : Fin 128) : k0_pay1 (F := Ideal) g 4#32 k0_pay8 0#32 (ix2 r l)
    = if r.val % 4 < 2 then g (ix2 r l) else min (g (ix2 r l)) 0 - Ideal.log (1 + Ideal.exp (0 - FloatOps.absf (F := Ideal) (φ := .f32) (g (ix2 r l)))) := by
  pointwise [k0_pay1, k0_pay8]
  rw [mask]
  by_cases h : r.val % 4 < 2
  · rw [if_pos h, if_pos h]
    rfl
  · rw [if_neg h, if_neg h]
    rfl

/-- A gate's value, from the kernel's operands. -/
theorem coreA (y : FVec Ideal Cert.ReferenceIdeal7.S32x4x3088 .f32) (a3 : FVec Ideal Cert.ReferenceIdeal7.S16 .f32) (t : Fin cfg0.N) (r : Fin 16) (l : Fin 128)
    (W : FVec Ideal S16x1024 .bf16) (H : FVec Ideal S128x1024 .bf16) (G : FVec Ideal S16x1 .f32)
    (hy : ∑ k : Fin 1024, W (ix2 r k) * H (ix2 l k) = y (ix3 (rB t l) (rS t l) ⟨3072 + (perm r).val, by omega⟩))
    (hG : G (ix2 r 0) = a3 (ix1 (perm r))) (hb : t.val * 128 + l.val < 128) :
    k0_pay1 (F := Ideal) (k0_pay7 W H G) 4#32 k0_pay8 0#32 (ix2 r l) = refA (refG y a3) (refL (refG y a3)) (ix2 r ⟨t.val * 128 + l.val, hb⟩) := by
  have h7 : k0_pay7 (F := Ideal) W H G (ix2 r l) = refG y a3 (ix3 (rB t l) (rS t l) (perm r)) := by
    pointwise [k0_pay7, refG]
    rw [hy, hG, inv_cap]
    simp only [c_15]
    rw [div_real _ 15 (by norm_num)]
  rw [p1, h7]
  generalize refG y a3 = g
  have hL := refL_at g (rB t l) (rS t l)
  generalize refL g = L at hL ⊢
  pointwise [refA]
  by_cases h : r.val % 4 < 2
  · rw [if_pos h, dif_pos h]
    exact congrArg (fun i => g (ix3 (rB t l) (rS t l) i)) (Fin.ext (by show r.val / 4 * 2 + r.val % 2 + r.val % 4 / 2 * 8 = r.val / 4 * 2 + r.val % 4; omega))
  · rw [if_neg h, dif_neg h]
    exact (hL ⟨r.val / 4 * 2 + (r.val % 4 - 2), by omega⟩ (perm r) (by show r.val / 4 * 2 + r.val % 2 + r.val % 4 / 2 * 8 = 8 + (r.val / 4 * 2 + (r.val % 4 - 2)); omega)).symm

theorem proj (HH : FVec Ideal Cert.ReferenceIdeal7.S32x4x1024 .f32) (w : FVec Ideal Cert.ReferenceIdeal7.S1024x3088 .f32) (b : Fin 32) (s : Fin 4) (l : Fin 3088) (h : Fin 1024 → EReal) (v : Fin 1024 → EReal)
    (hh : ∀ k, h k = HH (ix3 b s k)) (hv : ∀ k, v k = w (ix2 k l)) : ∑ k : Fin 1024, h k * v k = refP HH w (ix3 b s l) := by
  simp only [hh, hv]
  pointwise [refP]

theorem projT (HH : FVec Ideal Cert.ReferenceIdeal7.S32x4x1024 .f32) (w : FVec Ideal Cert.ReferenceIdeal7.S1024x3088 .f32) (b : Fin 32) (s : Fin 4) (l : Fin 3088) (h : Fin 1024 → EReal) (v : Fin 1024 → EReal)
    (hh : ∀ k, h k = HH (ix3 b s k)) (hv : ∀ k, v k = w (ix2 k l)) : ∑ k : Fin 1024, v k * h k = refP HH w (ix3 b s l) :=
  (Finset.sum_congr rfl fun k _ => mul_comm _ _).trans (proj HH w b s l h v hh hv)

theorem coreQ (y : FVec Ideal Cert.ReferenceIdeal7.S32x4x3088 .f32) (t : Fin cfg0.N) (r : Fin 128) (l : Fin 512) (H : FVec Ideal S128x1024 .bf16) (W : FVec Ideal S1024x512 .bf16)
    (hy : ∑ k : Fin 1024, H (ix2 r k) * W (ix2 k l) = y (ix3 (rB t r) (rS t r) ⟨0 + l.val, by omega⟩)) (hb : t.val * 128 + r.val < 128) :
    k0_pay3 (F := Ideal) H W (ix2 r l) = refQ y (ix2 ⟨t.val * 128 + r.val, hb⟩ l) := by
  have h : refQ y (ix2 ⟨t.val * 128 + r.val, hb⟩ l) = y (ix3 (rB t r) (rS t r) ⟨0 + l.val, by omega⟩) := by
    pointwise [refQ]
  rw [h, ← hy]
  pointwise [k0_pay3]

theorem outQ (c : Dev nD) (t : Fin cfg0.N) (r : Fin 128) (l : Fin 512) (hb : t.val * 128 + r.val < 128) : (outsAt0 m c t).1 (ix2 r l) = refQ (refY (m ((c : Thread nD τ).loc main_arg0)) (m ((c : Thread nD τ).loc main_arg1)) (m ((c : Thread nD τ).loc main_arg2))) (ix2 ⟨t.val * 128 + r.val, hb⟩ l) := by
  have h : k0_pay3 (F := Ideal) (k0_pay2 (iblk m c 0 t) (iblk m c 1 t)) (View.ld (iblk m c 2 t) (Rect.unit ![0, 0] ![1024, 512] inb_S1024x3072_S1024x512_0_0)) (ix2 r l) = refQ (refY (m ((c : Thread nD τ).loc main_arg0)) (m ((c : Thread nD τ).loc main_arg1)) (m ((c : Thread nD τ).loc main_arg2))) (ix2 ⟨t.val * 128 + r.val, hb⟩ l) :=
    coreQ _ t r l _ _ (proj _ _ _ _ _ _ _ (fun k => pay2 m c t r k) fun k =>
      (show (View.ld (iblk m c 2 t) (Rect.unit ![0, 0] ![1024, 512] inb_S1024x3072_S1024x512_0_0)) (ix2 k l) = iblk m c 2 t (ix2 k ⟨0 + l.val, by omega⟩) by pointwise).trans (blk2 m c t k ⟨0 + l.val, by omega⟩)) hb
  generalize refQ _ = RR at h ⊢
  unfold outsAt0
  frame_out
  exact h

theorem coreK (y : FVec Ideal Cert.ReferenceIdeal7.S32x4x3088 .f32) (t : Fin cfg0.N) (r : Fin 128) (l : Fin 512) (H : FVec Ideal S128x1024 .bf16) (W : FVec Ideal S1024x512 .bf16)
    (hy : ∑ k : Fin 1024, H (ix2 r k) * W (ix2 k l) = y (ix3 (rB t r) (rS t r) ⟨512 + l.val, by omega⟩)) (hb : t.val * 128 + r.val < 128) :
    k0_pay4 (F := Ideal) H W (ix2 r l) = refK y (ix2 ⟨t.val * 128 + r.val, hb⟩ l) := by
  have h : refK y (ix2 ⟨t.val * 128 + r.val, hb⟩ l) = y (ix3 (rB t r) (rS t r) ⟨512 + l.val, by omega⟩) * Ideal.ofBits FTy.f32 1040187392#32 := by
    pointwise [refK]
  rw [h, ← hy]
  pointwise [k0_pay4]

theorem outK (c : Dev nD) (t : Fin cfg0.N) (r : Fin 128) (l : Fin 512) (hb : t.val * 128 + r.val < 128) : (outsAt0 m c t).2.1 (ix2 r l) = refK (refY (m ((c : Thread nD τ).loc main_arg0)) (m ((c : Thread nD τ).loc main_arg1)) (m ((c : Thread nD τ).loc main_arg2))) (ix2 ⟨t.val * 128 + r.val, hb⟩ l) := by
  have h : k0_pay4 (F := Ideal) (k0_pay2 (iblk m c 0 t) (iblk m c 1 t)) (View.ld (iblk m c 2 t) (Rect.unit ![0, 512] ![1024, 512] inb_S1024x3072_S1024x512_0_512)) (ix2 r l) = refK (refY (m ((c : Thread nD τ).loc main_arg0)) (m ((c : Thread nD τ).loc main_arg1)) (m ((c : Thread nD τ).loc main_arg2))) (ix2 ⟨t.val * 128 + r.val, hb⟩ l) :=
    coreK _ t r l _ _ (proj _ _ _ _ _ _ _ (fun k => pay2 m c t r k) fun k =>
      (show (View.ld (iblk m c 2 t) (Rect.unit ![0, 512] ![1024, 512] inb_S1024x3072_S1024x512_0_512)) (ix2 k l) = iblk m c 2 t (ix2 k ⟨512 + l.val, by omega⟩) by pointwise).trans (blk2 m c t k ⟨512 + l.val, by omega⟩)) hb
  generalize refK _ = RR at h ⊢
  unfold outsAt0
  frame_out
  exact h

theorem coreV (y : FVec Ideal Cert.ReferenceIdeal7.S32x4x3088 .f32) (t : Fin cfg0.N) (r : Fin 128) (l : Fin 1024) (H : FVec Ideal S128x1024 .bf16) (W : FVec Ideal S1024x1024 .bf16)
    (hy : ∑ k : Fin 1024, H (ix2 r k) * W (ix2 k l) = y (ix3 (rB t r) (rS t r) ⟨1024 + l.val, by omega⟩)) (hb : t.val * 128 + r.val < 128) :
    k0_pay5 (F := Ideal) H W (ix2 r l) = refV y (ix2 ⟨t.val * 128 + r.val, hb⟩ l) := by
  have h : refV y (ix2 ⟨t.val * 128 + r.val, hb⟩ l) = y (ix3 (rB t r) (rS t r) ⟨1024 + l.val, by omega⟩) := by
    pointwise [refV]
  rw [h, ← hy]
  pointwise [k0_pay5]

theorem outV (c : Dev nD) (t : Fin cfg0.N) (r : Fin 128) (l : Fin 1024) (hb : t.val * 128 + r.val < 128) : (outsAt0 m c t).2.2.1 (ix2 r l) = refV (refY (m ((c : Thread nD τ).loc main_arg0)) (m ((c : Thread nD τ).loc main_arg1)) (m ((c : Thread nD τ).loc main_arg2))) (ix2 ⟨t.val * 128 + r.val, hb⟩ l) := by
  have h : k0_pay5 (F := Ideal) (k0_pay2 (iblk m c 0 t) (iblk m c 1 t)) (View.ld (iblk m c 2 t) (Rect.unit ![0, 1024] ![1024, 1024] inb_S1024x3072_S1024x1024_0_1024)) (ix2 r l) = refV (refY (m ((c : Thread nD τ).loc main_arg0)) (m ((c : Thread nD τ).loc main_arg1)) (m ((c : Thread nD τ).loc main_arg2))) (ix2 ⟨t.val * 128 + r.val, hb⟩ l) :=
    coreV _ t r l _ _ (proj _ _ _ _ _ _ _ (fun k => pay2 m c t r k) fun k =>
      (show (View.ld (iblk m c 2 t) (Rect.unit ![0, 1024] ![1024, 1024] inb_S1024x3072_S1024x1024_0_1024)) (ix2 k l) = iblk m c 2 t (ix2 k ⟨1024 + l.val, by omega⟩) by pointwise).trans (blk2 m c t k ⟨1024 + l.val, by omega⟩)) hb
  generalize refV _ = RR at h ⊢
  unfold outsAt0
  frame_out
  exact h

theorem coreO (y : FVec Ideal Cert.ReferenceIdeal7.S32x4x3088 .f32) (t : Fin cfg0.N) (r : Fin 128) (l : Fin 1024) (H : FVec Ideal S128x1024 .bf16) (W : FVec Ideal S1024x1024 .bf16)
    (hy : ∑ k : Fin 1024, H (ix2 r k) * W (ix2 k l) = y (ix3 (rB t r) (rS t r) ⟨2048 + l.val, by omega⟩)) (hb : t.val * 128 + r.val < 128) :
    k0_pay6 (F := Ideal) H W (ix2 r l) = refO y (ix2 ⟨t.val * 128 + r.val, hb⟩ l) := by
  have h : refO y (ix2 ⟨t.val * 128 + r.val, hb⟩ l) = y (ix3 (rB t r) (rS t r) ⟨2048 + l.val, by omega⟩) := by
    pointwise [refO]
  rw [h, ← hy]
  pointwise [k0_pay6]

theorem outO (c : Dev nD) (t : Fin cfg0.N) (r : Fin 128) (l : Fin 1024) (hb : t.val * 128 + r.val < 128) : (outsAt0 m c t).2.2.2.1 (ix2 r l) = refO (refY (m ((c : Thread nD τ).loc main_arg0)) (m ((c : Thread nD τ).loc main_arg1)) (m ((c : Thread nD τ).loc main_arg2))) (ix2 ⟨t.val * 128 + r.val, hb⟩ l) := by
  have h : k0_pay6 (F := Ideal) (k0_pay2 (iblk m c 0 t) (iblk m c 1 t)) (View.ld (iblk m c 2 t) (Rect.unit ![0, 2048] ![1024, 1024] inb_S1024x3072_S1024x1024_0_2048)) (ix2 r l) = refO (refY (m ((c : Thread nD τ).loc main_arg0)) (m ((c : Thread nD τ).loc main_arg1)) (m ((c : Thread nD τ).loc main_arg2))) (ix2 ⟨t.val * 128 + r.val, hb⟩ l) :=
    coreO _ t r l _ _ (proj _ _ _ _ _ _ _ (fun k => pay2 m c t r k) fun k =>
      (show (View.ld (iblk m c 2 t) (Rect.unit ![0, 2048] ![1024, 1024] inb_S1024x3072_S1024x1024_0_2048)) (ix2 k l) = iblk m c 2 t (ix2 k ⟨2048 + l.val, by omega⟩) by pointwise).trans (blk2 m c t k ⟨2048 + l.val, by omega⟩)) hb
  generalize refO _ = RR at h ⊢
  unfold outsAt0
  frame_out
  exact h

theorem outA (c : Dev nD) (t : Fin cfg0.N) (r : Fin 16) (l : Fin 128) (hb : t.val * 128 + l.val < 128) :
    (outsAt0 m c t).2.2.2.2 (ix2 r l) = refA (refG (refY (m ((c : Thread nD τ).loc main_arg0)) (m ((c : Thread nD τ).loc main_arg1)) (m ((c : Thread nD τ).loc main_arg2))) (m ((c : Thread nD τ).loc main_arg3))) (refL (refG (refY (m ((c : Thread nD τ).loc main_arg0)) (m ((c : Thread nD τ).loc main_arg1)) (m ((c : Thread nD τ).loc main_arg2))) (m ((c : Thread nD τ).loc main_arg3)))) (ix2 r ⟨t.val * 128 + l.val, hb⟩) := by
  have h : k0_pay1 (F := Ideal) (k0_pay7 (iblk m c 3 t) (k0_pay2 (iblk m c 0 t) (iblk m c 1 t)) (iblk m c 4 t)) 4#32 k0_pay8 0#32 (ix2 r l) = refA (refG (refY (m ((c : Thread nD τ).loc main_arg0)) (m ((c : Thread nD τ).loc main_arg1)) (m ((c : Thread nD τ).loc main_arg2))) (m ((c : Thread nD τ).loc main_arg3))) (refL (refG (refY (m ((c : Thread nD τ).loc main_arg0)) (m ((c : Thread nD τ).loc main_arg1)) (m ((c : Thread nD τ).loc main_arg2))) (m ((c : Thread nD τ).loc main_arg3)))) (ix2 r ⟨t.val * 128 + l.val, hb⟩) :=
    coreA _ _ t r l _ _ _ (projT _ _ _ _ _ _ _ (fun k => pay2 m c t l k) fun k => blk3 m c t r k) (blk4 m c t r) hb
  generalize refA _ _ = RR at h ⊢
  unfold outsAt0
  frame_out
  exact h

theorem finalQ (c : Dev nD) : (dats m 0 c).arrAt 5 (cfgs 0).N = refQ (refY (m ((c : Thread nD τ).loc main_arg0)) (m ((c : Thread nD τ).loc main_arg1)) (m ((c : Thread nD τ).loc main_arg2))) := by
  generalize hR : refQ (refY (m ((c : Thread nD τ).loc main_arg0)) (m ((c : Thread nD τ).loc main_arg1)) (m ((c : Thread nD τ).loc main_arg2))) = RR
  refine (dats m 0 c).arrAt_eq_of_covers 5 _ (by decide +kernel) fun t _ y => ?_
  blk_simp
  rw [after0_5]
  idx_vars y
  have hb : t.val * 128 + y0.val < 128 := by have h : t.val < 1 := t.isLt; omega
  rw [outQ m c t y0 y1 hb, hR]
  blk_ext [idx t]

theorem finalK (c : Dev nD) : (dats m 0 c).arrAt 6 (cfgs 0).N = refK (refY (m ((c : Thread nD τ).loc main_arg0)) (m ((c : Thread nD τ).loc main_arg1)) (m ((c : Thread nD τ).loc main_arg2))) := by
  generalize hR : refK (refY (m ((c : Thread nD τ).loc main_arg0)) (m ((c : Thread nD τ).loc main_arg1)) (m ((c : Thread nD τ).loc main_arg2))) = RR
  refine (dats m 0 c).arrAt_eq_of_covers 6 _ (by decide +kernel) fun t _ y => ?_
  blk_simp
  rw [after0_6]
  idx_vars y
  have hb : t.val * 128 + y0.val < 128 := by have h : t.val < 1 := t.isLt; omega
  rw [outK m c t y0 y1 hb, hR]
  blk_ext [idx t]

theorem finalV (c : Dev nD) : (dats m 0 c).arrAt 7 (cfgs 0).N = refV (refY (m ((c : Thread nD τ).loc main_arg0)) (m ((c : Thread nD τ).loc main_arg1)) (m ((c : Thread nD τ).loc main_arg2))) := by
  generalize hR : refV (refY (m ((c : Thread nD τ).loc main_arg0)) (m ((c : Thread nD τ).loc main_arg1)) (m ((c : Thread nD τ).loc main_arg2))) = RR
  refine (dats m 0 c).arrAt_eq_of_covers 7 _ (by decide +kernel) fun t _ y => ?_
  blk_simp
  rw [after0_7]
  idx_vars y
  have hb : t.val * 128 + y0.val < 128 := by have h : t.val < 1 := t.isLt; omega
  rw [outV m c t y0 y1 hb, hR]
  blk_ext [idx t]

theorem finalO (c : Dev nD) : (dats m 0 c).arrAt 8 (cfgs 0).N = refO (refY (m ((c : Thread nD τ).loc main_arg0)) (m ((c : Thread nD τ).loc main_arg1)) (m ((c : Thread nD τ).loc main_arg2))) := by
  generalize hR : refO (refY (m ((c : Thread nD τ).loc main_arg0)) (m ((c : Thread nD τ).loc main_arg1)) (m ((c : Thread nD τ).loc main_arg2))) = RR
  refine (dats m 0 c).arrAt_eq_of_covers 8 _ (by decide +kernel) fun t _ y => ?_
  blk_simp
  rw [after0_8]
  idx_vars y
  have hb : t.val * 128 + y0.val < 128 := by have h : t.val < 1 := t.isLt; omega
  rw [outO m c t y0 y1 hb, hR]
  blk_ext [idx t]

theorem finalA (c : Dev nD) : (dats m 0 c).arrAt 9 (cfgs 0).N = refA (refG (refY (m ((c : Thread nD τ).loc main_arg0)) (m ((c : Thread nD τ).loc main_arg1)) (m ((c : Thread nD τ).loc main_arg2))) (m ((c : Thread nD τ).loc main_arg3))) (refL (refG (refY (m ((c : Thread nD τ).loc main_arg0)) (m ((c : Thread nD τ).loc main_arg1)) (m ((c : Thread nD τ).loc main_arg2))) (m ((c : Thread nD τ).loc main_arg3)))) := by
  generalize hR : refA (refG (refY (m ((c : Thread nD τ).loc main_arg0)) (m ((c : Thread nD τ).loc main_arg1)) (m ((c : Thread nD τ).loc main_arg2))) (m ((c : Thread nD τ).loc main_arg3))) (refL (refG (refY (m ((c : Thread nD τ).loc main_arg0)) (m ((c : Thread nD τ).loc main_arg1)) (m ((c : Thread nD τ).loc main_arg2))) (m ((c : Thread nD τ).loc main_arg3)))) = RR
  refine (dats m 0 c).arrAt_eq_of_covers 9 _ (by decide +kernel) fun t _ y => ?_
  blk_simp
  rw [after0_9]
  idx_vars y
  have hb : t.val * 128 + y1.val < 128 := by have h : t.val < 1 := t.isLt; omega
  rw [outA m c t y0 y1 hb, hR]
  blk_ext [idx t]

theorem res_a (m' : (ℓ : Loc Cert.ReferenceIdeal7.nD Cert.ReferenceIdeal7.τ Cert.ReferenceIdeal7.sig) → Buf (Elt Ideal) ℓ) (c : Dev Cert.ReferenceIdeal7.nD) : Cert.ReferenceIdeal7.Value.res_main_v43 m' c = refA (refG (refY (m' ((c.tc : Thread Cert.ReferenceIdeal7.nD Cert.ReferenceIdeal7.τ).loc Cert.ReferenceIdeal7.main_arg0)) (m' ((c.tc : Thread Cert.ReferenceIdeal7.nD Cert.ReferenceIdeal7.τ).loc Cert.ReferenceIdeal7.main_arg1)) (m' ((c.tc : Thread Cert.ReferenceIdeal7.nD Cert.ReferenceIdeal7.τ).loc Cert.ReferenceIdeal7.main_arg2))) (m' ((c.tc : Thread Cert.ReferenceIdeal7.nD Cert.ReferenceIdeal7.τ).loc Cert.ReferenceIdeal7.main_arg3))) (refL (refG (refY (m' ((c.tc : Thread Cert.ReferenceIdeal7.nD Cert.ReferenceIdeal7.τ).loc Cert.ReferenceIdeal7.main_arg0)) (m' ((c.tc : Thread Cert.ReferenceIdeal7.nD Cert.ReferenceIdeal7.τ).loc Cert.ReferenceIdeal7.main_arg1)) (m' ((c.tc : Thread Cert.ReferenceIdeal7.nD Cert.ReferenceIdeal7.τ).loc Cert.ReferenceIdeal7.main_arg2))) (m' ((c.tc : Thread Cert.ReferenceIdeal7.nD Cert.ReferenceIdeal7.τ).loc Cert.ReferenceIdeal7.main_arg3)))) := rfl

end Cert.KernelIdeal7.MlProjS
-- ==== Proof.lean ====
/- The proof of the certificate: the frames of the programs and the values of the kernels. -/
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.AttnV.Value
public import proofs.«01_k».proof.Proof.Gen.Kernel2.Frame
public import proofs.«01_k».proof.Proof.Gen.KernelIdeal2.Value
public import proofs.«01_k».proof.Proof.Gen.ReferenceIdeal2.Run
public import proofs.«01_k».proof.Proof.Ffn.Value
public import proofs.«01_k».proof.Proof.Gen.Kernel3.Frame
public import proofs.«01_k».proof.Proof.Qkv.Value
public import proofs.«01_k».proof.Proof.MlProj.Value
import proofs.«01_k».proof.Proof.FfnS.Value
import proofs.«01_k».proof.Proof.QkvS.Value
import proofs.«01_k».proof.Proof.MlProjS.Value
public import proofs.«01_k».proof.Proof.Gen.Kernel5.Frame
public import proofs.«01_k».proof.Proof.Gen.KernelIdeal5.Value
public import proofs.«01_k».proof.Proof.Gen.ReferenceIdeal5.Run
public import proofs.«01_k».proof.Proof.Gen.Kernel6.Frame
public import proofs.«01_k».proof.Proof.Gen.KernelIdeal6.Value
public import proofs.«01_k».proof.Proof.Gen.ReferenceIdeal6.Run
public import proofs.«01_k».proof.Proof.Gen.Kernel7.Frame
public import proofs.«01_k».proof.Proof.Gen.KernelIdeal7.Value
public import proofs.«01_k».proof.Proof.Gen.ReferenceIdeal7.Run
public import Idealize.ShloMosaic.Adequacy
public import Idealize.ShloMosaic.Init

@[expose] public section

noncomputable section

namespace Cert.Proof

open Idealize.ShloMosaic Idealize.SL.Sem

theorem frame_r1 : Cert.quiescent_ReferenceIdeal := fun m ρ _ =>
  (θ_run _ _ _).mono (fun r h => ⟨fun c => (h c).2, sem_eq_zero_of_no_sems (by decide) r.2⟩)
    (Cert.ReferenceIdeal.Value.run m ρ)

theorem frame_r2 : Cert.quiescent_ReferenceIdeal2 := fun m ρ _ =>
  (θ_run _ _ _).mono (fun r h => ⟨fun c => (h c).2, sem_eq_zero_of_no_sems (by decide) r.2⟩)
    (Cert.ReferenceIdeal2.Value.run m ρ)

theorem preserves1 : Cert.preserves_Kernel_KernelIdeal :=
  IdealRules.named_const.statement Cert.KernelIdeal.κ "log2e" .f32 0x3FB8AA3B#32 (((Real.log 2)⁻¹ : ℝ) : EReal) rfl

theorem algebraic1 : Cert.algebraic_KernelIdeal_ReferenceIdeal :=
  fun m g m' g' _ hag => ⟨fun c => (Cert.KernelIdeal.Attn.dats m 0 c).arrAt 4 (Cert.KernelIdeal.cfgs 0).N,
    (θ_run _ _ _).mono (fun _ h c => ⟨(h.2 c).1 4, h.1.1 c⟩)
      (θ_run_and (Cert.KernelIdeal.Attn.frame m g) (Cert.KernelIdeal.Attn.run_main m g)),
    (θ_run _ _ _).mono (fun _ h c => ⟨(h c).1.trans (by
      rw [Cert.ReferenceIdeal.AttnV.res_eq, (hag c).1, (hag c).2.1, (hag c).2.2.1, (hag c).2.2.2]
      exact (Cert.KernelIdeal.AttnV.final m c).symm), (h c).2⟩)
      (Cert.ReferenceIdeal.Value.run m' g')⟩

theorem algebraic2 : Cert.algebraic_KernelIdeal2_ReferenceIdeal2 :=
  fun m g m' g' _ hag => ⟨fun c => (Cert.KernelIdeal2.Gen.dats m 0 c).arrAt 6 (Cert.KernelIdeal2.cfgs 0).N,
    Cert.KernelIdeal2.Value.run_blocks m g,
    (θ_run _ _ _).mono (fun _ h c => ⟨(h c).1.trans (by
      rw [Cert.KernelIdeal2.Ffn.res_eq, (hag c).1, (hag c).2.1, (hag c).2.2.1, (hag c).2.2.2.1, (hag c).2.2.2.2.1, (hag c).2.2.2.2.2]
      exact (Cert.KernelIdeal2.Ffn.final m c).symm), (h c).2⟩)
      (Cert.ReferenceIdeal2.Value.run m' g')⟩

theorem frame_r3 : Cert.quiescent_ReferenceIdeal3 := fun m ρ _ =>
  (θ_run _ _ _).mono (fun r h => ⟨fun c => (h c).2.2.2, sem_eq_zero_of_no_sems (by decide) r.2⟩)
    (Cert.ReferenceIdeal3.Value.run m ρ)

theorem frame_r4 : Cert.quiescent_ReferenceIdeal4 := fun m ρ _ =>
  (θ_run _ _ _).mono (fun r h => ⟨fun c => (h c).2.2.2.2.2, sem_eq_zero_of_no_sems (by decide) r.2⟩)
    (Cert.ReferenceIdeal4.Value.run m ρ)

theorem preserves3 : Cert.preserves_Kernel3_KernelIdeal3 :=
  IdealRules.named_const.statement Cert.KernelIdeal3.κ "query_scale" .f32 0x3E38AA3B#32 (((1 / 8) * (Real.log 2)⁻¹ : ℝ) : EReal) rfl

theorem preserves4 : Cert.preserves_Kernel4_KernelIdeal4 :=
  IdealRules.named_const.statement Cert.KernelIdeal4.κ "inv_cap" .f32 0x3D888889#32 ((1 / 15 : ℝ) : EReal) rfl

theorem algebraic3 : Cert.algebraic_KernelIdeal3_ReferenceIdeal3 :=
  fun m g m' g' _ hag => ⟨fun c => (Cert.KernelIdeal3.Gen.dats m 0 c).arrAt 7 (Cert.KernelIdeal3.cfgs 0).N,
    fun c => (Cert.KernelIdeal3.Gen.dats m 0 c).arrAt 8 (Cert.KernelIdeal3.cfgs 0).N,
    fun c => (Cert.KernelIdeal3.Gen.dats m 0 c).arrAt 9 (Cert.KernelIdeal3.cfgs 0).N,
    Cert.KernelIdeal3.Value.run_blocks m g,
    (θ_run _ _ _).mono (fun _ h c => ⟨(h c).1.trans (by
        rw [Cert.KernelIdeal3.Qkv.res_q, (hag c).1, (hag c).2.1, (hag c).2.2.1, (hag c).2.2.2.1]
        exact (Cert.KernelIdeal3.Qkv.finalQ m c).symm), (h c).2.1.trans (by
        rw [Cert.KernelIdeal3.Qkv.res_k, (hag c).1, (hag c).2.1, (hag c).2.2.1, (hag c).2.2.2.2]
        exact (Cert.KernelIdeal3.Qkv.finalK m c).symm), (h c).2.2.1.trans (by
        rw [(hag c).1, (hag c).2.1, (hag c).2.2.1]
        exact (Cert.KernelIdeal3.Qkv.finalV m c).symm), (h c).2.2.2⟩)
      (Cert.ReferenceIdeal3.Value.run m' g')⟩

theorem algebraic4 : Cert.algebraic_KernelIdeal4_ReferenceIdeal4 :=
  fun m g m' g' _ hag => ⟨fun c => (Cert.KernelIdeal4.Gen.dats m 0 c).arrAt 5 (Cert.KernelIdeal4.cfgs 0).N,
    fun c => (Cert.KernelIdeal4.Gen.dats m 0 c).arrAt 6 (Cert.KernelIdeal4.cfgs 0).N,
    fun c => (Cert.KernelIdeal4.Gen.dats m 0 c).arrAt 7 (Cert.KernelIdeal4.cfgs 0).N,
    fun c => (Cert.KernelIdeal4.Gen.dats m 0 c).arrAt 8 (Cert.KernelIdeal4.cfgs 0).N,
    fun c => (Cert.KernelIdeal4.Gen.dats m 0 c).arrAt 9 (Cert.KernelIdeal4.cfgs 0).N,
    Cert.KernelIdeal4.Value.run_blocks m g,
    (θ_run _ _ _).mono (fun _ h c => ⟨(h c).1.trans (by
        rw [(hag c).1, (hag c).2.1, (hag c).2.2.1]
        exact (Cert.KernelIdeal4.MlProj.finalQ m c).symm), (h c).2.1.trans (by
        rw [(hag c).1, (hag c).2.1, (hag c).2.2.1]
        exact (Cert.KernelIdeal4.MlProj.finalK m c).symm), (h c).2.2.1.trans (by
        rw [(hag c).1, (hag c).2.1, (hag c).2.2.1]
        exact (Cert.KernelIdeal4.MlProj.finalV m c).symm), (h c).2.2.2.1.trans (by
        rw [(hag c).1, (hag c).2.1, (hag c).2.2.1]
        exact (Cert.KernelIdeal4.MlProj.finalO m c).symm), (h c).2.2.2.2.1.trans (by
        rw [Cert.KernelIdeal4.MlProj.res_a, (hag c).1, (hag c).2.1, (hag c).2.2.1, (hag c).2.2.2]
        exact (Cert.KernelIdeal4.MlProj.finalA m c).symm), (h c).2.2.2.2.2⟩)
      (Cert.ReferenceIdeal4.Value.run m' g')⟩

theorem frame_r5 : Cert.quiescent_ReferenceIdeal5 := fun m ρ _ =>
  (θ_run _ _ _).mono (fun r h => ⟨fun c => (h c).2.2.2, sem_eq_zero_of_no_sems (by decide) r.2⟩)
    (Cert.ReferenceIdeal5.Value.run m ρ)

theorem preserves5 : Cert.preserves_Kernel5_KernelIdeal5 :=
  IdealRules.named_const.statement Cert.KernelIdeal5.κ "query_scale" .f32 0x3E38AA3B#32 (((1 / 8) * (Real.log 2)⁻¹ : ℝ) : EReal) rfl

theorem algebraic5 : Cert.algebraic_KernelIdeal5_ReferenceIdeal5 :=
  fun m g m' g' _ hag => ⟨fun c => (Cert.KernelIdeal5.Gen.dats m 0 c).arrAt 7 (Cert.KernelIdeal5.cfgs 0).N,
    fun c => (Cert.KernelIdeal5.Gen.dats m 0 c).arrAt 8 (Cert.KernelIdeal5.cfgs 0).N,
    fun c => (Cert.KernelIdeal5.Gen.dats m 0 c).arrAt 9 (Cert.KernelIdeal5.cfgs 0).N,
    Cert.KernelIdeal5.Value.run_blocks m g,
    (θ_run _ _ _).mono (fun _ h c => ⟨(h c).1.trans (by
        rw [(hag c).1, (hag c).2.1, (hag c).2.2.1, (hag c).2.2.2.1]
        exact (Cert.KernelIdeal5.QkvS.finalQ m c).symm), (h c).2.1.trans (by
        rw [(hag c).1, (hag c).2.1, (hag c).2.2.1, (hag c).2.2.2.2]
        exact (Cert.KernelIdeal5.QkvS.finalK m c).symm), (h c).2.2.1.trans (by
        rw [(hag c).1, (hag c).2.1, (hag c).2.2.1]
        exact (Cert.KernelIdeal5.QkvS.finalV m c).symm), (h c).2.2.2⟩)
      (Cert.ReferenceIdeal5.Value.run m' g')⟩

theorem frame_r6 : Cert.quiescent_ReferenceIdeal6 := fun m ρ _ =>
  (θ_run _ _ _).mono (fun r h => ⟨fun c => (h c).2, sem_eq_zero_of_no_sems (by decide) r.2⟩)
    (Cert.ReferenceIdeal6.Value.run m ρ)

theorem algebraic6 : Cert.algebraic_KernelIdeal6_ReferenceIdeal6 :=
  fun m g m' g' _ hag => ⟨fun c => (Cert.KernelIdeal6.Gen.dats m 0 c).arrAt 6 (Cert.KernelIdeal6.cfgs 0).N,
    Cert.KernelIdeal6.Value.run_blocks m g,
    (θ_run _ _ _).mono (fun _ h c => ⟨(h c).1.trans (by
      rw [Cert.KernelIdeal6.FfnS.res_eq, (hag c).1, (hag c).2.1, (hag c).2.2.1, (hag c).2.2.2.1, (hag c).2.2.2.2.1, (hag c).2.2.2.2.2]
      exact (Cert.KernelIdeal6.FfnS.final m c).symm), (h c).2⟩)
      (Cert.ReferenceIdeal6.Value.run m' g')⟩

theorem frame_r7 : Cert.quiescent_ReferenceIdeal7 := fun m ρ _ =>
  (θ_run _ _ _).mono (fun r h => ⟨fun c => (h c).2.2.2.2.2, sem_eq_zero_of_no_sems (by decide) r.2⟩)
    (Cert.ReferenceIdeal7.Value.run m ρ)

theorem preserves7 : Cert.preserves_Kernel7_KernelIdeal7 :=
  IdealRules.named_const.statement Cert.KernelIdeal7.κ "inv_cap" .f32 0x3D888889#32 ((1 / 15 : ℝ) : EReal) rfl

theorem algebraic7 : Cert.algebraic_KernelIdeal7_ReferenceIdeal7 :=
  fun m g m' g' _ hag => ⟨fun c => (Cert.KernelIdeal7.Gen.dats m 0 c).arrAt 5 (Cert.KernelIdeal7.cfgs 0).N,
    fun c => (Cert.KernelIdeal7.Gen.dats m 0 c).arrAt 6 (Cert.KernelIdeal7.cfgs 0).N,
    fun c => (Cert.KernelIdeal7.Gen.dats m 0 c).arrAt 7 (Cert.KernelIdeal7.cfgs 0).N,
    fun c => (Cert.KernelIdeal7.Gen.dats m 0 c).arrAt 8 (Cert.KernelIdeal7.cfgs 0).N,
    fun c => (Cert.KernelIdeal7.Gen.dats m 0 c).arrAt 9 (Cert.KernelIdeal7.cfgs 0).N,
    Cert.KernelIdeal7.Value.run_blocks m g,
    (θ_run _ _ _).mono (fun _ h c => ⟨(h c).1.trans (by
        rw [(hag c).1, (hag c).2.1, (hag c).2.2.1]
        exact (Cert.KernelIdeal7.MlProjS.finalQ m c).symm), (h c).2.1.trans (by
        rw [(hag c).1, (hag c).2.1, (hag c).2.2.1]
        exact (Cert.KernelIdeal7.MlProjS.finalK m c).symm), (h c).2.2.1.trans (by
        rw [(hag c).1, (hag c).2.1, (hag c).2.2.1]
        exact (Cert.KernelIdeal7.MlProjS.finalV m c).symm), (h c).2.2.2.1.trans (by
        rw [(hag c).1, (hag c).2.1, (hag c).2.2.1]
        exact (Cert.KernelIdeal7.MlProjS.finalO m c).symm), (h c).2.2.2.2.1.trans (by
        rw [Cert.KernelIdeal7.MlProjS.res_a, (hag c).1, (hag c).2.1, (hag c).2.2.1, (hag c).2.2.2]
        exact (Cert.KernelIdeal7.MlProjS.finalA m c).symm), (h c).2.2.2.2.2⟩)
      (Cert.ReferenceIdeal7.Value.run m' g')⟩

theorem claim : Cert.Claim :=
  ⟨Cert.Kernel.Gen.facts, Cert.KernelIdeal.Gen.facts, Cert.ReferenceIdeal.Gen.facts, Cert.Kernel2.Gen.facts, Cert.KernelIdeal2.Gen.facts, Cert.ReferenceIdeal2.Gen.facts,
    Cert.Kernel3.Gen.facts, Cert.KernelIdeal3.Gen.facts, Cert.ReferenceIdeal3.Gen.facts, Cert.Kernel4.Gen.facts, Cert.KernelIdeal4.Gen.facts, Cert.ReferenceIdeal4.Gen.facts,
    Cert.Kernel5.Gen.facts, Cert.KernelIdeal5.Gen.facts, Cert.ReferenceIdeal5.Gen.facts,
    Cert.Kernel6.Gen.facts, Cert.KernelIdeal6.Gen.facts, Cert.ReferenceIdeal6.Gen.facts,
    Cert.Kernel7.Gen.facts, Cert.KernelIdeal7.Gen.facts, Cert.ReferenceIdeal7.Gen.facts,
    fun m ρ _ => Cert.Kernel.Attn.frame m ρ,
    fun m ρ _ => Cert.KernelIdeal.Attn.frame m ρ,
    frame_r1,
    fun m ρ _ => Cert.Kernel2.Gen.frame m ρ,
    fun m ρ _ => Cert.KernelIdeal2.Gen.frame m ρ,
    frame_r2,
    fun m ρ _ => Cert.Kernel3.Gen.frame m ρ,
    fun m ρ _ => Cert.KernelIdeal3.Gen.frame m ρ,
    frame_r3,
    fun m ρ _ => Cert.Kernel4.Gen.frame m ρ,
    fun m ρ _ => Cert.KernelIdeal4.Gen.frame m ρ,
    frame_r4,
    fun m ρ _ => Cert.Kernel5.Gen.frame m ρ,
    fun m ρ _ => Cert.KernelIdeal5.Gen.frame m ρ,
    frame_r5,
    fun m ρ _ => Cert.Kernel6.Gen.frame m ρ,
    fun m ρ _ => Cert.KernelIdeal6.Gen.frame m ρ,
    frame_r6,
    fun m ρ _ => Cert.Kernel7.Gen.frame m ρ,
    fun m ρ _ => Cert.KernelIdeal7.Gen.frame m ρ,
    frame_r7,
    preserves1, algebraic1, trivial, algebraic2, preserves3, algebraic3, preserves4, algebraic4,
    preserves5, algebraic5, trivial, algebraic6, preserves7, algebraic7⟩

end Cert.Proof

end
